-- ==== Defs.lean ====
def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActIdeal_dy_scale_nonneg [hPre_dy_scale_nonneg : Cert.Pre_dy_scale_nonneg.Facts] (m : (ℓ : Loc Cert.ActIdeal.nD Cert.ActIdeal.τ Cert.ActIdeal.sig) → Buf (Elt Ideal) ℓ) : Prop :=
  ∀ c : Dev Cert.ActIdeal.nD,
    (Cert.Pre_dy_scale_nonneg.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3)) (m ((c.tc : Thread Cert.ActIdeal.nD Cert.ActIdeal.τ).loc Cert.ActIdeal.main_arg4)) (m ((c.tc : Thread Cert.ActIdeal.nD Cert.ActIdeal.τ).loc Cert.ActIdeal.main_arg5)) (m ((c.tc : Thread Cert.ActIdeal.nD Cert.ActIdeal.τ).loc Cert.ActIdeal.main_arg6)) (m ((c.tc : Thread Cert.ActIdeal.nD Cert.ActIdeal.τ).loc Cert.ActIdeal.main_arg7)) (m ((c.tc : Thread Cert.ActIdeal.nD Cert.ActIdeal.τ).loc Cert.ActIdeal.main_arg8)) (m ((c.tc : Thread Cert.ActIdeal.nD Cert.ActIdeal.τ).loc Cert.ActIdeal.main_arg9)) (m ((c.tc : Thread Cert.ActIdeal.nD Cert.ActIdeal.τ).loc Cert.ActIdeal.main_arg10)) (m ((c.tc : Thread Cert.ActIdeal.nD Cert.ActIdeal.τ).loc Cert.ActIdeal.main_arg11)) (m ((c.tc : Thread Cert.ActIdeal.nD Cert.ActIdeal.τ).loc Cert.ActIdeal.main_arg12)) (m ((c.tc : Thread Cert.ActIdeal.nD Cert.ActIdeal.τ).loc Cert.ActIdeal.main_arg13))) = (fun _ => 1#1)

def Pre_RefActIdeal (m : (ℓ : Loc Cert.RefActIdeal.nD Cert.RefActIdeal.τ Cert.RefActIdeal.sig) → Buf (Elt Ideal) ℓ) : Prop :=
  True

def Pre_RefActIdeal_dy_scale_nonneg [hPre_dy_scale_nonneg : Cert.Pre_dy_scale_nonneg.Facts] (m : (ℓ : Loc Cert.RefActIdeal.nD Cert.RefActIdeal.τ Cert.RefActIdeal.sig) → Buf (Elt Ideal) ℓ) : Prop :=
  ∀ c : Dev Cert.RefActIdeal.nD,
    (Cert.Pre_dy_scale_nonneg.fn (F := Ideal) (m ((c.tc : Thread Cert.RefActIdeal.nD Cert.RefActIdeal.τ).loc Cert.RefActIdeal.main_arg0)) (m ((c.tc : Thread Cert.RefActIdeal.nD Cert.RefActIdeal.τ).loc Cert.RefActIdeal.main_arg1)) (m ((c.tc : Thread Cert.RefActIdeal.nD Cert.RefActIdeal.τ).loc Cert.RefActIdeal.main_arg2)) (m ((c.tc : Thread Cert.RefActIdeal.nD Cert.RefActIdeal.τ).loc Cert.RefActIdeal.main_arg3)) (m ((c.tc : Thread Cert.RefActIdeal.nD Cert.RefActIdeal.τ).loc Cert.RefActIdeal.main_arg4)) (m ((c.tc : Thread Cert.RefActIdeal.nD Cert.RefActIdeal.τ).loc Cert.RefActIdeal.main_arg5)) (m ((c.tc : Thread Cert.RefActIdeal.nD Cert.RefActIdeal.τ).loc Cert.RefActIdeal.main_arg6)) (m ((c.tc : Thread Cert.RefActIdeal.nD Cert.RefActIdeal.τ).loc Cert.RefActIdeal.main_arg7)) (m ((c.tc : Thread Cert.RefActIdeal.nD Cert.RefActIdeal.τ).loc Cert.RefActIdeal.main_arg8)) (m ((c.tc : Thread Cert.RefActIdeal.nD Cert.RefActIdeal.τ).loc Cert.RefActIdeal.main_arg9)) (m ((c.tc : Thread Cert.RefActIdeal.nD Cert.RefActIdeal.τ).loc Cert.RefActIdeal.main_arg10)) (m ((c.tc : Thread Cert.RefActIdeal.nD Cert.RefActIdeal.τ).loc Cert.RefActIdeal.main_arg11)) (m ((c.tc : Thread Cert.RefActIdeal.nD Cert.RefActIdeal.τ).loc Cert.RefActIdeal.main_arg12)) (m ((c.tc : Thread Cert.RefActIdeal.nD Cert.RefActIdeal.τ).loc Cert.RefActIdeal.main_arg13))) = (fun _ => 1#1)

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_RefDwInIdeal (m : (ℓ : Loc Cert.RefDwInIdeal.nD Cert.RefDwInIdeal.τ Cert.RefDwInIdeal.sig) → Buf (Elt Ideal) ℓ) : Prop :=
  True

def Pre_DwQkv (m : (ℓ : Loc Cert.DwQkv.nD Cert.DwQkv.τ Cert.DwQkv.sig) → Buf (Elt Bits) ℓ) : Prop :=
  True

def Pre_DwQkvIdeal (m : (ℓ : Loc Cert.DwQkvIdeal.nD Cert.DwQkvIdeal.τ Cert.DwQkvIdeal.sig) → Buf (Elt Ideal) ℓ) : Prop :=
  True

def Pre_RefDwQkvIdeal (m : (ℓ : Loc Cert.RefDwQkvIdeal.nD Cert.RefDwQkvIdeal.τ Cert.RefDwQkvIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_RefDwOutIdeal (m : (ℓ : Loc Cert.RefDwOutIdeal.nD Cert.RefDwOutIdeal.τ Cert.RefDwOutIdeal.sig) → Buf (Elt Ideal) ℓ) : Prop :=
  True

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2)
      ∧ r.2.mem ((c.tc : Thread Cert.Act.nD Cert.Act.τ).loc Cert.Act.main_arg3) = m ((c.tc : Thread Cert.Act.nD Cert.Act.τ).loc Cert.Act.main_arg3)
      ∧ r.2.mem ((c.tc : Thread Cert.Act.nD Cert.Act.τ).loc Cert.Act.main_arg4) = m ((c.tc : Thread Cert.Act.nD Cert.Act.τ).loc Cert.Act.main_arg4)
      ∧ r.2.mem ((c.tc : Thread Cert.Act.nD Cert.Act.τ).loc Cert.Act.main_arg5) = m ((c.tc : Thread Cert.Act.nD Cert.Act.τ).loc Cert.Act.main_arg5)
      ∧ r.2.mem ((c.tc : Thread Cert.Act.nD Cert.Act.τ).loc Cert.Act.main_arg6) = m ((c.tc : Thread Cert.Act.nD Cert.Act.τ).loc Cert.Act.main_arg6)
      ∧ r.2.mem ((c.tc : Thread Cert.Act.nD Cert.Act.τ).loc Cert.Act.main_arg7) = m ((c.tc : Thread Cert.Act.nD Cert.Act.τ).loc Cert.Act.main_arg7)
      ∧ r.2.mem ((c.tc : Thread Cert.Act.nD Cert.Act.τ).loc Cert.Act.main_arg8) = m ((c.tc : Thread Cert.Act.nD Cert.Act.τ).loc Cert.Act.main_arg8)
      ∧ r.2.mem ((c.tc : Thread Cert.Act.nD Cert.Act.τ).loc Cert.Act.main_arg9) = m ((c.tc : Thread Cert.Act.nD Cert.Act.τ).loc Cert.Act.main_arg9)
      ∧ r.2.mem ((c.tc : Thread Cert.Act.nD Cert.Act.τ).loc Cert.Act.main_arg10) = m ((c.tc : Thread Cert.Act.nD Cert.Act.τ).loc Cert.Act.main_arg10)
      ∧ r.2.mem ((c.tc : Thread Cert.Act.nD Cert.Act.τ).loc Cert.Act.main_arg11) = m ((c.tc : Thread Cert.Act.nD Cert.Act.τ).loc Cert.Act.main_arg11)
      ∧ r.2.mem ((c.tc : Thread Cert.Act.nD Cert.Act.τ).loc Cert.Act.main_arg12) = m ((c.tc : Thread Cert.Act.nD Cert.Act.τ).loc Cert.Act.main_arg12)
      ∧ r.2.mem ((c.tc : Thread Cert.Act.nD Cert.Act.τ).loc Cert.Act.main_arg13) = m ((c.tc : Thread Cert.Act.nD Cert.Act.τ).loc Cert.Act.main_arg13))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3)
      ∧ r.2.mem ((c.tc : Thread Cert.ActIdeal.nD Cert.ActIdeal.τ).loc Cert.ActIdeal.main_arg4) = m ((c.tc : Thread Cert.ActIdeal.nD Cert.ActIdeal.τ).loc Cert.ActIdeal.main_arg4)
      ∧ r.2.mem ((c.tc : Thread Cert.ActIdeal.nD Cert.ActIdeal.τ).loc Cert.ActIdeal.main_arg5) = m ((c.tc : Thread Cert.ActIdeal.nD Cert.ActIdeal.τ).loc Cert.ActIdeal.main_arg5)
      ∧ r.2.mem ((c.tc : Thread Cert.ActIdeal.nD Cert.ActIdeal.τ).loc Cert.ActIdeal.main_arg6) = m ((c.tc : Thread Cert.ActIdeal.nD Cert.ActIdeal.τ).loc Cert.ActIdeal.main_arg6)
      ∧ r.2.mem ((c.tc : Thread Cert.ActIdeal.nD Cert.ActIdeal.τ).loc Cert.ActIdeal.main_arg7) = m ((c.tc : Thread Cert.ActIdeal.nD Cert.ActIdeal.τ).loc Cert.ActIdeal.main_arg7)
      ∧ r.2.mem ((c.tc : Thread Cert.ActIdeal.nD Cert.ActIdeal.τ).loc Cert.ActIdeal.main_arg8) = m ((c.tc : Thread Cert.ActIdeal.nD Cert.ActIdeal.τ).loc Cert.ActIdeal.main_arg8)
      ∧ r.2.mem ((c.tc : Thread Cert.ActIdeal.nD Cert.ActIdeal.τ).loc Cert.ActIdeal.main_arg9) = m ((c.tc : Thread Cert.ActIdeal.nD Cert.ActIdeal.τ).loc Cert.ActIdeal.main_arg9)
      ∧ r.2.mem ((c.tc : Thread Cert.ActIdeal.nD Cert.ActIdeal.τ).loc Cert.ActIdeal.main_arg10) = m ((c.tc : Thread Cert.ActIdeal.nD Cert.ActIdeal.τ).loc Cert.ActIdeal.main_arg10)
      ∧ r.2.mem ((c.tc : Thread Cert.ActIdeal.nD Cert.ActIdeal.τ).loc Cert.ActIdeal.main_arg11) = m ((c.tc : Thread Cert.ActIdeal.nD Cert.ActIdeal.τ).loc Cert.ActIdeal.main_arg11)
      ∧ r.2.mem ((c.tc : Thread Cert.ActIdeal.nD Cert.ActIdeal.τ).loc Cert.ActIdeal.main_arg12) = m ((c.tc : Thread Cert.ActIdeal.nD Cert.ActIdeal.τ).loc Cert.ActIdeal.main_arg12)
      ∧ r.2.mem ((c.tc : Thread Cert.ActIdeal.nD Cert.ActIdeal.τ).loc Cert.ActIdeal.main_arg13) = m ((c.tc : Thread Cert.ActIdeal.nD Cert.ActIdeal.τ).loc Cert.ActIdeal.main_arg13))
      ∧ r.2.sem = fun _ => 0)

def quiescent_ActIdeal_pre_dy_scale_nonneg [hActIdeal : Cert.ActIdeal.Facts] [hPre_dy_scale_nonneg : Cert.Pre_dy_scale_nonneg.Facts] : Prop :=
  ∀ (m : (ℓ : Loc Cert.ActIdeal.nD Cert.ActIdeal.τ Cert.ActIdeal.sig) → Buf (Elt Ideal) ℓ) (g : Dev Cert.ActIdeal.nD → PrngReg), Pre_ActIdeal_dy_scale_nonneg m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3)
      ∧ r.2.mem ((c.tc : Thread Cert.ActIdeal.nD Cert.ActIdeal.τ).loc Cert.ActIdeal.main_arg4) = m ((c.tc : Thread Cert.ActIdeal.nD Cert.ActIdeal.τ).loc Cert.ActIdeal.main_arg4)
      ∧ r.2.mem ((c.tc : Thread Cert.ActIdeal.nD Cert.ActIdeal.τ).loc Cert.ActIdeal.main_arg5) = m ((c.tc : Thread Cert.ActIdeal.nD Cert.ActIdeal.τ).loc Cert.ActIdeal.main_arg5)
      ∧ r.2.mem ((c.tc : Thread Cert.ActIdeal.nD Cert.ActIdeal.τ).loc Cert.ActIdeal.main_arg6) = m ((c.tc : Thread Cert.ActIdeal.nD Cert.ActIdeal.τ).loc Cert.ActIdeal.main_arg6)
      ∧ r.2.mem ((c.tc : Thread Cert.ActIdeal.nD Cert.ActIdeal.τ).loc Cert.ActIdeal.main_arg7) = m ((c.tc : Thread Cert.ActIdeal.nD Cert.ActIdeal.τ).loc Cert.ActIdeal.main_arg7)
      ∧ r.2.mem ((c.tc : Thread Cert.ActIdeal.nD Cert.ActIdeal.τ).loc Cert.ActIdeal.main_arg8) = m ((c.tc : Thread Cert.ActIdeal.nD Cert.ActIdeal.τ).loc Cert.ActIdeal.main_arg8)
      ∧ r.2.mem ((c.tc : Thread Cert.ActIdeal.nD Cert.ActIdeal.τ).loc Cert.ActIdeal.main_arg9) = m ((c.tc : Thread Cert.ActIdeal.nD Cert.ActIdeal.τ).loc Cert.ActIdeal.main_arg9)
      ∧ r.2.mem ((c.tc : Thread Cert.ActIdeal.nD Cert.ActIdeal.τ).loc Cert.ActIdeal.main_arg10) = m ((c.tc : Thread Cert.ActIdeal.nD Cert.ActIdeal.τ).loc Cert.ActIdeal.main_arg10)
      ∧ r.2.mem ((c.tc : Thread Cert.ActIdeal.nD Cert.ActIdeal.τ).loc Cert.ActIdeal.main_arg11) = m ((c.tc : Thread Cert.ActIdeal.nD Cert.ActIdeal.τ).loc Cert.ActIdeal.main_arg11)
      ∧ r.2.mem ((c.tc : Thread Cert.ActIdeal.nD Cert.ActIdeal.τ).loc Cert.ActIdeal.main_arg12) = m ((c.tc : Thread Cert.ActIdeal.nD Cert.ActIdeal.τ).loc Cert.ActIdeal.main_arg12)
      ∧ r.2.mem ((c.tc : Thread Cert.ActIdeal.nD Cert.ActIdeal.τ).loc Cert.ActIdeal.main_arg13) = m ((c.tc : Thread Cert.ActIdeal.nD Cert.ActIdeal.τ).loc Cert.ActIdeal.main_arg13))
      ∧ r.2.sem = fun _ => 0)

def quiescent_RefActIdeal [hRefActIdeal : Cert.RefActIdeal.Facts] : Prop :=
  ∀ (m : (ℓ : Loc Cert.RefActIdeal.nD Cert.RefActIdeal.τ Cert.RefActIdeal.sig) → Buf (Elt Ideal) ℓ) (g : Dev Cert.RefActIdeal.nD → PrngReg), Pre_RefActIdeal m →
    θ_run (Cert.RefActIdeal.defs (F := Ideal)) (onTc (τ := Cert.RefActIdeal.τ) (Cert.RefActIdeal.main (F := Ideal))) ⟨m, fun _ => 0, g⟩ (fun r => (∀ c : Dev Cert.RefActIdeal.nD,
      r.2.mem ((c.tc : Thread Cert.RefActIdeal.nD Cert.RefActIdeal.τ).loc Cert.RefActIdeal.main_arg0) = m ((c.tc : Thread Cert.RefActIdeal.nD Cert.RefActIdeal.τ).loc Cert.RefActIdeal.main_arg0)
      ∧ r.2.mem ((c.tc : Thread Cert.RefActIdeal.nD Cert.RefActIdeal.τ).loc Cert.RefActIdeal.main_arg1) = m ((c.tc : Thread Cert.RefActIdeal.nD Cert.RefActIdeal.τ).loc Cert.RefActIdeal.main_arg1)
      ∧ r.2.mem ((c.tc : Thread Cert.RefActIdeal.nD Cert.RefActIdeal.τ).loc Cert.RefActIdeal.main_arg2) = m ((c.tc : Thread Cert.RefActIdeal.nD Cert.RefActIdeal.τ).loc Cert.RefActIdeal.main_arg2)
      ∧ r.2.mem ((c.tc : Thread Cert.RefActIdeal.nD Cert.RefActIdeal.τ).loc Cert.RefActIdeal.main_arg3) = m ((c.tc : Thread Cert.RefActIdeal.nD Cert.RefActIdeal.τ).loc Cert.RefActIdeal.main_arg3)
      ∧ r.2.mem ((c.tc : Thread Cert.RefActIdeal.nD Cert.RefActIdeal.τ).loc Cert.RefActIdeal.main_arg4) = m ((c.tc : Thread Cert.RefActIdeal.nD Cert.RefActIdeal.τ).loc Cert.RefActIdeal.main_arg4)
      ∧ r.2.mem ((c.tc : Thread Cert.RefActIdeal.nD Cert.RefActIdeal.τ).loc Cert.RefActIdeal.main_arg5) = m ((c.tc : Thread Cert.RefActIdeal.nD Cert.RefActIdeal.τ).loc Cert.RefActIdeal.main_arg5)
      ∧ r.2.mem ((c.tc : Thread Cert.RefActIdeal.nD Cert.RefActIdeal.τ).loc Cert.RefActIdeal.main_arg6) = m ((c.tc : Thread Cert.RefActIdeal.nD Cert.RefActIdeal.τ).loc Cert.RefActIdeal.main_arg6)
      ∧ r.2.mem ((c.tc : Thread Cert.RefActIdeal.nD Cert.RefActIdeal.τ).loc Cert.RefActIdeal.main_arg7) = m ((c.tc : Thread Cert.RefActIdeal.nD Cert.RefActIdeal.τ).loc Cert.RefActIdeal.main_arg7)
      ∧ r.2.mem ((c.tc : Thread Cert.RefActIdeal.nD Cert.RefActIdeal.τ).loc Cert.RefActIdeal.main_arg8) = m ((c.tc : Thread Cert.RefActIdeal.nD Cert.RefActIdeal.τ).loc Cert.RefActIdeal.main_arg8)
      ∧ r.2.mem ((c.tc : Thread Cert.RefActIdeal.nD Cert.RefActIdeal.τ).loc Cert.RefActIdeal.main_arg9) = m ((c.tc : Thread Cert.RefActIdeal.nD Cert.RefActIdeal.τ).loc Cert.RefActIdeal.main_arg9)
      ∧ r.2.mem ((c.tc : Thread Cert.RefActIdeal.nD Cert.RefActIdeal.τ).loc Cert.RefActIdeal.main_arg10) = m ((c.tc : Thread Cert.RefActIdeal.nD Cert.RefActIdeal.τ).loc Cert.RefActIdeal.main_arg10)
      ∧ r.2.mem ((c.tc : Thread Cert.RefActIdeal.nD Cert.RefActIdeal.τ).loc Cert.RefActIdeal.main_arg11) = m ((c.tc : Thread Cert.RefActIdeal.nD Cert.RefActIdeal.τ).loc Cert.RefActIdeal.main_arg11)
      ∧ r.2.mem ((c.tc : Thread Cert.RefActIdeal.nD Cert.RefActIdeal.τ).loc Cert.RefActIdeal.main_arg12) = m ((c.tc : Thread Cert.RefActIdeal.nD Cert.RefActIdeal.τ).loc Cert.RefActIdeal.main_arg12)
      ∧ r.2.mem ((c.tc : Thread Cert.RefActIdeal.nD Cert.RefActIdeal.τ).loc Cert.RefActIdeal.main_arg13) = m ((c.tc : Thread Cert.RefActIdeal.nD Cert.RefActIdeal.τ).loc Cert.RefActIdeal.main_arg13))
      ∧ r.2.sem = fun _ => 0)

def quiescent_RefActIdeal_pre_dy_scale_nonneg [hRefActIdeal : Cert.RefActIdeal.Facts] [hPre_dy_scale_nonneg : Cert.Pre_dy_scale_nonneg.Facts] : Prop :=
  ∀ (m : (ℓ : Loc Cert.RefActIdeal.nD Cert.RefActIdeal.τ Cert.RefActIdeal.sig) → Buf (Elt Ideal) ℓ) (g : Dev Cert.RefActIdeal.nD → PrngReg), Pre_RefActIdeal_dy_scale_nonneg m →
    θ_run (Cert.RefActIdeal.defs (F := Ideal)) (onTc (τ := Cert.RefActIdeal.τ) (Cert.RefActIdeal.main (F := Ideal))) ⟨m, fun _ => 0, g⟩ (fun r => (∀ c : Dev Cert.RefActIdeal.nD,
      r.2.mem ((c.tc : Thread Cert.RefActIdeal.nD Cert.RefActIdeal.τ).loc Cert.RefActIdeal.main_arg0) = m ((c.tc : Thread Cert.RefActIdeal.nD Cert.RefActIdeal.τ).loc Cert.RefActIdeal.main_arg0)
      ∧ r.2.mem ((c.tc : Thread Cert.RefActIdeal.nD Cert.RefActIdeal.τ).loc Cert.RefActIdeal.main_arg1) = m ((c.tc : Thread Cert.RefActIdeal.nD Cert.RefActIdeal.τ).loc Cert.RefActIdeal.main_arg1)
      ∧ r.2.mem ((c.tc : Thread Cert.RefActIdeal.nD Cert.RefActIdeal.τ).loc Cert.RefActIdeal.main_arg2) = m ((c.tc : Thread Cert.RefActIdeal.nD Cert.RefActIdeal.τ).loc Cert.RefActIdeal.main_arg2)
      ∧ r.2.mem ((c.tc : Thread Cert.RefActIdeal.nD Cert.RefActIdeal.τ).loc Cert.RefActIdeal.main_arg3) = m ((c.tc : Thread Cert.RefActIdeal.nD Cert.RefActIdeal.τ).loc Cert.RefActIdeal.main_arg3)
      ∧ r.2.mem ((c.tc : Thread Cert.RefActIdeal.nD Cert.RefActIdeal.τ).loc Cert.RefActIdeal.main_arg4) = m ((c.tc : Thread Cert.RefActIdeal.nD Cert.RefActIdeal.τ).loc Cert.RefActIdeal.main_arg4)
      ∧ r.2.mem ((c.tc : Thread Cert.RefActIdeal.nD Cert.RefActIdeal.τ).loc Cert.RefActIdeal.main_arg5) = m ((c.tc : Thread Cert.RefActIdeal.nD Cert.RefActIdeal.τ).loc Cert.RefActIdeal.main_arg5)
      ∧ r.2.mem ((c.tc : Thread Cert.RefActIdeal.nD Cert.RefActIdeal.τ).loc Cert.RefActIdeal.main_arg6) = m ((c.tc : Thread Cert.RefActIdeal.nD Cert.RefActIdeal.τ).loc Cert.RefActIdeal.main_arg6)
      ∧ r.2.mem ((c.tc : Thread Cert.RefActIdeal.nD Cert.RefActIdeal.τ).loc Cert.RefActIdeal.main_arg7) = m ((c.tc : Thread Cert.RefActIdeal.nD Cert.RefActIdeal.τ).loc Cert.RefActIdeal.main_arg7)
      ∧ r.2.mem ((c.tc : Thread Cert.RefActIdeal.nD Cert.RefActIdeal.τ).loc Cert.RefActIdeal.main_arg8) = m ((c.tc : Thread Cert.RefActIdeal.nD Cert.RefActIdeal.τ).loc Cert.RefActIdeal.main_arg8)
      ∧ r.2.mem ((c.tc : Thread Cert.RefActIdeal.nD Cert.RefActIdeal.τ).loc Cert.RefActIdeal.main_arg9) = m ((c.tc : Thread Cert.RefActIdeal.nD Cert.RefActIdeal.τ).loc Cert.RefActIdeal.main_arg9)
      ∧ r.2.mem ((c.tc : Thread Cert.RefActIdeal.nD Cert.RefActIdeal.τ).loc Cert.RefActIdeal.main_arg10) = m ((c.tc : Thread Cert.RefActIdeal.nD Cert.RefActIdeal.τ).loc Cert.RefActIdeal.main_arg10)
      ∧ r.2.mem ((c.tc : Thread Cert.RefActIdeal.nD Cert.RefActIdeal.τ).loc Cert.RefActIdeal.main_arg11) = m ((c.tc : Thread Cert.RefActIdeal.nD Cert.RefActIdeal.τ).loc Cert.RefActIdeal.main_arg11)
      ∧ r.2.mem ((c.tc : Thread Cert.RefActIdeal.nD Cert.RefActIdeal.τ).loc Cert.RefActIdeal.main_arg12) = m ((c.tc : Thread Cert.RefActIdeal.nD Cert.RefActIdeal.τ).loc Cert.RefActIdeal.main_arg12)
      ∧ r.2.mem ((c.tc : Thread Cert.RefActIdeal.nD Cert.RefActIdeal.τ).loc Cert.RefActIdeal.main_arg13) = m ((c.tc : Thread Cert.RefActIdeal.nD Cert.RefActIdeal.τ).loc Cert.RefActIdeal.main_arg13))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1)
      ∧ r.2.mem ((c.tc : Thread Cert.DwIn.nD Cert.DwIn.τ).loc Cert.DwIn.main_arg2) = m ((c.tc : Thread Cert.DwIn.nD Cert.DwIn.τ).loc Cert.DwIn.main_arg2)
      ∧ r.2.mem ((c.tc : Thread Cert.DwIn.nD Cert.DwIn.τ).loc Cert.DwIn.main_arg3) = m ((c.tc : Thread Cert.DwIn.nD Cert.DwIn.τ).loc Cert.DwIn.main_arg3))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
      ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
      ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3))
      ∧ r.2.sem = fun _ => 0)

def quiescent_RefDwInIdeal [hRefDwInIdeal : Cert.RefDwInIdeal.Facts] : Prop :=
  ∀ (m : (ℓ : Loc Cert.RefDwInIdeal.nD Cert.RefDwInIdeal.τ Cert.RefDwInIdeal.sig) → Buf (Elt Ideal) ℓ) (g : Dev Cert.RefDwInIdeal.nD → PrngReg), Pre_RefDwInIdeal m →
    θ_run (Cert.RefDwInIdeal.defs (F := Ideal)) (onTc (τ := Cert.RefDwInIdeal.τ) (Cert.RefDwInIdeal.main (F := Ideal))) ⟨m, fun _ => 0, g⟩ (fun r => (∀ c : Dev Cert.RefDwInIdeal.nD,
      r.2.mem ((c.tc : Thread Cert.RefDwInIdeal.nD Cert.RefDwInIdeal.τ).loc Cert.RefDwInIdeal.main_arg0) = m ((c.tc : Thread Cert.RefDwInIdeal.nD Cert.RefDwInIdeal.τ).loc Cert.RefDwInIdeal.main_arg0)
      ∧ r.2.mem ((c.tc : Thread Cert.RefDwInIdeal.nD Cert.RefDwInIdeal.τ).loc Cert.RefDwInIdeal.main_arg1) = m ((c.tc : Thread Cert.RefDwInIdeal.nD Cert.RefDwInIdeal.τ).loc Cert.RefDwInIdeal.main_arg1)
      ∧ r.2.mem ((c.tc : Thread Cert.RefDwInIdeal.nD Cert.RefDwInIdeal.τ).loc Cert.RefDwInIdeal.main_arg2) = m ((c.tc : Thread Cert.RefDwInIdeal.nD Cert.RefDwInIdeal.τ).loc Cert.RefDwInIdeal.main_arg2)
      ∧ r.2.mem ((c.tc : Thread Cert.RefDwInIdeal.nD Cert.RefDwInIdeal.τ).loc Cert.RefDwInIdeal.main_arg3) = m ((c.tc : Thread Cert.RefDwInIdeal.nD Cert.RefDwInIdeal.τ).loc Cert.RefDwInIdeal.main_arg3))
      ∧ r.2.sem = fun _ => 0)

def quiescent_DwQkv [hDwQkv : Cert.DwQkv.Facts] : Prop :=
  ∀ (m : (ℓ : Loc Cert.DwQkv.nD Cert.DwQkv.τ Cert.DwQkv.sig) → Buf (Elt Bits) ℓ) (g : Dev Cert.DwQkv.nD → PrngReg), Pre_DwQkv m →
    θ_run (Cert.DwQkv.defs (F := Bits)) (onTc (τ := Cert.DwQkv.τ) (Cert.DwQkv.main (F := Bits))) ⟨m, fun _ => 0, g⟩ (fun r => (∀ c : Dev Cert.DwQkv.nD,
      r.2.mem ((c.tc : Thread Cert.DwQkv.nD Cert.DwQkv.τ).loc Cert.DwQkv.main_arg0) = m ((c.tc : Thread Cert.DwQkv.nD Cert.DwQkv.τ).loc Cert.DwQkv.main_arg0)
      ∧ r.2.mem ((c.tc : Thread Cert.DwQkv.nD Cert.DwQkv.τ).loc Cert.DwQkv.main_arg1) = m ((c.tc : Thread Cert.DwQkv.nD Cert.DwQkv.τ).loc Cert.DwQkv.main_arg1)
      ∧ r.2.mem ((c.tc : Thread Cert.DwQkv.nD Cert.DwQkv.τ).loc Cert.DwQkv.main_arg2) = m ((c.tc : Thread Cert.DwQkv.nD Cert.DwQkv.τ).loc Cert.DwQkv.main_arg2)
      ∧ r.2.mem ((c.tc : Thread Cert.DwQkv.nD Cert.DwQkv.τ).loc Cert.DwQkv.main_arg3) = m ((c.tc : Thread Cert.DwQkv.nD Cert.DwQkv.τ).loc Cert.DwQkv.main_arg3))
      ∧ r.2.sem = fun _ => 0)

def quiescent_DwQkvIdeal [hDwQkvIdeal : Cert.DwQkvIdeal.Facts] : Prop :=
  ∀ (m : (ℓ : Loc Cert.DwQkvIdeal.nD Cert.DwQkvIdeal.τ Cert.DwQkvIdeal.sig) → Buf (Elt Ideal) ℓ) (g : Dev Cert.DwQkvIdeal.nD → PrngReg), Pre_DwQkvIdeal m →
    θ_run (Cert.DwQkvIdeal.defs (F := Ideal)) (onTc (τ := Cert.DwQkvIdeal.τ) (Cert.DwQkvIdeal.main (F := Ideal))) ⟨m, fun _ => 0, g⟩ (fun r => (∀ c : Dev Cert.DwQkvIdeal.nD,
      r.2.mem ((c.tc : Thread Cert.DwQkvIdeal.nD Cert.DwQkvIdeal.τ).loc Cert.DwQkvIdeal.main_arg0) = m ((c.tc : Thread Cert.DwQkvIdeal.nD Cert.DwQkvIdeal.τ).loc Cert.DwQkvIdeal.main_arg0)
      ∧ r.2.mem ((c.tc : Thread Cert.DwQkvIdeal.nD Cert.DwQkvIdeal.τ).loc Cert.DwQkvIdeal.main_arg1) = m ((c.tc : Thread Cert.DwQkvIdeal.nD Cert.DwQkvIdeal.τ).loc Cert.DwQkvIdeal.main_arg1)
      ∧ r.2.mem ((c.tc : Thread Cert.DwQkvIdeal.nD Cert.DwQkvIdeal.τ).loc Cert.DwQkvIdeal.main_arg2) = m ((c.tc : Thread Cert.DwQkvIdeal.nD Cert.DwQkvIdeal.τ).loc Cert.DwQkvIdeal.main_arg2)
      ∧ r.2.mem ((c.tc : Thread Cert.DwQkvIdeal.nD Cert.DwQkvIdeal.τ).loc Cert.DwQkvIdeal.main_arg3) = m ((c.tc : Thread Cert.DwQkvIdeal.nD Cert.DwQkvIdeal.τ).loc Cert.DwQkvIdeal.main_arg3))
      ∧ r.2.sem = fun _ => 0)

def quiescent_RefDwQkvIdeal [hRefDwQkvIdeal : Cert.RefDwQkvIdeal.Facts] : Prop :=
  ∀ (m : (ℓ : Loc Cert.RefDwQkvIdeal.nD Cert.RefDwQkvIdeal.τ Cert.RefDwQkvIdeal.sig) → Buf (Elt Ideal) ℓ) (g : Dev Cert.RefDwQkvIdeal.nD → PrngReg), Pre_RefDwQkvIdeal m →
    θ_run (Cert.RefDwQkvIdeal.defs (F := Ideal)) (onTc (τ := Cert.RefDwQkvIdeal.τ) (Cert.RefDwQkvIdeal.main (F := Ideal))) ⟨m, fun _ => 0, g⟩ (fun r => (∀ c : Dev Cert.RefDwQkvIdeal.nD,
      r.2.mem ((c.tc : Thread Cert.RefDwQkvIdeal.nD Cert.RefDwQkvIdeal.τ).loc Cert.RefDwQkvIdeal.main_arg0) = m ((c.tc : Thread Cert.RefDwQkvIdeal.nD Cert.RefDwQkvIdeal.τ).loc Cert.RefDwQkvIdeal.main_arg0)
      ∧ r.2.mem ((c.tc : Thread Cert.RefDwQkvIdeal.nD Cert.RefDwQkvIdeal.τ).loc Cert.RefDwQkvIdeal.main_arg1) = m ((c.tc : Thread Cert.RefDwQkvIdeal.nD Cert.RefDwQkvIdeal.τ).loc Cert.RefDwQkvIdeal.main_arg1)
      ∧ r.2.mem ((c.tc : Thread Cert.RefDwQkvIdeal.nD Cert.RefDwQkvIdeal.τ).loc Cert.RefDwQkvIdeal.main_arg2) = m ((c.tc : Thread Cert.RefDwQkvIdeal.nD Cert.RefDwQkvIdeal.τ).loc Cert.RefDwQkvIdeal.main_arg2)
      ∧ r.2.mem ((c.tc : Thread Cert.RefDwQkvIdeal.nD Cert.RefDwQkvIdeal.τ).loc Cert.RefDwQkvIdeal.main_arg3) = m ((c.tc : Thread Cert.RefDwQkvIdeal.nD Cert.RefDwQkvIdeal.τ).loc Cert.RefDwQkvIdeal.main_arg3))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1)
      ∧ r.2.mem ((c.tc : Thread Cert.DwOut.nD Cert.DwOut.τ).loc Cert.DwOut.main_arg2) = m ((c.tc : Thread Cert.DwOut.nD Cert.DwOut.τ).loc Cert.DwOut.main_arg2)
      ∧ r.2.mem ((c.tc : Thread Cert.DwOut.nD Cert.DwOut.τ).loc Cert.DwOut.main_arg3) = m ((c.tc : Thread Cert.DwOut.nD Cert.DwOut.τ).loc Cert.DwOut.main_arg3))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
      ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2)
      ∧ r.2.mem ((c.tc : Thread Cert.DwOutIdeal.nD Cert.DwOutIdeal.τ).loc Cert.DwOutIdeal.main_arg3) = m ((c.tc : Thread Cert.DwOutIdeal.nD Cert.DwOutIdeal.τ).loc Cert.DwOutIdeal.main_arg3))
      ∧ r.2.sem = fun _ => 0)

def quiescent_RefDwOutIdeal [hRefDwOutIdeal : Cert.RefDwOutIdeal.Facts] : Prop :=
  ∀ (m : (ℓ : Loc Cert.RefDwOutIdeal.nD Cert.RefDwOutIdeal.τ Cert.RefDwOutIdeal.sig) → Buf (Elt Ideal) ℓ) (g : Dev Cert.RefDwOutIdeal.nD → PrngReg), Pre_RefDwOutIdeal m →
    θ_run (Cert.RefDwOutIdeal.defs (F := Ideal)) (onTc (τ := Cert.RefDwOutIdeal.τ) (Cert.RefDwOutIdeal.main (F := Ideal))) ⟨m, fun _ => 0, g⟩ (fun r => (∀ c : Dev Cert.RefDwOutIdeal.nD,
      r.2.mem ((c.tc : Thread Cert.RefDwOutIdeal.nD Cert.RefDwOutIdeal.τ).loc Cert.RefDwOutIdeal.main_arg0) = m ((c.tc : Thread Cert.RefDwOutIdeal.nD Cert.RefDwOutIdeal.τ).loc Cert.RefDwOutIdeal.main_arg0)
      ∧ r.2.mem ((c.tc : Thread Cert.RefDwOutIdeal.nD Cert.RefDwOutIdeal.τ).loc Cert.RefDwOutIdeal.main_arg1) = m ((c.tc : Thread Cert.RefDwOutIdeal.nD Cert.RefDwOutIdeal.τ).loc Cert.RefDwOutIdeal.main_arg1)
      ∧ r.2.mem ((c.tc : Thread Cert.RefDwOutIdeal.nD Cert.RefDwOutIdeal.τ).loc Cert.RefDwOutIdeal.main_arg2) = m ((c.tc : Thread Cert.RefDwOutIdeal.nD Cert.RefDwOutIdeal.τ).loc Cert.RefDwOutIdeal.main_arg2)
      ∧ r.2.mem ((c.tc : Thread Cert.RefDwOutIdeal.nD Cert.RefDwOutIdeal.τ).loc Cert.RefDwOutIdeal.main_arg3) = m ((c.tc : Thread Cert.RefDwOutIdeal.nD Cert.RefDwOutIdeal.τ).loc Cert.RefDwOutIdeal.main_arg3))
      ∧ r.2.sem = fun _ => 0)

def preserves_Act_ActIdeal : Prop :=
  IdealRules.named_const.Statement Cert.ActIdeal.κ "inv_d" .f32 0x3A4CCCCD#32 ((1 / 1280 : ℝ) : EReal)
  ∧ IdealRules.named_const.Statement Cert.ActIdeal.κ "gelu_ca" .f32 0x3D122279#32 ((35677408136300126361 / 1000000000000000000000 : ℝ) : EReal)
  ∧ IdealRules.named_const.Statement Cert.ActIdeal.κ "gelu_c" .f32 0x3F4C422A#32 ((3989422804014327 / 5000000000000000 : ℝ) : EReal)
  ∧ IdealRules.named_const.Statement Cert.ActIdeal.κ "gelu_3ca" .f32 0x3DDB33B6#32 ((107032224408900379083 / 1000000000000000000000 : ℝ) : EReal)

def algebraic_ActIdeal_RefActIdeal_pre_dy_scale_nonneg [hActIdeal : Cert.ActIdeal.Facts] [hRefActIdeal : Cert.RefActIdeal.Facts] [hPre_dy_scale_nonneg : Cert.Pre_dy_scale_nonneg.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.RefActIdeal.nD Cert.RefActIdeal.τ Cert.RefActIdeal.sig) → Buf (Elt Ideal) ℓ) (g' : Dev Cert.RefActIdeal.nD → PrngReg), Pre_ActIdeal_dy_scale_nonneg m →
    (∀ c : Dev Cert.ActIdeal.nD,
      m' ((c.tc : Thread Cert.RefActIdeal.nD Cert.RefActIdeal.τ).loc Cert.RefActIdeal.main_arg0) = m ((c.tc : Thread Cert.ActIdeal.nD Cert.ActIdeal.τ).loc Cert.ActIdeal.main_arg0)
      ∧ m' ((c.tc : Thread Cert.RefActIdeal.nD Cert.RefActIdeal.τ).loc Cert.RefActIdeal.main_arg1) = m ((c.tc : Thread Cert.ActIdeal.nD Cert.ActIdeal.τ).loc Cert.ActIdeal.main_arg1)
      ∧ m' ((c.tc : Thread Cert.RefActIdeal.nD Cert.RefActIdeal.τ).loc Cert.RefActIdeal.main_arg2) = m ((c.tc : Thread Cert.ActIdeal.nD Cert.ActIdeal.τ).loc Cert.ActIdeal.main_arg2)
      ∧ m' ((c.tc : Thread Cert.RefActIdeal.nD Cert.RefActIdeal.τ).loc Cert.RefActIdeal.main_arg3) = m ((c.tc : Thread Cert.ActIdeal.nD Cert.ActIdeal.τ).loc Cert.ActIdeal.main_arg3)
      ∧ m' ((c.tc : Thread Cert.RefActIdeal.nD Cert.RefActIdeal.τ).loc Cert.RefActIdeal.main_arg4) = m ((c.tc : Thread Cert.ActIdeal.nD Cert.ActIdeal.τ).loc Cert.ActIdeal.main_arg4)
      ∧ m' ((c.tc : Thread Cert.RefActIdeal.nD Cert.RefActIdeal.τ).loc Cert.RefActIdeal.main_arg5) = m ((c.tc : Thread Cert.ActIdeal.nD Cert.ActIdeal.τ).loc Cert.ActIdeal.main_arg5)
      ∧ m' ((c.tc : Thread Cert.RefActIdeal.nD Cert.RefActIdeal.τ).loc Cert.RefActIdeal.main_arg6) = m ((c.tc : Thread Cert.ActIdeal.nD Cert.ActIdeal.τ).loc Cert.ActIdeal.main_arg6)
      ∧ m' ((c.tc : Thread Cert.RefActIdeal.nD Cert.RefActIdeal.τ).loc Cert.RefActIdeal.main_arg7) = m ((c.tc : Thread Cert.ActIdeal.nD Cert.ActIdeal.τ).loc Cert.ActIdeal.main_arg7)
      ∧ m' ((c.tc : Thread Cert.RefActIdeal.nD Cert.RefActIdeal.τ).loc Cert.RefActIdeal.main_arg8) = m ((c.tc : Thread Cert.ActIdeal.nD Cert.ActIdeal.τ).loc Cert.ActIdeal.main_arg8)
      ∧ m' ((c.tc : Thread Cert.RefActIdeal.nD Cert.RefActIdeal.τ).loc Cert.RefActIdeal.main_arg9) = m ((c.tc : Thread Cert.ActIdeal.nD Cert.ActIdeal.τ).loc Cert.ActIdeal.main_arg9)
      ∧ m' ((c.tc : Thread Cert.RefActIdeal.nD Cert.RefActIdeal.τ).loc Cert.RefActIdeal.main_arg10) = m ((c.tc : Thread Cert.ActIdeal.nD Cert.ActIdeal.τ).loc Cert.ActIdeal.main_arg10)
      ∧ m' ((c.tc : Thread Cert.RefActIdeal.nD Cert.RefActIdeal.τ).loc Cert.RefActIdeal.main_arg11) = m ((c.tc : Thread Cert.ActIdeal.nD Cert.ActIdeal.τ).loc Cert.ActIdeal.main_arg11)
      ∧ m' ((c.tc : Thread Cert.RefActIdeal.nD Cert.RefActIdeal.τ).loc Cert.RefActIdeal.main_arg12) = m ((c.tc : Thread Cert.ActIdeal.nD Cert.ActIdeal.τ).loc Cert.ActIdeal.main_arg12)
      ∧ m' ((c.tc : Thread Cert.RefActIdeal.nD Cert.RefActIdeal.τ).loc Cert.RefActIdeal.main_arg13) = m ((c.tc : Thread Cert.ActIdeal.nD Cert.ActIdeal.τ).loc Cert.ActIdeal.main_arg13)) →
    ∃ (v0 : (c : Dev Cert.ActIdeal.nD) → Buf (Elt Ideal) ((c.tc : Thread Cert.ActIdeal.nD Cert.ActIdeal.τ).loc Cert.ActIdeal.main_v8_1)) (v1 : (c : Dev Cert.ActIdeal.nD) → Buf (Elt Ideal) ((c.tc : Thread Cert.ActIdeal.nD Cert.ActIdeal.τ).loc Cert.ActIdeal.main_v8_2)) (v2 : (c : Dev Cert.ActIdeal.nD) → Buf (Elt Ideal) ((c.tc : Thread Cert.ActIdeal.nD Cert.ActIdeal.τ).loc Cert.ActIdeal.main_v8_3)) (v3 : (c : Dev Cert.ActIdeal.nD) → Buf (Elt Ideal) ((c.tc : Thread Cert.ActIdeal.nD Cert.ActIdeal.τ).loc Cert.ActIdeal.main_v8_4)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v8_1) = v0 c
          ∧ r.2.mem ((c.tc : Thread Cert.ActIdeal.nD Cert.ActIdeal.τ).loc Cert.ActIdeal.main_v8_2) = v1 c
          ∧ r.2.mem ((c.tc : Thread Cert.ActIdeal.nD Cert.ActIdeal.τ).loc Cert.ActIdeal.main_v8_3) = v2 c
          ∧ r.2.mem ((c.tc : Thread Cert.ActIdeal.nD Cert.ActIdeal.τ).loc Cert.ActIdeal.main_v8_4) = v3 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
          ∧ r.2.mem ((c.tc : Thread Cert.ActIdeal.nD Cert.ActIdeal.τ).loc Cert.ActIdeal.main_arg3) = m ((c.tc : Thread Cert.ActIdeal.nD Cert.ActIdeal.τ).loc Cert.ActIdeal.main_arg3)
          ∧ r.2.mem ((c.tc : Thread Cert.ActIdeal.nD Cert.ActIdeal.τ).loc Cert.ActIdeal.main_arg4) = m ((c.tc : Thread Cert.ActIdeal.nD Cert.ActIdeal.τ).loc Cert.ActIdeal.main_arg4)
          ∧ r.2.mem ((c.tc : Thread Cert.ActIdeal.nD Cert.ActIdeal.τ).loc Cert.ActIdeal.main_arg5) = m ((c.tc : Thread Cert.ActIdeal.nD Cert.ActIdeal.τ).loc Cert.ActIdeal.main_arg5)
          ∧ r.2.mem ((c.tc : Thread Cert.ActIdeal.nD Cert.ActIdeal.τ).loc Cert.ActIdeal.main_arg6) = m ((c.tc : Thread Cert.ActIdeal.nD Cert.ActIdeal.τ).loc Cert.ActIdeal.main_arg6)
          ∧ r.2.mem ((c.tc : Thread Cert.ActIdeal.nD Cert.ActIdeal.τ).loc Cert.ActIdeal.main_arg7) = m ((c.tc : Thread Cert.ActIdeal.nD Cert.ActIdeal.τ).loc Cert.ActIdeal.main_arg7)
          ∧ r.2.mem ((c.tc : Thread Cert.ActIdeal.nD Cert.ActIdeal.τ).loc Cert.ActIdeal.main_arg8) = m ((c.tc : Thread Cert.ActIdeal.nD Cert.ActIdeal.τ).loc Cert.ActIdeal.main_arg8)
          ∧ r.2.mem ((c.tc : Thread Cert.ActIdeal.nD Cert.ActIdeal.τ).loc Cert.ActIdeal.main_arg9) = m ((c.tc : Thread Cert.ActIdeal.nD Cert.ActIdeal.τ).loc Cert.ActIdeal.main_arg9)
          ∧ r.2.mem ((c.tc : Thread Cert.ActIdeal.nD Cert.ActIdeal.τ).loc Cert.ActIdeal.main_arg10) = m ((c.tc : Thread Cert.ActIdeal.nD Cert.ActIdeal.τ).loc Cert.ActIdeal.main_arg10)
          ∧ r.2.mem ((c.tc : Thread Cert.ActIdeal.nD Cert.ActIdeal.τ).loc Cert.ActIdeal.main_arg11) = m ((c.tc : Thread Cert.ActIdeal.nD Cert.ActIdeal.τ).loc Cert.ActIdeal.main_arg11)
          ∧ r.2.mem ((c.tc : Thread Cert.ActIdeal.nD Cert.ActIdeal.τ).loc Cert.ActIdeal.main_arg12) = m ((c.tc : Thread Cert.ActIdeal.nD Cert.ActIdeal.τ).loc Cert.ActIdeal.main_arg12)
          ∧ r.2.mem ((c.tc : Thread Cert.ActIdeal.nD Cert.ActIdeal.τ).loc Cert.ActIdeal.main_arg13) = m ((c.tc : Thread Cert.ActIdeal.nD Cert.ActIdeal.τ).loc Cert.ActIdeal.main_arg13))
      ∧ θ_run (Cert.RefActIdeal.defs (F := Ideal)) (onTc (τ := Cert.RefActIdeal.τ) (Cert.RefActIdeal.main (F := Ideal))) ⟨m', fun _ => 0, g'⟩ (fun r => ∀ c : Dev Cert.RefActIdeal.nD,
          r.2.mem ((c.tc : Thread Cert.RefActIdeal.nD Cert.RefActIdeal.τ).loc Cert.RefActIdeal.main_v0_1) = v0 c
          ∧ r.2.mem ((c.tc : Thread Cert.RefActIdeal.nD Cert.RefActIdeal.τ).loc Cert.RefActIdeal.main_v0_2) = v1 c
          ∧ r.2.mem ((c.tc : Thread Cert.RefActIdeal.nD Cert.RefActIdeal.τ).loc Cert.RefActIdeal.main_v0_3) = v2 c
          ∧ r.2.mem ((c.tc : Thread Cert.RefActIdeal.nD Cert.RefActIdeal.τ).loc Cert.RefActIdeal.main_v0_4) = v3 c
          ∧ r.2.mem ((c.tc : Thread Cert.RefActIdeal.nD Cert.RefActIdeal.τ).loc Cert.RefActIdeal.main_arg0) = m' ((c.tc : Thread Cert.RefActIdeal.nD Cert.RefActIdeal.τ).loc Cert.RefActIdeal.main_arg0)
          ∧ r.2.mem ((c.tc : Thread Cert.RefActIdeal.nD Cert.RefActIdeal.τ).loc Cert.RefActIdeal.main_arg1) = m' ((c.tc : Thread Cert.RefActIdeal.nD Cert.RefActIdeal.τ).loc Cert.RefActIdeal.main_arg1)
          ∧ r.2.mem ((c.tc : Thread Cert.RefActIdeal.nD Cert.RefActIdeal.τ).loc Cert.RefActIdeal.main_arg2) = m' ((c.tc : Thread Cert.RefActIdeal.nD Cert.RefActIdeal.τ).loc Cert.RefActIdeal.main_arg2)
          ∧ r.2.mem ((c.tc : Thread Cert.RefActIdeal.nD Cert.RefActIdeal.τ).loc Cert.RefActIdeal.main_arg3) = m' ((c.tc : Thread Cert.RefActIdeal.nD Cert.RefActIdeal.τ).loc Cert.RefActIdeal.main_arg3)
          ∧ r.2.mem ((c.tc : Thread Cert.RefActIdeal.nD Cert.RefActIdeal.τ).loc Cert.RefActIdeal.main_arg4) = m' ((c.tc : Thread Cert.RefActIdeal.nD Cert.RefActIdeal.τ).loc Cert.RefActIdeal.main_arg4)
          ∧ r.2.mem ((c.tc : Thread Cert.RefActIdeal.nD Cert.RefActIdeal.τ).loc Cert.RefActIdeal.main_arg5) = m' ((c.tc : Thread Cert.RefActIdeal.nD Cert.RefActIdeal.τ).loc Cert.RefActIdeal.main_arg5)
          ∧ r.2.mem ((c.tc : Thread Cert.RefActIdeal.nD Cert.RefActIdeal.τ).loc Cert.RefActIdeal.main_arg6) = m' ((c.tc : Thread Cert.RefActIdeal.nD Cert.RefActIdeal.τ).loc Cert.RefActIdeal.main_arg6)
          ∧ r.2.mem ((c.tc : Thread Cert.RefActIdeal.nD Cert.RefActIdeal.τ).loc Cert.RefActIdeal.main_arg7) = m' ((c.tc : Thread Cert.RefActIdeal.nD Cert.RefActIdeal.τ).loc Cert.RefActIdeal.main_arg7)
          ∧ r.2.mem ((c.tc : Thread Cert.RefActIdeal.nD Cert.RefActIdeal.τ).loc Cert.RefActIdeal.main_arg8) = m' ((c.tc : Thread Cert.RefActIdeal.nD Cert.RefActIdeal.τ).loc Cert.RefActIdeal.main_arg8)
          ∧ r.2.mem ((c.tc : Thread Cert.RefActIdeal.nD Cert.RefActIdeal.τ).loc Cert.RefActIdeal.main_arg9) = m' ((c.tc : Thread Cert.RefActIdeal.nD Cert.RefActIdeal.τ).loc Cert.RefActIdeal.main_arg9)
          ∧ r.2.mem ((c.tc : Thread Cert.RefActIdeal.nD Cert.RefActIdeal.τ).loc Cert.RefActIdeal.main_arg10) = m' ((c.tc : Thread Cert.RefActIdeal.nD Cert.RefActIdeal.τ).loc Cert.RefActIdeal.main_arg10)
          ∧ r.2.mem ((c.tc : Thread Cert.RefActIdeal.nD Cert.RefActIdeal.τ).loc Cert.RefActIdeal.main_arg11) = m' ((c.tc : Thread Cert.RefActIdeal.nD Cert.RefActIdeal.τ).loc Cert.RefActIdeal.main_arg11)
          ∧ r.2.mem ((c.tc : Thread Cert.RefActIdeal.nD Cert.RefActIdeal.τ).loc Cert.RefActIdeal.main_arg12) = m' ((c.tc : Thread Cert.RefActIdeal.nD Cert.RefActIdeal.τ).loc Cert.RefActIdeal.main_arg12)
          ∧ r.2.mem ((c.tc : Thread Cert.RefActIdeal.nD Cert.RefActIdeal.τ).loc Cert.RefActIdeal.main_arg13) = m' ((c.tc : Thread Cert.RefActIdeal.nD Cert.RefActIdeal.τ).loc Cert.RefActIdeal.main_arg13))

def preserves_DwIn_DwInIdeal : Prop :=
  True

def algebraic_DwInIdeal_RefDwInIdeal [hDwInIdeal : Cert.DwInIdeal.Facts] [hRefDwInIdeal : Cert.RefDwInIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.RefDwInIdeal.nD Cert.RefDwInIdeal.τ Cert.RefDwInIdeal.sig) → Buf (Elt Ideal) ℓ) (g' : Dev Cert.RefDwInIdeal.nD → PrngReg), Pre_DwInIdeal m →
    (∀ c : Dev Cert.DwInIdeal.nD,
      m' ((c.tc : Thread Cert.RefDwInIdeal.nD Cert.RefDwInIdeal.τ).loc Cert.RefDwInIdeal.main_arg0) = m ((c.tc : Thread Cert.DwInIdeal.nD Cert.DwInIdeal.τ).loc Cert.DwInIdeal.main_arg0)
      ∧ m' ((c.tc : Thread Cert.RefDwInIdeal.nD Cert.RefDwInIdeal.τ).loc Cert.RefDwInIdeal.main_arg1) = m ((c.tc : Thread Cert.DwInIdeal.nD Cert.DwInIdeal.τ).loc Cert.DwInIdeal.main_arg1)
      ∧ m' ((c.tc : Thread Cert.RefDwInIdeal.nD Cert.RefDwInIdeal.τ).loc Cert.RefDwInIdeal.main_arg2) = m ((c.tc : Thread Cert.DwInIdeal.nD Cert.DwInIdeal.τ).loc Cert.DwInIdeal.main_arg2)
      ∧ m' ((c.tc : Thread Cert.RefDwInIdeal.nD Cert.RefDwInIdeal.τ).loc Cert.RefDwInIdeal.main_arg3) = m ((c.tc : Thread Cert.DwInIdeal.nD Cert.DwInIdeal.τ).loc Cert.DwInIdeal.main_arg3)) →
    ∃ (v0 : (c : Dev Cert.DwInIdeal.nD) → Buf (Elt Ideal) ((c.tc : Thread Cert.DwInIdeal.nD Cert.DwInIdeal.τ).loc Cert.DwInIdeal.main_v1)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v1) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
          ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
          ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3))
      ∧ θ_run (Cert.RefDwInIdeal.defs (F := Ideal)) (onTc (τ := Cert.RefDwInIdeal.τ) (Cert.RefDwInIdeal.main (F := Ideal))) ⟨m', fun _ => 0, g'⟩ (fun r => ∀ c : Dev Cert.RefDwInIdeal.nD,
          r.2.mem ((c.tc : Thread Cert.RefDwInIdeal.nD Cert.RefDwInIdeal.τ).loc Cert.RefDwInIdeal.main_v0) = v0 c
          ∧ r.2.mem ((c.tc : Thread Cert.RefDwInIdeal.nD Cert.RefDwInIdeal.τ).loc Cert.RefDwInIdeal.main_arg0) = m' ((c.tc : Thread Cert.RefDwInIdeal.nD Cert.RefDwInIdeal.τ).loc Cert.RefDwInIdeal.main_arg0)
          ∧ r.2.mem ((c.tc : Thread Cert.RefDwInIdeal.nD Cert.RefDwInIdeal.τ).loc Cert.RefDwInIdeal.main_arg1) = m' ((c.tc : Thread Cert.RefDwInIdeal.nD Cert.RefDwInIdeal.τ).loc Cert.RefDwInIdeal.main_arg1)
          ∧ r.2.mem ((c.tc : Thread Cert.RefDwInIdeal.nD Cert.RefDwInIdeal.τ).loc Cert.RefDwInIdeal.main_arg2) = m' ((c.tc : Thread Cert.RefDwInIdeal.nD Cert.RefDwInIdeal.τ).loc Cert.RefDwInIdeal.main_arg2)
          ∧ r.2.mem ((c.tc : Thread Cert.RefDwInIdeal.nD Cert.RefDwInIdeal.τ).loc Cert.RefDwInIdeal.main_arg3) = m' ((c.tc : Thread Cert.RefDwInIdeal.nD Cert.RefDwInIdeal.τ).loc Cert.RefDwInIdeal.main_arg3))

def preserves_DwQkv_DwQkvIdeal : Prop :=
  True

def algebraic_DwQkvIdeal_RefDwQkvIdeal [hDwQkvIdeal : Cert.DwQkvIdeal.Facts] [hRefDwQkvIdeal : Cert.RefDwQkvIdeal.Facts] : Prop :=
  ∀ (m : (ℓ : Loc Cert.DwQkvIdeal.nD Cert.DwQkvIdeal.τ Cert.DwQkvIdeal.sig) → Buf (Elt Ideal) ℓ) (g : Dev Cert.DwQkvIdeal.nD → PrngReg)
    (m' : (ℓ : Loc Cert.RefDwQkvIdeal.nD Cert.RefDwQkvIdeal.τ Cert.RefDwQkvIdeal.sig) → Buf (Elt Ideal) ℓ) (g' : Dev Cert.RefDwQkvIdeal.nD → PrngReg), Pre_DwQkvIdeal m →
    (∀ c : Dev Cert.DwQkvIdeal.nD,
      m' ((c.tc : Thread Cert.RefDwQkvIdeal.nD Cert.RefDwQkvIdeal.τ).loc Cert.RefDwQkvIdeal.main_arg0) = m ((c.tc : Thread Cert.DwQkvIdeal.nD Cert.DwQkvIdeal.τ).loc Cert.DwQkvIdeal.main_arg0)
      ∧ m' ((c.tc : Thread Cert.RefDwQkvIdeal.nD Cert.RefDwQkvIdeal.τ).loc Cert.RefDwQkvIdeal.main_arg1) = m ((c.tc : Thread Cert.DwQkvIdeal.nD Cert.DwQkvIdeal.τ).loc Cert.DwQkvIdeal.main_arg1)
      ∧ m' ((c.tc : Thread Cert.RefDwQkvIdeal.nD Cert.RefDwQkvIdeal.τ).loc Cert.RefDwQkvIdeal.main_arg2) = m ((c.tc : Thread Cert.DwQkvIdeal.nD Cert.DwQkvIdeal.τ).loc Cert.DwQkvIdeal.main_arg2)
      ∧ m' ((c.tc : Thread Cert.RefDwQkvIdeal.nD Cert.RefDwQkvIdeal.τ).loc Cert.RefDwQkvIdeal.main_arg3) = m ((c.tc : Thread Cert.DwQkvIdeal.nD Cert.DwQkvIdeal.τ).loc Cert.DwQkvIdeal.main_arg3)) →
    ∃ (v0 : (c : Dev Cert.DwQkvIdeal.nD) → Buf (Elt Ideal) ((c.tc : Thread Cert.DwQkvIdeal.nD Cert.DwQkvIdeal.τ).loc Cert.DwQkvIdeal.main_v3)),
      θ_run (Cert.DwQkvIdeal.defs (F := Ideal)) (onTc (τ := Cert.DwQkvIdeal.τ) (Cert.DwQkvIdeal.main (F := Ideal))) ⟨m, fun _ => 0, g⟩ (fun r => ∀ c : Dev Cert.DwQkvIdeal.nD,
          r.2.mem ((c.tc : Thread Cert.DwQkvIdeal.nD Cert.DwQkvIdeal.τ).loc Cert.DwQkvIdeal.main_v3) = v0 c
          ∧ r.2.mem ((c.tc : Thread Cert.DwQkvIdeal.nD Cert.DwQkvIdeal.τ).loc Cert.DwQkvIdeal.main_arg0) = m ((c.tc : Thread Cert.DwQkvIdeal.nD Cert.DwQkvIdeal.τ).loc Cert.DwQkvIdeal.main_arg0)
          ∧ r.2.mem ((c.tc : Thread Cert.DwQkvIdeal.nD Cert.DwQkvIdeal.τ).loc Cert.DwQkvIdeal.main_arg1) = m ((c.tc : Thread Cert.DwQkvIdeal.nD Cert.DwQkvIdeal.τ).loc Cert.DwQkvIdeal.main_arg1)
          ∧ r.2.mem ((c.tc : Thread Cert.DwQkvIdeal.nD Cert.DwQkvIdeal.τ).loc Cert.DwQkvIdeal.main_arg2) = m ((c.tc : Thread Cert.DwQkvIdeal.nD Cert.DwQkvIdeal.τ).loc Cert.DwQkvIdeal.main_arg2)
          ∧ r.2.mem ((c.tc : Thread Cert.DwQkvIdeal.nD Cert.DwQkvIdeal.τ).loc Cert.DwQkvIdeal.main_arg3) = m ((c.tc : Thread Cert.DwQkvIdeal.nD Cert.DwQkvIdeal.τ).loc Cert.DwQkvIdeal.main_arg3))
      ∧ θ_run (Cert.RefDwQkvIdeal.defs (F := Ideal)) (onTc (τ := Cert.RefDwQkvIdeal.τ) (Cert.RefDwQkvIdeal.main (F := Ideal))) ⟨m', fun _ => 0, g'⟩ (fun r => ∀ c : Dev Cert.RefDwQkvIdeal.nD,
          r.2.mem ((c.tc : Thread Cert.RefDwQkvIdeal.nD Cert.RefDwQkvIdeal.τ).loc Cert.RefDwQkvIdeal.main_v0) = v0 c
          ∧ r.2.mem ((c.tc : Thread Cert.RefDwQkvIdeal.nD Cert.RefDwQkvIdeal.τ).loc Cert.RefDwQkvIdeal.main_arg0) = m' ((c.tc : Thread Cert.RefDwQkvIdeal.nD Cert.RefDwQkvIdeal.τ).loc Cert.RefDwQkvIdeal.main_arg0)
          ∧ r.2.mem ((c.tc : Thread Cert.RefDwQkvIdeal.nD Cert.RefDwQkvIdeal.τ).loc Cert.RefDwQkvIdeal.main_arg1) = m' ((c.tc : Thread Cert.RefDwQkvIdeal.nD Cert.RefDwQkvIdeal.τ).loc Cert.RefDwQkvIdeal.main_arg1)
          ∧ r.2.mem ((c.tc : Thread Cert.RefDwQkvIdeal.nD Cert.RefDwQkvIdeal.τ).loc Cert.RefDwQkvIdeal.main_arg2) = m' ((c.tc : Thread Cert.RefDwQkvIdeal.nD Cert.RefDwQkvIdeal.τ).loc Cert.RefDwQkvIdeal.main_arg2)
          ∧ r.2.mem ((c.tc : Thread Cert.RefDwQkvIdeal.nD Cert.RefDwQkvIdeal.τ).loc Cert.RefDwQkvIdeal.main_arg3) = m' ((c.tc : Thread Cert.RefDwQkvIdeal.nD Cert.RefDwQkvIdeal.τ).loc Cert.RefDwQkvIdeal.main_arg3))

def preserves_DwOut_DwOutIdeal : Prop :=
  True

def algebraic_DwOutIdeal_RefDwOutIdeal [hDwOutIdeal : Cert.DwOutIdeal.Facts] [hRefDwOutIdeal : Cert.RefDwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.RefDwOutIdeal.nD Cert.RefDwOutIdeal.τ Cert.RefDwOutIdeal.sig) → Buf (Elt Ideal) ℓ) (g' : Dev Cert.RefDwOutIdeal.nD → PrngReg), Pre_DwOutIdeal m →
    (∀ c : Dev Cert.DwOutIdeal.nD,
      m' ((c.tc : Thread Cert.RefDwOutIdeal.nD Cert.RefDwOutIdeal.τ).loc Cert.RefDwOutIdeal.main_arg0) = m ((c.tc : Thread Cert.DwOutIdeal.nD Cert.DwOutIdeal.τ).loc Cert.DwOutIdeal.main_arg0)
      ∧ m' ((c.tc : Thread Cert.RefDwOutIdeal.nD Cert.RefDwOutIdeal.τ).loc Cert.RefDwOutIdeal.main_arg1) = m ((c.tc : Thread Cert.DwOutIdeal.nD Cert.DwOutIdeal.τ).loc Cert.DwOutIdeal.main_arg1)
      ∧ m' ((c.tc : Thread Cert.RefDwOutIdeal.nD Cert.RefDwOutIdeal.τ).loc Cert.RefDwOutIdeal.main_arg2) = m ((c.tc : Thread Cert.DwOutIdeal.nD Cert.DwOutIdeal.τ).loc Cert.DwOutIdeal.main_arg2)
      ∧ m' ((c.tc : Thread Cert.RefDwOutIdeal.nD Cert.RefDwOutIdeal.τ).loc Cert.RefDwOutIdeal.main_arg3) = m ((c.tc : Thread Cert.DwOutIdeal.nD Cert.DwOutIdeal.τ).loc Cert.DwOutIdeal.main_arg3)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
          ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2)
          ∧ r.2.mem ((c.tc : Thread Cert.DwOutIdeal.nD Cert.DwOutIdeal.τ).loc Cert.DwOutIdeal.main_arg3) = m ((c.tc : Thread Cert.DwOutIdeal.nD Cert.DwOutIdeal.τ).loc Cert.DwOutIdeal.main_arg3))
      ∧ θ_run (Cert.RefDwOutIdeal.defs (F := Ideal)) (onTc (τ := Cert.RefDwOutIdeal.τ) (Cert.RefDwOutIdeal.main (F := Ideal))) ⟨m', fun _ => 0, g'⟩ (fun r => ∀ c : Dev Cert.RefDwOutIdeal.nD,
          r.2.mem ((c.tc : Thread Cert.RefDwOutIdeal.nD Cert.RefDwOutIdeal.τ).loc Cert.RefDwOutIdeal.main_v0) = v0 c
          ∧ r.2.mem ((c.tc : Thread Cert.RefDwOutIdeal.nD Cert.RefDwOutIdeal.τ).loc Cert.RefDwOutIdeal.main_arg0) = m' ((c.tc : Thread Cert.RefDwOutIdeal.nD Cert.RefDwOutIdeal.τ).loc Cert.RefDwOutIdeal.main_arg0)
          ∧ r.2.mem ((c.tc : Thread Cert.RefDwOutIdeal.nD Cert.RefDwOutIdeal.τ).loc Cert.RefDwOutIdeal.main_arg1) = m' ((c.tc : Thread Cert.RefDwOutIdeal.nD Cert.RefDwOutIdeal.τ).loc Cert.RefDwOutIdeal.main_arg1)
          ∧ r.2.mem ((c.tc : Thread Cert.RefDwOutIdeal.nD Cert.RefDwOutIdeal.τ).loc Cert.RefDwOutIdeal.main_arg2) = m' ((c.tc : Thread Cert.RefDwOutIdeal.nD Cert.RefDwOutIdeal.τ).loc Cert.RefDwOutIdeal.main_arg2)
          ∧ r.2.mem ((c.tc : Thread Cert.RefDwOutIdeal.nD Cert.RefDwOutIdeal.τ).loc Cert.RefDwOutIdeal.main_arg3) = m' ((c.tc : Thread Cert.RefDwOutIdeal.nD Cert.RefDwOutIdeal.τ).loc Cert.RefDwOutIdeal.main_arg3))

def Claim : Prop :=
  ∃ (hAct : Cert.Act.Facts) (hActIdeal : Cert.ActIdeal.Facts) (hRefActIdeal : Cert.RefActIdeal.Facts) (hDwIn : Cert.DwIn.Facts) (hDwInIdeal : Cert.DwInIdeal.Facts) (hRefDwInIdeal : Cert.RefDwInIdeal.Facts) (hDwQkv : Cert.DwQkv.Facts) (hDwQkvIdeal : Cert.DwQkvIdeal.Facts) (hRefDwQkvIdeal : Cert.RefDwQkvIdeal.Facts) (hDwOut : Cert.DwOut.Facts) (hDwOutIdeal : Cert.DwOutIdeal.Facts) (hRefDwOutIdeal : Cert.RefDwOutIdeal.Facts) (hPre_dy_scale_nonneg : Cert.Pre_dy_scale_nonneg.Facts),
    quiescent_Act (hAct := hAct)
    ∧ quiescent_ActIdeal (hActIdeal := hActIdeal)
    ∧ quiescent_ActIdeal_pre_dy_scale_nonneg (hActIdeal := hActIdeal) (hPre_dy_scale_nonneg := hPre_dy_scale_nonneg)
    ∧ quiescent_RefActIdeal (hRefActIdeal := hRefActIdeal)
    ∧ quiescent_RefActIdeal_pre_dy_scale_nonneg (hRefActIdeal := hRefActIdeal) (hPre_dy_scale_nonneg := hPre_dy_scale_nonneg)
    ∧ quiescent_DwIn (hDwIn := hDwIn)
    ∧ quiescent_DwInIdeal (hDwInIdeal := hDwInIdeal)
    ∧ quiescent_RefDwInIdeal (hRefDwInIdeal := hRefDwInIdeal)
    ∧ quiescent_DwQkv (hDwQkv := hDwQkv)
    ∧ quiescent_DwQkvIdeal (hDwQkvIdeal := hDwQkvIdeal)
    ∧ quiescent_RefDwQkvIdeal (hRefDwQkvIdeal := hRefDwQkvIdeal)
    ∧ quiescent_DwOut (hDwOut := hDwOut)
    ∧ quiescent_DwOutIdeal (hDwOutIdeal := hDwOutIdeal)
    ∧ quiescent_RefDwOutIdeal (hRefDwOutIdeal := hRefDwOutIdeal)
    ∧ preserves_Act_ActIdeal
    ∧ algebraic_ActIdeal_RefActIdeal_pre_dy_scale_nonneg (hActIdeal := hActIdeal) (hRefActIdeal := hRefActIdeal) (hPre_dy_scale_nonneg := hPre_dy_scale_nonneg)
    ∧ preserves_DwIn_DwInIdeal
    ∧ algebraic_DwInIdeal_RefDwInIdeal (hDwInIdeal := hDwInIdeal) (hRefDwInIdeal := hRefDwInIdeal)
    ∧ preserves_DwQkv_DwQkvIdeal
    ∧ algebraic_DwQkvIdeal_RefDwQkvIdeal (hDwQkvIdeal := hDwQkvIdeal) (hRefDwQkvIdeal := hRefDwQkvIdeal)
    ∧ preserves_DwOut_DwOutIdeal
    ∧ algebraic_DwOutIdeal_RefDwOutIdeal (hDwOutIdeal := hDwOutIdeal) (hRefDwOutIdeal := hRefDwOutIdeal)
-- ==== Pre_dy_scale_nonneg.lean ====
abbrev S6x256x1280 : Shape := ⟨3, ![6, 256, 1280]⟩
abbrev S6x256 : Shape := ⟨2, ![6, 256]⟩
abbrev S6x256x3x10x128 : Shape := ⟨5, ![6, 256, 3, 10, 128]⟩
abbrev S1280 : Shape := ⟨1, ![1280]⟩
abbrev S6x256x5120 : Shape := ⟨3, ![6, 256, 5120]⟩
abbrev S1280x5120 : Shape := ⟨2, ![1280, 5120]⟩
abbrev S5120 : Shape := ⟨1, ![5120]⟩
abbrev S5120x1280 : Shape := ⟨2, ![5120, 1280]⟩
abbrev S1280x3x10x128 : Shape := ⟨4, ![1280, 3, 10, 128]⟩
abbrev S3x10x128 : Shape := ⟨3, ![3, 10, 128]⟩
abbrev S_ : Shape := ⟨0, ![]⟩

class Facts : Prop where
  bcast_S_S6x256 : S_.BroadcastsInDim S6x256 (![] : Fin 0 → Fin S6x256.rank)

variable [Facts]

def fn {F : FTy → Type} [FloatOps F] (main_arg0 : FVec F S6x256x1280 .fp8e5m2) (main_arg1 : FVec F S6x256 .f32) (main_arg2 : FVec F S6x256x3x10x128 .fp8e5m2) (main_arg3 : FVec F S6x256 .f32) (main_arg4 : FVec F S6x256x1280 .bf16) (main_arg5 : FVec F S1280 .f32) (main_arg6 : FVec F S6x256x5120 .fp8e4m3) (main_arg7 : FVec F S6x256 .f32) (main_arg8 : FVec F S1280x5120 .fp8e4m3) (main_arg9 : FVec F S5120 .f32) (main_arg10 : FVec F S5120x1280 .fp8e4m3) (main_arg11 : FVec F S1280 .f32) (main_arg12 : FVec F S1280x3x10x128 .fp8e4m3) (main_arg13 : FVec F S3x10x128 .f32) : IVec S6x256 1 :=
  let main_cst : FVec F S_ .f32 := constant S_ .f32 0x00000000#32
  let main_v0 : FVec F S6x256 .f32 := broadcastInDim S6x256 ![] bcast_S_S6x256 main_cst
  let main_v1 : IVec S6x256 1 := cmpf .oge main_arg1 main_v0
  main_v1
-- ==== Act.lean ====
abbrev S6x256x1280 : Shape := ⟨3, ![6, 256, 1280]⟩
abbrev S6x256 : Shape := ⟨2, ![6, 256]⟩
abbrev S6x256x3x10x128 : Shape := ⟨5, ![6, 256, 3, 10, 128]⟩
abbrev S1280 : Shape := ⟨1, ![1280]⟩
abbrev S6x256x5120 : Shape := ⟨3, ![6, 256, 5120]⟩
abbrev S1280x5120 : Shape := ⟨2, ![1280, 5120]⟩
abbrev S5120 : Shape := ⟨1, ![5120]⟩
abbrev S5120x1280 : Shape := ⟨2, ![5120, 1280]⟩
abbrev S1280x3x10x128 : Shape := ⟨4, ![1280, 3, 10, 128]⟩
abbrev S3x10x128 : Shape := ⟨3, ![3, 10, 128]⟩
abbrev S1x1280 : Shape := ⟨2, ![1, 1280]⟩
abbrev S6x3x10x256x128 : Shape := ⟨5, ![6, 3, 10, 256, 128]⟩
abbrev S6x30x256x128 : Shape := ⟨4, ![6, 30, 256, 128]⟩
abbrev S3x10x1280x128 : Shape := ⟨4, ![3, 10, 1280, 128]⟩
abbrev S30x1280x128 : Shape := ⟨3, ![30, 1280, 128]⟩
abbrev S10x3x128 : Shape := ⟨3, ![10, 3, 128]⟩
abbrev S1x5120 : Shape := ⟨2, ![1, 5120]⟩
abbrev S1280x1536 : Shape := ⟨2, ![1280, 1536]⟩
abbrev S1x256x1280 : Shape := ⟨3, ![1, 256, 1280]⟩
abbrev S1x30x256x128 : Shape := ⟨4, ![1, 30, 256, 128]⟩
abbrev S1x256x5120 : Shape := ⟨3, ![1, 256, 5120]⟩
abbrev S1280x256 : Shape := ⟨2, ![1280, 256]⟩
abbrev S256x5120 : Shape := ⟨2, ![256, 5120]⟩
abbrev S1x256 : Shape := ⟨2, ![1, 256]⟩
abbrev S128x256 : Shape := ⟨2, ![128, 256]⟩
abbrev S256x128 : Shape := ⟨2, ![256, 128]⟩
abbrev S256x1280 : Shape := ⟨2, ![256, 1280]⟩
abbrev S256 : Shape := ⟨1, ![256]⟩
abbrev S256x1 : Shape := ⟨2, ![256, 1]⟩
abbrev S512x1280 : Shape := ⟨2, ![512, 1280]⟩
abbrev S256x512 : Shape := ⟨2, ![256, 512]⟩
abbrev S1x256x512 : Shape := ⟨3, ![1, 256, 512]⟩
abbrev S1280x512 : Shape := ⟨2, ![1280, 512]⟩
abbrev S1x512 : Shape := ⟨2, ![1, 512]⟩
abbrev S1x1x256x128 : Shape := ⟨4, ![1, 1, 256, 128]⟩
abbrev S256x256 : Shape := ⟨2, ![256, 256]⟩
abbrev S1x1280x128 : Shape := ⟨3, ![1, 1280, 128]⟩
abbrev S1280x128 : Shape := ⟨2, ![1280, 128]⟩
abbrev S1x1x128 : Shape := ⟨3, ![1, 1, 128]⟩
abbrev S1x128 : Shape := ⟨2, ![1, 128]⟩

abbrev nBuf : Space → Nat
  | .hbm => 30
  | .vmem => 31
  | .smem => 0
  | _ => 0

abbrev bufTy : (tb : Table) → Fin (tcTables nBuf tb) → BufTy
  | .hbm, ⟨0, _⟩ => ⟨S6x256x1280, .fp8e5m2⟩
  | .hbm, ⟨1, _⟩ => ⟨S6x256, .f32⟩
  | .hbm, ⟨2, _⟩ => ⟨S6x256x3x10x128, .fp8e5m2⟩
  | .hbm, ⟨3, _⟩ => ⟨S6x256, .f32⟩
  | .hbm, ⟨4, _⟩ => ⟨S6x256x1280, .bf16⟩
  | .hbm, ⟨5, _⟩ => ⟨S1280, .f32⟩
  | .hbm, ⟨6, _⟩ => ⟨S6x256x5120, .fp8e4m3⟩
  | .hbm, ⟨7, _⟩ => ⟨S6x256, .f32⟩
  | .hbm, ⟨8, _⟩ => ⟨S1280x5120, .fp8e4m3⟩
  | .hbm, ⟨9, _⟩ => ⟨S5120, .f32⟩
  | .hbm, ⟨10, _⟩ => ⟨S5120x1280, .fp8e4m3⟩
  | .hbm, ⟨11, _⟩ => ⟨S1280, .f32⟩
  | .hbm, ⟨12, _⟩ => ⟨S1280x3x10x128, .fp8e4m3⟩
  | .hbm, ⟨13, _⟩ => ⟨S3x10x128, .f32⟩
  | .hbm, ⟨14, _⟩ => ⟨S1x1280, .f32⟩
  | .hbm, ⟨15, _⟩ => ⟨S6x3x10x256x128, .fp8e5m2⟩
  | .hbm, ⟨16, _⟩ => ⟨S6x30x256x128, .fp8e5m2⟩
  | .hbm, ⟨17, _⟩ => ⟨S3x10x1280x128, .fp8e4m3⟩
  | .hbm, ⟨18, _⟩ => ⟨S30x1280x128, .fp8e4m3⟩
  | .hbm, ⟨19, _⟩ => ⟨S10x3x128, .f32⟩
  | .hbm, ⟨20, _⟩ => ⟨S1x5120, .f32⟩
  | .hbm, ⟨21, _⟩ => ⟨S1x1280, .f32⟩
  | .hbm, ⟨22, _⟩ => ⟨S6x256x1280, .bf16⟩
  | .hbm, ⟨23, _⟩ => ⟨S6x256x1280, .fp8e4m3⟩
  | .hbm, ⟨24, _⟩ => ⟨S6x256, .f32⟩
  | .hbm, ⟨25, _⟩ => ⟨S6x256x5120, .fp8e5m2⟩
  | .hbm, ⟨26, _⟩ => ⟨S6x256, .f32⟩
  | .hbm, ⟨27, _⟩ => ⟨S1x1280, .f32⟩
  | .hbm, ⟨28, _⟩ => ⟨S1x1280, .f32⟩
  | .hbm, ⟨29, _⟩ => ⟨S1280x1536, .bf16⟩
  | .local _ .vmem, ⟨0, _⟩ => ⟨S1x256x1280, .fp8e5m2⟩
  | .local _ .vmem, ⟨1, _⟩ => ⟨S1x256x1280, .fp8e5m2⟩
  | .local _ .vmem, ⟨2, _⟩ => ⟨S6x256, .f32⟩
  | .local _ .vmem, ⟨3, _⟩ => ⟨S1x30x256x128, .fp8e5m2⟩
  | .local _ .vmem, ⟨4, _⟩ => ⟨S1x30x256x128, .fp8e5m2⟩
  | .local _ .vmem, ⟨5, _⟩ => ⟨S6x256, .f32⟩
  | .local _ .vmem, ⟨6, _⟩ => ⟨S1x256x1280, .bf16⟩
  | .local _ .vmem, ⟨7, _⟩ => ⟨S1x256x1280, .bf16⟩
  | .local _ .vmem, ⟨8, _⟩ => ⟨S1x1280, .f32⟩
  | .local _ .vmem, ⟨9, _⟩ => ⟨S1x256x5120, .fp8e4m3⟩
  | .local _ .vmem, ⟨10, _⟩ => ⟨S1x256x5120, .fp8e4m3⟩
  | .local _ .vmem, ⟨11, _⟩ => ⟨S6x256, .f32⟩
  | .local _ .vmem, ⟨12, _⟩ => ⟨S1280x5120, .fp8e4m3⟩
  | .local _ .vmem, ⟨13, _⟩ => ⟨S1x5120, .f32⟩
  | .local _ .vmem, ⟨14, _⟩ => ⟨S5120x1280, .fp8e4m3⟩
  | .local _ .vmem, ⟨15, _⟩ => ⟨S1x1280, .f32⟩
  | .local _ .vmem, ⟨16, _⟩ => ⟨S30x1280x128, .fp8e4m3⟩
  | .local _ .vmem, ⟨17, _⟩ => ⟨S10x3x128, .f32⟩
  | .local _ .vmem, ⟨18, _⟩ => ⟨S1x256x1280, .bf16⟩
  | .local _ .vmem, ⟨19, _⟩ => ⟨S1x256x1280, .bf16⟩
  | .local _ .vmem, ⟨20, _⟩ => ⟨S1x256x1280, .fp8e4m3⟩
  | .local _ .vmem, ⟨21, _⟩ => ⟨S1x256x1280, .fp8e4m3⟩
  | .local _ .vmem, ⟨22, _⟩ => ⟨S6x256, .f32⟩
  | .local _ .vmem, ⟨23, _⟩ => ⟨S1x256x5120, .fp8e5m2⟩
  | .local _ .vmem, ⟨24, _⟩ => ⟨S1x256x5120, .fp8e5m2⟩
  | .local _ .vmem, ⟨25, _⟩ => ⟨S6x256, .f32⟩
  | .local _ .vmem, ⟨26, _⟩ => ⟨S1x1280, .f32⟩
  | .local _ .vmem, ⟨27, _⟩ => ⟨S1x1280, .f32⟩
  | .local _ .vmem, ⟨28, _⟩ => ⟨S1280x256, .bf16⟩
  | .local _ .vmem, ⟨29, _⟩ => ⟨S1280x256, .bf16⟩
  | .local _ .vmem, ⟨30, _⟩ => ⟨S256x5120, .f32⟩
  | _, _ => ⟨S6x256x1280, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8_0 : Ref sig .tc := ⟨.hbm, 22, rfl⟩
abbrev main_v8_1 : Ref sig .tc := ⟨.hbm, 23, rfl⟩
abbrev main_v8_2 : Ref sig .tc := ⟨.hbm, 24, rfl⟩
abbrev main_v8_3 : Ref sig .tc := ⟨.hbm, 25, rfl⟩
abbrev main_v8_4 : Ref sig .tc := ⟨.hbm, 26, rfl⟩
abbrev main_v8_5 : Ref sig .tc := ⟨.hbm, 27, rfl⟩
abbrev main_v8_6 : Ref sig .tc := ⟨.hbm, 28, rfl⟩
abbrev main_v8_7 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg19_0 : Ref sig .tc := ⟨.vmem, 26, rfl⟩
abbrev cc0_stg20_0 : Ref sig .tc := ⟨.vmem, 27, rfl⟩
abbrev cc0_stg21_0 : Ref sig .tc := ⟨.vmem, 28, rfl⟩
abbrev cc0_stg21_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem17_0 : DmaSem sig := 23
abbrev cc0_sem17_1 : DmaSem sig := 24
abbrev cc0_sem18_0 : DmaSem sig := 25
abbrev cc0_sem19_0 : DmaSem sig := 26
abbrev cc0_sem20_0 : DmaSem sig := 27
abbrev cc0_sem21_0 : DmaSem sig := 28
abbrev cc0_sem21_1 : DmaSem sig := 29

abbrev nD : Nat := 1
abbrev τ : Topo := Topo.v7x

variable {F : FTy → Type} [FloatOps F]

abbrev grid0 : Pipeline.Grid := ⟨1, ![6], ![false]⟩

def k0_off1 (i : grid0.Coords) : Fin 2 → Nat :=
  let arg0 : BitVec 32 := BitVec.ofNat 32 (i 0).val
  let v0 : Index := Scalar.indexCast arg0
  let c0 : Index := 0#32
  ![v0.toNat, 0]
def k0_cond1 (i : grid0.Coords) : BitVec 1 :=
  let arg0 : BitVec 32 := BitVec.ofNat 32 (i 0).val
  let c0_i32_651 : BitVec 32 := 0#32
  let v1302 : BitVec 1 := Scalar.cmpi .eq arg0 c0_i32_651
  let v1303 : BitVec 32 := Scalar.extui v1302
  let c0_i32_652 : BitVec 32 := 0#32
  let v1304 : BitVec 1 := Scalar.cmpi .ne v1303 c0_i32_652
  v1304

def k0_cond2 (i : grid0.Coords) : BitVec 1 :=
  let arg0 : BitVec 32 := BitVec.ofNat 32 (i 0).val
  let c0_i32_653 : BitVec 32 := 0#32
  let v1305 : BitVec 1 := Scalar.cmpi .ne arg0 c0_i32_653
  let v1306 : BitVec 32 := Scalar.extui v1305
  let c0_i32_654 : BitVec 32 := 0#32
  let v1307 : BitVec 1 := Scalar.cmpi .ne v1306 c0_i32_654
  v1307

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x256x1280 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x30x256x128 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S6x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x256x5120 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S6x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1280x5120 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x5120 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S5120x1280 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1280 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S30x1280x128 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S10x3x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x256x1280 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x256x1280 .fp8e4m3 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S6x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1x256x5120 .fp8e5m2 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S6x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1280 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1280 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S1280x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== ActIdeal.lean ====
variable {F : FTy → Type} [FloatOps F] [Named F]
def κ : String → Option EReal := fun
  | "gelu_3ca" => some ((107032224408900379083 / 1000000000000000000000 : ℝ) : EReal)
  | "gelu_c" => some ((3989422804014327 / 5000000000000000 : ℝ) : EReal)
  | "gelu_ca" => some ((35677408136300126361 / 1000000000000000000000 : ℝ) : EReal)
  | "inv_d" => some ((1 / 1280 : ℝ) : EReal)
  | _ => none
-- ==== RefActIdeal.lean ====
abbrev S6x256x1280 : Shape := ⟨3, ![6, 256, 1280]⟩
abbrev S6x256 : Shape := ⟨2, ![6, 256]⟩
abbrev S6x256x3x10x128 : Shape := ⟨5, ![6, 256, 3, 10, 128]⟩
abbrev S1280 : Shape := ⟨1, ![1280]⟩
abbrev S6x256x5120 : Shape := ⟨3, ![6, 256, 5120]⟩
abbrev S1280x5120 : Shape := ⟨2, ![1280, 5120]⟩
abbrev S5120 : Shape := ⟨1, ![5120]⟩
abbrev S5120x1280 : Shape := ⟨2, ![5120, 1280]⟩
abbrev S1280x3x10x128 : Shape := ⟨4, ![1280, 3, 10, 128]⟩
abbrev S3x10x128 : Shape := ⟨3, ![3, 10, 128]⟩
abbrev S1x1280 : Shape := ⟨2, ![1, 1280]⟩
abbrev S1280x1536 : Shape := ⟨2, ![1280, 1536]⟩
abbrev S6x256x1 : Shape := ⟨3, ![6, 256, 1]⟩
abbrev S1536x1280 : Shape := ⟨2, ![1536, 1280]⟩
abbrev S1536x5120 : Shape := ⟨2, ![1536, 5120]⟩
abbrev S1x5120 : Shape := ⟨2, ![1, 5120]⟩
abbrev S1x3x10x128 : Shape := ⟨4, ![1, 3, 10, 128]⟩
abbrev S1536x3840 : Shape := ⟨2, ![1536, 3840]⟩
abbrev S1280x3840 : Shape := ⟨2, ![1280, 3840]⟩
abbrev S1x1x1280 : Shape := ⟨3, ![1, 1, 1280]⟩

abbrev nBuf : Space → Nat
  | .hbm => 22
  | .vmem => 22
  | .smem => 0
  | _ => 0

abbrev bufTy : (tb : Table) → Fin (tcTables nBuf tb) → BufTy
  | .hbm, ⟨0, _⟩ => ⟨S6x256x1280, .fp8e5m2⟩
  | .hbm, ⟨1, _⟩ => ⟨S6x256, .f32⟩
  | .hbm, ⟨2, _⟩ => ⟨S6x256x3x10x128, .fp8e5m2⟩
  | .hbm, ⟨3, _⟩ => ⟨S6x256, .f32⟩
  | .hbm, ⟨4, _⟩ => ⟨S6x256x1280, .bf16⟩
  | .hbm, ⟨5, _⟩ => ⟨S1280, .f32⟩
  | .hbm, ⟨6, _⟩ => ⟨S6x256x5120, .fp8e4m3⟩
  | .hbm, ⟨7, _⟩ => ⟨S6x256, .f32⟩
  | .hbm, ⟨8, _⟩ => ⟨S1280x5120, .fp8e4m3⟩
  | .hbm, ⟨9, _⟩ => ⟨S5120, .f32⟩
  | .hbm, ⟨10, _⟩ => ⟨S5120x1280, .fp8e4m3⟩
  | .hbm, ⟨11, _⟩ => ⟨S1280, .f32⟩
  | .hbm, ⟨12, _⟩ => ⟨S1280x3x10x128, .fp8e4m3⟩
  | .hbm, ⟨13, _⟩ => ⟨S3x10x128, .f32⟩
  | .hbm, ⟨14, _⟩ => ⟨S6x256x1280, .bf16⟩
  | .hbm, ⟨15, _⟩ => ⟨S6x256x1280, .fp8e4m3⟩
  | .hbm, ⟨16, _⟩ => ⟨S6x256, .f32⟩
  | .hbm, ⟨17, _⟩ => ⟨S6x256x5120, .fp8e5m2⟩
  | .hbm, ⟨18, _⟩ => ⟨S6x256, .f32⟩
  | .hbm, ⟨19, _⟩ => ⟨S1x1280, .f32⟩
  | .hbm, ⟨20, _⟩ => ⟨S1x1280, .f32⟩
  | .hbm, ⟨21, _⟩ => ⟨S1280x1536, .bf16⟩
  | .local _ .vmem, ⟨0, _⟩ => ⟨S6x256x1280, .fp8e5m2⟩
  | .local _ .vmem, ⟨1, _⟩ => ⟨S6x256, .f32⟩
  | .local _ .vmem, ⟨2, _⟩ => ⟨S6x256x3x10x128, .fp8e5m2⟩
  | .local _ .vmem, ⟨3, _⟩ => ⟨S6x256, .f32⟩
  | .local _ .vmem, ⟨4, _⟩ => ⟨S6x256x1280, .bf16⟩
  | .local _ .vmem, ⟨5, _⟩ => ⟨S1280, .f32⟩
  | .local _ .vmem, ⟨6, _⟩ => ⟨S6x256x5120, .fp8e4m3⟩
  | .local _ .vmem, ⟨7, _⟩ => ⟨S6x256, .f32⟩
  | .local _ .vmem, ⟨8, _⟩ => ⟨S1280x5120, .fp8e4m3⟩
  | .local _ .vmem, ⟨9, _⟩ => ⟨S5120, .f32⟩
  | .local _ .vmem, ⟨10, _⟩ => ⟨S5120x1280, .fp8e4m3⟩
  | .local _ .vmem, ⟨11, _⟩ => ⟨S1280, .f32⟩
  | .local _ .vmem, ⟨12, _⟩ => ⟨S1280x3x10x128, .fp8e4m3⟩
  | .local _ .vmem, ⟨13, _⟩ => ⟨S3x10x128, .f32⟩
  | .local _ .vmem, ⟨14, _⟩ => ⟨S6x256x1280, .bf16⟩
  | .local _ .vmem, ⟨15, _⟩ => ⟨S6x256x1280, .fp8e4m3⟩
  | .local _ .vmem, ⟨16, _⟩ => ⟨S6x256, .f32⟩
  | .local _ .vmem, ⟨17, _⟩ => ⟨S6x256x5120, .fp8e5m2⟩
  | .local _ .vmem, ⟨18, _⟩ => ⟨S6x256, .f32⟩
  | .local _ .vmem, ⟨19, _⟩ => ⟨S1x1280, .f32⟩
  | .local _ .vmem, ⟨20, _⟩ => ⟨S1x1280, .f32⟩
  | .local _ .vmem, ⟨21, _⟩ => ⟨S1280x1536, .bf16⟩
  | _, _ => ⟨S6x256x1280, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev main_v0_3 : Ref sig .tc := ⟨.hbm, 17, rfl⟩
abbrev main_v0_4 : Ref sig .tc := ⟨.hbm, 18, rfl⟩
abbrev main_v0_5 : Ref sig .tc := ⟨.hbm, 19, rfl⟩
abbrev main_v0_6 : Ref sig .tc := ⟨.hbm, 20, rfl⟩
abbrev main_v0_7 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F] [Named F]

def κ : String → Option EReal := fun
  | "gelu_3a" => some ((26829 / 200000 : ℝ) : EReal)
  | "gelu_a" => some ((8943 / 200000 : ℝ) : EReal)
  | "gelu_c" => some ((3989422804014327 / 5000000000000000 : ℝ) : EReal)
  | "ln2" => some ((Real.log 2 : ℝ) : EReal)
  | _ => none

abbrev grid0 : Pipeline.Grid := .none

abbrev stage0_0 : Fin 1 → Memref sig .tc .vmem S6x256x1280 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x256x3x10x128 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x256x1280 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x256x5120 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1280x5120 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S5120 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S5120x1280 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1280 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1280x3x10x128 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S3x10x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S6x256x1280 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S6x256x1280 .fp8e4m3 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S6x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S6x256x5120 .fp8e5m2 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S6x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1280 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1280 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1280x1536 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
-- ==== DwIn.lean ====
abbrev S1280x1536 : Shape := ⟨2, ![1280, 1536]⟩
abbrev S6x256x5120 : Shape := ⟨3, ![6, 256, 5120]⟩
abbrev S6x256 : Shape := ⟨2, ![6, 256]⟩
abbrev S1280 : Shape := ⟨1, ![1280]⟩
abbrev S1x1280 : Shape := ⟨2, ![1, 1280]⟩
abbrev S1280x5120 : Shape := ⟨2, ![1280, 5120]⟩
abbrev S6x256x1024 : Shape := ⟨3, ![6, 256, 1024]⟩
abbrev S1280x1024 : Shape := ⟨2, ![1280, 1024]⟩
abbrev S128x1280 : Shape := ⟨2, ![128, 1280]⟩
abbrev S1280x128 : Shape := ⟨2, ![1280, 128]⟩
abbrev S1x256 : Shape := ⟨2, ![1, 256]⟩
abbrev S128x256 : Shape := ⟨2, ![128, 256]⟩
abbrev S256x128 : Shape := ⟨2, ![256, 128]⟩
abbrev S1x256x1024 : Shape := ⟨3, ![1, 256, 1024]⟩
abbrev S256x1024 : Shape := ⟨2, ![256, 1024]⟩
abbrev S1536x1024 : Shape := ⟨2, ![1536, 1024]⟩

abbrev nBuf : Space → Nat
  | .hbm => 6
  | .vmem => 7
  | .smem => 0
  | _ => 0

abbrev bufTy : (tb : Table) → Fin (tcTables nBuf tb) → BufTy
  | .hbm, ⟨0, _⟩ => ⟨S1280x1536, .bf16⟩
  | .hbm, ⟨1, _⟩ => ⟨S6x256x5120, .fp8e5m2⟩
  | .hbm, ⟨2, _⟩ => ⟨S6x256, .f32⟩
  | .hbm, ⟨3, _⟩ => ⟨S1280, .f32⟩
  | .hbm, ⟨4, _⟩ => ⟨S1x1280, .f32⟩
  | .hbm, ⟨5, _⟩ => ⟨S1280x5120, .bf16⟩
  | .local _ .vmem, ⟨0, _⟩ => ⟨S1280x1536, .bf16⟩
  | .local _ .vmem, ⟨1, _⟩ => ⟨S6x256x1024, .fp8e5m2⟩
  | .local _ .vmem, ⟨2, _⟩ => ⟨S6x256x1024, .fp8e5m2⟩
  | .local _ .vmem, ⟨3, _⟩ => ⟨S6x256, .f32⟩
  | .local _ .vmem, ⟨4, _⟩ => ⟨S1x1280, .f32⟩
  | .local _ .vmem, ⟨5, _⟩ => ⟨S1280x1024, .bf16⟩
  | .local _ .vmem, ⟨6, _⟩ => ⟨S1280x1024, .bf16⟩
  | _, _ => ⟨S1280x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1280x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S6x256x1024 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1280x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefDwInIdeal.lean ====
abbrev S1280x1536 : Shape := ⟨2, ![1280, 1536]⟩
abbrev S6x256x5120 : Shape := ⟨3, ![6, 256, 5120]⟩
abbrev S6x256 : Shape := ⟨2, ![6, 256]⟩
abbrev S1280 : Shape := ⟨1, ![1280]⟩
abbrev S1280x5120 : Shape := ⟨2, ![1280, 5120]⟩
abbrev S6x256x1 : Shape := ⟨3, ![6, 256, 1]⟩
abbrev S1536x5120 : Shape := ⟨2, ![1536, 5120]⟩
abbrev S1280x1 : Shape := ⟨2, ![1280, 1]⟩

abbrev nBuf : Space → Nat
  | .hbm => 5
  | .vmem => 5
  | .smem => 0
  | _ => 0

abbrev bufTy : (tb : Table) → Fin (tcTables nBuf tb) → BufTy
  | .hbm, ⟨0, _⟩ => ⟨S1280x1536, .bf16⟩
  | .hbm, ⟨1, _⟩ => ⟨S6x256x5120, .fp8e5m2⟩
  | .hbm, ⟨2, _⟩ => ⟨S6x256, .f32⟩
  | .hbm, ⟨3, _⟩ => ⟨S1280, .f32⟩
  | .hbm, ⟨4, _⟩ => ⟨S1280x5120, .bf16⟩
  | .local _ .vmem, ⟨0, _⟩ => ⟨S1280x1536, .bf16⟩
  | .local _ .vmem, ⟨1, _⟩ => ⟨S6x256x5120, .fp8e5m2⟩
  | .local _ .vmem, ⟨2, _⟩ => ⟨S6x256, .f32⟩
  | .local _ .vmem, ⟨3, _⟩ => ⟨S1280, .f32⟩
  | .local _ .vmem, ⟨4, _⟩ => ⟨S1280x5120, .bf16⟩
  | _, _ => ⟨S1280x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1280x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x256x5120 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1280x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== DwQkv.lean ====
abbrev S1280x1536 : Shape := ⟨2, ![1280, 1536]⟩
abbrev S6x256x3x10x128 : Shape := ⟨5, ![6, 256, 3, 10, 128]⟩
abbrev S6x256 : Shape := ⟨2, ![6, 256]⟩
abbrev S1280 : Shape := ⟨1, ![1280]⟩
abbrev S1x1280 : Shape := ⟨2, ![1, 1280]⟩
abbrev S6x3x10x256x128 : Shape := ⟨5, ![6, 3, 10, 256, 128]⟩
abbrev S6x30x256x128 : Shape := ⟨4, ![6, 30, 256, 128]⟩
abbrev S30x1280x128 : Shape := ⟨3, ![30, 1280, 128]⟩
abbrev S6x6x256x128 : Shape := ⟨4, ![6, 6, 256, 128]⟩
abbrev S6x1280x128 : Shape := ⟨3, ![6, 1280, 128]⟩
abbrev S128x1280 : Shape := ⟨2, ![128, 1280]⟩
abbrev S1280x128 : Shape := ⟨2, ![1280, 128]⟩
abbrev S1x256 : Shape := ⟨2, ![1, 256]⟩
abbrev S128x256 : Shape := ⟨2, ![128, 256]⟩
abbrev S256x128 : Shape := ⟨2, ![256, 128]⟩
abbrev S1x1x256x128 : Shape := ⟨4, ![1, 1, 256, 128]⟩
abbrev S256x768 : Shape := ⟨2, ![256, 768]⟩
abbrev S1536x768 : Shape := ⟨2, ![1536, 768]⟩
abbrev S1280x768 : Shape := ⟨2, ![1280, 768]⟩
abbrev S1x1280x128 : Shape := ⟨3, ![1, 1280, 128]⟩

abbrev nBuf : Space → Nat
  | .hbm => 8
  | .vmem => 7
  | .smem => 0
  | _ => 0

abbrev bufTy : (tb : Table) → Fin (tcTables nBuf tb) → BufTy
  | .hbm, ⟨0, _⟩ => ⟨S1280x1536, .bf16⟩
  | .hbm, ⟨1, _⟩ => ⟨S6x256x3x10x128, .fp8e5m2⟩
  | .hbm, ⟨2, _⟩ => ⟨S6x256, .f32⟩
  | .hbm, ⟨3, _⟩ => ⟨S1280, .f32⟩
  | .hbm, ⟨4, _⟩ => ⟨S1x1280, .f32⟩
  | .hbm, ⟨5, _⟩ => ⟨S6x3x10x256x128, .fp8e5m2⟩
  | .hbm, ⟨6, _⟩ => ⟨S6x30x256x128, .fp8e5m2⟩
  | .hbm, ⟨7, _⟩ => ⟨S30x1280x128, .bf16⟩
  | .local _ .vmem, ⟨0, _⟩ => ⟨S1280x1536, .bf16⟩
  | .local _ .vmem, ⟨1, _⟩ => ⟨S6x6x256x128, .fp8e5m2⟩
  | .local _ .vmem, ⟨2, _⟩ => ⟨S6x6x256x128, .fp8e5m2⟩
  | .local _ .vmem, ⟨3, _⟩ => ⟨S6x256, .f32⟩
  | .local _ .vmem, ⟨4, _⟩ => ⟨S1x1280, .f32⟩
  | .local _ .vmem, ⟨5, _⟩ => ⟨S6x1280x128, .bf16⟩
  | .local _ .vmem, ⟨6, _⟩ => ⟨S6x1280x128, .bf16⟩
  | _, _ => ⟨S1280x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1280x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S6x6x256x128 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S6x1280x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefDwQkvIdeal.lean ====
abbrev S1280x1536 : Shape := ⟨2, ![1280, 1536]⟩
abbrev S6x256x3x10x128 : Shape := ⟨5, ![6, 256, 3, 10, 128]⟩
abbrev S6x256 : Shape := ⟨2, ![6, 256]⟩
abbrev S1280 : Shape := ⟨1, ![1280]⟩
abbrev S30x1280x128 : Shape := ⟨3, ![30, 1280, 128]⟩
abbrev S6x256x1x1x1 : Shape := ⟨5, ![6, 256, 1, 1, 1]⟩
abbrev S1536x3840 : Shape := ⟨2, ![1536, 3840]⟩
abbrev S1280x3840 : Shape := ⟨2, ![1280, 3840]⟩
abbrev S1280x1 : Shape := ⟨2, ![1280, 1]⟩
abbrev S1280x30x128 : Shape := ⟨3, ![1280, 30, 128]⟩

abbrev nBuf : Space → Nat
  | .hbm => 5
  | .vmem => 5
  | .smem => 0
  | _ => 0

abbrev bufTy : (tb : Table) → Fin (tcTables nBuf tb) → BufTy
  | .hbm, ⟨0, _⟩ => ⟨S1280x1536, .bf16⟩
  | .hbm, ⟨1, _⟩ => ⟨S6x256x3x10x128, .fp8e5m2⟩
  | .hbm, ⟨2, _⟩ => ⟨S6x256, .f32⟩
  | .hbm, ⟨3, _⟩ => ⟨S1280, .f32⟩
  | .hbm, ⟨4, _⟩ => ⟨S30x1280x128, .bf16⟩
  | .local _ .vmem, ⟨0, _⟩ => ⟨S1280x1536, .bf16⟩
  | .local _ .vmem, ⟨1, _⟩ => ⟨S6x256x3x10x128, .fp8e5m2⟩
  | .local _ .vmem, ⟨2, _⟩ => ⟨S6x256, .f32⟩
  | .local _ .vmem, ⟨3, _⟩ => ⟨S1280, .f32⟩
  | .local _ .vmem, ⟨4, _⟩ => ⟨S30x1280x128, .bf16⟩
  | _, _ => ⟨S1280x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1280x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x256x3x10x128 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S30x1280x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== DwOut.lean ====
abbrev S6x256x5120 : Shape := ⟨3, ![6, 256, 5120]⟩
abbrev S6x256 : Shape := ⟨2, ![6, 256]⟩
abbrev S6x256x1280 : Shape := ⟨3, ![6, 256, 1280]⟩
abbrev S5120x1280 : Shape := ⟨2, ![5120, 1280]⟩
abbrev S6x256x1024 : Shape := ⟨3, ![6, 256, 1024]⟩
abbrev S1024x1280 : Shape := ⟨2, ![1024, 1280]⟩
abbrev S1x256x1024 : Shape := ⟨3, ![1, 256, 1024]⟩
abbrev S256x1024 : Shape := ⟨2, ![256, 1024]⟩
abbrev S1024x256 : Shape := ⟨2, ![1024, 256]⟩
abbrev S1x256 : Shape := ⟨2, ![1, 256]⟩
abbrev S128x256 : Shape := ⟨2, ![128, 256]⟩
abbrev S256x128 : Shape := ⟨2, ![256, 128]⟩
abbrev S1x256x1280 : Shape := ⟨3, ![1, 256, 1280]⟩
abbrev S256x1280 : Shape := ⟨2, ![256, 1280]⟩
abbrev S1024x1536 : Shape := ⟨2, ![1024, 1536]⟩
abbrev S1536x1280 : Shape := ⟨2, ![1536, 1280]⟩

abbrev nBuf : Space → Nat
  | .hbm => 5
  | .vmem => 7
  | .smem => 0
  | _ => 0

abbrev bufTy : (tb : Table) → Fin (tcTables nBuf tb) → BufTy
  | .hbm, ⟨0, _⟩ => ⟨S6x256x5120, .fp8e4m3⟩
  | .hbm, ⟨1, _⟩ => ⟨S6x256, .f32⟩
  | .hbm, ⟨2, _⟩ => ⟨S6x256x1280, .fp8e5m2⟩
  | .hbm, ⟨3, _⟩ => ⟨S6x256, .f32⟩
  | .hbm, ⟨4, _⟩ => ⟨S5120x1280, .bf16⟩
  | .local _ .vmem, ⟨0, _⟩ => ⟨S6x256x1024, .fp8e4m3⟩
  | .local _ .vmem, ⟨1, _⟩ => ⟨S6x256x1024, .fp8e4m3⟩
  | .local _ .vmem, ⟨2, _⟩ => ⟨S6x256, .f32⟩
  | .local _ .vmem, ⟨3, _⟩ => ⟨S6x256x1280, .fp8e5m2⟩
  | .local _ .vmem, ⟨4, _⟩ => ⟨S6x256, .f32⟩
  | .local _ .vmem, ⟨5, _⟩ => ⟨S1024x1280, .bf16⟩
  | .local _ .vmem, ⟨6, _⟩ => ⟨S1024x1280, .bf16⟩
  | _, _ => ⟨S6x256x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![5], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6x256x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6x256x1280 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefDwOutIdeal.lean ====
abbrev S6x256x5120 : Shape := ⟨3, ![6, 256, 5120]⟩
abbrev S6x256 : Shape := ⟨2, ![6, 256]⟩
abbrev S6x256x1280 : Shape := ⟨3, ![6, 256, 1280]⟩
abbrev S5120x1280 : Shape := ⟨2, ![5120, 1280]⟩
abbrev S6x256x1 : Shape := ⟨3, ![6, 256, 1]⟩
abbrev S1536x5120 : Shape := ⟨2, ![1536, 5120]⟩
abbrev S1536x1280 : Shape := ⟨2, ![1536, 1280]⟩

abbrev nBuf : Space → Nat
  | .hbm => 5
  | .vmem => 5
  | .smem => 0
  | _ => 0

abbrev bufTy : (tb : Table) → Fin (tcTables nBuf tb) → BufTy
  | .hbm, ⟨0, _⟩ => ⟨S6x256x5120, .fp8e4m3⟩
  | .hbm, ⟨1, _⟩ => ⟨S6x256, .f32⟩
  | .hbm, ⟨2, _⟩ => ⟨S6x256x1280, .fp8e5m2⟩
  | .hbm, ⟨3, _⟩ => ⟨S6x256, .f32⟩
  | .hbm, ⟨4, _⟩ => ⟨S5120x1280, .bf16⟩
  | .local _ .vmem, ⟨0, _⟩ => ⟨S6x256x5120, .fp8e4m3⟩
  | .local _ .vmem, ⟨1, _⟩ => ⟨S6x256, .f32⟩
  | .local _ .vmem, ⟨2, _⟩ => ⟨S6x256x1280, .fp8e5m2⟩
  | .local _ .vmem, ⟨3, _⟩ => ⟨S6x256, .f32⟩
  | .local _ .vmem, ⟨4, _⟩ => ⟨S5120x1280, .bf16⟩
  | _, _ => ⟨S6x256x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S6x256x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x256x1280 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5120x1280 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.SumBlocks.lean ====
module

public import Idealize.ShloMosaic.Lib.Pipeline.ValueKit
public import Idealize.ShloMosaic.Lib.Pointwise

@[expose] public section

noncomputable section

open Idealize.ShloMosaic

namespace Cert.Blocks

/-- Reading six stacked blocks of 256 rows at the row `t` of the block `n` reads that block. -/
theorem stack_six {φ : FTy} {N : ℕ} (b0 b1 b2 b3 b4 b5 : FVec Ideal ⟨2, ![256, N]⟩ φ) (j : Fin N) (t : Fin 256)
    (n k : ℕ) (hn : n < 6) (hk : k = n * 256 + t) :
    (if h : k < 256 then b0 (ix2 ⟨k, h⟩ j) else
     if h : k - 256 < 256 then b1 (ix2 ⟨k - 256, h⟩ j) else
     if h : k - 256 - 256 < 256 then b2 (ix2 ⟨k - 256 - 256, h⟩ j) else
     if h : k - 256 - 256 - 256 < 256 then b3 (ix2 ⟨k - 256 - 256 - 256, h⟩ j) else
     if h : k - 256 - 256 - 256 - 256 < 256 then b4 (ix2 ⟨k - 256 - 256 - 256 - 256, h⟩ j) else
       b5 (ix2 ⟨k - 256 - 256 - 256 - 256 - 256, by omega⟩ j))
    = (![b0, b1, b2, b3, b4, b5] ⟨n, hn⟩) (ix2 t j) := by
  subst hk
  have h0 : 0 * 256 + (t : ℕ) = t := by omega
  have h1 : 1 * 256 + (t : ℕ) - 256 = t := by omega
  have h2 : 2 * 256 + (t : ℕ) - 256 - 256 = t := by omega
  have h3 : 3 * 256 + (t : ℕ) - 256 - 256 - 256 = t := by omega
  have h4 : 4 * 256 + (t : ℕ) - 256 - 256 - 256 - 256 = t := by omega
  have h5 : 5 * 256 + (t : ℕ) - 256 - 256 - 256 - 256 - 256 = t := by omega
  match n, hn with
  | 0, _ => simp (disch := omega) only [dif_pos, dif_neg, h0]; rfl
  | 1, _ => simp (disch := omega) only [dif_pos, dif_neg, h1]; rfl
  | 2, _ => simp (disch := omega) only [dif_pos, dif_neg, h2]; rfl
  | 3, _ => simp (disch := omega) only [dif_pos, dif_neg, h3]; rfl
  | 4, _ => simp (disch := omega) only [dif_pos, dif_neg, h4]; rfl
  | 5, _ => simp (disch := omega) only [dif_neg, h5]; rfl

/-- Reading six blocks of 256 columns side by side at the column `t` of the block `n` reads that block. -/
theorem row_six {φ : FTy} {N : ℕ} (b0 b1 b2 b3 b4 b5 : FVec Ideal ⟨2, ![N, 256]⟩ φ) (i : Fin N) (t : Fin 256)
    (n k : ℕ) (hn : n < 6) (hk : k = n * 256 + t) :
    (if h : k < 256 then b0 (ix2 i ⟨k, h⟩) else
     if h : k - 256 < 256 then b1 (ix2 i ⟨k - 256, h⟩) else
     if h : k - 256 - 256 < 256 then b2 (ix2 i ⟨k - 256 - 256, h⟩) else
     if h : k - 256 - 256 - 256 < 256 then b3 (ix2 i ⟨k - 256 - 256 - 256, h⟩) else
     if h : k - 256 - 256 - 256 - 256 < 256 then b4 (ix2 i ⟨k - 256 - 256 - 256 - 256, h⟩) else
       b5 (ix2 i ⟨k - 256 - 256 - 256 - 256 - 256, by omega⟩))
    = (![b0, b1, b2, b3, b4, b5] ⟨n, hn⟩) (ix2 i t) := by
  subst hk
  have h0 : 0 * 256 + (t : ℕ) = t := by omega
  have h1 : 1 * 256 + (t : ℕ) - 256 = t := by omega
  have h2 : 2 * 256 + (t : ℕ) - 256 - 256 = t := by omega
  have h3 : 3 * 256 + (t : ℕ) - 256 - 256 - 256 = t := by omega
  have h4 : 4 * 256 + (t : ℕ) - 256 - 256 - 256 - 256 = t := by omega
  have h5 : 5 * 256 + (t : ℕ) - 256 - 256 - 256 - 256 - 256 = t := by omega
  match n, hn with
  | 0, _ => simp (disch := omega) only [dif_pos, dif_neg, h0]; rfl
  | 1, _ => simp (disch := omega) only [dif_pos, dif_neg, h1]; rfl
  | 2, _ => simp (disch := omega) only [dif_pos, dif_neg, h2]; rfl
  | 3, _ => simp (disch := omega) only [dif_pos, dif_neg, h3]; rfl
  | 4, _ => simp (disch := omega) only [dif_pos, dif_neg, h4]; rfl
  | 5, _ => simp (disch := omega) only [dif_neg, h5]; rfl

end Cert.Blocks
-- ==== Proof.DwInValue.lean ====
module

public import proofs.«01_k».proof.Proof.Gen.DwInIdeal.Frame
public import proofs.«01_k».proof.Proof.Gen.RefDwInIdeal.Frame
public import proofs.«01_k».proof.Proof.SumBlocks
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RefDwInIdeal.Value
open Cert.RefDwInIdeal Cert.RefDwInIdeal.Gen
variable (m : (ℓ : Loc nD τ sig) → Buf (Elt Ideal) ℓ)

/-- At the single grid point every window starts at the origin. -/
theorem idx : ∀ t : Fin cfg0.N, win0_0.index t = ![0, 0] ∧ win0_1.index t = ![0, 0, 0] ∧ win0_2.index t = ![0, 0] ∧ win0_3.index t = ![0] ∧ win0_4.index t = ![0, 0] :=
  (by decide +kernel : ∀ t : Fin grid0.N, _)

/-- The reference's result is its formula applied to its arguments. -/
theorem final (c : Dev nD) : (dats m 0 c).arrAt 4 (cfgs 0).N
    = k0_pay1 (m ((c : Thread nD τ).loc main_arg1)) (m ((c : Thread nD τ).loc main_arg2))
        (m ((c : Thread nD τ).loc main_arg0)) (m ((c : Thread nD τ).loc main_arg3)) := by
  refine (dats m 0 c).arrAt_eq_of_after_last 4 t0_0 (by decide +kernel) _ fun j => ?_
  blk_simp
  rw [after0_4]; frame_out
  blk_point [iblk, V, idx t0_0]

end Cert.RefDwInIdeal.Value

namespace Cert.DwInIdeal.Value
open Cert.DwInIdeal Cert.DwInIdeal.Gen
variable (m : (ℓ : Loc nD τ sig) → Buf (Elt Ideal) ℓ)

/-- The reference's formula: the transposed normalised activations times the dequantised gradient of the first
    product, each row times its gamma. -/
def REF (A : FVec Ideal S6x256x5120 .fp8e5m2) (As : FVec Ideal S6x256 .f32)
    (X : FVec Ideal S1280x1536 .bf16) (G : FVec Ideal ⟨1, ![1280]⟩ .f32) : FVec Ideal S1280x5120 .bf16 :=
  Cert.RefDwInIdeal.Gen.k0_pay1 (F := Ideal) A As X G

/-- The grid point `t` reads and writes the `t`-th block of 1024 hidden units. -/
theorem idx : ∀ t : Fin cfg0.N, win0_0.index t = ![0, 0] ∧ win0_1.index t = ![0, 0, t.val] ∧ win0_2.index t = ![0, 0] ∧ win0_3.index t = ![0, 0] ∧ win0_4.index t = ![0, t.val] :=
  (by decide +kernel : ∀ t : Fin grid0.N, _)

/-- A dequantised block read at an entry: the code times the scale of its row. -/
theorem pay3_at (s : FVec Ideal S1x256 .f32) (q : FVec Ideal S1x256x1024 .fp8e5m2) (t : Fin 256) (j : Fin 1024) :
    k0_pay3 (F := Ideal) s q (ix2 t j) = q (ix3 0 t j) * s (ix2 0 t) := by
  pointwise [k0_pay3]
  simp only [dite_eq_ite, ite_self]

/-- The gamma column repeated along the rows. -/
def gammaTile (g : FVec Ideal S1x1280 .f32) : FVec Ideal S1280x1024 .f32 :=
  concatenate S1280x1024 1 [⟨S1280x128, k0_pay2 g⟩, ⟨S1280x128, k0_pay2 g⟩, ⟨S1280x128, k0_pay2 g⟩, ⟨S1280x128, k0_pay2 g⟩, ⟨S1280x128, k0_pay2 g⟩, ⟨S1280x128, k0_pay2 g⟩, ⟨S1280x128, k0_pay2 g⟩, ⟨S1280x128, k0_pay2 g⟩] concatenates_S1280x128_S1280x128_S1280x128_S1280x128_S1280x128_S1280x128_S1280x128_S1280x128_S1280x1024_d1

/-- Every column of it is gamma. -/
theorem gammaTile_at (g : FVec Ideal S1x1280 .f32) (i : Fin 1280) (j : Fin 1024) :
    gammaTile g (ix2 i j) = g (ix2 0 i) := by
  pointwise [gammaTile, k0_pay2]
  simp only [dite_eq_ite, ite_self]

/-- The product over the six stacked blocks, scaled entry by entry. -/
def stacked (b0 b1 b2 b3 b4 b5 : FVec Ideal S256x1024 .bf16) (g : FVec Ideal S1280x1024 .f32)
    (x : FVec Ideal S1280x1536 .bf16) : FVec Ideal S1280x1024 .bf16 :=
  truncf .bf16 (mulf (matmul dot_S1280x1536_S1536x1024_S1280x1024_1_0_0_1_n_n none x
    (concatenate S1536x1024 0 [⟨S256x1024, b0⟩, ⟨S256x1024, b1⟩, ⟨S256x1024, b2⟩, ⟨S256x1024, b3⟩, ⟨S256x1024, b4⟩, ⟨S256x1024, b5⟩]
      concatenates_S256x1024_S256x1024_S256x1024_S256x1024_S256x1024_S256x1024_S1536x1024_d0)
    (constant S1280x1024 .f32 0x00000000#32)) g) bitsLt_bf16_f32

/-- That product, read at an entry, is the sum of the six block products, times the factor of the entry. -/
theorem stacked_at (b0 b1 b2 b3 b4 b5 : FVec Ideal S256x1024 .bf16) (g : FVec Ideal S1280x1024 .f32)
    (x : FVec Ideal S1280x1536 .bf16) (i : Fin 1280) (j : Fin 1024) :
    stacked b0 b1 b2 b3 b4 b5 g x (ix2 i j) =
      (∑ t : Fin 256, x (ix2 i ⟨0 * 256 + t, by omega⟩) * b0 (ix2 t j)
        + ∑ t : Fin 256, x (ix2 i ⟨1 * 256 + t, by omega⟩) * b1 (ix2 t j)
        + ∑ t : Fin 256, x (ix2 i ⟨2 * 256 + t, by omega⟩) * b2 (ix2 t j)
        + ∑ t : Fin 256, x (ix2 i ⟨3 * 256 + t, by omega⟩) * b3 (ix2 t j)
        + ∑ t : Fin 256, x (ix2 i ⟨4 * 256 + t, by omega⟩) * b4 (ix2 t j)
        + ∑ t : Fin 256, x (ix2 i ⟨5 * 256 + t, by omega⟩) * b5 (ix2 t j)) * g (ix2 i j) := by
  pointwise [stacked]
  refine congrArg (· * _) ((Fin.sum_univ_tiles 6 256 rfl _).trans (Eq.trans (Finset.sum_congr rfl fun n _ =>
    Finset.sum_congr rfl fun t _ => congrArg (_ * ·) (Cert.Blocks.stack_six b0 b1 b2 b3 b4 b5 j t n _ n.isLt rfl)) (Fin.sum_univ_six _)))

/-- The kernel's payload is that product of its dequantised blocks. -/
theorem pay1_eq (g : FVec Ideal S1x1280 .f32) (s0 s1 s2 s3 s4 s5 : FVec Ideal S1x256 .f32)
    (q0 q1 q2 q3 q4 q5 : FVec Ideal S1x256x1024 .fp8e5m2) (x : FVec Ideal S1280x1536 .bf16) :
    k0_pay1 (F := Ideal) (k0_pay2 g) (k0_pay3 s0 q0) (k0_pay4 s1 q1) (k0_pay5 s2 q2) (k0_pay6 s3) q3 s4 q4 s5 q5 x
      = stacked (k0_pay3 s0 q0) (k0_pay3 s1 q1) (k0_pay3 s2 q2) (k0_pay3 s3 q3) (k0_pay3 s4 q4) (k0_pay3 s5 q5)
          (gammaTile g) x := rfl

/-- The reference's formula read at an entry, its sum over the tokens cut at the batch rows. -/
theorem ref_at (A : FVec Ideal S6x256x5120 .fp8e5m2) (As : FVec Ideal S6x256 .f32)
    (X : FVec Ideal S1280x1536 .bf16) (G : FVec Ideal ⟨1, ![1280]⟩ .f32) (j : S1280x5120.Idx) :
    REF A As X G j =
      (∑ t : Fin 256, X (ix2 (j 0) ⟨0 * 256 + t, by omega⟩) * (A (ix3 0 t (j 1)) * As (ix2 0 t))
        + ∑ t : Fin 256, X (ix2 (j 0) ⟨1 * 256 + t, by omega⟩) * (A (ix3 1 t (j 1)) * As (ix2 1 t))
        + ∑ t : Fin 256, X (ix2 (j 0) ⟨2 * 256 + t, by omega⟩) * (A (ix3 2 t (j 1)) * As (ix2 2 t))
        + ∑ t : Fin 256, X (ix2 (j 0) ⟨3 * 256 + t, by omega⟩) * (A (ix3 3 t (j 1)) * As (ix2 3 t))
        + ∑ t : Fin 256, X (ix2 (j 0) ⟨4 * 256 + t, by omega⟩) * (A (ix3 4 t (j 1)) * As (ix2 4 t))
        + ∑ t : Fin 256, X (ix2 (j 0) ⟨5 * 256 + t, by omega⟩) * (A (ix3 5 t (j 1)) * As (ix2 5 t))) * G (ix1 (j 0)) := by
  idx_vars j
  pointwise [REF, Cert.RefDwInIdeal.Gen.k0_pay1]
  rw [mul_comm]
  refine congrArg (· * _) ((Fin.sum_univ_tiles 6 256 rfl _).trans (Eq.trans (Finset.sum_congr rfl fun b _ =>
    Finset.sum_congr rfl fun t _ => ?_) (Fin.sum_univ_six fun b : Fin 6 => ∑ t : Fin 256,
      X (ix2 j0 ⟨b * 256 + t, by omega⟩) * (A (ix3 b t j1) * As (ix2 b t)))))
  have h1 : ((b : ℕ) * 256 + t) / 256 = b := by omega
  have h2 : ((b : ℕ) * 256 + t) % 256 = t := by omega
  simp only [h1, h2, Fin.eta]

/-- The kernel's result is the reference's formula applied to its arguments. -/
theorem final (c : Dev nD) : (dats m 0 c).arrAt 4 (cfgs 0).N
    = REF (m ((c : Thread nD τ).loc main_arg1)) (m ((c : Thread nD τ).loc main_arg2))
        (m ((c : Thread nD τ).loc main_arg0)) (m ((c : Thread nD τ).loc main_arg3)) := by
  refine (dats m 0 c).arrAt_eq_of_covers 4 _ (by decide +kernel) fun t _ y => ?_
  blk_simp
  rw [after0_4]; frame_out
  rw [pay1_eq]
  idx_vars y
  rw [stacked_at, ref_at]
  simp only [pay3_at, gammaTile_at]
  pointwise []
  blk_point [iblk, V, idx t]

end Cert.DwInIdeal.Value
-- ==== Proof.DwQkvValue.lean ====
module

public import proofs.«01_k».proof.Proof.Gen.DwQkvIdeal.Frame
public import proofs.«01_k».proof.Proof.Gen.RefDwQkvIdeal.Frame
public import proofs.«01_k».proof.Proof.SumBlocks
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RefDwQkvIdeal.Value
open Cert.RefDwQkvIdeal Cert.RefDwQkvIdeal.Gen
variable (m : (ℓ : Loc nD τ sig) → Buf (Elt Ideal) ℓ)

/-- At the single grid point every window starts at the origin. -/
theorem idx : ∀ t : Fin cfg0.N, win0_0.index t = ![0, 0] ∧ win0_1.index t = ![0, 0, 0, 0, 0] ∧ win0_2.index t = ![0, 0] ∧ win0_3.index t = ![0] ∧ win0_4.index t = ![0, 0, 0] :=
  (by decide +kernel : ∀ t : Fin grid0.N, _)

/-- The reference's result is its formula applied to its arguments. -/
theorem final (c : Dev nD) : (dats m 0 c).arrAt 4 (cfgs 0).N
    = k0_pay1 (m ((c : Thread nD τ).loc main_arg1)) (m ((c : Thread nD τ).loc main_arg2))
        (m ((c : Thread nD τ).loc main_arg0)) (m ((c : Thread nD τ).loc main_arg3)) := by
  refine (dats m 0 c).arrAt_eq_of_after_last 4 t0_0 (by decide +kernel) _ fun j => ?_
  blk_simp
  rw [after0_4]; frame_out
  blk_point [iblk, V, idx t0_0]

end Cert.RefDwQkvIdeal.Value

namespace Cert.DwQkvIdeal.Value
open Cert.DwQkvIdeal Cert.DwQkvIdeal.Gen
variable (m : (ℓ : Loc nD τ sig) → Buf (Elt Ideal) ℓ)

/-- The reference's formula: the transposed normalised activations times the dequantised query, key and value gradient,
    each row times its gamma, one matrix for each head. -/
def REF (A : FVec Ideal ⟨5, ![6, 256, 3, 10, 128]⟩ .fp8e5m2) (As : FVec Ideal S6x256 .f32)
    (X : FVec Ideal S1280x1536 .bf16) (G : FVec Ideal ⟨1, ![1280]⟩ .f32) : FVec Ideal S30x1280x128 .bf16 :=
  Cert.RefDwQkvIdeal.Gen.k0_pay1 (F := Ideal) A As X G

/-- The grid point `t` reads and writes the `t`-th group of six heads. -/
theorem idx : ∀ t : Fin cfg0.N, win0_0.index t = ![0, 0] ∧ win0_1.index t = ![0, t.val, 0, 0] ∧ win0_2.index t = ![0, 0] ∧ win0_3.index t = ![0, 0] ∧ win0_4.index t = ![t.val, 0, 0] :=
  (by decide +kernel : ∀ t : Fin grid0.N, _)

/-- Six dequantised heads side by side. -/
def heads (s : FVec Ideal S1x256 .f32) (c0 c1 c2 c3 c4 c5 : FVec Ideal S1x1x256x128 .fp8e5m2) : FVec Ideal S256x768 .bf16 :=
  k0_pay14 (F := Ideal) s c0 c1 c2 c3 c4 c5

/-- Column `l` of the head `h` among six heads side by side: the code of that head times the scale of its row. -/
theorem heads_at (s : FVec Ideal S1x256 .f32) (c0 c1 c2 c3 c4 c5 : FVec Ideal S1x1x256x128 .fp8e5m2) (h : Fin 6)
    (n : Fin 768) (t : Fin 256) (l : Fin 128) (hn : (n : ℕ) = 128 * h + l) :
    heads s c0 c1 c2 c3 c4 c5 (ix2 t n) = (![c0, c1, c2, c3, c4, c5] h) (ix4 0 0 t l) * s (ix2 0 t) := by
  obtain ⟨n, hlt⟩ := n
  dsimp only at hn
  subst hn
  pointwise [heads, k0_pay14]
  match h with
  | 0 => simp (disch := omega) only [Fin.val_ofNat, Nat.zero_mod, Nat.reduceMod, Nat.reduceMul, dif_pos, dif_neg]; exact congrArg (fun k => c0 (ix4 0 0 t k) * s (ix2 0 t)) (Fin.ext (by show 128 * 0 + (l : ℕ) = l; omega))
  | 1 => simp (disch := omega) only [Fin.val_ofNat, Nat.zero_mod, Nat.reduceMod, Nat.reduceMul, dif_pos, dif_neg]; exact congrArg (fun k => c1 (ix4 0 0 t k) * s (ix2 0 t)) (Fin.ext (by show 128 * 1 + (l : ℕ) - 128 = l; omega))
  | 2 => simp (disch := omega) only [Fin.val_ofNat, Nat.zero_mod, Nat.reduceMod, Nat.reduceMul, dif_pos, dif_neg]; exact congrArg (fun k => c2 (ix4 0 0 t k) * s (ix2 0 t)) (Fin.ext (by show 128 * 2 + (l : ℕ) - 128 - 128 = l; omega))
  | 3 => simp (disch := omega) only [Fin.val_ofNat, Nat.zero_mod, Nat.reduceMod, Nat.reduceMul, dif_pos, dif_neg]; exact congrArg (fun k => c3 (ix4 0 0 t k) * s (ix2 0 t)) (Fin.ext (by show 128 * 3 + (l : ℕ) - 128 - 128 - 128 = l; omega))
  | 4 => simp (disch := omega) only [Fin.val_ofNat, Nat.zero_mod, Nat.reduceMod, Nat.reduceMul, dif_pos, dif_neg]; exact congrArg (fun k => c4 (ix4 0 0 t k) * s (ix2 0 t)) (Fin.ext (by show 128 * 4 + (l : ℕ) - 128 - 128 - 128 - 128 = l; omega))
  | 5 => simp (disch := omega) only [Fin.val_ofNat, Nat.zero_mod, Nat.reduceMod, Nat.reduceMul, dif_pos, dif_neg]; exact congrArg (fun k => c5 (ix4 0 0 t k) * s (ix2 0 t)) (Fin.ext (by show 128 * 5 + (l : ℕ) - 128 - 128 - 128 - 128 - 128 = l; omega))

/-- A column of the head 1. -/
theorem heads_at1 (s : FVec Ideal S1x256 .f32) (c0 c1 c2 c3 c4 c5 : FVec Ideal S1x1x256x128 .fp8e5m2)
    (t : Fin 256) (l : Fin 128) : heads s c0 c1 c2 c3 c4 c5 (ix2 t ⟨128 + l, by omega⟩) = c1 (ix4 0 0 t l) * s (ix2 0 t) :=
  heads_at s c0 c1 c2 c3 c4 c5 1 _ t l rfl

/-- A column of the head 2. -/
theorem heads_at2 (s : FVec Ideal S1x256 .f32) (c0 c1 c2 c3 c4 c5 : FVec Ideal S1x1x256x128 .fp8e5m2)
    (t : Fin 256) (l : Fin 128) : heads s c0 c1 c2 c3 c4 c5 (ix2 t ⟨256 + l, by omega⟩) = c2 (ix4 0 0 t l) * s (ix2 0 t) :=
  heads_at s c0 c1 c2 c3 c4 c5 2 _ t l rfl

/-- A column of the head 3. -/
theorem heads_at3 (s : FVec Ideal S1x256 .f32) (c0 c1 c2 c3 c4 c5 : FVec Ideal S1x1x256x128 .fp8e5m2)
    (t : Fin 256) (l : Fin 128) : heads s c0 c1 c2 c3 c4 c5 (ix2 t ⟨384 + l, by omega⟩) = c3 (ix4 0 0 t l) * s (ix2 0 t) :=
  heads_at s c0 c1 c2 c3 c4 c5 3 _ t l rfl

/-- A column of the head 4. -/
theorem heads_at4 (s : FVec Ideal S1x256 .f32) (c0 c1 c2 c3 c4 c5 : FVec Ideal S1x1x256x128 .fp8e5m2)
    (t : Fin 256) (l : Fin 128) : heads s c0 c1 c2 c3 c4 c5 (ix2 t ⟨512 + l, by omega⟩) = c4 (ix4 0 0 t l) * s (ix2 0 t) :=
  heads_at s c0 c1 c2 c3 c4 c5 4 _ t l rfl

/-- A column of the head 5. -/
theorem heads_at5 (s : FVec Ideal S1x256 .f32) (c0 c1 c2 c3 c4 c5 : FVec Ideal S1x1x256x128 .fp8e5m2)
    (t : Fin 256) (l : Fin 128) : heads s c0 c1 c2 c3 c4 c5 (ix2 t ⟨640 + l, by omega⟩) = c5 (ix4 0 0 t l) * s (ix2 0 t) :=
  heads_at s c0 c1 c2 c3 c4 c5 5 _ t l rfl

/-- A column of the head 0. -/
theorem heads_at0 (s : FVec Ideal S1x256 .f32) (c0 c1 c2 c3 c4 c5 : FVec Ideal S1x1x256x128 .fp8e5m2)
    (t : Fin 256) (l : Fin 128) : heads s c0 c1 c2 c3 c4 c5 (ix2 t ⟨l, by omega⟩) = c0 (ix4 0 0 t l) * s (ix2 0 t) :=
  heads_at s c0 c1 c2 c3 c4 c5 0 _ t l (by show (l : ℕ) = 128 * 0 + l; omega)

/-- The product over the six stacked blocks. -/
def stacked (b0 b1 b2 b3 b4 b5 : FVec Ideal S256x768 .bf16) (x : FVec Ideal S1280x1536 .bf16) : FVec Ideal S1280x768 .f32 :=
  matmul dot_S1280x1536_S1536x768_S1280x768_1_0_0_1_n_n none x
    (concatenate S1536x768 0 [⟨S256x768, b0⟩, ⟨S256x768, b1⟩, ⟨S256x768, b2⟩, ⟨S256x768, b3⟩, ⟨S256x768, b4⟩, ⟨S256x768, b5⟩]
      concatenates_S256x768_S256x768_S256x768_S256x768_S256x768_S256x768_S1536x768_d0)
    (constant S1280x768 .f32 0x00000000#32)

/-- That product, read at an entry, is the sum of the six block products. -/
theorem stacked_at (b0 b1 b2 b3 b4 b5 : FVec Ideal S256x768 .bf16) (x : FVec Ideal S1280x1536 .bf16) (i : Fin 1280) (j : Fin 768) :
    stacked b0 b1 b2 b3 b4 b5 x (ix2 i j) =
      ∑ t : Fin 256, x (ix2 i ⟨0 * 256 + t, by omega⟩) * b0 (ix2 t j)
        + ∑ t : Fin 256, x (ix2 i ⟨1 * 256 + t, by omega⟩) * b1 (ix2 t j)
        + ∑ t : Fin 256, x (ix2 i ⟨2 * 256 + t, by omega⟩) * b2 (ix2 t j)
        + ∑ t : Fin 256, x (ix2 i ⟨3 * 256 + t, by omega⟩) * b3 (ix2 t j)
        + ∑ t : Fin 256, x (ix2 i ⟨4 * 256 + t, by omega⟩) * b4 (ix2 t j)
        + ∑ t : Fin 256, x (ix2 i ⟨5 * 256 + t, by omega⟩) * b5 (ix2 t j) := by
  pointwise [stacked]
  exact (Fin.sum_univ_tiles 6 256 rfl _).trans (Eq.trans (Finset.sum_congr rfl fun n _ =>
    Finset.sum_congr rfl fun t _ => congrArg (_ * ·) (Cert.Blocks.stack_six b0 b1 b2 b3 b4 b5 j t n _ n.isLt rfl)) (Fin.sum_univ_six _))

/-- The kernel's accumulator is that product of its dequantised blocks. -/
theorem pay21_eq (s0 s1 s2 s3 s4 s5 : FVec Ideal S1x256 .f32)
    (q00 q01 q02 q03 q04 q05 q10 q11 q12 q13 q14 q15 q20 q21 q22 q23 q24 q25 q30 q31 q32 q33 q34 q35 q40 q41 q42 q43 q44 q45 q50 q51 q52 q53 q54 q55 : FVec Ideal S1x1x256x128 .fp8e5m2) (x : FVec Ideal S1280x1536 .bf16) :
    k0_pay21 (F := Ideal) (k0_pay13 (k0_pay7 s0) (k0_pay8 s0 q00) (k0_pay9 s0 q01) (k0_pay10 s0 q02) (k0_pay11 s0 q03) (k0_pay12 s0 q04) q05)
        (k0_pay14 s1 q10 q11 q12 q13 q14 q15) (k0_pay15 s2 q20 q21 q22 q23 q24 q25) (k0_pay17 (k0_pay16 s3) q30 q31 q32 q33 q34 q35)
        (k0_pay19 (k0_pay18 s4) q40 q41 q42 q43 q44 q45) (k0_pay20 s5) q50 q51 q52 q53 q54 q55 x
      = stacked (heads s0 q00 q01 q02 q03 q04 q05) (heads s1 q10 q11 q12 q13 q14 q15) (heads s2 q20 q21 q22 q23 q24 q25) (heads s3 q30 q31 q32 q33 q34 q35) (heads s4 q40 q41 q42 q43 q44 q45) (heads s5 q50 q51 q52 q53 q54 q55) x := rfl

/-- The head number divided by ten is one of query, key and value. -/
theorem head_lt (j : S30x1280x128.Idx) : (j 0 : Fin 30).val / 10 < 3 := by
  have h : (j 0 : Fin 30).val < 30 := (j 0).isLt
  omega

/-- The reference's formula read at an entry, its sum over the tokens cut at the batch rows. -/
theorem ref_at (A : FVec Ideal ⟨5, ![6, 256, 3, 10, 128]⟩ .fp8e5m2) (As : FVec Ideal S6x256 .f32)
    (X : FVec Ideal S1280x1536 .bf16) (G : FVec Ideal ⟨1, ![1280]⟩ .f32) (j : S30x1280x128.Idx) :
    REF A As X G j =
      (∑ t : Fin 256, X (ix2 (j 1) ⟨0 * 256 + t, by omega⟩) * (A (ix5 0 t ⟨(j 0 : Fin 30).val / 10, head_lt j⟩ ⟨(j 0 : Fin 30).val % 10, by omega⟩ (j 2)) * As (ix2 0 t))
        + ∑ t : Fin 256, X (ix2 (j 1) ⟨1 * 256 + t, by omega⟩) * (A (ix5 1 t ⟨(j 0 : Fin 30).val / 10, head_lt j⟩ ⟨(j 0 : Fin 30).val % 10, by omega⟩ (j 2)) * As (ix2 1 t))
        + ∑ t : Fin 256, X (ix2 (j 1) ⟨2 * 256 + t, by omega⟩) * (A (ix5 2 t ⟨(j 0 : Fin 30).val / 10, head_lt j⟩ ⟨(j 0 : Fin 30).val % 10, by omega⟩ (j 2)) * As (ix2 2 t))
        + ∑ t : Fin 256, X (ix2 (j 1) ⟨3 * 256 + t, by omega⟩) * (A (ix5 3 t ⟨(j 0 : Fin 30).val / 10, head_lt j⟩ ⟨(j 0 : Fin 30).val % 10, by omega⟩ (j 2)) * As (ix2 3 t))
        + ∑ t : Fin 256, X (ix2 (j 1) ⟨4 * 256 + t, by omega⟩) * (A (ix5 4 t ⟨(j 0 : Fin 30).val / 10, head_lt j⟩ ⟨(j 0 : Fin 30).val % 10, by omega⟩ (j 2)) * As (ix2 4 t))
        + ∑ t : Fin 256, X (ix2 (j 1) ⟨5 * 256 + t, by omega⟩) * (A (ix5 5 t ⟨(j 0 : Fin 30).val / 10, head_lt j⟩ ⟨(j 0 : Fin 30).val % 10, by omega⟩ (j 2)) * As (ix2 5 t))) * G (ix1 (j 1)) := by
  idx_vars j
  pointwise [REF, Cert.RefDwQkvIdeal.Gen.k0_pay1]
  rw [mul_comm]
  refine congrArg (· * _) ((Fin.sum_univ_tiles 6 256 rfl _).trans (Eq.trans (Finset.sum_congr rfl fun b _ =>
    Finset.sum_congr rfl fun t _ => ?_) (Fin.sum_univ_six fun b : Fin 6 => ∑ t : Fin 256,
      X (ix2 j1 ⟨b * 256 + t, by omega⟩) * (A (ix5 b t ⟨j0 / 10, by omega⟩ ⟨j0 % 10, by omega⟩ j2) * As (ix2 b t)))))
  have h1 : ((b : ℕ) * 256 + t) / 256 = b := by omega
  have h2 : ((b : ℕ) * 256 + t) % 256 = t := by omega
  have h3 : ((j0 : ℕ) * 128 + j2) / 1280 = j0 / 10 := by omega
  have h4 : ((j0 : ℕ) * 128 + j2) / 128 % 10 = j0 % 10 := by omega
  simp only [h1, h2, h3, h4, Fin.eta]

/-- The first window holds the whole transposed activations. -/
theorem blk0 (c : Dev nD) (t : Fin cfg0.grid.N) (i : Fin 1280) (k : Fin 1536) :
    iblk m c 0 t (ix2 i k) = m ((c : Thread nD τ).loc main_arg0) (ix2 i k) := by
  blk_point [iblk, V, idx t]

/-- The second window holds six heads of the gradient, at any batch row: the head `h` of the group `t` is the head `6 t + h`. -/
theorem blk1 (c : Dev nD) (t : Fin cfg0.grid.N) (b h : Fin 6) (s : Fin 256) (l : Fin 128) (n : Fin 30)
    (hn : (n : ℕ) = t.val * 6 + h) :
    iblk m c 1 t (ix4 b h s l) = m ((c : Thread nD τ).loc main_arg1) (ix5 b s ⟨n.val / 10, by omega⟩ ⟨n.val % 10, by omega⟩ l) := by
  blk_point [iblk, V, idx t]

/-- The third window holds the whole scales. -/
theorem blk2 (c : Dev nD) (t : Fin cfg0.grid.N) (b : Fin 6) (s : Fin 256) :
    iblk m c 2 t (ix2 b s) = m ((c : Thread nD τ).loc main_arg2) (ix2 b s) := by
  blk_point [iblk, V, idx t]

/-- The fourth window holds gamma as one row. -/
theorem blk3 (c : Dev nD) (t : Fin cfg0.grid.N) (i : Fin 1280) :
    iblk m c 3 t (ix2 0 i) = m ((c : Thread nD τ).loc main_arg3) (ix1 i) := by
  blk_point [iblk, V, idx t]

/-- The kernel's result is the reference's formula applied to its arguments. -/
theorem final (c : Dev nD) : (dats m 0 c).arrAt 4 (cfgs 0).N
    = REF (m ((c : Thread nD τ).loc main_arg1)) (m ((c : Thread nD τ).loc main_arg2))
        (m ((c : Thread nD τ).loc main_arg0)) (m ((c : Thread nD τ).loc main_arg3)) := by
  refine (dats m 0 c).arrAt_eq_of_covers 4 _ (by decide +kernel) fun t _ y => ?_
  obtain ⟨n, hn⟩ : ∃ n : Fin 30, (n : ℕ) = t.val * 6 + (y 0).val := ⟨⟨t.val * 6 + (y 0).val, by
    have h1 : t.val < 5 := t.isLt
    have h2 : (y 0).val < 6 := (y 0).isLt
    omega⟩, rfl⟩
  obtain ⟨i1, hi1⟩ : ∃ i1 : Fin 1280, (i1 : ℕ) = (y 1).val := ⟨y 1, rfl⟩
  obtain ⟨i2, hi2⟩ : ∃ i2 : Fin 128, (i2 : ℕ) = (y 2).val := ⟨y 2, rfl⟩
  have he : ((View.whole main_v3).slice (win0_4.rect t)).emb y = ix3 n i1 i2 := by
    blk_ext [idx t, hn, hi1, hi2]
  blk_simp
  rw [after0_4, he, ref_at]; frame_out
  clear he
  canon_tiles x h
  all_goals unfold k0_pay23
  all_goals try unfold k0_pay30
  all_goals unfold k0_pay29 k0_pay28 k0_pay27 k0_pay26 k0_pay25 k0_pay24
  all_goals
    idx_vars x
    obtain rfl : i1 = x1 := Fin.ext (by omega)
    obtain rfl : i2 = x2 := Fin.ext (by omega)
    pointwise [k0_pay1, k0_pay2, k0_pay3, k0_pay4, k0_pay5, k0_pay6, k0_pay22]
    rw [pay21_eq, stacked_at]
    simp only [heads_at0, heads_at1, heads_at2, heads_at3, heads_at4, heads_at5]
    pointwise []
  · simp only [blk0, blk2, blk3, blk1 m c t _ 5 _ _ n (by omega)]
  · simp only [blk0, blk2, blk3, blk1 m c t _ 4 _ _ n (by omega)]
  · simp only [blk0, blk2, blk3, blk1 m c t _ 3 _ _ n (by omega)]
  · simp only [blk0, blk2, blk3, blk1 m c t _ 2 _ _ n (by omega)]
  · simp only [blk0, blk2, blk3, blk1 m c t _ 1 _ _ n (by omega)]
  · simp only [blk0, blk2, blk3, blk1 m c t _ 0 _ _ n (by simpa using by omega)]

end Cert.DwQkvIdeal.Value
-- ==== Proof.DwOutValue.lean ====
module

public import proofs.«01_k».proof.Proof.Gen.DwOutIdeal.Frame
public import proofs.«01_k».proof.Proof.Gen.RefDwOutIdeal.Frame
public import proofs.«01_k».proof.Proof.SumBlocks
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RefDwOutIdeal.Value
open Cert.RefDwOutIdeal Cert.RefDwOutIdeal.Gen
variable (m : (ℓ : Loc nD τ sig) → Buf (Elt Ideal) ℓ)

/-- At the single grid point every window starts at the origin. -/
theorem idx : ∀ t : Fin cfg0.N, win0_0.index t = ![0, 0, 0] ∧ win0_1.index t = ![0, 0] ∧ win0_2.index t = ![0, 0, 0] ∧ win0_3.index t = ![0, 0] ∧ win0_4.index t = ![0, 0] :=
  (by decide +kernel : ∀ t : Fin grid0.N, _)

/-- The reference's result is its formula applied to its arguments. -/
theorem final (c : Dev nD) : (dats m 0 c).arrAt 4 (cfgs 0).N
    = k0_pay1 (m ((c : Thread nD τ).loc main_arg0)) (m ((c : Thread nD τ).loc main_arg1))
        (m ((c : Thread nD τ).loc main_arg2)) (m ((c : Thread nD τ).loc main_arg3)) := by
  refine (dats m 0 c).arrAt_eq_of_after_last 4 t0_0 (by decide +kernel) _ fun j => ?_
  blk_simp
  rw [after0_4]; frame_out
  blk_point [iblk, V, idx t0_0]

end Cert.RefDwOutIdeal.Value

namespace Cert.DwOutIdeal.Value
open Cert.DwOutIdeal Cert.DwOutIdeal.Gen
variable (m : (ℓ : Loc nD τ sig) → Buf (Elt Ideal) ℓ)

/-- The reference's formula: the dequantised GELU activations, transposed, times the dequantised output gradient. -/
def REF (A : FVec Ideal S6x256x5120 .fp8e4m3) (As : FVec Ideal S6x256 .f32)
    (Y : FVec Ideal S6x256x1280 .fp8e5m2) (Ys : FVec Ideal S6x256 .f32) : FVec Ideal S5120x1280 .bf16 :=
  Cert.RefDwOutIdeal.Gen.k0_pay1 (F := Ideal) A As Y Ys

/-- The grid point `t` reads and writes the `t`-th block of 1024 hidden units. -/
theorem idx : ∀ t : Fin cfg0.N, win0_0.index t = ![0, 0, t.val] ∧ win0_1.index t = ![0, 0] ∧ win0_2.index t = ![0, 0, 0] ∧ win0_3.index t = ![0, 0] ∧ win0_4.index t = ![t.val, 0] :=
  (by decide +kernel : ∀ t : Fin grid0.N, _)

/-- A dequantised, transposed activation block read at an entry. -/
theorem pay1_at (q : FVec Ideal S1x256x1024 .fp8e4m3) (s : FVec Ideal S1x256 .f32) (i : Fin 1024) (t : Fin 256) :
    k0_pay1 (F := Ideal) q s (ix2 i t) = q (ix3 0 t i) * s (ix2 0 t) := by
  pointwise [k0_pay1]

/-- A dequantised block of the output gradient read at an entry: the code times the scale of its row. -/
theorem pay2_at (s : FVec Ideal S1x256 .f32) (q : FVec Ideal S1x256x1280 .fp8e5m2) (t : Fin 256) (j : Fin 1280) :
    k0_pay2 (F := Ideal) s q (ix2 t j) = q (ix3 0 t j) * s (ix2 0 t) := by
  pointwise [k0_pay2]
  simp only [dite_eq_ite, ite_self]

/-- The product of six blocks side by side with six stacked blocks. -/
def stacked (a0 a1 a2 a3 a4 a5 : FVec Ideal S1024x256 .bf16) (b0 b1 b2 b3 b4 b5 : FVec Ideal S256x1280 .bf16) :
    FVec Ideal S1024x1280 .bf16 :=
  truncf .bf16 (matmul dot_S1024x1536_S1536x1280_S1024x1280_1_0_0_1_n_n none
    (concatenate S1024x1536 1 [⟨S1024x256, a0⟩, ⟨S1024x256, a1⟩, ⟨S1024x256, a2⟩, ⟨S1024x256, a3⟩, ⟨S1024x256, a4⟩, ⟨S1024x256, a5⟩]
      concatenates_S1024x256_S1024x256_S1024x256_S1024x256_S1024x256_S1024x256_S1024x1536_d1)
    (concatenate S1536x1280 0 [⟨S256x1280, b0⟩, ⟨S256x1280, b1⟩, ⟨S256x1280, b2⟩, ⟨S256x1280, b3⟩, ⟨S256x1280, b4⟩, ⟨S256x1280, b5⟩]
      concatenates_S256x1280_S256x1280_S256x1280_S256x1280_S256x1280_S256x1280_S1536x1280_d0)
    (constant S1024x1280 .f32 0x00000000#32)) bitsLt_bf16_f32

/-- That product, read at an entry, is the sum of the six block products. -/
theorem stacked_at (a0 a1 a2 a3 a4 a5 : FVec Ideal S1024x256 .bf16) (b0 b1 b2 b3 b4 b5 : FVec Ideal S256x1280 .bf16)
    (i : Fin 1024) (j : Fin 1280) :
    stacked a0 a1 a2 a3 a4 a5 b0 b1 b2 b3 b4 b5 (ix2 i j) =
      ∑ t : Fin 256, a0 (ix2 i t) * b0 (ix2 t j) + ∑ t : Fin 256, a1 (ix2 i t) * b1 (ix2 t j)
        + ∑ t : Fin 256, a2 (ix2 i t) * b2 (ix2 t j) + ∑ t : Fin 256, a3 (ix2 i t) * b3 (ix2 t j)
        + ∑ t : Fin 256, a4 (ix2 i t) * b4 (ix2 t j) + ∑ t : Fin 256, a5 (ix2 i t) * b5 (ix2 t j) := by
  pointwise [stacked]
  exact (Fin.sum_univ_tiles 6 256 rfl _).trans (Eq.trans (Finset.sum_congr rfl fun n _ =>
    Finset.sum_congr rfl fun t _ => congrArg₂ (· * ·) (Cert.Blocks.row_six a0 a1 a2 a3 a4 a5 i t n _ n.isLt rfl)
      (Cert.Blocks.stack_six b0 b1 b2 b3 b4 b5 j t n _ n.isLt rfl)) (Fin.sum_univ_six _))

/-- The kernel's payload is that product of its dequantised blocks. -/
theorem pay10_eq (q0 q1 q2 q3 q4 q5 : FVec Ideal S1x256x1024 .fp8e4m3) (s0 s1 s2 s3 s4 s5 : FVec Ideal S1x256 .f32)
    (u0 u1 u2 u3 u4 u5 : FVec Ideal S1x256 .f32) (y0 y1 y2 y3 y4 y5 : FVec Ideal S1x256x1280 .fp8e5m2) :
    k0_pay10 (F := Ideal) (k0_pay1 q0 s0) (k0_pay2 u0 y0) (k0_pay3 q1 s1) (k0_pay4 u1 y1) (k0_pay5 q2 s2) (k0_pay6 u2 y2)
        (k0_pay7 q3 s3) (k0_pay8 u3 y3) (k0_pay9 q4) s4 u4 y4 q5 s5 u5 y5
      = stacked (k0_pay1 q0 s0) (k0_pay1 q1 s1) (k0_pay1 q2 s2) (k0_pay1 q3 s3) (k0_pay1 q4 s4) (k0_pay1 q5 s5)
          (k0_pay2 u0 y0) (k0_pay2 u1 y1) (k0_pay2 u2 y2) (k0_pay2 u3 y3) (k0_pay2 u4 y4) (k0_pay2 u5 y5) := rfl

/-- The reference's formula read at an entry, its sum over the tokens cut at the batch rows. -/
theorem ref_at (A : FVec Ideal S6x256x5120 .fp8e4m3) (As : FVec Ideal S6x256 .f32)
    (Y : FVec Ideal S6x256x1280 .fp8e5m2) (Ys : FVec Ideal S6x256 .f32) (j : S5120x1280.Idx) :
    REF A As Y Ys j =
      ∑ t : Fin 256, (A (ix3 0 t (j 0)) * As (ix2 0 t)) * (Y (ix3 0 t (j 1)) * Ys (ix2 0 t))
        + ∑ t : Fin 256, (A (ix3 1 t (j 0)) * As (ix2 1 t)) * (Y (ix3 1 t (j 1)) * Ys (ix2 1 t))
        + ∑ t : Fin 256, (A (ix3 2 t (j 0)) * As (ix2 2 t)) * (Y (ix3 2 t (j 1)) * Ys (ix2 2 t))
        + ∑ t : Fin 256, (A (ix3 3 t (j 0)) * As (ix2 3 t)) * (Y (ix3 3 t (j 1)) * Ys (ix2 3 t))
        + ∑ t : Fin 256, (A (ix3 4 t (j 0)) * As (ix2 4 t)) * (Y (ix3 4 t (j 1)) * Ys (ix2 4 t))
        + ∑ t : Fin 256, (A (ix3 5 t (j 0)) * As (ix2 5 t)) * (Y (ix3 5 t (j 1)) * Ys (ix2 5 t)) := by
  idx_vars j
  pointwise [REF, Cert.RefDwOutIdeal.Gen.k0_pay1]
  refine (Fin.sum_univ_tiles 6 256 rfl _).trans (Eq.trans (Finset.sum_congr rfl fun b _ =>
    Finset.sum_congr rfl fun t _ => ?_) (Fin.sum_univ_six fun b : Fin 6 => ∑ t : Fin 256,
      (A (ix3 b t j0) * As (ix2 b t)) * (Y (ix3 b t j1) * Ys (ix2 b t))))
  have h1 : ((b : ℕ) * 256 + t) / 256 = b := by omega
  have h2 : ((b : ℕ) * 256 + t) % 256 = t := by omega
  simp only [h1, h2, Fin.eta]

/-- The kernel's result is the reference's formula applied to its arguments. -/
theorem final (c : Dev nD) : (dats m 0 c).arrAt 4 (cfgs 0).N
    = REF (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]; frame_out
  rw [pay10_eq]
  idx_vars y
  rw [stacked_at, ref_at]
  simp only [pay1_at, pay2_at]
  pointwise []
  blk_point [iblk, V, idx t]

end Cert.DwOutIdeal.Value
-- ==== Proof.ActRuns.lean ====
/- What the two runs of the activation kernel's body are stated over: the branch conditions of the body in closed form
   over the grid points (`r = 0`: the two column sums are started; `r ≠ 0`: they are added to), where an output window is
   live, the memrefs the pipeline passes to the body, the invariant with the scratch buffer as a memref; and the frame
   claim's post from any relational run (`frame_ofR`). -/
module

public import proofs.«01_k».proof.Proof.Gen.ActIdeal.Frame
public import proofs.«01_k».proof.Proof.Gen.ActIdeal.Skeleton
public import Idealize.ShloMosaic.Lib.Pipeline.FrameBody
public import Idealize.ShloMosaic.Lib.Pipeline.TableIdle
public import Idealize.ShloMosaic.Lib.Pipeline.DatRel
public import Idealize.ShloMosaic.Lib.Pipeline.ArrRel
public import Idealize.ShloMosaic.Lib.Ring
public import Idealize.ShloMosaic.Lib.Tactic
public import Idealize.ShloMosaic.Lib.WordCmp

@[expose] public section

set_option maxRecDepth 16384

noncomputable section

namespace Cert.ActIdeal.Hand

open Cert.ActIdeal Cert.ActIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1320000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_ActIdeal`, at any `F`). -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      ((h c).2 main_arg2 (Pipeline.mem_restRefs_of main_arg2 (by decide) (by decide))).trans (V_main_arg2 m c),
      (Pipeline.RDat.FramePost.arr_in h c 3 rfl).trans ((hA c 3).trans (V_main_arg3 m c)),
      (Pipeline.RDat.FramePost.arr_in h c 4 rfl).trans ((hA c 4).trans (V_main_arg4 m c)),
      ((h c).2 main_arg5 (Pipeline.mem_restRefs_of main_arg5 (by decide) (by decide))).trans (V_main_arg5 m c),
      (Pipeline.RDat.FramePost.arr_in h c 6 rfl).trans ((hA c 6).trans (V_main_arg6 m c)),
      (Pipeline.RDat.FramePost.arr_in h c 7 rfl).trans ((hA c 7).trans (V_main_arg7 m c)),
      (Pipeline.RDat.FramePost.arr_in h c 8 rfl).trans ((hA c 8).trans (V_main_arg8 m c)),
      ((h c).2 main_arg9 (Pipeline.mem_restRefs_of main_arg9 (by decide) (by decide))).trans (V_main_arg9 m c),
      (Pipeline.RDat.FramePost.arr_in h c 10 rfl).trans ((hA c 10).trans (V_main_arg10 m c)),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 6 = 0 :=
  (fun t => by
    have ht : t.val < 6 := Nat.lt_of_lt_of_eq t.isLt N_0
    have e0 : (grid0.coords t 0).val = t.val / 1 % 6 := Pipeline.Grid.coords_val t 0 (by decide) rfl
    simp only [cond0_0, k0_cond1, e0]
    word_cmp
   : ∀ t : Fin grid0.N, cond0_0 (grid0.coords t) ↔ t.val % 6 = 0)

/-- The condition of the body's `scf.if` 1 (`k0_h2`), from the grid coordinates (the skeleton's scalar
    chain substituted). -/
abbrev cond0_1 (i : grid0.Coords) : Prop := k0_cond2 i = 1#1
/-- It holds at the points from point 1 on — by arithmetic of the point. -/
theorem hcond0_1 : ∀ t : Fin cfg0.N, cond0_1 (grid0.coords t) ↔ 1 ≤ t.val :=
  (fun t => by
    have ht : t.val < 6 := Nat.lt_of_lt_of_eq t.isLt N_0
    have e0 : (grid0.coords t 0).val = t.val / 1 % 6 := Pipeline.Grid.coords_val t 0 (by decide) rfl
    simp only [cond0_1, k0_cond2, e0]
    word_cmp
   : ∀ t : Fin grid0.N, cond0_1 (grid0.coords t) ↔ 1 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-- Window 13 is never idle (an input). -/
theorem liveAt0_13 : ∀ t : Fin cfg0.N, cfg0.idle 13 (grid0.coords t) = false := fun _ => rfl
/-- Window 14 is never idle (an output stored at every point, under no condition). -/
theorem liveAt0_14 : ∀ t : Fin cfg0.N, cfg0.idle 14 (grid0.coords t) = false := fun _ => rfl
/-- Window 15 is never idle (an output stored at every point, under no condition). -/
theorem liveAt0_15 : ∀ t : Fin cfg0.N, cfg0.idle 15 (grid0.coords t) = false := fun _ => rfl
/-- Windows 16 and 18 are never idle (outputs stored at every point, under no condition). -/
theorem liveAt0_16 : ∀ t : Fin cfg0.N, cfg0.idle 16 (grid0.coords t) = false := fun _ => rfl
theorem liveAt0_18 : ∀ t : Fin cfg0.N, cfg0.idle 18 (grid0.coords t) = false := fun _ => rfl
/-- Window 17 is never idle (an output stored at every point, under no condition). -/
theorem liveAt0_17 : ∀ t : Fin cfg0.N, cfg0.idle 17 (grid0.coords t) = false := fun _ => rfl
/-- Window 21 is never idle (an output stored at every point, under no condition). -/
theorem liveAt0_21 : ∀ t : Fin cfg0.N, cfg0.idle 21 (grid0.coords t) = false := fun _ => rfl
/-- Whether output 19's buffer is FRESH at each position `1 ‥ N` — holds nothing the body stored since the region's entry or the
    last write-back (written back at the point before, or idle there and fresh before it) —, as a bitmask, bit `n` for position `n + 1`; position 0 is fresh. `freshTab0_19_step` checks it against the configuration's own
    step point by point and Lib/Pipeline/TableIdle.lean `Cfg.fresh_tab` makes it `Cfg.fresh` (`fresh0_19_eq`). -/
def freshTab0_19 : ℕ → Bool
  | 0 => true
  | n + 1 => (0x20 : ℕ).testBit n
theorem freshTab0_19_step : ∀ t : Fin cfg0.N,
    freshTab0_19 (t.val + 1) = ((cfg0.win 19).flush t || (cfg0.idle 19 (cfg0.grid.coords t) && freshTab0_19 t.val)) := by decide +kernel
theorem fresh0_19_eq (t : Fin cfg0.N) : cfg0.fresh 19 t.val = freshTab0_19 t.val :=
  Pipeline.Cfg.fresh_tab cfg0 19 freshTab0_19 rfl freshTab0_19_step t.val (Nat.le_of_lt t.isLt)
/-- At the points of case A the printed configuration (`Cfg.idle`) calls output 19 live: the case stores into it. -/
theorem liveAt0_19_A : ∀ t : Fin cfg0.N, cond0_0 (grid0.coords t) → ¬cond0_1 (grid0.coords t) → cfg0.idle 19 (grid0.coords t) = false := by decide +kernel
/-- At the points of case B the printed configuration (`Cfg.idle`) calls output 19 live: the case stores into it. -/
theorem liveAt0_19_B : ∀ t : Fin cfg0.N, ¬cond0_0 (grid0.coords t) → cond0_1 (grid0.coords t) → cfg0.idle 19 (grid0.coords t) = false := by decide +kernel
/-- At the points of case B, which keeps output 19's prior contents (reads it before covering, or covers it in part), the
    window's buffer is not FRESH: something was stored into it since the region's entry or its last write-back, idle points
    between or not (Lib/Pipeline/TableIdle.lean `Cfg.fresh`, by the table `freshTab0_19`). -/
theorem notFresh0_19_B : ∀ t : Fin cfg0.N, ¬cond0_0 (grid0.coords t) → cond0_1 (grid0.coords t) → cfg0.fresh 19 t.val = false := by
  intro t; rw [fresh0_19_eq t]; revert t; decide +kernel
/-- Whether output 20's buffer is FRESH at each position `1 ‥ N` — holds nothing the body stored since the region's entry or the
    last write-back (written back at the point before, or idle there and fresh before it) —, as a bitmask, bit `n` for position `n + 1`; position 0 is fresh. `freshTab0_20_step` checks it against the configuration's own
    step point by point and Lib/Pipeline/TableIdle.lean `Cfg.fresh_tab` makes it `Cfg.fresh` (`fresh0_20_eq`). -/
def freshTab0_20 : ℕ → Bool
  | 0 => true
  | n + 1 => (0x20 : ℕ).testBit n
theorem freshTab0_20_step : ∀ t : Fin cfg0.N,
    freshTab0_20 (t.val + 1) = ((cfg0.win 20).flush t || (cfg0.idle 20 (cfg0.grid.coords t) && freshTab0_20 t.val)) := by decide +kernel
theorem fresh0_20_eq (t : Fin cfg0.N) : cfg0.fresh 20 t.val = freshTab0_20 t.val :=
  Pipeline.Cfg.fresh_tab cfg0 20 freshTab0_20 rfl freshTab0_20_step t.val (Nat.le_of_lt t.isLt)
/-- At the points of case A the printed configuration (`Cfg.idle`) calls output 20 live: the case stores into it. -/
theorem liveAt0_20_A : ∀ t : Fin cfg0.N, cond0_0 (grid0.coords t) → ¬cond0_1 (grid0.coords t) → cfg0.idle 20 (grid0.coords t) = false := by decide +kernel
/-- At the points of case B the printed configuration (`Cfg.idle`) calls output 20 live: the case stores into it. -/
theorem liveAt0_20_B : ∀ t : Fin cfg0.N, ¬cond0_0 (grid0.coords t) → cond0_1 (grid0.coords t) → cfg0.idle 20 (grid0.coords t) = false := by decide +kernel
/-- At the points of case B, which keeps output 20's prior contents (reads it before covering, or covers it in part), the
    window's buffer is not FRESH: something was stored into it since the region's entry or its last write-back, idle points
    between or not (Lib/Pipeline/TableIdle.lean `Cfg.fresh`, by the table `freshTab0_20`). -/
theorem notFresh0_20_B : ∀ t : Fin cfg0.N, ¬cond0_0 (grid0.coords t) → cond0_1 (grid0.coords t) → cfg0.fresh 20 t.val = false := by
  intro t; rw [fresh0_20_eq t]; revert t; decide +kernel

/-! ## The kernel body on any staging memrefs: a subtype the run finds -/

/-- One staging buffer of output window 14, through which its contents are stated (`View.read_writes_of_cover`: the
    choice does not matter). -/
abbrev VO0_14 : View sig .tc .vmem S1x256x1280 .bf16 := (Memref.whole cc0_stg14_0 : Memref sig .tc .vmem S1x256x1280 .bf16).view
/-- One staging buffer of output window 15, through which its contents are stated (`View.read_writes_of_cover`: the
    choice does not matter). -/
abbrev VO0_15 : View sig .tc .vmem S1x256x1280 .fp8e4m3 := (Memref.whole cc0_stg15_0 : Memref sig .tc .vmem S1x256x1280 .fp8e4m3).view
/-- One staging buffer of output window 17, through which its contents are stated (`View.read_writes_of_cover`: the
    choice does not matter). -/
abbrev VO0_17 : View sig .tc .vmem S1x256x5120 .fp8e5m2 := (Memref.whole cc0_stg17_0 : Memref sig .tc .vmem S1x256x5120 .fp8e5m2).view
/-- One staging buffer of output window 19, through which its contents are stated (`View.read_writes_of_cover`: the
    choice does not matter). -/
abbrev VO0_19 : View sig .tc .vmem S1x1280 .f32 := (Memref.whole cc0_stg19_0 : Memref sig .tc .vmem S1x1280 .f32).view
/-- One staging buffer of output window 20, through which its contents are stated (`View.read_writes_of_cover`: the
    choice does not matter). -/
abbrev VO0_20 : View sig .tc .vmem S1x1280 .f32 := (Memref.whole cc0_stg20_0 : Memref sig .tc .vmem S1x1280 .f32).view
/-- One staging buffer of output window 21, through which its contents are stated (`View.read_writes_of_cover`: the
    choice does not matter). -/
abbrev VO0_21 : View sig .tc .vmem S1280x256 .bf16 := (Memref.whole cc0_stg21_0 : Memref sig .tc .vmem S1280x256 .bf16).view
/-- Each window's current staging memref at point `t`, spelled as the pipeline passes it (`bodyAt0`), and its wholeness. -/
abbrev ms0_0 (t : Fin cfg0.N) : Memref sig .tc .vmem S1x256x1280 .fp8e5m2 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x30x256x128 .fp8e5m2 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S6x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x1280 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1280 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256x5120 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S6x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1280x5120 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x5120 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S5120x1280 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1280 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S30x1280x128 .fp8e4m3 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S10x3x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x256x1280 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x256x1280 .fp8e4m3 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S6x256 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x256x5120 .fp8e5m2 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S6x256 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x1280 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1x1280 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S1280x256 .bf16 := win0_21.stage (cfg0.slots t 21)
abbrev hs0_21 (t : Fin cfg0.N) : (ms0_21 t).IsWhole := hstage0_21 ((cfg0.slots t 21).cast nbuf0_21)
/-- The scratch operands: whole scoped buffers of the kernel's own, passed beside the windows. -/
abbrev scM0_0 : Memref sig .tc .vmem S256x5120 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.ActIdeal.Hand

end
-- ==== Proof.ActRunA.lean ====
/- The run of the activation kernel's body at the first grid point. -/
module

public import proofs.«01_k».proof.Proof.ActRuns

@[expose] public section

set_option maxRecDepth 16384

noncomputable section

namespace Cert.ActIdeal.Hand

open Cert.ActIdeal Cert.ActIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

-- (the run's proof term is large)
set_option maxHeartbeats 1600000 in
/-- The body's run at the first grid point (the column sums are started): what its stores leave in each output's
    staging buffer, as pieces (last first), WITH the proof that on whole staging memrefs — the inputs' at their contents,
    the two scale outputs' (windows 16 and 18, of which the body writes one row) at `xo16`, `xo18`, the other outputs'
    and the scratch at anything — the body runs to the continuation holding the inputs' as they were and each output's
    buffer with its pieces written. The pieces are the witness the run finds. -/
noncomputable def kernelRun0_A (c : Dev nD) (i : grid0.Coords) (arg1 : Memref sig .tc .vmem S1x256x1280 .fp8e5m2) (harg1 : arg1.IsWhole) (arg2 : Memref sig .tc .vmem S6x256 .f32) (harg2 : arg2.IsWhole) (arg3 : Memref sig .tc .vmem S1x30x256x128 .fp8e5m2) (harg3 : arg3.IsWhole) (arg4 : Memref sig .tc .vmem S6x256 .f32) (harg4 : arg4.IsWhole) (arg5 : Memref sig .tc .vmem S1x256x1280 .bf16) (harg5 : arg5.IsWhole) (arg6 : Memref sig .tc .vmem S1x1280 .f32) (harg6 : arg6.IsWhole) (arg7 : Memref sig .tc .vmem S1x256x5120 .fp8e4m3) (harg7 : arg7.IsWhole) (arg8 : Memref sig .tc .vmem S6x256 .f32) (harg8 : arg8.IsWhole) (arg9 : Memref sig .tc .vmem S1280x5120 .fp8e4m3) (harg9 : arg9.IsWhole) (arg10 : Memref sig .tc .vmem S1x5120 .f32) (harg10 : arg10.IsWhole) (arg11 : Memref sig .tc .vmem S5120x1280 .fp8e4m3) (harg11 : arg11.IsWhole) (arg12 : Memref sig .tc .vmem S1x1280 .f32) (harg12 : arg12.IsWhole) (arg13 : Memref sig .tc .vmem S30x1280x128 .fp8e4m3) (harg13 : arg13.IsWhole) (arg14 : Memref sig .tc .vmem S10x3x128 .f32) (harg14 : arg14.IsWhole) (arg15 : Memref sig .tc .vmem S1x256x1280 .bf16) (harg15 : arg15.IsWhole) (arg16 : Memref sig .tc .vmem S1x256x1280 .fp8e4m3) (harg16 : arg16.IsWhole) (arg17 : Memref sig .tc .vmem S6x256 .f32) (harg17 : arg17.IsWhole) (arg18 : Memref sig .tc .vmem S1x256x5120 .fp8e5m2) (harg18 : arg18.IsWhole) (arg19 : Memref sig .tc .vmem S6x256 .f32) (harg19 : arg19.IsWhole) (arg20 : Memref sig .tc .vmem S1x1280 .f32) (harg20 : arg20.IsWhole) (arg21 : Memref sig .tc .vmem S1x1280 .f32) (harg21 : arg21.IsWhole) (arg22 : Memref sig .tc .vmem S1280x256 .bf16) (harg22 : arg22.IsWhole) (arg23 : Memref sig .tc .vmem S256x5120 .f32) (harg23 : arg23.IsWhole) (hc0 : cond0_0 i) (hc1 : ¬cond0_1 i)
    (x0 : Vec F S1x256x1280 .fp8e5m2) (x1 : Vec F S6x256 .f32) (x2 : Vec F S1x30x256x128 .fp8e5m2) (x3 : Vec F S6x256 .f32) (x4 : Vec F S1x256x1280 .bf16) (x5 : Vec F S1x1280 .f32) (x6 : Vec F S1x256x5120 .fp8e4m3) (x7 : Vec F S6x256 .f32) (x8 : Vec F S1280x5120 .fp8e4m3) (x9 : Vec F S1x5120 .f32) (x10 : Vec F S5120x1280 .fp8e4m3) (x11 : Vec F S1x1280 .f32) (x12 : Vec F S30x1280x128 .fp8e4m3) (x13 : Vec F S10x3x128 .f32) (xo16 : Vec F S6x256 .f32) (xo18 : Vec F S6x256 .f32) :
    Σ' (L14 : List (View.Piece (Elt F) S1x256x1280 .bf16)), Σ' (L15 : List (View.Piece (Elt F) S1x256x1280 .fp8e4m3)), Σ' (L16 : List (View.Piece (Elt F) S6x256 .f32)), Σ' (L17 : List (View.Piece (Elt F) S1x256x5120 .fp8e5m2)), Σ' (L18 : List (View.Piece (Elt F) S6x256 .f32)), Σ' (L19 : List (View.Piece (Elt F) S1x1280 .f32)), Σ' (L20 : List (View.Piece (Elt F) S1x1280 .f32)), Σ' (L21 : List (View.Piece (Elt F) S1280x256 .bf16)), { LT0 : List (View.Piece (Elt F) S256x5120 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ owns (c : Thread nD τ) arg17 fullShare xo16 ∗ (∃ d, owns (c : Thread nD τ) arg18 fullShare d) ∗ owns (c : Thread nD τ) arg19 fullShare xo18 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (arg17.view.loc (c : Thread nD τ) ↦[arg17.view.set]{fullShare} arg17.view.writes (Elt F) (harg17.unread xo16) L16) ∗ (∃ f, arg18.view.loc (c : Thread nD τ) ↦[arg18.view.set]{fullShare} arg18.view.writes (Elt F) f L17) ∗ (arg19.view.loc (c : Thread nD τ) ↦[arg19.view.set]{fullShare} arg19.view.writes (Elt F) (harg19.unread xo18) L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f LT0)) -∗ K ⟨⟩))
          ⊢ wp frame (wpE (defs₀ (F := F)) Variants.none c none) E (cc0_act i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, ?_, ?_, ?_, fun E K => ?run⟩
  case run =>
    simp only [cc0_act_eq_skeleton]; unfold cc0_act_skel
    simp only [k0_part35_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%f16, %hf16, H16⟩, ⟨%d17, %f17, -, H17⟩, ⟨%f18, %hf18, H18⟩, ⟨%d19, %f19, -, H19⟩, ⟨%d20, %f20, -, H20⟩, ⟨%d21, %f21, -, H21⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg17.eq_unread hf16; obtain rfl := harg19.eq_unread hf18
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    isplitl [H15]; · iexists _; iexact H15
    isplitl [H16]; · iexact H16
    isplitl [H17]; · iexists _; iexact H17
    isplitl [H18]; · iexact H18
    isplitl [H19]; · iexists _; iexact H19
    isplitl [H20]; · iexists _; iexact H20
    isplitl [H21]; · iexists _; iexact H21
    iexists _; iexact HS0

end Cert.ActIdeal.Hand

end
-- ==== Proof.ActRunB.lean ====
/- The run of the activation kernel's body at every later grid point. -/
module

public import proofs.«01_k».proof.Proof.ActRuns

@[expose] public section

set_option maxRecDepth 16384

noncomputable section

namespace Cert.ActIdeal.Hand

open Cert.ActIdeal Cert.ActIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

-- (the run's proof term is large)
set_option maxHeartbeats 1600000 in
/-- The body's run at a later grid point (the column sums are added to): what its stores leave in each output's
    staging buffer, as pieces (last first), WITH the proof that on whole staging memrefs — the inputs' at their contents,
    the two scale outputs' (windows 16 and 18, of which the body writes one row) at `xo16`, `xo18`, the two column sums at `xo19`, `xo20`, the other outputs'
    and the scratch at anything — the body runs to the continuation holding the inputs' as they were and each output's
    buffer with its pieces written. The pieces are the witness the run finds. -/
noncomputable def kernelRun0_B (c : Dev nD) (i : grid0.Coords) (arg1 : Memref sig .tc .vmem S1x256x1280 .fp8e5m2) (harg1 : arg1.IsWhole) (arg2 : Memref sig .tc .vmem S6x256 .f32) (harg2 : arg2.IsWhole) (arg3 : Memref sig .tc .vmem S1x30x256x128 .fp8e5m2) (harg3 : arg3.IsWhole) (arg4 : Memref sig .tc .vmem S6x256 .f32) (harg4 : arg4.IsWhole) (arg5 : Memref sig .tc .vmem S1x256x1280 .bf16) (harg5 : arg5.IsWhole) (arg6 : Memref sig .tc .vmem S1x1280 .f32) (harg6 : arg6.IsWhole) (arg7 : Memref sig .tc .vmem S1x256x5120 .fp8e4m3) (harg7 : arg7.IsWhole) (arg8 : Memref sig .tc .vmem S6x256 .f32) (harg8 : arg8.IsWhole) (arg9 : Memref sig .tc .vmem S1280x5120 .fp8e4m3) (harg9 : arg9.IsWhole) (arg10 : Memref sig .tc .vmem S1x5120 .f32) (harg10 : arg10.IsWhole) (arg11 : Memref sig .tc .vmem S5120x1280 .fp8e4m3) (harg11 : arg11.IsWhole) (arg12 : Memref sig .tc .vmem S1x1280 .f32) (harg12 : arg12.IsWhole) (arg13 : Memref sig .tc .vmem S30x1280x128 .fp8e4m3) (harg13 : arg13.IsWhole) (arg14 : Memref sig .tc .vmem S10x3x128 .f32) (harg14 : arg14.IsWhole) (arg15 : Memref sig .tc .vmem S1x256x1280 .bf16) (harg15 : arg15.IsWhole) (arg16 : Memref sig .tc .vmem S1x256x1280 .fp8e4m3) (harg16 : arg16.IsWhole) (arg17 : Memref sig .tc .vmem S6x256 .f32) (harg17 : arg17.IsWhole) (arg18 : Memref sig .tc .vmem S1x256x5120 .fp8e5m2) (harg18 : arg18.IsWhole) (arg19 : Memref sig .tc .vmem S6x256 .f32) (harg19 : arg19.IsWhole) (arg20 : Memref sig .tc .vmem S1x1280 .f32) (harg20 : arg20.IsWhole) (arg21 : Memref sig .tc .vmem S1x1280 .f32) (harg21 : arg21.IsWhole) (arg22 : Memref sig .tc .vmem S1280x256 .bf16) (harg22 : arg22.IsWhole) (arg23 : Memref sig .tc .vmem S256x5120 .f32) (harg23 : arg23.IsWhole) (hc0 : ¬cond0_0 i) (hc1 : cond0_1 i)
    (x0 : Vec F S1x256x1280 .fp8e5m2) (x1 : Vec F S6x256 .f32) (x2 : Vec F S1x30x256x128 .fp8e5m2) (x3 : Vec F S6x256 .f32) (x4 : Vec F S1x256x1280 .bf16) (x5 : Vec F S1x1280 .f32) (x6 : Vec F S1x256x5120 .fp8e4m3) (x7 : Vec F S6x256 .f32) (x8 : Vec F S1280x5120 .fp8e4m3) (x9 : Vec F S1x5120 .f32) (x10 : Vec F S5120x1280 .fp8e4m3) (x11 : Vec F S1x1280 .f32) (x12 : Vec F S30x1280x128 .fp8e4m3) (x13 : Vec F S10x3x128 .f32) (xo16 : Vec F S6x256 .f32) (xo18 : Vec F S6x256 .f32) (xo19 : Vec F S1x1280 .f32) (xo20 : Vec F S1x1280 .f32) :
    Σ' (L14 : List (View.Piece (Elt F) S1x256x1280 .bf16)), Σ' (L15 : List (View.Piece (Elt F) S1x256x1280 .fp8e4m3)), Σ' (L16 : List (View.Piece (Elt F) S6x256 .f32)), Σ' (L17 : List (View.Piece (Elt F) S1x256x5120 .fp8e5m2)), Σ' (L18 : List (View.Piece (Elt F) S6x256 .f32)), Σ' (L19 : List (View.Piece (Elt F) S1x1280 .f32)), Σ' (L20 : List (View.Piece (Elt F) S1x1280 .f32)), Σ' (L21 : List (View.Piece (Elt F) S1280x256 .bf16)), { LT0 : List (View.Piece (Elt F) S256x5120 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ owns (c : Thread nD τ) arg17 fullShare xo16 ∗ (∃ d, owns (c : Thread nD τ) arg18 fullShare d) ∗ owns (c : Thread nD τ) arg19 fullShare xo18 ∗ owns (c : Thread nD τ) arg20 fullShare xo19 ∗ owns (c : Thread nD τ) arg21 fullShare xo20 ∗ (∃ d, owns (c : Thread nD τ) arg22 fullShare d) ∗ (∃ d, owns (c : Thread nD τ) arg23 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (arg17.view.loc (c : Thread nD τ) ↦[arg17.view.set]{fullShare} arg17.view.writes (Elt F) (harg17.unread xo16) L16) ∗ (∃ f, arg18.view.loc (c : Thread nD τ) ↦[arg18.view.set]{fullShare} arg18.view.writes (Elt F) f L17) ∗ (arg19.view.loc (c : Thread nD τ) ↦[arg19.view.set]{fullShare} arg19.view.writes (Elt F) (harg19.unread xo18) L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f LT0)) -∗ K ⟨⟩))
          ⊢ wp frame (wpE (defs₀ (F := F)) Variants.none c none) E (cc0_act i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, ?_, ?_, ?_, fun E K => ?run⟩
  case run =>
    simp only [cc0_act_eq_skeleton]; unfold cc0_act_skel
    simp only [k0_part35_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%f16, %hf16, H16⟩, ⟨%d17, %f17, -, H17⟩, ⟨%f18, %hf18, H18⟩, ⟨%f19, %hf19, H19⟩, ⟨%f20, %hf20, H20⟩, ⟨%d21, %f21, -, H21⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg17.eq_unread hf16; obtain rfl := harg19.eq_unread hf18; obtain rfl := harg20.eq_unread hf19; obtain rfl := harg21.eq_unread hf20
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    isplitl [H15]; · iexists _; iexact H15
    isplitl [H16]; · iexact H16
    isplitl [H17]; · iexists _; iexact H17
    isplitl [H18]; · iexact H18
    isplitl [H19]; · iexists _; iexact H19
    isplitl [H20]; · iexists _; iexact H20
    isplitl [H21]; · iexists _; iexact H21
    iexists _; iexact HS0

end Cert.ActIdeal.Hand

end
-- ==== Proof.ActOuts.lean ====
/- The contents the activation kernel's body leaves point by point, over the real-number reading of its program: the two
   runs at the memrefs and blocks of a grid point, what each output's staging buffer then holds, and the row facts of
   the two scale outputs (windows 16 and 18), of which the body writes one row at each point. -/
module

public import proofs.«01_k».proof.Proof.ActRunA
public import proofs.«01_k».proof.Proof.ActRunB
public import Idealize.ShloMosaic.Lib.WritesUnit
public import Idealize.ShloMosaic.Lib.Pointwise.Index

@[expose] public section

set_option maxRecDepth 16384

noncomputable section

namespace Cert.ActIdeal.Hand

open Cert.ActIdeal Cert.ActIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- The whole staging buffer of output window 16, through which its rows are stated. -/
abbrev VO0_16 : View sig .tc .vmem S6x256 .f32 := (Memref.whole cc0_stg16_0 : Memref sig .tc .vmem S6x256 .f32).view
/-- The whole staging buffer of output window 18, through which its rows are stated. -/
abbrev VO0_18 : View sig .tc .vmem S6x256 .f32 := (Memref.whole cc0_stg18_0 : Memref sig .tc .vmem S6x256 .f32).view

/-- The one row that the body stores into at a point is the point's. -/
theorem off_row : ∀ t : Fin cfg0.N, k0_off1 (grid0.coords t) = ![t.val, 0] := by decide +kernel

/-- The body's run of case A at point `t`: at the memrefs the pipeline passes and the inputs' blocks there. -/
abbrev runA (c : Dev nD) (t : Fin cfg0.N) (h0 : t.val % 6 = 0) (h1 : ¬1 ≤ t.val) (xo16 xo18 : Vec F S6x256 .f32) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) xo16 xo18

/-- Case A's pieces for output 14 cover its block. -/
theorem coverA_14 (c : Dev nD) (t : Fin cfg0.N) (h0 : t.val % 6 = 0) (h1 : ¬1 ≤ t.val) (xo16 xo18 : Vec F S6x256 .f32) (y : S1x256x1280.Idx) :
    ∃ pc ∈ (runA m c t h0 h1 xo16 xo18).1, y ∈ pc.1.set :=
  View.cover_of_tiledL (runA m c t h0 h1 xo16 xo18).1 S1x256x1280.size (by sl_kernel_rfl) y
/-- Case A's pieces for output 15 cover its block. -/
theorem coverA_15 (c : Dev nD) (t : Fin cfg0.N) (h0 : t.val % 6 = 0) (h1 : ¬1 ≤ t.val) (xo16 xo18 : Vec F S6x256 .f32) (y : S1x256x1280.Idx) :
    ∃ pc ∈ (runA m c t h0 h1 xo16 xo18).2.1, y ∈ pc.1.set :=
  View.cover_of_tiledL (runA m c t h0 h1 xo16 xo18).2.1 S1x256x1280.size (by sl_kernel_rfl) y
/-- Row `t` of window 16 after the body of case A, whatever the buffer held: the row the step stores. -/
theorem rowA_16 (c : Dev nD) (t : Fin cfg0.N) (h0 : t.val % 6 = 0) (h1 : ¬1 ≤ t.val) (xo16 xo18 : Vec F S6x256 .f32) (v : View sig .tc .vmem S6x256 .f32)
    (f : v.ty.Contents (Elt F)) (r : Fin 6) (s : Fin 256) (hr : r.val = t.val) :
    v.read (Elt F) (v.writes (Elt F) f (runA m c t h0 h1 xo16 xo18).2.2.1) (ix2 r s)
      = k0_pay43 (kernelRun0_A.sl.v161 c (ms0_4 t) (hs0_4 t) (iblk m c 4 t)) (ix2 0 s) :=
  View.read_writes_cons_rows_of_mem v f (off := k0_off1 (grid0.coords t)) (size := ![1, 256]) (k0_off1_inb (grid0.coords t))
    (k0_pay43 (kernelRun0_A.sl.v161 c (ms0_4 t) (hs0_4 t) (iblk m c 4 t))) [] (ix2 r s) (ix2 (0 : Fin 1) s) (off_row t) hr rfl
/-- The same row, read through the canonical view. -/
theorem hitA_16 (c : Dev nD) (t : Fin cfg0.N) (h0 : t.val % 6 = 0) (h1 : ¬1 ≤ t.val) (xo16 xo18 : Vec F S6x256 .f32) (v : View sig .tc .vmem S6x256 .f32)
    (f : v.ty.Contents (Elt F)) (r : Fin 6) (s : Fin 256) (hr : r.val = t.val) :
    v.read (Elt F) (v.writes (Elt F) f (runA m c t h0 h1 xo16 xo18).2.2.1) (ix2 r s)
      = VO0_16.read (Elt F) (VO0_16.writes (Elt F) VO0_16.junk (runA m c t h0 h1 (iblk m c 1 t) (iblk m c 1 t)).2.2.1) (ix2 r s) :=
  (rowA_16 m c t h0 h1 xo16 xo18 v f r s hr).trans (rowA_16 m c t h0 h1 (iblk m c 1 t) (iblk m c 1 t) VO0_16 VO0_16.junk r s hr).symm
/-- Another row of window 16 after the body of case A is what the buffer held. -/
theorem missA_16 (c : Dev nD) (t : Fin cfg0.N) (h0 : t.val % 6 = 0) (h1 : ¬1 ≤ t.val) (xo16 xo18 : Vec F S6x256 .f32) (v : View sig .tc .vmem S6x256 .f32)
    (f : v.ty.Contents (Elt F)) (r : Fin 6) (s : Fin 256) (hr : r.val ≠ t.val) :
    v.read (Elt F) (v.writes (Elt F) f (runA m c t h0 h1 xo16 xo18).2.2.1) (ix2 r s) = v.read (Elt F) f (ix2 r s) := by
  have e : (runA m c t h0 h1 xo16 xo18).2.2.1 = [⟨Rect.unit (k0_off1 (grid0.coords t)) ![1, 256] (k0_off1_inb (grid0.coords t)),
      k0_pay43 (kernelRun0_A.sl.v161 c (ms0_4 t) (hs0_4 t) (iblk m c 4 t))⟩] := rfl
  have hy : ((ix2 r s : S6x256.Idx) (0 : Fin 2)).val < t.val ∨ t.val + 1 ≤ ((ix2 r s : S6x256.Idx) (0 : Fin 2)).val := by
    have : ((ix2 r s : S6x256.Idx) (0 : Fin 2)).val = r.val := rfl
    omega
  rw [e]
  exact View.read_writes_cons_rows_of_not_mem (W := 1) v f _ _ [] (ix2 r s) (off_row t) rfl hy
/-- Case A's pieces for output 17 cover its block. -/
theorem coverA_17 (c : Dev nD) (t : Fin cfg0.N) (h0 : t.val % 6 = 0) (h1 : ¬1 ≤ t.val) (xo16 xo18 : Vec F S6x256 .f32) (y : S1x256x5120.Idx) :
    ∃ pc ∈ (runA m c t h0 h1 xo16 xo18).2.2.2.1, y ∈ pc.1.set :=
  View.cover_of_tiledL (runA m c t h0 h1 xo16 xo18).2.2.2.1 ![1, 256, 512] (by sl_kernel_rfl) y
/-- Row `t` of window 18 after the body of case A, whatever the buffer held: the row the step stores. -/
theorem rowA_18 (c : Dev nD) (t : Fin cfg0.N) (h0 : t.val % 6 = 0) (h1 : ¬1 ≤ t.val) (xo16 xo18 : Vec F S6x256 .f32) (v : View sig .tc .vmem S6x256 .f32)
    (f : v.ty.Contents (Elt F)) (r : Fin 6) (s : Fin 256) (hr : r.val = t.val) :
    v.read (Elt F) (v.writes (Elt F) f (runA m c t h0 h1 xo16 xo18).2.2.2.2.1) (ix2 r s)
      = kernelRun0_A.sl.v756 c (grid0.coords t) (ms0_0 t) (hs0_0 t) (ms0_1 t) (hs0_1 t) (ms0_6 t) (hs0_6 t) (ms0_7 t) (hs0_7 t) (ms0_10 t) (hs0_10 t) (ms0_11 t) (hs0_11 t) (iblk m c 0 t) (iblk m c 1 t) (iblk m c 6 t) (iblk m c 7 t) (iblk m c 10 t) (iblk m c 11 t) (ix2 0 s) :=
  View.read_writes_cons_rows_of_mem v f (off := k0_off1 (grid0.coords t)) (size := ![1, 256]) (k0_off1_inb (grid0.coords t))
    (kernelRun0_A.sl.v756 c (grid0.coords t) (ms0_0 t) (hs0_0 t) (ms0_1 t) (hs0_1 t) (ms0_6 t) (hs0_6 t) (ms0_7 t) (hs0_7 t) (ms0_10 t) (hs0_10 t) (ms0_11 t) (hs0_11 t) (iblk m c 0 t) (iblk m c 1 t) (iblk m c 6 t) (iblk m c 7 t) (iblk m c 10 t) (iblk m c 11 t)) [] (ix2 r s) (ix2 (0 : Fin 1) s) (off_row t) hr rfl
/-- The same row, read through the canonical view. -/
theorem hitA_18 (c : Dev nD) (t : Fin cfg0.N) (h0 : t.val % 6 = 0) (h1 : ¬1 ≤ t.val) (xo16 xo18 : Vec F S6x256 .f32) (v : View sig .tc .vmem S6x256 .f32)
    (f : v.ty.Contents (Elt F)) (r : Fin 6) (s : Fin 256) (hr : r.val = t.val) :
    v.read (Elt F) (v.writes (Elt F) f (runA m c t h0 h1 xo16 xo18).2.2.2.2.1) (ix2 r s)
      = VO0_18.read (Elt F) (VO0_18.writes (Elt F) VO0_18.junk (runA m c t h0 h1 (iblk m c 1 t) (iblk m c 1 t)).2.2.2.2.1) (ix2 r s) :=
  (rowA_18 m c t h0 h1 xo16 xo18 v f r s hr).trans (rowA_18 m c t h0 h1 (iblk m c 1 t) (iblk m c 1 t) VO0_18 VO0_18.junk r s hr).symm
/-- Another row of window 18 after the body of case A is what the buffer held. -/
theorem missA_18 (c : Dev nD) (t : Fin cfg0.N) (h0 : t.val % 6 = 0) (h1 : ¬1 ≤ t.val) (xo16 xo18 : Vec F S6x256 .f32) (v : View sig .tc .vmem S6x256 .f32)
    (f : v.ty.Contents (Elt F)) (r : Fin 6) (s : Fin 256) (hr : r.val ≠ t.val) :
    v.read (Elt F) (v.writes (Elt F) f (runA m c t h0 h1 xo16 xo18).2.2.2.2.1) (ix2 r s) = v.read (Elt F) f (ix2 r s) := by
  have e : (runA m c t h0 h1 xo16 xo18).2.2.2.2.1 = [⟨Rect.unit (k0_off1 (grid0.coords t)) ![1, 256] (k0_off1_inb (grid0.coords t)),
      kernelRun0_A.sl.v756 c (grid0.coords t) (ms0_0 t) (hs0_0 t) (ms0_1 t) (hs0_1 t) (ms0_6 t) (hs0_6 t) (ms0_7 t) (hs0_7 t) (ms0_10 t) (hs0_10 t) (ms0_11 t) (hs0_11 t) (iblk m c 0 t) (iblk m c 1 t) (iblk m c 6 t) (iblk m c 7 t) (iblk m c 10 t) (iblk m c 11 t)⟩] := rfl
  have hy : ((ix2 r s : S6x256.Idx) (0 : Fin 2)).val < t.val ∨ t.val + 1 ≤ ((ix2 r s : S6x256.Idx) (0 : Fin 2)).val := by
    have : ((ix2 r s : S6x256.Idx) (0 : Fin 2)).val = r.val := rfl
    omega
  rw [e]
  exact View.read_writes_cons_rows_of_not_mem (W := 1) v f _ _ [] (ix2 r s) (off_row t) rfl hy
/-- Case A's pieces for output 19 cover its block. -/
theorem coverA_19 (c : Dev nD) (t : Fin cfg0.N) (h0 : t.val % 6 = 0) (h1 : ¬1 ≤ t.val) (xo16 xo18 : Vec F S6x256 .f32) (y : S1x1280.Idx) :
    ∃ pc ∈ (runA m c t h0 h1 xo16 xo18).2.2.2.2.2.1, y ∈ pc.1.set :=
  View.cover_of_tiledL (runA m c t h0 h1 xo16 xo18).2.2.2.2.2.1 S1x1280.size (by sl_kernel_rfl) y
/-- Case A's pieces for output 20 cover its block. -/
theorem coverA_20 (c : Dev nD) (t : Fin cfg0.N) (h0 : t.val % 6 = 0) (h1 : ¬1 ≤ t.val) (xo16 xo18 : Vec F S6x256 .f32) (y : S1x1280.Idx) :
    ∃ pc ∈ (runA m c t h0 h1 xo16 xo18).2.2.2.2.2.2.1, y ∈ pc.1.set :=
  View.cover_of_tiledL (runA m c t h0 h1 xo16 xo18).2.2.2.2.2.2.1 S1x1280.size (by sl_kernel_rfl) y
/-- Case A's pieces for output 21 cover its block. -/
theorem coverA_21 (c : Dev nD) (t : Fin cfg0.N) (h0 : t.val % 6 = 0) (h1 : ¬1 ≤ t.val) (xo16 xo18 : Vec F S6x256 .f32) (y : S1280x256.Idx) :
    ∃ pc ∈ (runA m c t h0 h1 xo16 xo18).2.2.2.2.2.2.2.1, y ∈ pc.1.set :=
  View.cover_of_tiledL (runA m c t h0 h1 xo16 xo18).2.2.2.2.2.2.2.1 S1280x256.size (by sl_kernel_rfl) y
/-- What the body of case A leaves in the eight outputs' staging buffers (of windows 16 and 18 only row `t` is meant). -/
def outA (c : Dev nD) (t : Fin cfg0.N) (h0 : t.val % 6 = 0) (h1 : ¬1 ≤ t.val) : Vec F S1x256x1280 .bf16 × Vec F S1x256x1280 .fp8e4m3 × Vec F S6x256 .f32 × Vec F S1x256x5120 .fp8e5m2 × Vec F S6x256 .f32 × Vec F S1x1280 .f32 × Vec F S1x1280 .f32 × Vec F S1280x256 .bf16 :=
  (VO0_14.read (Elt F) (VO0_14.writes (Elt F) VO0_14.junk (runA m c t h0 h1 (iblk m c 1 t) (iblk m c 1 t)).1),
    VO0_15.read (Elt F) (VO0_15.writes (Elt F) VO0_15.junk (runA m c t h0 h1 (iblk m c 1 t) (iblk m c 1 t)).2.1),
    VO0_16.read (Elt F) (VO0_16.writes (Elt F) VO0_16.junk (runA m c t h0 h1 (iblk m c 1 t) (iblk m c 1 t)).2.2.1),
    VO0_17.read (Elt F) (VO0_17.writes (Elt F) VO0_17.junk (runA m c t h0 h1 (iblk m c 1 t) (iblk m c 1 t)).2.2.2.1),
    VO0_18.read (Elt F) (VO0_18.writes (Elt F) VO0_18.junk (runA m c t h0 h1 (iblk m c 1 t) (iblk m c 1 t)).2.2.2.2.1),
    VO0_19.read (Elt F) (VO0_19.writes (Elt F) VO0_19.junk (runA m c t h0 h1 (iblk m c 1 t) (iblk m c 1 t)).2.2.2.2.2.1),
    VO0_20.read (Elt F) (VO0_20.writes (Elt F) VO0_20.junk (runA m c t h0 h1 (iblk m c 1 t) (iblk m c 1 t)).2.2.2.2.2.2.1),
    VO0_21.read (Elt F) (VO0_21.writes (Elt F) VO0_21.junk (runA m c t h0 h1 (iblk m c 1 t) (iblk m c 1 t)).2.2.2.2.2.2.2.1))

/-- The body's run of case B at point `t`: at the memrefs the pipeline passes and the inputs' blocks there. -/
abbrev runB (c : Dev nD) (t : Fin cfg0.N) (h0 : ¬t.val % 6 = 0) (h1 : 1 ≤ t.val) (xo16 xo18 : Vec F S6x256 .f32) (p19 p20 : Vec F S1x1280 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) xo16 xo18 p19 p20

/-- Case B's pieces for output 14 cover its block. -/
theorem coverB_14 (c : Dev nD) (t : Fin cfg0.N) (h0 : ¬t.val % 6 = 0) (h1 : 1 ≤ t.val) (xo16 xo18 : Vec F S6x256 .f32) (p19 p20 : Vec F S1x1280 .f32) (y : S1x256x1280.Idx) :
    ∃ pc ∈ (runB m c t h0 h1 xo16 xo18 p19 p20).1, y ∈ pc.1.set :=
  View.cover_of_tiledL (runB m c t h0 h1 xo16 xo18 p19 p20).1 S1x256x1280.size (by sl_kernel_rfl) y
/-- Case B's pieces for output 15 cover its block. -/
theorem coverB_15 (c : Dev nD) (t : Fin cfg0.N) (h0 : ¬t.val % 6 = 0) (h1 : 1 ≤ t.val) (xo16 xo18 : Vec F S6x256 .f32) (p19 p20 : Vec F S1x1280 .f32) (y : S1x256x1280.Idx) :
    ∃ pc ∈ (runB m c t h0 h1 xo16 xo18 p19 p20).2.1, y ∈ pc.1.set :=
  View.cover_of_tiledL (runB m c t h0 h1 xo16 xo18 p19 p20).2.1 S1x256x1280.size (by sl_kernel_rfl) y
/-- Row `t` of window 16 after the body of case B, whatever the buffer held: the row the step stores. -/
theorem rowB_16 (c : Dev nD) (t : Fin cfg0.N) (h0 : ¬t.val % 6 = 0) (h1 : 1 ≤ t.val) (xo16 xo18 : Vec F S6x256 .f32) (p19 p20 : Vec F S1x1280 .f32) (v : View sig .tc .vmem S6x256 .f32)
    (f : v.ty.Contents (Elt F)) (r : Fin 6) (s : Fin 256) (hr : r.val = t.val) :
    v.read (Elt F) (v.writes (Elt F) f (runB m c t h0 h1 xo16 xo18 p19 p20).2.2.1) (ix2 r s)
      = k0_pay43 (kernelRun0_B.sl.v161 c (ms0_4 t) (hs0_4 t) (iblk m c 4 t)) (ix2 0 s) :=
  View.read_writes_cons_rows_of_mem v f (off := k0_off1 (grid0.coords t)) (size := ![1, 256]) (k0_off1_inb (grid0.coords t))
    (k0_pay43 (kernelRun0_B.sl.v161 c (ms0_4 t) (hs0_4 t) (iblk m c 4 t))) [] (ix2 r s) (ix2 (0 : Fin 1) s) (off_row t) hr rfl
/-- The same row, read through the canonical view. -/
theorem hitB_16 (c : Dev nD) (t : Fin cfg0.N) (h0 : ¬t.val % 6 = 0) (h1 : 1 ≤ t.val) (xo16 xo18 : Vec F S6x256 .f32) (p19 p20 : Vec F S1x1280 .f32) (v : View sig .tc .vmem S6x256 .f32)
    (f : v.ty.Contents (Elt F)) (r : Fin 6) (s : Fin 256) (hr : r.val = t.val) :
    v.read (Elt F) (v.writes (Elt F) f (runB m c t h0 h1 xo16 xo18 p19 p20).2.2.1) (ix2 r s)
      = VO0_16.read (Elt F) (VO0_16.writes (Elt F) VO0_16.junk (runB m c t h0 h1 (iblk m c 1 t) (iblk m c 1 t) p19 p20).2.2.1) (ix2 r s) :=
  (rowB_16 m c t h0 h1 xo16 xo18 p19 p20 v f r s hr).trans (rowB_16 m c t h0 h1 (iblk m c 1 t) (iblk m c 1 t) p19 p20 VO0_16 VO0_16.junk r s hr).symm
/-- Another row of window 16 after the body of case B is what the buffer held. -/
theorem missB_16 (c : Dev nD) (t : Fin cfg0.N) (h0 : ¬t.val % 6 = 0) (h1 : 1 ≤ t.val) (xo16 xo18 : Vec F S6x256 .f32) (p19 p20 : Vec F S1x1280 .f32) (v : View sig .tc .vmem S6x256 .f32)
    (f : v.ty.Contents (Elt F)) (r : Fin 6) (s : Fin 256) (hr : r.val ≠ t.val) :
    v.read (Elt F) (v.writes (Elt F) f (runB m c t h0 h1 xo16 xo18 p19 p20).2.2.1) (ix2 r s) = v.read (Elt F) f (ix2 r s) := by
  have e : (runB m c t h0 h1 xo16 xo18 p19 p20).2.2.1 = [⟨Rect.unit (k0_off1 (grid0.coords t)) ![1, 256] (k0_off1_inb (grid0.coords t)),
      k0_pay43 (kernelRun0_B.sl.v161 c (ms0_4 t) (hs0_4 t) (iblk m c 4 t))⟩] := rfl
  have hy : ((ix2 r s : S6x256.Idx) (0 : Fin 2)).val < t.val ∨ t.val + 1 ≤ ((ix2 r s : S6x256.Idx) (0 : Fin 2)).val := by
    have : ((ix2 r s : S6x256.Idx) (0 : Fin 2)).val = r.val := rfl
    omega
  rw [e]
  exact View.read_writes_cons_rows_of_not_mem (W := 1) v f _ _ [] (ix2 r s) (off_row t) rfl hy
/-- Case B's pieces for output 17 cover its block. -/
theorem coverB_17 (c : Dev nD) (t : Fin cfg0.N) (h0 : ¬t.val % 6 = 0) (h1 : 1 ≤ t.val) (xo16 xo18 : Vec F S6x256 .f32) (p19 p20 : Vec F S1x1280 .f32) (y : S1x256x5120.Idx) :
    ∃ pc ∈ (runB m c t h0 h1 xo16 xo18 p19 p20).2.2.2.1, y ∈ pc.1.set :=
  View.cover_of_tiledL (runB m c t h0 h1 xo16 xo18 p19 p20).2.2.2.1 ![1, 256, 512] (by sl_kernel_rfl) y
/-- Row `t` of window 18 after the body of case B, whatever the buffer held: the row the step stores. -/
theorem rowB_18 (c : Dev nD) (t : Fin cfg0.N) (h0 : ¬t.val % 6 = 0) (h1 : 1 ≤ t.val) (xo16 xo18 : Vec F S6x256 .f32) (p19 p20 : Vec F S1x1280 .f32) (v : View sig .tc .vmem S6x256 .f32)
    (f : v.ty.Contents (Elt F)) (r : Fin 6) (s : Fin 256) (hr : r.val = t.val) :
    v.read (Elt F) (v.writes (Elt F) f (runB m c t h0 h1 xo16 xo18 p19 p20).2.2.2.2.1) (ix2 r s)
      = kernelRun0_B.sl.v756 c (grid0.coords t) (ms0_0 t) (hs0_0 t) (ms0_1 t) (hs0_1 t) (ms0_6 t) (hs0_6 t) (ms0_7 t) (hs0_7 t) (ms0_10 t) (hs0_10 t) (ms0_11 t) (hs0_11 t) (iblk m c 0 t) (iblk m c 1 t) (iblk m c 6 t) (iblk m c 7 t) (iblk m c 10 t) (iblk m c 11 t) (ix2 0 s) :=
  View.read_writes_cons_rows_of_mem v f (off := k0_off1 (grid0.coords t)) (size := ![1, 256]) (k0_off1_inb (grid0.coords t))
    (kernelRun0_B.sl.v756 c (grid0.coords t) (ms0_0 t) (hs0_0 t) (ms0_1 t) (hs0_1 t) (ms0_6 t) (hs0_6 t) (ms0_7 t) (hs0_7 t) (ms0_10 t) (hs0_10 t) (ms0_11 t) (hs0_11 t) (iblk m c 0 t) (iblk m c 1 t) (iblk m c 6 t) (iblk m c 7 t) (iblk m c 10 t) (iblk m c 11 t)) [] (ix2 r s) (ix2 (0 : Fin 1) s) (off_row t) hr rfl
/-- The same row, read through the canonical view. -/
theorem hitB_18 (c : Dev nD) (t : Fin cfg0.N) (h0 : ¬t.val % 6 = 0) (h1 : 1 ≤ t.val) (xo16 xo18 : Vec F S6x256 .f32) (p19 p20 : Vec F S1x1280 .f32) (v : View sig .tc .vmem S6x256 .f32)
    (f : v.ty.Contents (Elt F)) (r : Fin 6) (s : Fin 256) (hr : r.val = t.val) :
    v.read (Elt F) (v.writes (Elt F) f (runB m c t h0 h1 xo16 xo18 p19 p20).2.2.2.2.1) (ix2 r s)
      = VO0_18.read (Elt F) (VO0_18.writes (Elt F) VO0_18.junk (runB m c t h0 h1 (iblk m c 1 t) (iblk m c 1 t) p19 p20).2.2.2.2.1) (ix2 r s) :=
  (rowB_18 m c t h0 h1 xo16 xo18 p19 p20 v f r s hr).trans (rowB_18 m c t h0 h1 (iblk m c 1 t) (iblk m c 1 t) p19 p20 VO0_18 VO0_18.junk r s hr).symm
/-- Another row of window 18 after the body of case B is what the buffer held. -/
theorem missB_18 (c : Dev nD) (t : Fin cfg0.N) (h0 : ¬t.val % 6 = 0) (h1 : 1 ≤ t.val) (xo16 xo18 : Vec F S6x256 .f32) (p19 p20 : Vec F S1x1280 .f32) (v : View sig .tc .vmem S6x256 .f32)
    (f : v.ty.Contents (Elt F)) (r : Fin 6) (s : Fin 256) (hr : r.val ≠ t.val) :
    v.read (Elt F) (v.writes (Elt F) f (runB m c t h0 h1 xo16 xo18 p19 p20).2.2.2.2.1) (ix2 r s) = v.read (Elt F) f (ix2 r s) := by
  have e : (runB m c t h0 h1 xo16 xo18 p19 p20).2.2.2.2.1 = [⟨Rect.unit (k0_off1 (grid0.coords t)) ![1, 256] (k0_off1_inb (grid0.coords t)),
      kernelRun0_B.sl.v756 c (grid0.coords t) (ms0_0 t) (hs0_0 t) (ms0_1 t) (hs0_1 t) (ms0_6 t) (hs0_6 t) (ms0_7 t) (hs0_7 t) (ms0_10 t) (hs0_10 t) (ms0_11 t) (hs0_11 t) (iblk m c 0 t) (iblk m c 1 t) (iblk m c 6 t) (iblk m c 7 t) (iblk m c 10 t) (iblk m c 11 t)⟩] := rfl
  have hy : ((ix2 r s : S6x256.Idx) (0 : Fin 2)).val < t.val ∨ t.val + 1 ≤ ((ix2 r s : S6x256.Idx) (0 : Fin 2)).val := by
    have : ((ix2 r s : S6x256.Idx) (0 : Fin 2)).val = r.val := rfl
    omega
  rw [e]
  exact View.read_writes_cons_rows_of_not_mem (W := 1) v f _ _ [] (ix2 r s) (off_row t) rfl hy
/-- Case B's pieces for output 19 cover its block. -/
theorem coverB_19 (c : Dev nD) (t : Fin cfg0.N) (h0 : ¬t.val % 6 = 0) (h1 : 1 ≤ t.val) (xo16 xo18 : Vec F S6x256 .f32) (p19 p20 : Vec F S1x1280 .f32) (y : S1x1280.Idx) :
    ∃ pc ∈ (runB m c t h0 h1 xo16 xo18 p19 p20).2.2.2.2.2.1, y ∈ pc.1.set :=
  View.cover_of_tiledL (runB m c t h0 h1 xo16 xo18 p19 p20).2.2.2.2.2.1 S1x1280.size (by sl_kernel_rfl) y
/-- Case B's pieces for output 20 cover its block. -/
theorem coverB_20 (c : Dev nD) (t : Fin cfg0.N) (h0 : ¬t.val % 6 = 0) (h1 : 1 ≤ t.val) (xo16 xo18 : Vec F S6x256 .f32) (p19 p20 : Vec F S1x1280 .f32) (y : S1x1280.Idx) :
    ∃ pc ∈ (runB m c t h0 h1 xo16 xo18 p19 p20).2.2.2.2.2.2.1, y ∈ pc.1.set :=
  View.cover_of_tiledL (runB m c t h0 h1 xo16 xo18 p19 p20).2.2.2.2.2.2.1 S1x1280.size (by sl_kernel_rfl) y
/-- Case B's pieces for output 21 cover its block. -/
theorem coverB_21 (c : Dev nD) (t : Fin cfg0.N) (h0 : ¬t.val % 6 = 0) (h1 : 1 ≤ t.val) (xo16 xo18 : Vec F S6x256 .f32) (p19 p20 : Vec F S1x1280 .f32) (y : S1280x256.Idx) :
    ∃ pc ∈ (runB m c t h0 h1 xo16 xo18 p19 p20).2.2.2.2.2.2.2.1, y ∈ pc.1.set :=
  View.cover_of_tiledL (runB m c t h0 h1 xo16 xo18 p19 p20).2.2.2.2.2.2.2.1 S1280x256.size (by sl_kernel_rfl) y
/-- What the body of case B leaves in the eight outputs' staging buffers (of windows 16 and 18 only row `t` is meant). -/
def outB (c : Dev nD) (t : Fin cfg0.N) (h0 : ¬t.val % 6 = 0) (h1 : 1 ≤ t.val) (p19 p20 : Vec F S1x1280 .f32) : Vec F S1x256x1280 .bf16 × Vec F S1x256x1280 .fp8e4m3 × Vec F S6x256 .f32 × Vec F S1x256x5120 .fp8e5m2 × Vec F S6x256 .f32 × Vec F S1x1280 .f32 × Vec F S1x1280 .f32 × Vec F S1280x256 .bf16 :=
  (VO0_14.read (Elt F) (VO0_14.writes (Elt F) VO0_14.junk (runB m c t h0 h1 (iblk m c 1 t) (iblk m c 1 t) p19 p20).1),
    VO0_15.read (Elt F) (VO0_15.writes (Elt F) VO0_15.junk (runB m c t h0 h1 (iblk m c 1 t) (iblk m c 1 t) p19 p20).2.1),
    VO0_16.read (Elt F) (VO0_16.writes (Elt F) VO0_16.junk (runB m c t h0 h1 (iblk m c 1 t) (iblk m c 1 t) p19 p20).2.2.1),
    VO0_17.read (Elt F) (VO0_17.writes (Elt F) VO0_17.junk (runB m c t h0 h1 (iblk m c 1 t) (iblk m c 1 t) p19 p20).2.2.2.1),
    VO0_18.read (Elt F) (VO0_18.writes (Elt F) VO0_18.junk (runB m c t h0 h1 (iblk m c 1 t) (iblk m c 1 t) p19 p20).2.2.2.2.1),
    VO0_19.read (Elt F) (VO0_19.writes (Elt F) VO0_19.junk (runB m c t h0 h1 (iblk m c 1 t) (iblk m c 1 t) p19 p20).2.2.2.2.2.1),
    VO0_20.read (Elt F) (VO0_20.writes (Elt F) VO0_20.junk (runB m c t h0 h1 (iblk m c 1 t) (iblk m c 1 t) p19 p20).2.2.2.2.2.2.1),
    VO0_21.read (Elt F) (VO0_21.writes (Elt F) VO0_21.junk (runB m c t h0 h1 (iblk m c 1 t) (iblk m c 1 t) p19 p20).2.2.2.2.2.2.2.1))

/-- What the eight outputs' staging buffers hold after each point in turn: the first point starts the two column sums, each
    later one adds to what the point before left. -/
def outsAt0 (c : Dev nD) : (n : ℕ) → n < cfg0.N → Vec F S1x256x1280 .bf16 × Vec F S1x256x1280 .fp8e4m3 × Vec F S6x256 .f32 × Vec F S1x256x5120 .fp8e5m2 × Vec F S6x256 .f32 × Vec F S1x1280 .f32 × Vec F S1x1280 .f32 × Vec F S1280x256 .bf16
  | 0, hn => outA m c ⟨0, hn⟩ (Nat.zero_mod _) (Nat.not_succ_le_zero _)
  | n + 1, hn =>
    if h0 : (n + 1) % 6 = 0 then
      False.elim (by have hN : n + 1 < 6 := lt_of_lt_of_eq hn (show cfg0.N = 6 from N_0); omega)
    else
      outB m c ⟨n + 1, hn⟩ h0 (Nat.succ_le_succ (Nat.zero_le n)) (outsAt0 c (n) (Nat.lt_of_succ_lt hn)).2.2.2.2.2.1 (outsAt0 c (n) (Nat.lt_of_succ_lt hn)).2.2.2.2.2.2.1

/-- `outsAt0` at a point of case A. -/
theorem outsAt0_A (c : Dev nD) (t : Fin cfg0.N) (h0 : t.val % 6 = 0) (h1 : ¬1 ≤ t.val) :
    outsAt0 m c t.val t.isLt = outA m c t h0 h1 := by
  obtain ⟨n, hn⟩ := t
  cases n with
  | zero => exact rfl
  | succ n => exact absurd (Nat.succ_le_succ (Nat.zero_le n)) h1

/-- `outsAt0` at a point of case B. -/
theorem outsAt0_B (c : Dev nD) (t : Fin cfg0.N) (h0 : ¬t.val % 6 = 0) (h1 : 1 ≤ t.val) :
    outsAt0 m c t.val t.isLt = outB m c t h0 h1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 := by
  obtain ⟨n, hn⟩ := t
  cases n with
  | zero => exact absurd (Nat.zero_mod _) h0
  | succ n => exact dif_neg h0

/-! Case A: the pieces stored into each output, the same whatever the two scale windows held. -/

theorem pcsA_14 (c : Dev nD) (t : Fin cfg0.N) (h0 : t.val % 6 = 0) (h1 : ¬1 ≤ t.val) (xo16 xo18 : Vec F S6x256 .f32) :
    (runA m c t h0 h1 xo16 xo18).1 = [⟨Rect.unit ![0, 0, 0] ![1, 256, 1280] inb_S1x256x1280_S1x256x1280_0_0_0,
        k0_pay1 (kernelRun0_A.sl.r c (grid0.coords t) (ms0_1 t) (hs0_1 t) (iblk m c 1 t))
          (kernelRun0_A.sl.r_57 c (grid0.coords t) (ms0_0 t) (hs0_0 t) (ms0_1 t) (hs0_1 t) (ms0_2 t) (hs0_2 t) (ms0_3 t)
            (hs0_3 t) (ms0_4 t) (hs0_4 t) (ms0_5 t) (hs0_5 t) (ms0_6 t) (hs0_6 t) (ms0_7 t) (hs0_7 t) (ms0_8 t)
            (hs0_8 t) (ms0_9 t) (hs0_9 t) (ms0_10 t) (hs0_10 t) (ms0_11 t) (hs0_11 t) (ms0_12 t) (hs0_12 t) (ms0_13 t)
            (hs0_13 t) scM0_0 (iblk m c 0 t) (iblk m c 1 t) (iblk m c 2 t) (iblk m c 3 t) (iblk m c 4 t) (iblk m c 5 t)
            (iblk m c 6 t) (iblk m c 7 t) (iblk m c 8 t) (iblk m c 9 t) (iblk m c 10 t) (iblk m c 11 t) (iblk m c 12 t)
            (iblk m c 13 t))
          (kernelRun0_A.sl.r_58 c (ms0_4 t) (hs0_4 t) (iblk m c 4 t))
          (View.readAt (Elt F) (ms0_0 t).view
            (@Rect.unit S1x256x1280 ![0, 0, 0] S1x256x1280.size inb_S1x256x1280_S1x256x1280_0_0_0).toLoadRect
            ((hs0_0 t).unread (iblk m c 0 t)))⟩] := rfl
theorem indA_14 (c : Dev nD) (t : Fin cfg0.N) (h0 : t.val % 6 = 0) (h1 : ¬1 ≤ t.val) (xo16 xo18 yo16 yo18 : Vec F S6x256 .f32) :
    (runA m c t h0 h1 xo16 xo18).1 = (runA m c t h0 h1 yo16 yo18).1 := (pcsA_14 m c t h0 h1 xo16 xo18).trans (pcsA_14 m c t h0 h1 yo16 yo18).symm
theorem pcsA_15 (c : Dev nD) (t : Fin cfg0.N) (h0 : t.val % 6 = 0) (h1 : ¬1 ≤ t.val) (xo16 xo18 : Vec F S6x256 .f32) :
    (runA m c t h0 h1 xo16 xo18).2.1 = [⟨Rect.unit ![0, 0, 0] ![1, 256, 1280] inb_S1x256x1280_S1x256x1280_0_0_0,
        k0_pay42 (kernelRun0_A.sl.v172 c (ms0_4 t) (hs0_4 t) (iblk m c 4 t)) kernelRun0_A.sl.v173⟩] := rfl
theorem indA_15 (c : Dev nD) (t : Fin cfg0.N) (h0 : t.val % 6 = 0) (h1 : ¬1 ≤ t.val) (xo16 xo18 yo16 yo18 : Vec F S6x256 .f32) :
    (runA m c t h0 h1 xo16 xo18).2.1 = (runA m c t h0 h1 yo16 yo18).2.1 := (pcsA_15 m c t h0 h1 xo16 xo18).trans (pcsA_15 m c t h0 h1 yo16 yo18).symm
theorem pcsA_17 (c : Dev nD) (t : Fin cfg0.N) (h0 : t.val % 6 = 0) (h1 : ¬1 ≤ t.val) (xo16 xo18 : Vec F S6x256 .f32) :
    (runA m c t h0 h1 xo16 xo18).2.2.2.1 = [⟨Rect.unit ![0, 0, 4608] ![1, 256, 512] k0_part14._proof_7,
        kernelRun0_A.sl.v952 c (grid0.coords t) (ms0_0 t) (hs0_0 t) (ms0_1 t) (hs0_1 t) (ms0_6 t) (hs0_6 t) (ms0_7 t)
          (hs0_7 t) (ms0_10 t) (hs0_10 t) (ms0_11 t) (hs0_11 t) scM0_0 (iblk m c 0 t) (iblk m c 1 t) (iblk m c 6 t)
          (iblk m c 7 t) (iblk m c 10 t) (iblk m c 11 t)⟩,
      ⟨Rect.unit ![0, 0, 4096] ![1, 256, 512] k0_part13._proof_7,
        kernelRun0_A.sl.v933 c (grid0.coords t) (ms0_0 t) (hs0_0 t) (ms0_1 t) (hs0_1 t) (ms0_6 t) (hs0_6 t) (ms0_7 t)
          (hs0_7 t) (ms0_10 t) (hs0_10 t) (ms0_11 t) (hs0_11 t) scM0_0 (iblk m c 0 t) (iblk m c 1 t) (iblk m c 6 t)
          (iblk m c 7 t) (iblk m c 10 t) (iblk m c 11 t)⟩,
      ⟨Rect.unit ![0, 0, 3584] ![1, 256, 512] k0_part12._proof_7,
        kernelRun0_A.sl.v914 c (grid0.coords t) (ms0_0 t) (hs0_0 t) (ms0_1 t) (hs0_1 t) (ms0_6 t) (hs0_6 t) (ms0_7 t)
          (hs0_7 t) (ms0_10 t) (hs0_10 t) (ms0_11 t) (hs0_11 t) scM0_0 (iblk m c 0 t) (iblk m c 1 t) (iblk m c 6 t)
          (iblk m c 7 t) (iblk m c 10 t) (iblk m c 11 t)⟩,
      ⟨Rect.unit ![0, 0, 3072] ![1, 256, 512] k0_part11._proof_7,
        kernelRun0_A.sl.v895 c (grid0.coords t) (ms0_0 t) (hs0_0 t) (ms0_1 t) (hs0_1 t) (ms0_6 t) (hs0_6 t) (ms0_7 t)
          (hs0_7 t) (ms0_10 t) (hs0_10 t) (ms0_11 t) (hs0_11 t) scM0_0 (iblk m c 0 t) (iblk m c 1 t) (iblk m c 6 t)
          (iblk m c 7 t) (iblk m c 10 t) (iblk m c 11 t)⟩,
      ⟨Rect.unit ![0, 0, 2560] ![1, 256, 512] k0_part10._proof_7,
        kernelRun0_A.sl.v876 c (grid0.coords t) (ms0_0 t) (hs0_0 t) (ms0_1 t) (hs0_1 t) (ms0_6 t) (hs0_6 t) (ms0_7 t)
          (hs0_7 t) (ms0_10 t) (hs0_10 t) (ms0_11 t) (hs0_11 t) scM0_0 (iblk m c 0 t) (iblk m c 1 t) (iblk m c 6 t)
          (iblk m c 7 t) (iblk m c 10 t) (iblk m c 11 t)⟩,
      ⟨Rect.unit ![0, 0, 2048] ![1, 256, 512] k0_part9._proof_7,
        kernelRun0_A.sl.v857 c (grid0.coords t) (ms0_0 t) (hs0_0 t) (ms0_1 t) (hs0_1 t) (ms0_6 t) (hs0_6 t) (ms0_7 t)
          (hs0_7 t) (ms0_10 t) (hs0_10 t) (ms0_11 t) (hs0_11 t) scM0_0 (iblk m c 0 t) (iblk m c 1 t) (iblk m c 6 t)
          (iblk m c 7 t) (iblk m c 10 t) (iblk m c 11 t)⟩,
      ⟨Rect.unit ![0, 0, 1536] ![1, 256, 512] k0_part8._proof_7,
        kernelRun0_A.sl.v838 c (grid0.coords t) (ms0_0 t) (hs0_0 t) (ms0_1 t) (hs0_1 t) (ms0_6 t) (hs0_6 t) (ms0_7 t)
          (hs0_7 t) (ms0_10 t) (hs0_10 t) (ms0_11 t) (hs0_11 t) scM0_0 (iblk m c 0 t) (iblk m c 1 t) (iblk m c 6 t)
          (iblk m c 7 t) (iblk m c 10 t) (iblk m c 11 t)⟩,
      ⟨Rect.unit ![0, 0, 1024] ![1, 256, 512] k0_part7._proof_7,
        kernelRun0_A.sl.v819 c (grid0.coords t) (ms0_0 t) (hs0_0 t) (ms0_1 t) (hs0_1 t) (ms0_6 t) (hs0_6 t) (ms0_7 t)
          (hs0_7 t) (ms0_10 t) (hs0_10 t) (ms0_11 t) (hs0_11 t) scM0_0 (iblk m c 0 t) (iblk m c 1 t) (iblk m c 6 t)
          (iblk m c 7 t) (iblk m c 10 t) (iblk m c 11 t)⟩,
      ⟨Rect.unit ![0, 0, 512] ![1, 256, 512] k0_part6._proof_12,
        kernelRun0_A.sl.v800 c (grid0.coords t) (ms0_0 t) (hs0_0 t) (ms0_1 t) (hs0_1 t) (ms0_6 t) (hs0_6 t) (ms0_7 t)
          (hs0_7 t) (ms0_10 t) (hs0_10 t) (ms0_11 t) (hs0_11 t) scM0_0 (iblk m c 0 t) (iblk m c 1 t) (iblk m c 6 t)
          (iblk m c 7 t) (iblk m c 10 t) (iblk m c 11 t)⟩,
      ⟨Rect.unit ![0, 0, 0] ![1, 256, 512] k0_part5._proof_25,
        kernelRun0_A.sl.v781 c (grid0.coords t) (ms0_0 t) (hs0_0 t) (ms0_1 t) (hs0_1 t) (ms0_6 t) (hs0_6 t) (ms0_7 t)
          (hs0_7 t) (ms0_10 t) (hs0_10 t) (ms0_11 t) (hs0_11 t) scM0_0 (iblk m c 0 t) (iblk m c 1 t) (iblk m c 6 t)
          (iblk m c 7 t) (iblk m c 10 t) (iblk m c 11 t)⟩] := rfl
theorem indA_17 (c : Dev nD) (t : Fin cfg0.N) (h0 : t.val % 6 = 0) (h1 : ¬1 ≤ t.val) (xo16 xo18 yo16 yo18 : Vec F S6x256 .f32) :
    (runA m c t h0 h1 xo16 xo18).2.2.2.1 = (runA m c t h0 h1 yo16 yo18).2.2.2.1 := (pcsA_17 m c t h0 h1 xo16 xo18).trans (pcsA_17 m c t h0 h1 yo16 yo18).symm
theorem pcsA_19 (c : Dev nD) (t : Fin cfg0.N) (h0 : t.val % 6 = 0) (h1 : ¬1 ≤ t.val) (xo16 xo18 : Vec F S6x256 .f32) :
    (runA m c t h0 h1 xo16 xo18).2.2.2.2.2.1 = [⟨Rect.unit ![0, 0] ![1, 1280] k0_part5._proof_19,
        kernelRun0_A.sl.v1299 c (grid0.coords t) (ms0_0 t) (hs0_0 t) (ms0_1 t) (hs0_1 t) (ms0_2 t) (hs0_2 t) (ms0_3 t)
          (hs0_3 t) (ms0_4 t) (hs0_4 t) (ms0_6 t) (hs0_6 t) (ms0_7 t) (hs0_7 t) (ms0_8 t) (hs0_8 t) (ms0_9 t) (hs0_9 t)
          (ms0_10 t) (hs0_10 t) (ms0_11 t) (hs0_11 t) (ms0_12 t) (hs0_12 t) (ms0_13 t) (hs0_13 t) scM0_0 (iblk m c 0 t)
          (iblk m c 1 t) (iblk m c 2 t) (iblk m c 3 t) (iblk m c 4 t) (iblk m c 6 t) (iblk m c 7 t) (iblk m c 8 t)
          (iblk m c 9 t) (iblk m c 10 t) (iblk m c 11 t) (iblk m c 12 t) (iblk m c 13 t)⟩] := rfl
theorem indA_19 (c : Dev nD) (t : Fin cfg0.N) (h0 : t.val % 6 = 0) (h1 : ¬1 ≤ t.val) (xo16 xo18 yo16 yo18 : Vec F S6x256 .f32) :
    (runA m c t h0 h1 xo16 xo18).2.2.2.2.2.1 = (runA m c t h0 h1 yo16 yo18).2.2.2.2.2.1 := (pcsA_19 m c t h0 h1 xo16 xo18).trans (pcsA_19 m c t h0 h1 yo16 yo18).symm
theorem pcsA_20 (c : Dev nD) (t : Fin cfg0.N) (h0 : t.val % 6 = 0) (h1 : ¬1 ≤ t.val) (xo16 xo18 : Vec F S6x256 .f32) :
    (runA m c t h0 h1 xo16 xo18).2.2.2.2.2.2.1 = [⟨Rect.unit ![0, 0] ![1, 1280] k0_part5._proof_19,
        kernelRun0_A.sl.v1301 c (grid0.coords t) (ms0_0 t) (hs0_0 t) (ms0_1 t) (hs0_1 t) (ms0_2 t) (hs0_2 t) (ms0_3 t)
          (hs0_3 t) (ms0_6 t) (hs0_6 t) (ms0_7 t) (hs0_7 t) (ms0_8 t) (hs0_8 t) (ms0_9 t) (hs0_9 t) (ms0_10 t)
          (hs0_10 t) (ms0_11 t) (hs0_11 t) (ms0_12 t) (hs0_12 t) (ms0_13 t) (hs0_13 t) scM0_0 (iblk m c 0 t)
          (iblk m c 1 t) (iblk m c 2 t) (iblk m c 3 t) (iblk m c 6 t) (iblk m c 7 t) (iblk m c 8 t) (iblk m c 9 t)
          (iblk m c 10 t) (iblk m c 11 t) (iblk m c 12 t) (iblk m c 13 t)⟩] := rfl
theorem indA_20 (c : Dev nD) (t : Fin cfg0.N) (h0 : t.val % 6 = 0) (h1 : ¬1 ≤ t.val) (xo16 xo18 yo16 yo18 : Vec F S6x256 .f32) :
    (runA m c t h0 h1 xo16 xo18).2.2.2.2.2.2.1 = (runA m c t h0 h1 yo16 yo18).2.2.2.2.2.2.1 := (pcsA_20 m c t h0 h1 xo16 xo18).trans (pcsA_20 m c t h0 h1 yo16 yo18).symm
theorem pcsA_21 (c : Dev nD) (t : Fin cfg0.N) (h0 : t.val % 6 = 0) (h1 : ¬1 ≤ t.val) (xo16 xo18 : Vec F S6x256 .f32) :
    (runA m c t h0 h1 xo16 xo18).2.2.2.2.2.2.2.1 = [⟨Rect.unit ![0, 0] ![1280, 256] inb_S1280x256_S1280x256_0_0,
        k0_pay44 (kernelRun0_A.sl.v161 c (ms0_4 t) (hs0_4 t) (iblk m c 4 t))
          (kernelRun0_A.sl.v172 c (ms0_4 t) (hs0_4 t) (iblk m c 4 t)) kernelRun0_A.sl.v173⟩] := rfl
theorem indA_21 (c : Dev nD) (t : Fin cfg0.N) (h0 : t.val % 6 = 0) (h1 : ¬1 ≤ t.val) (xo16 xo18 yo16 yo18 : Vec F S6x256 .f32) :
    (runA m c t h0 h1 xo16 xo18).2.2.2.2.2.2.2.1 = (runA m c t h0 h1 yo16 yo18).2.2.2.2.2.2.2.1 := (pcsA_21 m c t h0 h1 xo16 xo18).trans (pcsA_21 m c t h0 h1 yo16 yo18).symm

/-! Case B: the pieces stored into each output, the same whatever the two scale windows held. -/

theorem pcsB_14 (c : Dev nD) (t : Fin cfg0.N) (h0 : ¬t.val % 6 = 0) (h1 : 1 ≤ t.val) (xo16 xo18 : Vec F S6x256 .f32) (p19 p20 : Vec F S1x1280 .f32) :
    (runB m c t h0 h1 xo16 xo18 p19 p20).1 = [⟨Rect.unit ![0, 0, 0] ![1, 256, 1280] inb_S1x256x1280_S1x256x1280_0_0_0,
        k0_pay1 (kernelRun0_B.sl.r c (grid0.coords t) (ms0_1 t) (hs0_1 t) (iblk m c 1 t))
          (kernelRun0_B.sl.r_57 c (grid0.coords t) (ms0_0 t) (hs0_0 t) (ms0_1 t) (hs0_1 t) (ms0_2 t) (hs0_2 t) (ms0_3 t)
            (hs0_3 t) (ms0_4 t) (hs0_4 t) (ms0_5 t) (hs0_5 t) (ms0_6 t) (hs0_6 t) (ms0_7 t) (hs0_7 t) (ms0_8 t)
            (hs0_8 t) (ms0_9 t) (hs0_9 t) (ms0_10 t) (hs0_10 t) (ms0_11 t) (hs0_11 t) (ms0_12 t) (hs0_12 t) (ms0_13 t)
            (hs0_13 t) scM0_0 (iblk m c 0 t) (iblk m c 1 t) (iblk m c 2 t) (iblk m c 3 t) (iblk m c 4 t) (iblk m c 5 t)
            (iblk m c 6 t) (iblk m c 7 t) (iblk m c 8 t) (iblk m c 9 t) (iblk m c 10 t) (iblk m c 11 t) (iblk m c 12 t)
            (iblk m c 13 t))
          (kernelRun0_B.sl.r_58 c (ms0_4 t) (hs0_4 t) (iblk m c 4 t))
          (View.readAt (Elt F) (ms0_0 t).view
            (@Rect.unit S1x256x1280 ![0, 0, 0] S1x256x1280.size inb_S1x256x1280_S1x256x1280_0_0_0).toLoadRect
            ((hs0_0 t).unread (iblk m c 0 t)))⟩] := rfl
theorem indB_14 (c : Dev nD) (t : Fin cfg0.N) (h0 : ¬t.val % 6 = 0) (h1 : 1 ≤ t.val) (xo16 xo18 yo16 yo18 : Vec F S6x256 .f32) (p19 p20 : Vec F S1x1280 .f32) :
    (runB m c t h0 h1 xo16 xo18 p19 p20).1 = (runB m c t h0 h1 yo16 yo18 p19 p20).1 := (pcsB_14 m c t h0 h1 xo16 xo18 p19 p20).trans (pcsB_14 m c t h0 h1 yo16 yo18 p19 p20).symm
theorem pcsB_15 (c : Dev nD) (t : Fin cfg0.N) (h0 : ¬t.val % 6 = 0) (h1 : 1 ≤ t.val) (xo16 xo18 : Vec F S6x256 .f32) (p19 p20 : Vec F S1x1280 .f32) :
    (runB m c t h0 h1 xo16 xo18 p19 p20).2.1 = [⟨Rect.unit ![0, 0, 0] ![1, 256, 1280] inb_S1x256x1280_S1x256x1280_0_0_0,
        k0_pay42 (kernelRun0_B.sl.v172 c (ms0_4 t) (hs0_4 t) (iblk m c 4 t)) kernelRun0_B.sl.v173⟩] := rfl
theorem indB_15 (c : Dev nD) (t : Fin cfg0.N) (h0 : ¬t.val % 6 = 0) (h1 : 1 ≤ t.val) (xo16 xo18 yo16 yo18 : Vec F S6x256 .f32) (p19 p20 : Vec F S1x1280 .f32) :
    (runB m c t h0 h1 xo16 xo18 p19 p20).2.1 = (runB m c t h0 h1 yo16 yo18 p19 p20).2.1 := (pcsB_15 m c t h0 h1 xo16 xo18 p19 p20).trans (pcsB_15 m c t h0 h1 yo16 yo18 p19 p20).symm
theorem pcsB_17 (c : Dev nD) (t : Fin cfg0.N) (h0 : ¬t.val % 6 = 0) (h1 : 1 ≤ t.val) (xo16 xo18 : Vec F S6x256 .f32) (p19 p20 : Vec F S1x1280 .f32) :
    (runB m c t h0 h1 xo16 xo18 p19 p20).2.2.2.1 = [⟨Rect.unit ![0, 0, 4608] ![1, 256, 512] k0_part14._proof_7,
        kernelRun0_B.sl.v952 c (grid0.coords t) (ms0_0 t) (hs0_0 t) (ms0_1 t) (hs0_1 t) (ms0_6 t) (hs0_6 t) (ms0_7 t)
          (hs0_7 t) (ms0_10 t) (hs0_10 t) (ms0_11 t) (hs0_11 t) scM0_0 (iblk m c 0 t) (iblk m c 1 t) (iblk m c 6 t)
          (iblk m c 7 t) (iblk m c 10 t) (iblk m c 11 t)⟩,
      ⟨Rect.unit ![0, 0, 4096] ![1, 256, 512] k0_part13._proof_7,
        kernelRun0_B.sl.v933 c (grid0.coords t) (ms0_0 t) (hs0_0 t) (ms0_1 t) (hs0_1 t) (ms0_6 t) (hs0_6 t) (ms0_7 t)
          (hs0_7 t) (ms0_10 t) (hs0_10 t) (ms0_11 t) (hs0_11 t) scM0_0 (iblk m c 0 t) (iblk m c 1 t) (iblk m c 6 t)
          (iblk m c 7 t) (iblk m c 10 t) (iblk m c 11 t)⟩,
      ⟨Rect.unit ![0, 0, 3584] ![1, 256, 512] k0_part12._proof_7,
        kernelRun0_B.sl.v914 c (grid0.coords t) (ms0_0 t) (hs0_0 t) (ms0_1 t) (hs0_1 t) (ms0_6 t) (hs0_6 t) (ms0_7 t)
          (hs0_7 t) (ms0_10 t) (hs0_10 t) (ms0_11 t) (hs0_11 t) scM0_0 (iblk m c 0 t) (iblk m c 1 t) (iblk m c 6 t)
          (iblk m c 7 t) (iblk m c 10 t) (iblk m c 11 t)⟩,
      ⟨Rect.unit ![0, 0, 3072] ![1, 256, 512] k0_part11._proof_7,
        kernelRun0_B.sl.v895 c (grid0.coords t) (ms0_0 t) (hs0_0 t) (ms0_1 t) (hs0_1 t) (ms0_6 t) (hs0_6 t) (ms0_7 t)
          (hs0_7 t) (ms0_10 t) (hs0_10 t) (ms0_11 t) (hs0_11 t) scM0_0 (iblk m c 0 t) (iblk m c 1 t) (iblk m c 6 t)
          (iblk m c 7 t) (iblk m c 10 t) (iblk m c 11 t)⟩,
      ⟨Rect.unit ![0, 0, 2560] ![1, 256, 512] k0_part10._proof_7,
        kernelRun0_B.sl.v876 c (grid0.coords t) (ms0_0 t) (hs0_0 t) (ms0_1 t) (hs0_1 t) (ms0_6 t) (hs0_6 t) (ms0_7 t)
          (hs0_7 t) (ms0_10 t) (hs0_10 t) (ms0_11 t) (hs0_11 t) scM0_0 (iblk m c 0 t) (iblk m c 1 t) (iblk m c 6 t)
          (iblk m c 7 t) (iblk m c 10 t) (iblk m c 11 t)⟩,
      ⟨Rect.unit ![0, 0, 2048] ![1, 256, 512] k0_part9._proof_7,
        kernelRun0_B.sl.v857 c (grid0.coords t) (ms0_0 t) (hs0_0 t) (ms0_1 t) (hs0_1 t) (ms0_6 t) (hs0_6 t) (ms0_7 t)
          (hs0_7 t) (ms0_10 t) (hs0_10 t) (ms0_11 t) (hs0_11 t) scM0_0 (iblk m c 0 t) (iblk m c 1 t) (iblk m c 6 t)
          (iblk m c 7 t) (iblk m c 10 t) (iblk m c 11 t)⟩,
      ⟨Rect.unit ![0, 0, 1536] ![1, 256, 512] k0_part8._proof_7,
        kernelRun0_B.sl.v838 c (grid0.coords t) (ms0_0 t) (hs0_0 t) (ms0_1 t) (hs0_1 t) (ms0_6 t) (hs0_6 t) (ms0_7 t)
          (hs0_7 t) (ms0_10 t) (hs0_10 t) (ms0_11 t) (hs0_11 t) scM0_0 (iblk m c 0 t) (iblk m c 1 t) (iblk m c 6 t)
          (iblk m c 7 t) (iblk m c 10 t) (iblk m c 11 t)⟩,
      ⟨Rect.unit ![0, 0, 1024] ![1, 256, 512] k0_part7._proof_7,
        kernelRun0_B.sl.v819 c (grid0.coords t) (ms0_0 t) (hs0_0 t) (ms0_1 t) (hs0_1 t) (ms0_6 t) (hs0_6 t) (ms0_7 t)
          (hs0_7 t) (ms0_10 t) (hs0_10 t) (ms0_11 t) (hs0_11 t) scM0_0 (iblk m c 0 t) (iblk m c 1 t) (iblk m c 6 t)
          (iblk m c 7 t) (iblk m c 10 t) (iblk m c 11 t)⟩,
      ⟨Rect.unit ![0, 0, 512] ![1, 256, 512] k0_part6._proof_12,
        kernelRun0_B.sl.v800 c (grid0.coords t) (ms0_0 t) (hs0_0 t) (ms0_1 t) (hs0_1 t) (ms0_6 t) (hs0_6 t) (ms0_7 t)
          (hs0_7 t) (ms0_10 t) (hs0_10 t) (ms0_11 t) (hs0_11 t) scM0_0 (iblk m c 0 t) (iblk m c 1 t) (iblk m c 6 t)
          (iblk m c 7 t) (iblk m c 10 t) (iblk m c 11 t)⟩,
      ⟨Rect.unit ![0, 0, 0] ![1, 256, 512] k0_part5._proof_25,
        kernelRun0_B.sl.v781 c (grid0.coords t) (ms0_0 t) (hs0_0 t) (ms0_1 t) (hs0_1 t) (ms0_6 t) (hs0_6 t) (ms0_7 t)
          (hs0_7 t) (ms0_10 t) (hs0_10 t) (ms0_11 t) (hs0_11 t) scM0_0 (iblk m c 0 t) (iblk m c 1 t) (iblk m c 6 t)
          (iblk m c 7 t) (iblk m c 10 t) (iblk m c 11 t)⟩] := rfl
theorem indB_17 (c : Dev nD) (t : Fin cfg0.N) (h0 : ¬t.val % 6 = 0) (h1 : 1 ≤ t.val) (xo16 xo18 yo16 yo18 : Vec F S6x256 .f32) (p19 p20 : Vec F S1x1280 .f32) :
    (runB m c t h0 h1 xo16 xo18 p19 p20).2.2.2.1 = (runB m c t h0 h1 yo16 yo18 p19 p20).2.2.2.1 := (pcsB_17 m c t h0 h1 xo16 xo18 p19 p20).trans (pcsB_17 m c t h0 h1 yo16 yo18 p19 p20).symm
theorem pcsB_19 (c : Dev nD) (t : Fin cfg0.N) (h0 : ¬t.val % 6 = 0) (h1 : 1 ≤ t.val) (xo16 xo18 : Vec F S6x256 .f32) (p19 p20 : Vec F S1x1280 .f32) :
    (runB m c t h0 h1 xo16 xo18 p19 p20).2.2.2.2.2.1 = [⟨Rect.unit ![0, 0] ![1, 1280] inb_S1x1280_S1x1280_0_0,
        k0_pay230
          (kernelRun0_B.sl.v1299 c (grid0.coords t) (ms0_0 t) (hs0_0 t) (ms0_1 t) (hs0_1 t) (ms0_2 t) (hs0_2 t)
            (ms0_3 t) (hs0_3 t) (ms0_4 t) (hs0_4 t) (ms0_6 t) (hs0_6 t) (ms0_7 t) (hs0_7 t) (ms0_8 t) (hs0_8 t)
            (ms0_9 t) (hs0_9 t) (ms0_10 t) (hs0_10 t) (ms0_11 t) (hs0_11 t) (ms0_12 t) (hs0_12 t) (ms0_13 t) (hs0_13 t)
            scM0_0 (iblk m c 0 t) (iblk m c 1 t) (iblk m c 2 t) (iblk m c 3 t) (iblk m c 4 t) (iblk m c 6 t)
            (iblk m c 7 t) (iblk m c 8 t) (iblk m c 9 t) (iblk m c 10 t) (iblk m c 11 t) (iblk m c 12 t)
            (iblk m c 13 t))
          (View.readAt (Elt F) (ms0_19 t).view (@Rect.unit S1x1280 ![0, 0] S1x1280.size inb_S1x1280_S1x1280_0_0).toLoadRect
            ((hs0_19 t).unread p19))⟩] := rfl
theorem indB_19 (c : Dev nD) (t : Fin cfg0.N) (h0 : ¬t.val % 6 = 0) (h1 : 1 ≤ t.val) (xo16 xo18 yo16 yo18 : Vec F S6x256 .f32) (p19 p20 : Vec F S1x1280 .f32) :
    (runB m c t h0 h1 xo16 xo18 p19 p20).2.2.2.2.2.1 = (runB m c t h0 h1 yo16 yo18 p19 p20).2.2.2.2.2.1 := (pcsB_19 m c t h0 h1 xo16 xo18 p19 p20).trans (pcsB_19 m c t h0 h1 yo16 yo18 p19 p20).symm
theorem pcsB_20 (c : Dev nD) (t : Fin cfg0.N) (h0 : ¬t.val % 6 = 0) (h1 : 1 ≤ t.val) (xo16 xo18 : Vec F S6x256 .f32) (p19 p20 : Vec F S1x1280 .f32) :
    (runB m c t h0 h1 xo16 xo18 p19 p20).2.2.2.2.2.2.1 = [⟨Rect.unit ![0, 0] ![1, 1280] inb_S1x1280_S1x1280_0_0,
        k0_pay231
          (kernelRun0_B.sl.v1301 c (grid0.coords t) (ms0_0 t) (hs0_0 t) (ms0_1 t) (hs0_1 t) (ms0_2 t) (hs0_2 t)
            (ms0_3 t) (hs0_3 t) (ms0_6 t) (hs0_6 t) (ms0_7 t) (hs0_7 t) (ms0_8 t) (hs0_8 t) (ms0_9 t) (hs0_9 t)
            (ms0_10 t) (hs0_10 t) (ms0_11 t) (hs0_11 t) (ms0_12 t) (hs0_12 t) (ms0_13 t) (hs0_13 t) scM0_0
            (iblk m c 0 t) (iblk m c 1 t) (iblk m c 2 t) (iblk m c 3 t) (iblk m c 6 t) (iblk m c 7 t) (iblk m c 8 t)
            (iblk m c 9 t) (iblk m c 10 t) (iblk m c 11 t) (iblk m c 12 t) (iblk m c 13 t))
          (View.readAt (Elt F) (ms0_20 t).view (@Rect.unit S1x1280 ![0, 0] S1x1280.size inb_S1x1280_S1x1280_0_0).toLoadRect
            ((hs0_20 t).unread p20))⟩] := rfl
theorem indB_20 (c : Dev nD) (t : Fin cfg0.N) (h0 : ¬t.val % 6 = 0) (h1 : 1 ≤ t.val) (xo16 xo18 yo16 yo18 : Vec F S6x256 .f32) (p19 p20 : Vec F S1x1280 .f32) :
    (runB m c t h0 h1 xo16 xo18 p19 p20).2.2.2.2.2.2.1 = (runB m c t h0 h1 yo16 yo18 p19 p20).2.2.2.2.2.2.1 := (pcsB_20 m c t h0 h1 xo16 xo18 p19 p20).trans (pcsB_20 m c t h0 h1 yo16 yo18 p19 p20).symm
theorem pcsB_21 (c : Dev nD) (t : Fin cfg0.N) (h0 : ¬t.val % 6 = 0) (h1 : 1 ≤ t.val) (xo16 xo18 : Vec F S6x256 .f32) (p19 p20 : Vec F S1x1280 .f32) :
    (runB m c t h0 h1 xo16 xo18 p19 p20).2.2.2.2.2.2.2.1 = [⟨Rect.unit ![0, 0] ![1280, 256] inb_S1280x256_S1280x256_0_0,
        k0_pay44 (kernelRun0_B.sl.v161 c (ms0_4 t) (hs0_4 t) (iblk m c 4 t))
          (kernelRun0_B.sl.v172 c (ms0_4 t) (hs0_4 t) (iblk m c 4 t)) kernelRun0_B.sl.v173⟩] := rfl
theorem indB_21 (c : Dev nD) (t : Fin cfg0.N) (h0 : ¬t.val % 6 = 0) (h1 : 1 ≤ t.val) (xo16 xo18 yo16 yo18 : Vec F S6x256 .f32) (p19 p20 : Vec F S1x1280 .f32) :
    (runB m c t h0 h1 xo16 xo18 p19 p20).2.2.2.2.2.2.2.1 = (runB m c t h0 h1 yo16 yo18 p19 p20).2.2.2.2.2.2.2.1 := (pcsB_21 m c t h0 h1 xo16 xo18 p19 p20).trans (pcsB_21 m c t h0 h1 yo16 yo18 p19 p20).symm

attribute [local irreducible] kernelRun0_A kernelRun0_B

/-! The components of `outA`. -/

theorem outA_14 (c : Dev nD) (t : Fin cfg0.N) (h0 : t.val % 6 = 0) (h1 : ¬1 ≤ t.val) :
    (outA m c t h0 h1).1 = VO0_14.read (Elt F) (VO0_14.writes (Elt F) VO0_14.junk (runA m c t h0 h1 (iblk m c 1 t) (iblk m c 1 t)).1) := rfl
theorem outA_15 (c : Dev nD) (t : Fin cfg0.N) (h0 : t.val % 6 = 0) (h1 : ¬1 ≤ t.val) :
    (outA m c t h0 h1).2.1 = VO0_15.read (Elt F) (VO0_15.writes (Elt F) VO0_15.junk (runA m c t h0 h1 (iblk m c 1 t) (iblk m c 1 t)).2.1) := rfl
theorem outA_16 (c : Dev nD) (t : Fin cfg0.N) (h0 : t.val % 6 = 0) (h1 : ¬1 ≤ t.val) :
    (outA m c t h0 h1).2.2.1 = VO0_16.read (Elt F) (VO0_16.writes (Elt F) VO0_16.junk (runA m c t h0 h1 (iblk m c 1 t) (iblk m c 1 t)).2.2.1) := rfl
theorem outA_17 (c : Dev nD) (t : Fin cfg0.N) (h0 : t.val % 6 = 0) (h1 : ¬1 ≤ t.val) :
    (outA m c t h0 h1).2.2.2.1 = VO0_17.read (Elt F) (VO0_17.writes (Elt F) VO0_17.junk (runA m c t h0 h1 (iblk m c 1 t) (iblk m c 1 t)).2.2.2.1) := rfl
theorem outA_18 (c : Dev nD) (t : Fin cfg0.N) (h0 : t.val % 6 = 0) (h1 : ¬1 ≤ t.val) :
    (outA m c t h0 h1).2.2.2.2.1 = VO0_18.read (Elt F) (VO0_18.writes (Elt F) VO0_18.junk (runA m c t h0 h1 (iblk m c 1 t) (iblk m c 1 t)).2.2.2.2.1) := rfl
theorem outA_19 (c : Dev nD) (t : Fin cfg0.N) (h0 : t.val % 6 = 0) (h1 : ¬1 ≤ t.val) :
    (outA m c t h0 h1).2.2.2.2.2.1 = VO0_19.read (Elt F) (VO0_19.writes (Elt F) VO0_19.junk (runA m c t h0 h1 (iblk m c 1 t) (iblk m c 1 t)).2.2.2.2.2.1) := rfl
theorem outA_20 (c : Dev nD) (t : Fin cfg0.N) (h0 : t.val % 6 = 0) (h1 : ¬1 ≤ t.val) :
    (outA m c t h0 h1).2.2.2.2.2.2.1 = VO0_20.read (Elt F) (VO0_20.writes (Elt F) VO0_20.junk (runA m c t h0 h1 (iblk m c 1 t) (iblk m c 1 t)).2.2.2.2.2.2.1) := rfl
theorem outA_21 (c : Dev nD) (t : Fin cfg0.N) (h0 : t.val % 6 = 0) (h1 : ¬1 ≤ t.val) :
    (outA m c t h0 h1).2.2.2.2.2.2.2 = VO0_21.read (Elt F) (VO0_21.writes (Elt F) VO0_21.junk (runA m c t h0 h1 (iblk m c 1 t) (iblk m c 1 t)).2.2.2.2.2.2.2.1) := rfl

/-! The components of `outB`. -/

theorem outB_14 (c : Dev nD) (t : Fin cfg0.N) (h0 : ¬t.val % 6 = 0) (h1 : 1 ≤ t.val) (p19 p20 : Vec F S1x1280 .f32) :
    (outB m c t h0 h1 p19 p20).1 = VO0_14.read (Elt F) (VO0_14.writes (Elt F) VO0_14.junk (runB m c t h0 h1 (iblk m c 1 t) (iblk m c 1 t) p19 p20).1) := rfl
theorem outB_15 (c : Dev nD) (t : Fin cfg0.N) (h0 : ¬t.val % 6 = 0) (h1 : 1 ≤ t.val) (p19 p20 : Vec F S1x1280 .f32) :
    (outB m c t h0 h1 p19 p20).2.1 = VO0_15.read (Elt F) (VO0_15.writes (Elt F) VO0_15.junk (runB m c t h0 h1 (iblk m c 1 t) (iblk m c 1 t) p19 p20).2.1) := rfl
theorem outB_16 (c : Dev nD) (t : Fin cfg0.N) (h0 : ¬t.val % 6 = 0) (h1 : 1 ≤ t.val) (p19 p20 : Vec F S1x1280 .f32) :
    (outB m c t h0 h1 p19 p20).2.2.1 = VO0_16.read (Elt F) (VO0_16.writes (Elt F) VO0_16.junk (runB m c t h0 h1 (iblk m c 1 t) (iblk m c 1 t) p19 p20).2.2.1) := rfl
theorem outB_17 (c : Dev nD) (t : Fin cfg0.N) (h0 : ¬t.val % 6 = 0) (h1 : 1 ≤ t.val) (p19 p20 : Vec F S1x1280 .f32) :
    (outB m c t h0 h1 p19 p20).2.2.2.1 = VO0_17.read (Elt F) (VO0_17.writes (Elt F) VO0_17.junk (runB m c t h0 h1 (iblk m c 1 t) (iblk m c 1 t) p19 p20).2.2.2.1) := rfl
theorem outB_18 (c : Dev nD) (t : Fin cfg0.N) (h0 : ¬t.val % 6 = 0) (h1 : 1 ≤ t.val) (p19 p20 : Vec F S1x1280 .f32) :
    (outB m c t h0 h1 p19 p20).2.2.2.2.1 = VO0_18.read (Elt F) (VO0_18.writes (Elt F) VO0_18.junk (runB m c t h0 h1 (iblk m c 1 t) (iblk m c 1 t) p19 p20).2.2.2.2.1) := rfl
theorem outB_19 (c : Dev nD) (t : Fin cfg0.N) (h0 : ¬t.val % 6 = 0) (h1 : 1 ≤ t.val) (p19 p20 : Vec F S1x1280 .f32) :
    (outB m c t h0 h1 p19 p20).2.2.2.2.2.1 = VO0_19.read (Elt F) (VO0_19.writes (Elt F) VO0_19.junk (runB m c t h0 h1 (iblk m c 1 t) (iblk m c 1 t) p19 p20).2.2.2.2.2.1) := rfl
theorem outB_20 (c : Dev nD) (t : Fin cfg0.N) (h0 : ¬t.val % 6 = 0) (h1 : 1 ≤ t.val) (p19 p20 : Vec F S1x1280 .f32) :
    (outB m c t h0 h1 p19 p20).2.2.2.2.2.2.1 = VO0_20.read (Elt F) (VO0_20.writes (Elt F) VO0_20.junk (runB m c t h0 h1 (iblk m c 1 t) (iblk m c 1 t) p19 p20).2.2.2.2.2.2.1) := rfl
theorem outB_21 (c : Dev nD) (t : Fin cfg0.N) (h0 : ¬t.val % 6 = 0) (h1 : 1 ≤ t.val) (p19 p20 : Vec F S1x1280 .f32) :
    (outB m c t h0 h1 p19 p20).2.2.2.2.2.2.2 = VO0_21.read (Elt F) (VO0_21.writes (Elt F) VO0_21.junk (runB m c t h0 h1 (iblk m c 1 t) (iblk m c 1 t) p19 p20).2.2.2.2.2.2.2.1) := rfl

end Cert.ActIdeal.Hand

end
-- ==== Proof.ActStored.lean ====
/- What each output's staging buffer holds after the body at a grid point, stated of the contents left point by point. -/
module

public import proofs.«01_k».proof.Proof.ActOuts

@[expose] public section

set_option maxRecDepth 16384

noncomputable section

namespace Cert.ActIdeal.Hand

open Cert.ActIdeal Cert.ActIdeal.Gen
open Idealize.ShloMosaic Idealize.ShloMosaic.TcCoe Idealize.ShloMosaic.Tactic

variable {F : FTy → Type} [FloatOps F] [Named F]
variable (m : (ℓ : Loc nD τ sig) → Buf (Elt F) ℓ)

attribute [local irreducible] kernelRun0_A kernelRun0_B outA outB outsAt0

/-- The contents after a point of case B, the running sums of the point before given their names. -/
theorem outsB (c : Dev nD) (t : Fin cfg0.N) (h0 : ¬t.val % 6 = 0) (h1 : 1 ≤ t.val) (p19 p20 : Vec F S1x1280 .f32)
    (e19 : (outsAt0 m c (t.val - 1) (Nat.lt_of_le_of_lt (Nat.sub_le _ _) t.isLt)).2.2.2.2.2.1 = p19)
    (e20 : (outsAt0 m c (t.val - 1) (Nat.lt_of_le_of_lt (Nat.sub_le _ _) t.isLt)).2.2.2.2.2.2.1 = p20) :
    outsAt0 m c t.val t.isLt = outB m c t h0 h1 p19 p20 :=
  (outsAt0_B m c t h0 h1).trans (congrArg₂ (outB m c t h0 h1) e19 e20)

theorem storedA_14 (c : Dev nD) (t : Fin cfg0.N) (h0 : t.val % 6 = 0) (h1 : ¬1 ≤ t.val) (xo16 xo18 : Vec F S6x256 .f32) (v : View sig .tc .vmem S1x256x1280 .bf16) (f : v.ty.Contents (Elt F)) :
    v.read (Elt F) (v.writes (Elt F) f (runA m c t h0 h1 xo16 xo18).1) = (outsAt0 m c t.val t.isLt).1 :=
  ((View.read_writes_of_cover v f VO0_14 VO0_14.junk _ (coverA_14 m c t h0 h1 xo16 xo18)).trans
    (congrArg (fun L => VO0_14.read (Elt F) (VO0_14.writes (Elt F) VO0_14.junk L)) (indA_14 m c t h0 h1 xo16 xo18 (iblk m c 1 t) (iblk m c 1 t)))).trans
    ((congrArg (fun z => z.1) (outsAt0_A m c t h0 h1)).trans (outA_14 m c t h0 h1)).symm
theorem storedA_15 (c : Dev nD) (t : Fin cfg0.N) (h0 : t.val % 6 = 0) (h1 : ¬1 ≤ t.val) (xo16 xo18 : Vec F S6x256 .f32) (v : View sig .tc .vmem S1x256x1280 .fp8e4m3) (f : v.ty.Contents (Elt F)) :
    v.read (Elt F) (v.writes (Elt F) f (runA m c t h0 h1 xo16 xo18).2.1) = (outsAt0 m c t.val t.isLt).2.1 :=
  ((View.read_writes_of_cover v f VO0_15 VO0_15.junk _ (coverA_15 m c t h0 h1 xo16 xo18)).trans
    (congrArg (fun L => VO0_15.read (Elt F) (VO0_15.writes (Elt F) VO0_15.junk L)) (indA_15 m c t h0 h1 xo16 xo18 (iblk m c 1 t) (iblk m c 1 t)))).trans
    ((congrArg (fun z => z.2.1) (outsAt0_A m c t h0 h1)).trans (outA_15 m c t h0 h1)).symm
theorem storedA_16 (c : Dev nD) (t : Fin cfg0.N) (h0 : t.val % 6 = 0) (h1 : ¬1 ≤ t.val) (xo16 xo18 : Vec F S6x256 .f32) (v : View sig .tc .vmem S6x256 .f32) (f : v.ty.Contents (Elt F)) (r : Fin 6) (s : Fin 256) (hr : r.val = t.val) :
    v.read (Elt F) (v.writes (Elt F) f (runA m c t h0 h1 xo16 xo18).2.2.1) (ix2 r s) = (outsAt0 m c t.val t.isLt).2.2.1 (ix2 r s) :=
  (hitA_16 m c t h0 h1 xo16 xo18 v f r s hr).trans
    (congrFun ((congrArg (fun z => z.2.2.1) (outsAt0_A m c t h0 h1)).trans (outA_16 m c t h0 h1)) (ix2 r s)).symm
theorem storedA_17 (c : Dev nD) (t : Fin cfg0.N) (h0 : t.val % 6 = 0) (h1 : ¬1 ≤ t.val) (xo16 xo18 : Vec F S6x256 .f32) (v : View sig .tc .vmem S1x256x5120 .fp8e5m2) (f : v.ty.Contents (Elt F)) :
    v.read (Elt F) (v.writes (Elt F) f (runA m c t h0 h1 xo16 xo18).2.2.2.1) = (outsAt0 m c t.val t.isLt).2.2.2.1 :=
  ((View.read_writes_of_cover v f VO0_17 VO0_17.junk _ (coverA_17 m c t h0 h1 xo16 xo18)).trans
    (congrArg (fun L => VO0_17.read (Elt F) (VO0_17.writes (Elt F) VO0_17.junk L)) (indA_17 m c t h0 h1 xo16 xo18 (iblk m c 1 t) (iblk m c 1 t)))).trans
    ((congrArg (fun z => z.2.2.2.1) (outsAt0_A m c t h0 h1)).trans (outA_17 m c t h0 h1)).symm
theorem storedA_18 (c : Dev nD) (t : Fin cfg0.N) (h0 : t.val % 6 = 0) (h1 : ¬1 ≤ t.val) (xo16 xo18 : Vec F S6x256 .f32) (v : View sig .tc .vmem S6x256 .f32) (f : v.ty.Contents (Elt F)) (r : Fin 6) (s : Fin 256) (hr : r.val = t.val) :
    v.read (Elt F) (v.writes (Elt F) f (runA m c t h0 h1 xo16 xo18).2.2.2.2.1) (ix2 r s) = (outsAt0 m c t.val t.isLt).2.2.2.2.1 (ix2 r s) :=
  (hitA_18 m c t h0 h1 xo16 xo18 v f r s hr).trans
    (congrFun ((congrArg (fun z => z.2.2.2.2.1) (outsAt0_A m c t h0 h1)).trans (outA_18 m c t h0 h1)) (ix2 r s)).symm
theorem storedA_19 (c : Dev nD) (t : Fin cfg0.N) (h0 : t.val % 6 = 0) (h1 : ¬1 ≤ t.val) (xo16 xo18 : Vec F S6x256 .f32) (v : View sig .tc .vmem S1x1280 .f32) (f : v.ty.Contents (Elt F)) :
    v.read (Elt F) (v.writes (Elt F) f (runA m c t h0 h1 xo16 xo18).2.2.2.2.2.1) = (outsAt0 m c t.val t.isLt).2.2.2.2.2.1 :=
  ((View.read_writes_of_cover v f VO0_19 VO0_19.junk _ (coverA_19 m c t h0 h1 xo16 xo18)).trans
    (congrArg (fun L => VO0_19.read (Elt F) (VO0_19.writes (Elt F) VO0_19.junk L)) (indA_19 m c t h0 h1 xo16 xo18 (iblk m c 1 t) (iblk m c 1 t)))).trans
    ((congrArg (fun z => z.2.2.2.2.2.1) (outsAt0_A m c t h0 h1)).trans (outA_19 m c t h0 h1)).symm
theorem storedA_20 (c : Dev nD) (t : Fin cfg0.N) (h0 : t.val % 6 = 0) (h1 : ¬1 ≤ t.val) (xo16 xo18 : Vec F S6x256 .f32) (v : View sig .tc .vmem S1x1280 .f32) (f : v.ty.Contents (Elt F)) :
    v.read (Elt F) (v.writes (Elt F) f (runA m c t h0 h1 xo16 xo18).2.2.2.2.2.2.1) = (outsAt0 m c t.val t.isLt).2.2.2.2.2.2.1 :=
  ((View.read_writes_of_cover v f VO0_20 VO0_20.junk _ (coverA_20 m c t h0 h1 xo16 xo18)).trans
    (congrArg (fun L => VO0_20.read (Elt F) (VO0_20.writes (Elt F) VO0_20.junk L)) (indA_20 m c t h0 h1 xo16 xo18 (iblk m c 1 t) (iblk m c 1 t)))).trans
    ((congrArg (fun z => z.2.2.2.2.2.2.1) (outsAt0_A m c t h0 h1)).trans (outA_20 m c t h0 h1)).symm
theorem storedA_21 (c : Dev nD) (t : Fin cfg0.N) (h0 : t.val % 6 = 0) (h1 : ¬1 ≤ t.val) (xo16 xo18 : Vec F S6x256 .f32) (v : View sig .tc .vmem S1280x256 .bf16) (f : v.ty.Contents (Elt F)) :
    v.read (Elt F) (v.writes (Elt F) f (runA m c t h0 h1 xo16 xo18).2.2.2.2.2.2.2.1) = (outsAt0 m c t.val t.isLt).2.2.2.2.2.2.2 :=
  ((View.read_writes_of_cover v f VO0_21 VO0_21.junk _ (coverA_21 m c t h0 h1 xo16 xo18)).trans
    (congrArg (fun L => VO0_21.read (Elt F) (VO0_21.writes (Elt F) VO0_21.junk L)) (indA_21 m c t h0 h1 xo16 xo18 (iblk m c 1 t) (iblk m c 1 t)))).trans
    ((congrArg (fun z => z.2.2.2.2.2.2.2) (outsAt0_A m c t h0 h1)).trans (outA_21 m c t h0 h1)).symm
theorem storedB_14 (c : Dev nD) (t : Fin cfg0.N) (h0 : ¬t.val % 6 = 0) (h1 : 1 ≤ t.val) (p19 p20 : Vec F S1x1280 .f32)
    (e19 : (outsAt0 m c (t.val - 1) (Nat.lt_of_le_of_lt (Nat.sub_le _ _) t.isLt)).2.2.2.2.2.1 = p19)
    (e20 : (outsAt0 m c (t.val - 1) (Nat.lt_of_le_of_lt (Nat.sub_le _ _) t.isLt)).2.2.2.2.2.2.1 = p20) (xo16 xo18 : Vec F S6x256 .f32) (v : View sig .tc .vmem S1x256x1280 .bf16) (f : v.ty.Contents (Elt F)) :
    v.read (Elt F) (v.writes (Elt F) f (runB m c t h0 h1 xo16 xo18 p19 p20).1) = (outsAt0 m c t.val t.isLt).1 :=
  ((View.read_writes_of_cover v f VO0_14 VO0_14.junk _ (coverB_14 m c t h0 h1 xo16 xo18 p19 p20)).trans
    (congrArg (fun L => VO0_14.read (Elt F) (VO0_14.writes (Elt F) VO0_14.junk L)) (indB_14 m c t h0 h1 xo16 xo18 (iblk m c 1 t) (iblk m c 1 t) p19 p20))).trans
    ((congrArg (fun z => z.1) (outsB m c t h0 h1 p19 p20 e19 e20)).trans (outB_14 m c t h0 h1 p19 p20)).symm
theorem storedB_15 (c : Dev nD) (t : Fin cfg0.N) (h0 : ¬t.val % 6 = 0) (h1 : 1 ≤ t.val) (p19 p20 : Vec F S1x1280 .f32)
    (e19 : (outsAt0 m c (t.val - 1) (Nat.lt_of_le_of_lt (Nat.sub_le _ _) t.isLt)).2.2.2.2.2.1 = p19)
    (e20 : (outsAt0 m c (t.val - 1) (Nat.lt_of_le_of_lt (Nat.sub_le _ _) t.isLt)).2.2.2.2.2.2.1 = p20) (xo16 xo18 : Vec F S6x256 .f32) (v : View sig .tc .vmem S1x256x1280 .fp8e4m3) (f : v.ty.Contents (Elt F)) :
    v.read (Elt F) (v.writes (Elt F) f (runB m c t h0 h1 xo16 xo18 p19 p20).2.1) = (outsAt0 m c t.val t.isLt).2.1 :=
  ((View.read_writes_of_cover v f VO0_15 VO0_15.junk _ (coverB_15 m c t h0 h1 xo16 xo18 p19 p20)).trans
    (congrArg (fun L => VO0_15.read (Elt F) (VO0_15.writes (Elt F) VO0_15.junk L)) (indB_15 m c t h0 h1 xo16 xo18 (iblk m c 1 t) (iblk m c 1 t) p19 p20))).trans
    ((congrArg (fun z => z.2.1) (outsB m c t h0 h1 p19 p20 e19 e20)).trans (outB_15 m c t h0 h1 p19 p20)).symm
theorem storedB_16 (c : Dev nD) (t : Fin cfg0.N) (h0 : ¬t.val % 6 = 0) (h1 : 1 ≤ t.val) (p19 p20 : Vec F S1x1280 .f32)
    (e19 : (outsAt0 m c (t.val - 1) (Nat.lt_of_le_of_lt (Nat.sub_le _ _) t.isLt)).2.2.2.2.2.1 = p19)
    (e20 : (outsAt0 m c (t.val - 1) (Nat.lt_of_le_of_lt (Nat.sub_le _ _) t.isLt)).2.2.2.2.2.2.1 = p20) (xo16 xo18 : Vec F S6x256 .f32) (v : View sig .tc .vmem S6x256 .f32) (f : v.ty.Contents (Elt F)) (r : Fin 6) (s : Fin 256) (hr : r.val = t.val) :
    v.read (Elt F) (v.writes (Elt F) f (runB m c t h0 h1 xo16 xo18 p19 p20).2.2.1) (ix2 r s) = (outsAt0 m c t.val t.isLt).2.2.1 (ix2 r s) :=
  (hitB_16 m c t h0 h1 xo16 xo18 p19 p20 v f r s hr).trans
    (congrFun ((congrArg (fun z => z.2.2.1) (outsB m c t h0 h1 p19 p20 e19 e20)).trans (outB_16 m c t h0 h1 p19 p20)) (ix2 r s)).symm
theorem storedB_17 (c : Dev nD) (t : Fin cfg0.N) (h0 : ¬t.val % 6 = 0) (h1 : 1 ≤ t.val) (p19 p20 : Vec F S1x1280 .f32)
    (e19 : (outsAt0 m c (t.val - 1) (Nat.lt_of_le_of_lt (Nat.sub_le _ _) t.isLt)).2.2.2.2.2.1 = p19)
    (e20 : (outsAt0 m c (t.val - 1) (Nat.lt_of_le_of_lt (Nat.sub_le _ _) t.isLt)).2.2.2.2.2.2.1 = p20) (xo16 xo18 : Vec F S6x256 .f32) (v : View sig .tc .vmem S1x256x5120 .fp8e5m2) (f : v.ty.Contents (Elt F)) :
    v.read (Elt F) (v.writes (Elt F) f (runB m c t h0 h1 xo16 xo18 p19 p20).2.2.2.1) = (outsAt0 m c t.val t.isLt).2.2.2.1 :=
  ((View.read_writes_of_cover v f VO0_17 VO0_17.junk _ (coverB_17 m c t h0 h1 xo16 xo18 p19 p20)).trans
    (congrArg (fun L => VO0_17.read (Elt F) (VO0_17.writes (Elt F) VO0_17.junk L)) (indB_17 m c t h0 h1 xo16 xo18 (iblk m c 1 t) (iblk m c 1 t) p19 p20))).trans
    ((congrArg (fun z => z.2.2.2.1) (outsB m c t h0 h1 p19 p20 e19 e20)).trans (outB_17 m c t h0 h1 p19 p20)).symm
theorem storedB_18 (c : Dev nD) (t : Fin cfg0.N) (h0 : ¬t.val % 6 = 0) (h1 : 1 ≤ t.val) (p19 p20 : Vec F S1x1280 .f32)
    (e19 : (outsAt0 m c (t.val - 1) (Nat.lt_of_le_of_lt (Nat.sub_le _ _) t.isLt)).2.2.2.2.2.1 = p19)
    (e20 : (outsAt0 m c (t.val - 1) (Nat.lt_of_le_of_lt (Nat.sub_le _ _) t.isLt)).2.2.2.2.2.2.1 = p20) (xo16 xo18 : Vec F S6x256 .f32) (v : View sig .tc .vmem S6x256 .f32) (f : v.ty.Contents (Elt F)) (r : Fin 6) (s : Fin 256) (hr : r.val = t.val) :
    v.read (Elt F) (v.writes (Elt F) f (runB m c t h0 h1 xo16 xo18 p19 p20).2.2.2.2.1) (ix2 r s) = (outsAt0 m c t.val t.isLt).2.2.2.2.1 (ix2 r s) :=
  (hitB_18 m c t h0 h1 xo16 xo18 p19 p20 v f r s hr).trans
    (congrFun ((congrArg (fun z => z.2.2.2.2.1) (outsB m c t h0 h1 p19 p20 e19 e20)).trans (outB_18 m c t h0 h1 p19 p20)) (ix2 r s)).symm
theorem storedB_19 (c : Dev nD) (t : Fin cfg0.N) (h0 : ¬t.val % 6 = 0) (h1 : 1 ≤ t.val) (p19 p20 : Vec F S1x1280 .f32)
    (e19 : (outsAt0 m c (t.val - 1) (Nat.lt_of_le_of_lt (Nat.sub_le _ _) t.isLt)).2.2.2.2.2.1 = p19)
    (e20 : (outsAt0 m c (t.val - 1) (Nat.lt_of_le_of_lt (Nat.sub_le _ _) t.isLt)).2.2.2.2.2.2.1 = p20) (xo16 xo18 : Vec F S6x256 .f32) (v : View sig .tc .vmem S1x1280 .f32) (f : v.ty.Contents (Elt F)) :
    v.read (Elt F) (v.writes (Elt F) f (runB m c t h0 h1 xo16 xo18 p19 p20).2.2.2.2.2.1) = (outsAt0 m c t.val t.isLt).2.2.2.2.2.1 :=
  ((View.read_writes_of_cover v f VO0_19 VO0_19.junk _ (coverB_19 m c t h0 h1 xo16 xo18 p19 p20)).trans
    (congrArg (fun L => VO0_19.read (Elt F) (VO0_19.writes (Elt F) VO0_19.junk L)) (indB_19 m c t h0 h1 xo16 xo18 (iblk m c 1 t) (iblk m c 1 t) p19 p20))).trans
    ((congrArg (fun z => z.2.2.2.2.2.1) (outsB m c t h0 h1 p19 p20 e19 e20)).trans (outB_19 m c t h0 h1 p19 p20)).symm
theorem storedB_20 (c : Dev nD) (t : Fin cfg0.N) (h0 : ¬t.val % 6 = 0) (h1 : 1 ≤ t.val) (p19 p20 : Vec F S1x1280 .f32)
    (e19 : (outsAt0 m c (t.val - 1) (Nat.lt_of_le_of_lt (Nat.sub_le _ _) t.isLt)).2.2.2.2.2.1 = p19)
    (e20 : (outsAt0 m c (t.val - 1) (Nat.lt_of_le_of_lt (Nat.sub_le _ _) t.isLt)).2.2.2.2.2.2.1 = p20) (xo16 xo18 : Vec F S6x256 .f32) (v : View sig .tc .vmem S1x1280 .f32) (f : v.ty.Contents (Elt F)) :
    v.read (Elt F) (v.writes (Elt F) f (runB m c t h0 h1 xo16 xo18 p19 p20).2.2.2.2.2.2.1) = (outsAt0 m c t.val t.isLt).2.2.2.2.2.2.1 :=
  ((View.read_writes_of_cover v f VO0_20 VO0_20.junk _ (coverB_20 m c t h0 h1 xo16 xo18 p19 p20)).trans
    (congrArg (fun L => VO0_20.read (Elt F) (VO0_20.writes (Elt F) VO0_20.junk L)) (indB_20 m c t h0 h1 xo16 xo18 (iblk m c 1 t) (iblk m c 1 t) p19 p20))).trans
    ((congrArg (fun z => z.2.2.2.2.2.2.1) (outsB m c t h0 h1 p19 p20 e19 e20)).trans (outB_20 m c t h0 h1 p19 p20)).symm
theorem storedB_21 (c : Dev nD) (t : Fin cfg0.N) (h0 : ¬t.val % 6 = 0) (h1 : 1 ≤ t.val) (p19 p20 : Vec F S1x1280 .f32)
    (e19 : (outsAt0 m c (t.val - 1) (Nat.lt_of_le_of_lt (Nat.sub_le _ _) t.isLt)).2.2.2.2.2.1 = p19)
    (e20 : (outsAt0 m c (t.val - 1) (Nat.lt_of_le_of_lt (Nat.sub_le _ _) t.isLt)).2.2.2.2.2.2.1 = p20) (xo16 xo18 : Vec F S6x256 .f32) (v : View sig .tc .vmem S1280x256 .bf16) (f : v.ty.Contents (Elt F)) :
    v.read (Elt F) (v.writes (Elt F) f (runB m c t h0 h1 xo16 xo18 p19 p20).2.2.2.2.2.2.2.1) = (outsAt0 m c t.val t.isLt).2.2.2.2.2.2.2 :=
  ((View.read_writes_of_cover v f VO0_21 VO0_21.junk _ (coverB_21 m c t h0 h1 xo16 xo18 p19 p20)).trans
    (congrArg (fun L => VO0_21.read (Elt F) (VO0_21.writes (Elt F) VO0_21.junk L)) (indB_21 m c t h0 h1 xo16 xo18 (iblk m c 1 t) (iblk m c 1 t) p19 p20))).trans
    ((congrArg (fun z => z.2.2.2.2.2.2.2) (outsB m c t h0 h1 p19 p20 e19 e20)).trans (outB_21 m c t h0 h1 p19 p20)).symm

end Cert.ActIdeal.Hand

end
-- ==== Proof.ActBody.lean ====
/- The proof data of the activation kernel's pipeline, over the real-number reading of its program: the six unmarked outputs
   hold exactly what the body leaves; the two scale outputs are held to the rows written so far. Then the body's
   obligation, the launch, and the frame claim. -/
module

public import proofs.«01_k».proof.Proof.ActStored
public import Idealize.ShloMosaic.Lib.Claim

@[expose] public section

set_option maxRecDepth 16384

noncomputable section

namespace Cert.ActIdeal.Hand

open Cert.ActIdeal Cert.ActIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

attribute [local irreducible] kernelRun0_A kernelRun0_B outA outB outsAt0

/-- The windows held to a predicate instead of exact contents: the two scale outputs. -/
def forgets0 : Fin 22 → Bool := fun w => w.val == 16 || w.val == 18

/-- What the two scale outputs are held to after point `t`: rows `0 … t` are the rows written there. -/
def Rl (c : Dev nD) (w : Fin cfg0.W) (t : Fin cfg0.N) (X : (cfg0.win w).block.Idx → Elt F (cfg0.win w).elt) : Prop :=
  match w with
  | ⟨16, _⟩ => ∀ (u : Fin cfg0.N) (r : Fin 6) (s : Fin 256), r.val = u.val → u.val ≤ t.val →
      (X : Vec F S6x256 .f32) (ix2 r s) = (outsAt0 m c u.val u.isLt).2.2.1 (ix2 r s)
  | ⟨18, _⟩ => ∀ (u : Fin cfg0.N) (r : Fin 6) (s : Fin 256), r.val = u.val → u.val ≤ t.val →
      (X : Vec F S6x256 .f32) (ix2 r s) = (outsAt0 m c u.val u.isLt).2.2.2.2.1 (ix2 r s)
  | _ => True

/-- The proof data of the one pipeline on core `c`: the arrays as the region finds them (`V`); after the body at
    point `t` each input's buffer at its block and the NAMED outputs' at `outsAt0` (the forgotten at `Dat.unnamed`); the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (outsAt0 m c t.val t.isLt).1
    | ⟨15, _⟩ => (outsAt0 m c t.val t.isLt).2.1
    | ⟨16, h⟩ => Pipeline.Dat.unnamed (cfg := cfg0) ⟨16, h⟩ t
    | ⟨17, _⟩ => (outsAt0 m c t.val t.isLt).2.2.2.1
    | ⟨18, h⟩ => Pipeline.Dat.unnamed (cfg := cfg0) ⟨18, h⟩ t
    | ⟨19, _⟩ => (outsAt0 m c t.val t.isLt).2.2.2.2.2.1
    | ⟨20, _⟩ => (outsAt0 m c t.val t.isLt).2.2.2.2.2.2.1
    | ⟨21, _⟩ => (outsAt0 m c t.val t.isLt).2.2.2.2.2.2.2
    | ⟨_ + 22, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = (outsAt0 m c t.val t.isLt).1 := by dsimp only [dats]
theorem after0_15 (c : Dev nD) (t : Fin cfg0.N) : (dats m 0 c).after 15 t = (outsAt0 m c t.val t.isLt).2.1 := by dsimp only [dats]
theorem after0_17 (c : Dev nD) (t : Fin cfg0.N) : (dats m 0 c).after 17 t = (outsAt0 m c t.val t.isLt).2.2.2.1 := by dsimp only [dats]
theorem after0_19 (c : Dev nD) (t : Fin cfg0.N) : (dats m 0 c).after 19 t = (outsAt0 m c t.val t.isLt).2.2.2.2.2.1 := by dsimp only [dats]
theorem after0_20 (c : Dev nD) (t : Fin cfg0.N) : (dats m 0 c).after 20 t = (outsAt0 m c t.val t.isLt).2.2.2.2.2.2.1 := by dsimp only [dats]
theorem after0_21 (c : Dev nD) (t : Fin cfg0.N) : (dats m 0 c).after 21 t = (outsAt0 m c t.val t.isLt).2.2.2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-- Output 19's contents CARRY through the points that leave it idle: at such a point, its buffer not fresh, the proof data's
    `after` is the point before's (the case there stores nothing into the window and its term says so; a case that stores
    into it is not idle there by `liveAt0_19_κ`) — the hypothesis of Lib/Pipeline/TableIdle.lean `Dat.before_out_traj`. -/
theorem hcarry0_19 (c : Dev nD) : ∀ (t : Fin cfg0.N) (_ : t.val ≠ 0), cfg0.idle 19 (grid0.coords t) = true → cfg0.fresh 19 t.val = false →
    (dats m 0 c).after 19 t = (dats m 0 c).after 19 ⟨t.val - 1, by omega⟩ := by
  intro t _ hi _
  have hN : t.val < 6 := lt_of_lt_of_eq t.isLt (show cfg0.N = 6 from N_0)
  rw [after0_19, after0_19]
  by_cases h0 : t.val % 6 = 0
  · by_cases h1 : 1 ≤ t.val
    · exfalso; omega
    · rw [liveAt0_19_A t ((hcond0_0 t).mpr h0) (fun h => h1 ((hcond0_1 t).mp h))] at hi
      exact absurd hi Bool.false_ne_true
  · by_cases h1 : 1 ≤ t.val
    · rw [liveAt0_19_B t (fun h => h0 ((hcond0_0 t).mp h)) ((hcond0_1 t).mpr h1)] at hi
      exact absurd hi Bool.false_ne_true
    · exfalso; omega

/-- Output 20's contents CARRY through the points that leave it idle: at such a point, its buffer not fresh, the proof data's
    `after` is the point before's (the case there stores nothing into the window and its term says so; a case that stores
    into it is not idle there by `liveAt0_20_κ`) — the hypothesis of Lib/Pipeline/TableIdle.lean `Dat.before_out_traj`. -/
theorem hcarry0_20 (c : Dev nD) : ∀ (t : Fin cfg0.N) (_ : t.val ≠ 0), cfg0.idle 20 (grid0.coords t) = true → cfg0.fresh 20 t.val = false →
    (dats m 0 c).after 20 t = (dats m 0 c).after 20 ⟨t.val - 1, by omega⟩ := by
  intro t _ hi _
  have hN : t.val < 6 := lt_of_lt_of_eq t.isLt (show cfg0.N = 6 from N_0)
  rw [after0_20, after0_20]
  by_cases h0 : t.val % 6 = 0
  · by_cases h1 : 1 ≤ t.val
    · exfalso; omega
    · rw [liveAt0_20_A t ((hcond0_0 t).mpr h0) (fun h => h1 ((hcond0_1 t).mp h))] at hi
      exact absurd hi Bool.false_ne_true
  · by_cases h1 : 1 ≤ t.val
    · rw [liveAt0_20_B t (fun h => h0 ((hcond0_0 t).mp h)) ((hcond0_1 t).mpr h1)] at hi
      exact absurd hi Bool.false_ne_true
    · exfalso; omega
/-- At a point of case B output 19's current staging buffer holds what the point before left: the buffer is not fresh
    there (`notFresh0_19_B`: stored into since the region's entry or the last write-back, carried through the points that
    leave it idle by `hcarry0_19`; Lib/Pipeline/TableIdle.lean `Dat.before_out_traj`). -/
theorem before0_19_B (c : Dev nD) (t : Fin cfg0.N) (h0 : ¬t.val % 6 = 0) (h1 : 1 ≤ t.val) (d) :
    (dats m 0 c).before 19 t d = (outsAt0 m c (t.val - 1) (Nat.lt_of_le_of_lt (Nat.sub_le _ _) t.isLt)).2.2.2.2.2.1 := by
  rw [Dat.before_out_traj _ 19 rfl (fun _ _ => rfl) (hcarry0_19 m c) t.val t rfl d,
    if_neg (by rw [notFresh0_19_B t (fun h => h0 ((hcond0_0 t).mp h)) ((hcond0_1 t).mpr h1)]; exact Bool.false_ne_true)]
  dsimp only [dats]
/-- At a point of case B output 20's current staging buffer holds what the point before left: the buffer is not fresh
    there (`notFresh0_20_B`: stored into since the region's entry or the last write-back, carried through the points that
    leave it idle by `hcarry0_20`; Lib/Pipeline/TableIdle.lean `Dat.before_out_traj`). -/
theorem before0_20_B (c : Dev nD) (t : Fin cfg0.N) (h0 : ¬t.val % 6 = 0) (h1 : 1 ≤ t.val) (d) :
    (dats m 0 c).before 20 t d = (outsAt0 m c (t.val - 1) (Nat.lt_of_le_of_lt (Nat.sub_le _ _) t.isLt)).2.2.2.2.2.2.1 := by
  rw [Dat.before_out_traj _ 20 rfl (fun _ _ => rfl) (hcarry0_20 m c) t.val t rfl d,
    if_neg (by rw [notFresh0_20_B t (fun h => h0 ((hcond0_0 t).mp h)) ((hcond0_1 t).mpr h1)]; exact Bool.false_ne_true)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ Y, ⌜((dats m 0 c).toRRel forgets0 (Rl m c)).Finds 16 t Y⌝ ∗ owns (c : Thread nD τ) (ms0_16 t) fullShare Y)
    ∗ (∃ d, owns (c : Thread nD τ) (ms0_17 t) fullShare ((dats m 0 c).before 17 t d))
    ∗ (∃ Y, ⌜((dats m 0 c).toRRel forgets0 (Rl m c)).Finds 18 t Y⌝ ∗ owns (c : Thread nD τ) (ms0_18 t) fullShare Y)
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (∃ X, ⌜Rl m c 16 t X⌝ ∗ owns (c : Thread nD τ) (ms0_16 t) fullShare X)
    ∗ (dats m 0 c).leavesExact 17 t
    ∗ (∃ X, ⌜Rl m c 18 t X⌝ ∗ owns (c : Thread nD τ) (ms0_18 t) fullShare X)
    ∗ (dats m 0 c).leavesExact 19 t
    ∗ (dats m 0 c).leavesExact 20 t
    ∗ (dats m 0 c).leavesExact 21 t)

/-- A window that is live and not loose is left at exactly `after`. -/
theorem leavesExact_live (c : Dev nD) (t : Fin cfg0.N) (w : Fin cfg0.W) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- The two column sums' windows are stored into at every point. -/
theorem liveAt0_19 (t : Fin cfg0.N) : cfg0.idle 19 (grid0.coords t) = false := by
  have hN : t.val < 6 := lt_of_lt_of_eq t.isLt (show cfg0.N = 6 from N_0)
  by_cases h0 : t.val % 6 = 0
  · exact liveAt0_19_A t ((hcond0_0 t).mpr h0) (fun h => by have := (hcond0_1 t).mp h; omega)
  · exact liveAt0_19_B t (fun h => h0 ((hcond0_0 t).mp h)) ((hcond0_1 t).mpr (by omega))
theorem liveAt0_20 (t : Fin cfg0.N) : cfg0.idle 20 (grid0.coords t) = false := by
  have hN : t.val < 6 := lt_of_lt_of_eq t.isLt (show cfg0.N = 6 from N_0)
  by_cases h0 : t.val % 6 = 0
  · exact liveAt0_20_A t ((hcond0_0 t).mpr h0) (fun h => by have := (hcond0_1 t).mp h; omega)
  · exact liveAt0_20_B t (fun h => h0 ((hcond0_0 t).mp h)) ((hcond0_1 t).mpr (by omega))

/-- What window 16 may hold before a point after the first: rows written by the points before. -/
theorem finds_16 (c : Dev nD) (t : Fin cfg0.N) (h1 : 1 ≤ t.val) (Y : Vec F S6x256 .f32)
    (h : ((dats m 0 c).toRRel forgets0 (Rl m c)).Finds 16 t Y) : Rl m c 16 ⟨t.val - 1, Nat.lt_of_le_of_lt (Nat.sub_le _ _) t.isLt⟩ Y := by
  have hN : t.val < 6 := lt_of_lt_of_eq t.isLt (show cfg0.N = 6 from N_0)
  rcases (RDat.finds_of_pos _ (rfl : (cfg0.win 16).fetch t = false) (by omega) Y).mp h with hf | hl
  · exact absurd hf (by
      have hx : ∀ u : Fin cfg0.N, u.val < 5 → ¬(cfg0.win 16).flush u = true := by decide +kernel
      exact hx _ (by show t.val - 1 < 5; omega))
  · exact Dat.toRRel_leaves _ (by rfl) hl
/-- What window 18 may hold before a point after the first: rows written by the points before. -/
theorem finds_18 (c : Dev nD) (t : Fin cfg0.N) (h1 : 1 ≤ t.val) (Y : Vec F S6x256 .f32)
    (h : ((dats m 0 c).toRRel forgets0 (Rl m c)).Finds 18 t Y) : Rl m c 18 ⟨t.val - 1, Nat.lt_of_le_of_lt (Nat.sub_le _ _) t.isLt⟩ Y := by
  have hN : t.val < 6 := lt_of_lt_of_eq t.isLt (show cfg0.N = 6 from N_0)
  rcases (RDat.finds_of_pos _ (rfl : (cfg0.win 18).fetch t = false) (by omega) Y).mp h with hf | hl
  · exact absurd hf (by
      have hx : ∀ u : Fin cfg0.N, u.val < 5 → ¬(cfg0.win 18).flush u = true := by decide +kernel
      exact hx _ (by show t.val - 1 < 5; omega))
  · exact Dat.toRRel_leaves _ (by rfl) hl
/-- Window 16 after the body of case A: the rows up to `t`. -/
theorem rowsA_16 (c : Dev nD) (t : Fin cfg0.N) (h0 : t.val % 6 = 0) (h1 : ¬1 ≤ t.val) (xo16 xo18 : Vec F S6x256 .f32) :
    Rl m c 16 t ((ms0_16 t).view.read (Elt F) ((ms0_16 t).view.writes (Elt F) ((hs0_16 t).unread xo16) (runA m c t h0 h1 xo16 xo18).2.2.1)) := by
  intro u r s hr hu
  by_cases h : u.val = t.val
  · have eu : outsAt0 m c u.val u.isLt = outsAt0 m c t.val t.isLt := congrArg (fun u : Fin cfg0.N => outsAt0 m c u.val u.isLt) (Fin.ext h)
    exact (storedA_16 m c t h0 h1 xo16 xo18 _ _ r s (hr.trans h)).trans (congrFun (congrArg (fun z => z.2.2.1) eu.symm) (ix2 r s))
  · exfalso; omega
/-- Window 18 after the body of case A: the rows up to `t`. -/
theorem rowsA_18 (c : Dev nD) (t : Fin cfg0.N) (h0 : t.val % 6 = 0) (h1 : ¬1 ≤ t.val) (xo16 xo18 : Vec F S6x256 .f32) :
    Rl m c 18 t ((ms0_18 t).view.read (Elt F) ((ms0_18 t).view.writes (Elt F) ((hs0_18 t).unread xo18) (runA m c t h0 h1 xo16 xo18).2.2.2.2.1)) := by
  intro u r s hr hu
  by_cases h : u.val = t.val
  · have eu : outsAt0 m c u.val u.isLt = outsAt0 m c t.val t.isLt := congrArg (fun u : Fin cfg0.N => outsAt0 m c u.val u.isLt) (Fin.ext h)
    exact (storedA_18 m c t h0 h1 xo16 xo18 _ _ r s (hr.trans h)).trans (congrFun (congrArg (fun z => z.2.2.2.2.1) eu.symm) (ix2 r s))
  · exfalso; omega
/-- Window 16 after the body of case B: the rows up to `t`. -/
theorem rowsB_16 (c : Dev nD) (t : Fin cfg0.N) (h0 : ¬t.val % 6 = 0) (h1 : 1 ≤ t.val) (xo16 xo18 : Vec F S6x256 .f32) (p19 p20 : Vec F S1x1280 .f32)
    (e19 : (outsAt0 m c (t.val - 1) (Nat.lt_of_le_of_lt (Nat.sub_le _ _) t.isLt)).2.2.2.2.2.1 = p19) (e20 : (outsAt0 m c (t.val - 1) (Nat.lt_of_le_of_lt (Nat.sub_le _ _) t.isLt)).2.2.2.2.2.2.1 = p20)
    (hF : ((dats m 0 c).toRRel forgets0 (Rl m c)).Finds 16 t xo16) :
    Rl m c 16 t ((ms0_16 t).view.read (Elt F) ((ms0_16 t).view.writes (Elt F) ((hs0_16 t).unread xo16) (runB m c t h0 h1 xo16 xo18 p19 p20).2.2.1)) := by
  intro u r s hr hu
  by_cases h : u.val = t.val
  · have eu : outsAt0 m c u.val u.isLt = outsAt0 m c t.val t.isLt := congrArg (fun u : Fin cfg0.N => outsAt0 m c u.val u.isLt) (Fin.ext h)
    exact (storedB_16 m c t h0 h1 p19 p20 e19 e20 xo16 xo18 _ _ r s (hr.trans h)).trans (congrFun (congrArg (fun z => z.2.2.1) eu.symm) (ix2 r s))
  · exact (missB_16 m c t h0 h1 xo16 xo18 p19 p20 _ _ r s (by omega)).trans ((congrFun ((hs0_16 t).read_unread xo16) (ix2 r s)).trans
      (finds_16 m c t h1 xo16 hF u r s hr (by show u.val ≤ t.val - 1; omega)))
/-- Window 18 after the body of case B: the rows up to `t`. -/
theorem rowsB_18 (c : Dev nD) (t : Fin cfg0.N) (h0 : ¬t.val % 6 = 0) (h1 : 1 ≤ t.val) (xo16 xo18 : Vec F S6x256 .f32) (p19 p20 : Vec F S1x1280 .f32)
    (e19 : (outsAt0 m c (t.val - 1) (Nat.lt_of_le_of_lt (Nat.sub_le _ _) t.isLt)).2.2.2.2.2.1 = p19) (e20 : (outsAt0 m c (t.val - 1) (Nat.lt_of_le_of_lt (Nat.sub_le _ _) t.isLt)).2.2.2.2.2.2.1 = p20)
    (hF : ((dats m 0 c).toRRel forgets0 (Rl m c)).Finds 18 t xo18) :
    Rl m c 18 t ((ms0_18 t).view.read (Elt F) ((ms0_18 t).view.writes (Elt F) ((hs0_18 t).unread xo18) (runB m c t h0 h1 xo16 xo18 p19 p20).2.2.2.2.1)) := by
  intro u r s hr hu
  by_cases h : u.val = t.val
  · have eu : outsAt0 m c u.val u.isLt = outsAt0 m c t.val t.isLt := congrArg (fun u : Fin cfg0.N => outsAt0 m c u.val u.isLt) (Fin.ext h)
    exact (storedB_18 m c t h0 h1 p19 p20 e19 e20 xo16 xo18 _ _ r s (hr.trans h)).trans (congrFun (congrArg (fun z => z.2.2.2.2.1) eu.symm) (ix2 r s))
  · exact (missB_18 m c t h0 h1 xo16 xo18 p19 p20 _ _ r s (by omega)).trans ((congrFun ((hs0_18 t).read_unread xo18) (ix2 r s)).trans
      (finds_18 m c t h1 xo18 hF u r s hr (by show u.val ≤ t.val - 1; omega)))
set_option maxHeartbeats 4000000 in
/-- The body at a point of case A carries its precondition to its postcondition. -/
theorem sound_A (c : Dev nD) (t : Fin cfg0.N) (h0 : t.val % 6 = 0) (h1 : ¬1 ≤ t.val) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [leavesExact_live m c t 0 (liveAt0_0 t), after0_0]
  rw [leavesExact_live m c t 1 (liveAt0_1 t), after0_1]
  rw [leavesExact_live m c t 2 (liveAt0_2 t), after0_2]
  rw [leavesExact_live m c t 3 (liveAt0_3 t), after0_3]
  rw [leavesExact_live m c t 4 (liveAt0_4 t), after0_4]
  rw [leavesExact_live m c t 5 (liveAt0_5 t), after0_5]
  rw [leavesExact_live m c t 6 (liveAt0_6 t), after0_6]
  rw [leavesExact_live m c t 7 (liveAt0_7 t), after0_7]
  rw [leavesExact_live m c t 8 (liveAt0_8 t), after0_8]
  rw [leavesExact_live m c t 9 (liveAt0_9 t), after0_9]
  rw [leavesExact_live m c t 10 (liveAt0_10 t), after0_10]
  rw [leavesExact_live m c t 11 (liveAt0_11 t), after0_11]
  rw [leavesExact_live m c t 12 (liveAt0_12 t), after0_12]
  rw [leavesExact_live m c t 13 (liveAt0_13 t), after0_13]
  rw [leavesExact_live m c t 14 (liveAt0_14 t), after0_14]
  rw [leavesExact_live m c t 15 (liveAt0_15 t), after0_15]
  rw [leavesExact_live m c t 17 (liveAt0_17 t), after0_17]
  rw [leavesExact_live m c t 19 (liveAt0_19 t), after0_19]
  rw [leavesExact_live m c t 20 (liveAt0_20 t), after0_20]
  rw [leavesExact_live m c t 21 (liveAt0_21 t), after0_21]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, %hF16, H16⟩, ⟨%d17, H17⟩, ⟨%d18, %hF18, H18⟩, ⟨%d19, H19⟩, ⟨%d20, H20⟩, ⟨%d21, H21⟩⟩
  iapply ((runA m c t h0 h1 d16 d18).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexact H16
  isplitl [H17]; · iexists _; iexact H17
  isplitl [H18]; · iexact H18
  isplitl [H19]; · iexists _; iexact H19
  isplitl [H20]; · iexists _; iexact H20
  isplitl [H21]; · iexists _; iexact H21
  isplitl [HS0]; · iexact HS0
  iintro ⟨H0, H1, H2, H3, H4, H5, H6, H7, H8, H9, H10, H11, H12, H13, ⟨%e14, H14⟩, ⟨%e15, H15⟩, H16, ⟨%e17, H17⟩, H18, ⟨%e19, H19⟩, ⟨%e20, H20⟩, ⟨%e21, H21⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · unfold owns; iexists _; isplitr
    swap; · iexact H14
    ipureintro; exact storedA_14 m c t h0 h1 d16 d18 _ _
  isplitl [H15]
  · unfold owns; iexists _; isplitr
    swap; · iexact H15
    ipureintro; exact storedA_15 m c t h0 h1 d16 d18 _ _
  isplitl [H16]
  · iexists _; isplitr
    swap
    · unfold owns; iexists _; isplitr
      swap; · iexact H16
      ipureintro; rfl
    ipureintro; exact rowsA_16 m c t h0 h1 d16 d18
  isplitl [H17]
  · unfold owns; iexists _; isplitr
    swap; · iexact H17
    ipureintro; exact storedA_17 m c t h0 h1 d16 d18 _ _
  isplitl [H18]
  · iexists _; isplitr
    swap
    · unfold owns; iexists _; isplitr
      swap; · iexact H18
      ipureintro; rfl
    ipureintro; exact rowsA_18 m c t h0 h1 d16 d18
  isplitl [H19]
  · unfold owns; iexists _; isplitr
    swap; · iexact H19
    ipureintro; exact storedA_19 m c t h0 h1 d16 d18 _ _
  isplitl [H20]
  · unfold owns; iexists _; isplitr
    swap; · iexact H20
    ipureintro; exact storedA_20 m c t h0 h1 d16 d18 _ _
  unfold owns; iexists _; isplitr
  swap; · iexact H21
  ipureintro; exact storedA_21 m c t h0 h1 d16 d18 _ _

set_option maxHeartbeats 4000000 in
/-- The body at a point of case B carries its precondition to its postcondition. -/
theorem sound_B (c : Dev nD) (t : Fin cfg0.N) (h0 : ¬t.val % 6 = 0) (h1 : 1 ≤ t.val) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [leavesExact_live m c t 0 (liveAt0_0 t), after0_0]
  rw [leavesExact_live m c t 1 (liveAt0_1 t), after0_1]
  rw [leavesExact_live m c t 2 (liveAt0_2 t), after0_2]
  rw [leavesExact_live m c t 3 (liveAt0_3 t), after0_3]
  rw [leavesExact_live m c t 4 (liveAt0_4 t), after0_4]
  rw [leavesExact_live m c t 5 (liveAt0_5 t), after0_5]
  rw [leavesExact_live m c t 6 (liveAt0_6 t), after0_6]
  rw [leavesExact_live m c t 7 (liveAt0_7 t), after0_7]
  rw [leavesExact_live m c t 8 (liveAt0_8 t), after0_8]
  rw [leavesExact_live m c t 9 (liveAt0_9 t), after0_9]
  rw [leavesExact_live m c t 10 (liveAt0_10 t), after0_10]
  rw [leavesExact_live m c t 11 (liveAt0_11 t), after0_11]
  rw [leavesExact_live m c t 12 (liveAt0_12 t), after0_12]
  rw [leavesExact_live m c t 13 (liveAt0_13 t), after0_13]
  rw [leavesExact_live m c t 14 (liveAt0_14 t), after0_14]
  rw [leavesExact_live m c t 15 (liveAt0_15 t), after0_15]
  rw [leavesExact_live m c t 17 (liveAt0_17 t), after0_17]
  rw [leavesExact_live m c t 19 (liveAt0_19 t), after0_19]
  rw [leavesExact_live m c t 20 (liveAt0_20 t), after0_20]
  rw [leavesExact_live m c t 21 (liveAt0_21 t), after0_21]
  simp only [before0_19_B m c t h0 h1, before0_20_B m c t h0 h1]
  generalize q19 : (outsAt0 m c (t.val - 1) (Nat.lt_of_le_of_lt (Nat.sub_le _ _) t.isLt)).2.2.2.2.2.1 = p19
  generalize q20 : (outsAt0 m c (t.val - 1) (Nat.lt_of_le_of_lt (Nat.sub_le _ _) t.isLt)).2.2.2.2.2.2.1 = p20
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, %hF16, H16⟩, ⟨%d17, H17⟩, ⟨%d18, %hF18, H18⟩, ⟨%d19, H19⟩, ⟨%d20, H20⟩, ⟨%d21, H21⟩⟩
  iapply ((runB m c t h0 h1 d16 d18 p19 p20).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexact H16
  isplitl [H17]; · iexists _; iexact H17
  isplitl [H18]; · iexact H18
  isplitl [H19]; · iexact H19
  isplitl [H20]; · iexact H20
  isplitl [H21]; · iexists _; iexact H21
  isplitl [HS0]; · iexact HS0
  iintro ⟨H0, H1, H2, H3, H4, H5, H6, H7, H8, H9, H10, H11, H12, H13, ⟨%e14, H14⟩, ⟨%e15, H15⟩, H16, ⟨%e17, H17⟩, H18, ⟨%e19, H19⟩, ⟨%e20, H20⟩, ⟨%e21, H21⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · unfold owns; iexists _; isplitr
    swap; · iexact H14
    ipureintro; exact storedB_14 m c t h0 h1 p19 p20 q19 q20 d16 d18 _ _
  isplitl [H15]
  · unfold owns; iexists _; isplitr
    swap; · iexact H15
    ipureintro; exact storedB_15 m c t h0 h1 p19 p20 q19 q20 d16 d18 _ _
  isplitl [H16]
  · iexists _; isplitr
    swap
    · unfold owns; iexists _; isplitr
      swap; · iexact H16
      ipureintro; rfl
    ipureintro; exact rowsB_16 m c t h0 h1 d16 d18 p19 p20 q19 q20 hF16
  isplitl [H17]
  · unfold owns; iexists _; isplitr
    swap; · iexact H17
    ipureintro; exact storedB_17 m c t h0 h1 p19 p20 q19 q20 d16 d18 _ _
  isplitl [H18]
  · iexists _; isplitr
    swap
    · unfold owns; iexists _; isplitr
      swap; · iexact H18
      ipureintro; rfl
    ipureintro; exact rowsB_18 m c t h0 h1 d16 d18 p19 p20 q19 q20 hF18
  isplitl [H19]
  · unfold owns; iexists _; isplitr
    swap; · iexact H19
    ipureintro; exact storedB_19 m c t h0 h1 p19 p20 q19 q20 d16 d18 _ _
  isplitl [H20]
  · unfold owns; iexists _; isplitr
    swap; · iexact H20
    ipureintro; exact storedB_20 m c t h0 h1 p19 p20 q19 q20 d16 d18 _ _
  unfold owns; iexists _; isplitr
  swap; · iexact H21
  ipureintro; exact storedB_21 m c t h0 h1 p19 p20 q19 q20 d16 d18 _ _

/-- The body at any point carries its precondition to its postcondition. -/
theorem sound_body (c : Dev nD) (t : Fin cfg0.N) :
    bodyPre m c t ⊢ wp frame (wpE (defs₀ (F := F)) Variants.none c none) Set.univ (bodyAt0 t) (fun _ => bodyPost m c t) := by
  have hN : t.val < 6 := lt_of_lt_of_eq t.isLt (show cfg0.N = 6 from N_0)
  by_cases h0 : t.val % 6 = 0
  · exact sound_A m c t h0 (by omega)
  · exact sound_B m c t h0 (by omega)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's relational body obligation, at every point. -/
theorem body_obligation (c : Dev nD) :
    Pipeline.BodyObligationRel (dats (F := F) m 0 c) (defs₀ (F := F)) Variants.none () Set.univ forgets0 (Rl m c) := fun t => by
  rw [bigSep_W0, bigSep_W0, defs₀_row]
  exact triple_restated (sound_body m c t) rfl .rfl fun _ => .rfl

/-! ## The run and the frame -/

set_option backward.isDefEq.respectTransparency.types false in
/-- THE LAUNCH: every weakly fair execution terminates; every final state has each window's array at contents the
    relational proof data allow, and every semaphore counter at zero. -/
theorem run_main_quiescent : θ_run defs (onTc (τ := τ) (main (F := F))) (s₀ m ρ)
    (fun r => (Pipeline.RDat.FramePost (cfgs 0) (fun c => (dats m 0 c).toRRel forgets0 (Rl m c)) (V m)) r ∧ r.2.sem = fun _ => 0) :=
  Pipeline.RDat.θ_run_frame (Q' := _) cfgs (0 : Fin 1) launch0 defs₀ Variants.none (fun c => (dats m 0 c).toRRel forgets0 (Rl m c)) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_ofR m ρ (fun c => (dats m 0 c).toRRel forgets0 (Rl m c)) (A_eq m)
    ((θ_run defs _ _).mono (fun _ h => h.1) (run_main_quiescent m ρ))

/-- THE FRAME: every argument array ends unchanged, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

end Cert.ActIdeal.Hand

end
-- ==== Proof.ActMath.lean ====
/- The real-number mathematics of the activation kernel, free of any program: the power-of-two exponent of a block scale
   (the kernel's binary search and the reference's floor of a base-two logarithm compute the same integer), the scale it
   stands for, and the derivative of the tanh form of GELU in the kernel's and the reference's spelling. -/
module

public import Idealize.ShloMosaic.Lib.Pointwise

@[expose] public section

noncomputable section

namespace Cert.ActMath
open Idealize.ShloMosaic

/-- Two to an integer power, as an extended real. -/
def p2 (n : ℤ) : EReal := (((2 : ℝ) ^ n : ℝ) : EReal)

theorem p2_pos (n : ℤ) : (0 : ℝ) < (2 : ℝ) ^ n := zpow_pos (by norm_num) n

theorem p2_mul (a b : ℤ) : p2 a * p2 b = p2 (a + b) := by
  unfold p2; rw [← EReal.coe_mul, zpow_add₀ (by norm_num)]

/-- The floor of the base-two logarithm. -/
def lg (r : ℝ) : ℤ := ⌊Real.log r / Real.log 2⌋

/-- The exponent of the block scale of a block whose largest magnitude, over the largest code, is `q`: zero for a zero
    block, else one above the floor of the base-two logarithm of `q`, kept between -126 and 126. -/
def expo (q : EReal) : ℤ :=
  if q = 0 then 0 else if q = ⊤ then 126 else max (-126) (min 126 (lg q.toReal + 1))

theorem expo_range (q : EReal) : -126 ≤ expo q ∧ expo q ≤ 126 := by
  unfold expo; split
  · omega
  · split
    · omega
    · omega

/-- One step of the search upward: a value of at least `2 ^ k` is divided by `2 ^ k` and the exponent raised by `k`. -/
def upM (c c' m : EReal) : EReal := Scalar.select (Ideal.cmp .oge m c) (m * c') m
def upE (c : EReal) (k : BitVec 32) (m : EReal) (e : BitVec 32) : BitVec 32 := Scalar.select (Ideal.cmp .oge m c) (e + k) e
/-- One step of the search downward: a value below `2 ^ (1 - k)` is multiplied by `2 ^ k` and the exponent lowered by `k`. -/
def dnM (c c' m : EReal) : EReal := Scalar.select (Ideal.cmp .olt m c) (m * c') m
def dnE (c : EReal) (k : BitVec 32) (m : EReal) (e : BitVec 32) : BitVec 32 := Scalar.select (Ideal.cmp .olt m c) (e - k) e

theorem select_oge (m c : EReal) {α : Type} (a b : α) : Scalar.select (Ideal.cmp .oge m c) a b = if c ≤ m then a else b := by
  unfold Scalar.select Ideal.cmp; by_cases h : c ≤ m <;> simp [h]
theorem select_olt (m c : EReal) {α : Type} (a b : α) : Scalar.select (Ideal.cmp .olt m c) a b = if m < c then a else b := by
  unfold Scalar.select Ideal.cmp; by_cases h : m < c <;> simp [h]
theorem select_oeq (m c : EReal) {α : Type} (a b : α) : Scalar.select (Ideal.cmp .oeq m c) a b = if m = c then a else b := by
  unfold Scalar.select Ideal.cmp; by_cases h : m = c <;> simp [h]

/-- What the search carries at a positive real: the value left (its base-two logarithm's floor `l`) and the exponent `e`. -/
def St (r : ℝ) (l e : ℤ) (m : EReal) (b : BitVec 32) : Prop :=
  0 < r ∧ m = (r : EReal) ∧ lg r = l ∧ b = BitVec.ofInt 32 e

theorem log_two_pos : (0 : ℝ) < Real.log 2 := Real.log_pos (by norm_num)

theorem log_mul_p2 (r : ℝ) (hr : 0 < r) (k : ℤ) : lg (r * (2 : ℝ) ^ k) = lg r + k := by
  unfold lg
  rw [Real.log_mul hr.ne' (p2_pos k).ne', Real.log_zpow, add_div, mul_div_cancel_right₀ _ log_two_pos.ne', Int.floor_add_intCast]

theorem le_p2_iff (r : ℝ) (hr : 0 < r) (k : ℤ) : p2 k ≤ (r : EReal) ↔ k ≤ lg r := by
  unfold p2 lg
  rw [EReal.coe_le_coe_iff, Int.le_floor, le_div_iff₀ log_two_pos, ← Real.log_zpow, Real.log_le_log_iff (p2_pos k) hr]

theorem up_step {r : ℝ} {l e : ℤ} {m c c' : EReal} {b kb : BitVec 32} (k : ℤ) (hc : c = p2 k) (hc' : c' = p2 (-k))
    (hk : kb = BitVec.ofInt 32 k) (h : St r l e m b) :
    ∃ r' l' e', St r' l' e' (upM c c' m) (upE c kb m b) ∧ (k ≤ l ∧ l' = l - k ∧ e' = e + k ∨ l < k ∧ l' = l ∧ e' = e) := by
  obtain ⟨hr, hm, hl, hb⟩ := h
  unfold upM upE
  rw [select_oge, select_oge]
  subst hm; subst hc; subst hb; subst hk; subst hc'
  by_cases hle : p2 k ≤ (r : EReal)
  · rw [if_pos hle, if_pos hle]
    refine ⟨r * (2 : ℝ) ^ (-k), l - k, e + k, ⟨mul_pos hr (p2_pos _), ?_, ?_, ?_⟩, Or.inl ⟨?_, rfl, rfl⟩⟩
    · unfold p2; rw [EReal.coe_mul]
    · rw [log_mul_p2 r hr, hl]; rfl
    · rw [BitVec.ofInt_add]
    · rw [← hl]; exact (le_p2_iff r hr k).mp hle
  · rw [if_neg hle, if_neg hle]
    refine ⟨r, l, e, ⟨hr, rfl, hl, rfl⟩, Or.inr ⟨?_, rfl, rfl⟩⟩
    rw [← hl]; by_contra hc; exact hle ((le_p2_iff r hr k).mpr (by omega))

theorem dn_step {r : ℝ} {l e : ℤ} {m c c' : EReal} {b kb : BitVec 32} (k : ℤ) (hc : c = p2 (1 - k)) (hc' : c' = p2 k)
    (hk : kb = BitVec.ofInt 32 k) (h : St r l e m b) :
    ∃ r' l' e', St r' l' e' (dnM c c' m) (dnE c kb m b) ∧ (l < 1 - k ∧ l' = l + k ∧ e' = e - k ∨ 1 - k ≤ l ∧ l' = l ∧ e' = e) := by
  obtain ⟨hr, hm, hl, hb⟩ := h
  unfold dnM dnE
  rw [select_olt, select_olt]
  subst hm; subst hc; subst hb; subst hk; subst hc'
  by_cases hle : p2 (1 - k) ≤ (r : EReal)
  · rw [if_neg (not_lt.mpr hle), if_neg (not_lt.mpr hle)]
    exact ⟨r, l, e, ⟨hr, rfl, hl, rfl⟩, Or.inr ⟨by rw [← hl]; exact (le_p2_iff r hr _).mp hle, rfl, rfl⟩⟩
  · rw [if_pos (not_le.mp hle), if_pos (not_le.mp hle)]
    refine ⟨r * (2 : ℝ) ^ k, l + k, e - k, ⟨mul_pos hr (p2_pos _), ?_, ?_, ?_⟩, Or.inl ⟨?_, rfl, rfl⟩⟩
    · unfold p2; rw [EReal.coe_mul]
    · rw [log_mul_p2 r hr, hl]
    · apply BitVec.eq_of_toInt_eq; simp [BitVec.toInt_ofInt, BitVec.toInt_sub]
    · rw [← hl]; by_contra hc; exact hle ((le_p2_iff r hr _).mpr (by omega))

/-- The f32 number with the bits of `n + 127` in the exponent field and zero elsewhere is two to the `n`. -/
theorem pow2_bits (n : ℤ) (h1 : -126 ≤ n) (h2 : n ≤ 126) (b : BitVec 32) (hb : b = BitVec.ofInt 32 (n + 127) <<< 23) :
    Ideal.ofBits .f32 b = p2 n := by
  have key : ∀ N : Fin 254, ((BitVec.ofNat 32 N.val <<< 23).extractLsb' 31 1 == 1#1) = false
      ∧ ((BitVec.ofNat 32 N.val <<< 23).extractLsb' 23 8).toNat = N.val ∧ ((BitVec.ofNat 32 N.val <<< 23).extractLsb' 0 23).toNat = 0 := by
    decide +kernel
  obtain ⟨N, hN⟩ : ∃ N : ℕ, n + 127 = (N : ℤ) := ⟨(n + 127).toNat, by omega⟩
  have hN1 : N ≠ 0 := by omega
  have hN2 : N < 254 := by omega
  obtain ⟨k1, k2, k3⟩ := key ⟨N, hN2⟩
  have hb' : b = BitVec.ofNat 32 N <<< 23 := by rw [hb, hN, BitVec.ofInt_natCast]
  subst hb'
  have h255 : ¬N = 255 := by omega
  have e1 : Ideal.ieee 8 23 (BitVec.ofNat 32 N <<< 23) = (((1 : ℝ) * ((2 ^ 23 + 0 : ℕ) : ℝ) * (2 : ℝ) ^ ((N : ℤ) - 127 - 23) : ℝ) : EReal) := by
    unfold Ideal.ieee
    dsimp only [Nat.reduceAdd, Nat.reduceSub, Nat.reducePow]
    rw [k1, k2, k3, if_neg h255, if_neg hN1]
    norm_num
  change Ideal.ieee 8 23 _ = _
  rw [e1]
  unfold p2
  refine congrArg _ ?_
  have hn : n = ((N : ℤ) - 127 - 23) + 23 := by omega
  rw [hn, zpow_add₀ (by norm_num)]
  norm_num
  ring

/-- The state of the search: the value left and the exponent found. -/
abbrev S := EReal × BitVec 32

def up (c c' : EReal) (k : BitVec 32) (s : S) : S := (upM c c' s.1, upE c k s.1 s.2)
def dn (c c' : EReal) (k : BitVec 32) (s : S) : S := (dnM c c' s.1, dnE c k s.1 s.2)

/-- The seven steps upward, at the powers of two the program's constants spell. -/
def ups (s : S) : S :=
  up (Ideal.ofBits .f32 0x40000000#32) (Ideal.ofBits .f32 0x3F000000#32) 1#32
    (up (Ideal.ofBits .f32 0x40800000#32) (Ideal.ofBits .f32 0x3E800000#32) 2#32
    (up (Ideal.ofBits .f32 0x41800000#32) (Ideal.ofBits .f32 0x3D800000#32) 4#32
    (up (Ideal.ofBits .f32 0x43800000#32) (Ideal.ofBits .f32 0x3B800000#32) 8#32
    (up (Ideal.ofBits .f32 0x47800000#32) (Ideal.ofBits .f32 0x37800000#32) 16#32
    (up (Ideal.ofBits .f32 0x4F800000#32) (Ideal.ofBits .f32 0x2F800000#32) 32#32
    (up (Ideal.ofBits .f32 0x5E800000#32) (Ideal.ofBits .f32 0x20800000#32) 62#32
    s))))))

/-- The seven steps downward. -/
def dns (s : S) : S :=
  dn (Ideal.ofBits .f32 0x3F800000#32) (Ideal.ofBits .f32 0x40000000#32) 1#32
    (dn (Ideal.ofBits .f32 0x3F000000#32) (Ideal.ofBits .f32 0x40800000#32) 2#32
    (dn (Ideal.ofBits .f32 0x3E000000#32) (Ideal.ofBits .f32 0x41800000#32) 4#32
    (dn (Ideal.ofBits .f32 0x3C000000#32) (Ideal.ofBits .f32 0x43800000#32) 8#32
    (dn (Ideal.ofBits .f32 0x38000000#32) (Ideal.ofBits .f32 0x47800000#32) 16#32
    (dn (Ideal.ofBits .f32 0x30000000#32) (Ideal.ofBits .f32 0x4F800000#32) 32#32
    (dn (Ideal.ofBits .f32 0x20000000#32) (Ideal.ofBits .f32 0x5F800000#32) 64#32
    s))))))

/-- The exponent the program finds: zero for zero, else one above what the two searches leave. -/
def srch (q : EReal) : BitVec 32 :=
  Scalar.select (Ideal.cmp .oeq q (Ideal.ofBits .f32 0x00000000#32)) 0#32 ((dns (ups (q, 0#32))).2 + 1#32)

/-- What the upward search keeps, of a value whose logarithm's floor was `L`, the steps left adding to `R`. -/
def UpInv (L : ℤ) (R : ℤ) (s : S) : Prop :=
  ∃ r l e, St r l e s.1 s.2 ∧ l + e = L ∧ 0 ≤ e ∧ (L < 0 → e = 0) ∧ (0 ≤ L → 0 ≤ l) ∧ (l ≤ R ∨ e = 125 - R) ∧ e ≤ 125 - R

theorem UpInv.step {L R R' : ℤ} {s : S} {c c' : EReal} {kb : BitVec 32} (k : ℤ) (hk0 : 0 < k) (hc : c = p2 k) (hc' : c' = p2 (-k))
    (hk : kb = BitVec.ofInt 32 k) (hR : R = R' + k) (hkR : k ≤ R' + 1) (h : UpInv L R s) : UpInv L R' (up c c' kb s) := by
  obtain ⟨r, l, e, hs, h1, h2, h3, h4, h5, h6⟩ := h
  obtain ⟨r', l', e', hs', hor⟩ := up_step k hc hc' hk hs
  exact ⟨r', l', e', hs', by omega, by omega, by omega, by omega, by omega, by omega⟩

/-- What the downward search keeps, of a state whose logarithm's floor and exponent add to `L`. -/
def DnInv (L : ℤ) (R : ℤ) (s : S) : Prop :=
  ∃ r l e, St r l e s.1 s.2 ∧ ((0 ≤ L ∧ 0 ≤ l ∧ e = min L 125) ∨ (L < 0 ∧ l ≤ 0 ∧ l + e = L ∧ e ≤ 0 ∧ (-l ≤ R ∨ e = -(127 - R)) ∧ -(127 - R) ≤ e))

theorem DnInv.step {L R R' : ℤ} {s : S} {c c' : EReal} {kb : BitVec 32} (k : ℤ) (hk0 : 0 < k) (hc : c = p2 (1 - k)) (hc' : c' = p2 k)
    (hk : kb = BitVec.ofInt 32 k) (hR : R = R' + k) (hkR : k ≤ R' + 1) (h : DnInv L R s) : DnInv L R' (dn c c' kb s) := by
  obtain ⟨r, l, e, hs, h1⟩ := h
  obtain ⟨r', l', e', hs', hor⟩ := dn_step k hc hc' hk hs
  exact ⟨r', l', e', hs', by omega⟩

theorem bits_p2 (n : ℤ) (b : BitVec 32) (h : (-126 ≤ n ∧ n ≤ 126) ∧ b = BitVec.ofInt 32 (n + 127) <<< 23) :
    Ideal.ofBits .f32 b = p2 n := pow2_bits n h.1.1 h.1.2 b h.2

theorem ups_inv (r : ℝ) (hr : 0 < r) : UpInv (lg r) 0 (ups ((r : EReal), 0#32)) := by
  have h : UpInv (lg r) 125 ((r : EReal), 0#32) :=
    ⟨r, lg r, 0, ⟨hr, rfl, rfl, rfl⟩, by omega, by omega, fun _ => rfl, fun h => h, by omega, by omega⟩
  unfold ups
  replace h := UpInv.step (R' := 63) 62 (by decide) (bits_p2 _ 0x5E800000#32 (by decide)) (bits_p2 _ 0x20800000#32 (by decide)) (kb := 62#32) (by decide) (by decide) (by decide) h
  replace h := UpInv.step (R' := 31) 32 (by decide) (bits_p2 _ 0x4F800000#32 (by decide)) (bits_p2 _ 0x2F800000#32 (by decide)) (kb := 32#32) (by decide) (by decide) (by decide) h
  replace h := UpInv.step (R' := 15) 16 (by decide) (bits_p2 _ 0x47800000#32 (by decide)) (bits_p2 _ 0x37800000#32 (by decide)) (kb := 16#32) (by decide) (by decide) (by decide) h
  replace h := UpInv.step (R' := 7) 8 (by decide) (bits_p2 _ 0x43800000#32 (by decide)) (bits_p2 _ 0x3B800000#32 (by decide)) (kb := 8#32) (by decide) (by decide) (by decide) h
  replace h := UpInv.step (R' := 3) 4 (by decide) (bits_p2 _ 0x41800000#32 (by decide)) (bits_p2 _ 0x3D800000#32 (by decide)) (kb := 4#32) (by decide) (by decide) (by decide) h
  replace h := UpInv.step (R' := 1) 2 (by decide) (bits_p2 _ 0x40800000#32 (by decide)) (bits_p2 _ 0x3E800000#32 (by decide)) (kb := 2#32) (by decide) (by decide) (by decide) h
  replace h := UpInv.step (R' := 0) 1 (by decide) (bits_p2 _ 0x40000000#32 (by decide)) (bits_p2 _ 0x3F000000#32 (by decide)) (kb := 1#32) (by decide) (by decide) (by decide) h
  exact h

theorem dns_inv {L : ℤ} {s : S} (h : DnInv L 127 s) : DnInv L 0 (dns s) := by
  unfold dns
  replace h := DnInv.step (R' := 63) 64 (by decide) (bits_p2 _ 0x20000000#32 (by decide)) (bits_p2 _ 0x5F800000#32 (by decide)) (kb := 64#32) (by decide) (by decide) (by decide) h
  replace h := DnInv.step (R' := 31) 32 (by decide) (bits_p2 _ 0x30000000#32 (by decide)) (bits_p2 _ 0x4F800000#32 (by decide)) (kb := 32#32) (by decide) (by decide) (by decide) h
  replace h := DnInv.step (R' := 15) 16 (by decide) (bits_p2 _ 0x38000000#32 (by decide)) (bits_p2 _ 0x47800000#32 (by decide)) (kb := 16#32) (by decide) (by decide) (by decide) h
  replace h := DnInv.step (R' := 7) 8 (by decide) (bits_p2 _ 0x3C000000#32 (by decide)) (bits_p2 _ 0x43800000#32 (by decide)) (kb := 8#32) (by decide) (by decide) (by decide) h
  replace h := DnInv.step (R' := 3) 4 (by decide) (bits_p2 _ 0x3E000000#32 (by decide)) (bits_p2 _ 0x41800000#32 (by decide)) (kb := 4#32) (by decide) (by decide) (by decide) h
  replace h := DnInv.step (R' := 1) 2 (by decide) (bits_p2 _ 0x3F000000#32 (by decide)) (bits_p2 _ 0x40800000#32 (by decide)) (kb := 2#32) (by decide) (by decide) (by decide) h
  replace h := DnInv.step (R' := 0) 1 (by decide) (bits_p2 _ 0x3F800000#32 (by decide)) (bits_p2 _ 0x40000000#32 (by decide)) (kb := 1#32) (by decide) (by decide) (by decide) h
  exact h

theorem up_top {c c' : EReal} {kb : BitVec 32} (e : BitVec 32) (k : ℤ) (hc' : c' = p2 k) : up c c' kb (⊤, e) = (⊤, e + kb) := by
  unfold up upM upE
  rw [select_oge, select_oge, if_pos le_top, if_pos le_top, hc', EReal.top_mul_of_pos (by unfold p2; exact_mod_cast p2_pos k)]

theorem dn_top {c c' : EReal} {kb : BitVec 32} (e : BitVec 32) : dn c c' kb (⊤, e) = (⊤, e) := by
  unfold dn dnM dnE
  rw [select_olt, select_olt, if_neg not_top_lt, if_neg not_top_lt]

/-- The kernel's binary search finds the exponent of the block scale, of every non-negative extended real. -/
theorem srch_eq (q : EReal) (hq : 0 ≤ q) : srch q = BitVec.ofInt 32 (expo q) := by
  have z : Ideal.ofBits .f32 0x00000000#32 = 0 := by simp [Ideal.ofBits, Ideal.ieee]
  unfold srch expo
  rw [select_oeq, z]
  by_cases h0 : q = 0
  · rw [if_pos h0, if_pos h0]; decide
  rw [if_neg h0, if_neg h0]
  by_cases ht : q = ⊤
  · rw [if_pos ht, ht]
    unfold ups dns
    rw [up_top _ _ (bits_p2 (-62) 0x20800000#32 (by decide))]
    rw [up_top _ _ (bits_p2 (-32) 0x2F800000#32 (by decide))]
    rw [up_top _ _ (bits_p2 (-16) 0x37800000#32 (by decide))]
    rw [up_top _ _ (bits_p2 (-8) 0x3B800000#32 (by decide))]
    rw [up_top _ _ (bits_p2 (-4) 0x3D800000#32 (by decide))]
    rw [up_top _ _ (bits_p2 (-2) 0x3E800000#32 (by decide))]
    rw [up_top _ _ (bits_p2 (-1) 0x3F000000#32 (by decide))]
    rw [dn_top, dn_top, dn_top, dn_top, dn_top, dn_top, dn_top]
    decide
  · rw [if_neg ht]
    obtain ⟨r, rfl⟩ : ∃ r : ℝ, q = (r : EReal) := ⟨q.toReal, (EReal.coe_toReal ht (ne_of_gt (lt_of_lt_of_le EReal.bot_lt_zero hq))).symm⟩
    have hr : 0 < r := lt_of_le_of_ne (by exact_mod_cast hq) (by rintro rfl; exact h0 rfl)
    obtain ⟨r1, l1, e1, s1, a1, a2, a3, a4, a5, a6⟩ := ups_inv r hr
    obtain ⟨r2, l2, e2, s2, b⟩ := dns_inv (L := lg r) (s := ups ((r : EReal), 0#32)) ⟨r1, l1, e1, s1, by omega⟩
    rw [s2.2.2.2, EReal.toReal_coe]
    have : e2 + 1 = max (-126) (min 126 (lg r + 1)) := by omega
    rw [← this, BitVec.ofInt_add]; rfl

/-- Two to the exponent, from the exponent's bits. -/
theorem pow2_expo (q : EReal) : Ideal.ofBits .f32 ((BitVec.ofInt 32 (expo q) + 127#32) <<< 23) = p2 (expo q) := by
  have h := expo_range q
  exact pow2_bits _ (by omega) (by omega) _ (by rw [BitVec.ofInt_add]; rfl)

/-- Two to minus the exponent, from the exponent's bits. -/
theorem pow2_neg_expo (q : EReal) : Ideal.ofBits .f32 ((0#32 - BitVec.ofInt 32 (expo q) + 127#32) <<< 23) = p2 (-expo q) := by
  have h := expo_range q
  exact pow2_bits _ (by omega) (by omega) _ (by rw [BitVec.ofInt_add, BitVec.ofInt_neg, BitVec.zero_sub]; rfl)

/-- The reference's exponent as a float: the clipped floor of the base-two logarithm plus one, zero where the block is zero. -/
theorem ref_expo (q : EReal) (hq : 0 ≤ q) :
    (if q = 0 then 0 else min ((126 : ℝ) : EReal) (max ((-126 : ℝ) : EReal)
      (Ideal.liftRound Int.floor (Ideal.div (Ideal.log q) ((Real.log 2 : ℝ) : EReal)) + 1))) = ((expo q : ℝ) : EReal) := by
  have hl2 : ((Real.log 2 : ℝ) : EReal) ≠ 0 := by exact_mod_cast log_two_pos.ne'
  unfold expo
  by_cases h0 : q = 0
  · rw [if_pos h0, if_pos h0]; simp
  rw [if_neg h0, if_neg h0]
  by_cases ht : q = ⊤
  · rw [if_pos ht, ht]
    have : Ideal.div (Ideal.log ⊤) ((Real.log 2 : ℝ) : EReal) = ⊤ := by
      unfold Ideal.div; rw [if_neg hl2, ← EReal.coe_inv]
      exact EReal.top_mul_of_pos (by exact_mod_cast inv_pos.mpr log_two_pos)
    rw [this]
    change min _ (max _ ((⊤ : EReal) + 1)) = _
    rw [EReal.top_add_of_ne_bot (by decide), max_eq_right le_top, min_eq_left le_top]; norm_num
  · rw [if_neg ht]
    obtain ⟨r, rfl⟩ : ∃ r : ℝ, q = (r : EReal) := ⟨q.toReal, (EReal.coe_toReal ht (ne_of_gt (lt_of_lt_of_le EReal.bot_lt_zero hq))).symm⟩
    have hr : 0 < r := lt_of_le_of_ne (by exact_mod_cast hq) (by rintro rfl; exact h0 rfl)
    have : Ideal.div (Ideal.log (r : EReal)) ((Real.log 2 : ℝ) : EReal) = ((Real.log r / Real.log 2 : ℝ) : EReal) := by
      unfold Ideal.div; rw [if_neg hl2]
      change (if r ≤ 0 then ⊥ else (Real.log r : EReal)) * _ = _
      rw [if_neg (not_le.mpr hr), ← EReal.coe_inv, ← EReal.coe_mul]; rfl
    rw [this, EReal.toReal_coe]
    change min _ (max _ (((lg r : ℝ) : EReal) + 1)) = _
    have e1 : (((lg r : ℝ) : EReal) + 1) = (((lg r + 1 : ℤ) : ℝ) : EReal) := by rw [show (((lg r + 1 : ℤ) : ℝ)) = (lg r : ℝ) + 1 by push_cast; ring, EReal.coe_add]; rfl
    rw [e1, ← EReal.coe_strictMono.monotone.map_max, ← EReal.coe_strictMono.monotone.map_min]
    refine congrArg _ ?_
    push_cast
    by_cases ha : (lg r : ℝ) + 1 ≤ -126
    · have : lg r + 1 ≤ -126 := by exact_mod_cast ha
      rw [max_eq_left ha, min_eq_right (by norm_num), max_eq_left (by rw [min_le_iff]; right; exact ha)]
    · rw [not_le] at ha
      rw [max_eq_right ha.le, max_eq_right (le_min (by norm_num) ha.le)]

/-- The reference's scale: `exp2` of the exponent. -/
theorem exp2_coe (n : ℤ) : Ideal.exp2 (((n : ℝ)) : EReal) = p2 n := by
  change ((Real.rpow 2 (n : ℝ) : ℝ) : EReal) = _
  unfold p2; congr 1; exact Real.rpow_intCast 2 n

end Cert.ActMath

end
-- ==== Proof.ActSpec.lean ====
/- The values of the activation kernel, written once over the extended reals, free of any program: what a row of a block
   is taken to by the layer norm and by the quantisation with one power-of-two scale for a row. -/
module

public import proofs.«01_k».proof.Proof.ActMath

@[expose] public section

noncomputable section

namespace Cert.ActMath
open Idealize.ShloMosaic

/-- The magnitude. -/
def aab (x : EReal) : EReal := max x (-x)

/-- A row less its mean. -/
def xc (X : Fin 1280 → EReal) (d : Fin 1280) : EReal := X d - (∑ k, X k) * ((1 / 1280 : ℝ) : EReal)

/-- The reciprocal standard deviation of a row. -/
def rstd (X : Fin 1280 → EReal) : EReal :=
  Ideal.rsqrt ((∑ k, xc X k * xc X k) * ((1 / 1280 : ℝ) : EReal) + Ideal.ofBits .f32 0x3727C5AC#32)

/-- A row normalised. -/
def xh (X : Fin 1280 → EReal) (d : Fin 1280) : EReal := xc X d * rstd X

/-- The largest magnitude of the normalised row over the largest code, 448. -/
def xq (X : Fin 1280 → EReal) : EReal :=
  (Finset.univ.sup fun d => aab (xh X d)) * Ideal.ofBits .f32 0x3B124925#32

/-- The code of an entry of the normalised row. -/
def xcode (X : Fin 1280 → EReal) (d : Fin 1280) : EReal :=
  min (Ideal.ofBits .f32 0x43E00000#32) (max (Ideal.ofBits .f32 0xC3E00000#32) (xh X d * p2 (-expo (xq X))))

/-- The scale of the normalised row. -/
def xscale (X : Fin 1280 → EReal) : EReal := p2 (expo (xq X))

theorem absf_nonneg (x : EReal) : 0 ≤ aab x := by
  change 0 ≤ max x (-x)
  rcases le_total 0 x with h | h
  · exact le_max_of_le_left h
  · exact le_max_of_le_right (EReal.neg_nonneg.mpr h)

theorem sup_nonneg {n : ℕ} [NeZero n] (f : Fin n → EReal) (h : ∀ i, 0 ≤ f i) : 0 ≤ Finset.univ.sup f :=
  (h 0).trans (Finset.le_sup (f := f) (Finset.mem_univ 0))

/-- A maximum reduction from minus infinity is the supremum. -/
theorem fold_max_bot {n : ℕ} (f : Fin n → EReal) : Finset.univ.fold max (Ideal.ofBits .f32 0xFF800000#32) f = Finset.univ.sup f := by
  have h : Ideal.ofBits .f32 0xFF800000#32 = ⊥ := by simp [Ideal.ofBits, Ideal.ieee]
  rw [h]; rfl

theorem lit_zero : Ideal.ofBits .f32 0x00000000#32 = 0 := by simp [Ideal.ofBits, Ideal.ieee]
theorem lit_one : Ideal.ofBits .f32 0x3F800000#32 = 1 := by
  rw [bits_p2 0 _ (by decide)]; unfold p2; norm_num
theorem lit_half : Ideal.ofBits .f32 0x3F000000#32 = ((1 / 2 : ℝ) : EReal) := by
  rw [bits_p2 (-1) _ (by decide)]; unfold p2; norm_num
theorem lit_1280 : Ideal.ofBits .f32 0x44A00000#32 = ((1280 : ℝ) : EReal) := by
  simp [Ideal.ofBits, Ideal.ieee, -EReal.coe_mul]; norm_num
theorem lit_126 : Ideal.ofBits .f32 0x42FC0000#32 = ((126 : ℝ) : EReal) := by
  simp [Ideal.ofBits, Ideal.ieee, -EReal.coe_mul]; norm_num
theorem lit_neg126 : Ideal.ofBits .f32 0xC2FC0000#32 = ((-126 : ℝ) : EReal) := by
  simp [Ideal.ofBits, Ideal.ieee, -EReal.coe_mul]; norm_num
theorem lit_448 : ∃ r : ℝ, 0 < r ∧ Ideal.ofBits .f32 0x3B124925#32 = (r : EReal) := by
  refine ⟨_, ?_, by simp only [Ideal.ofBits, Ideal.ieee]; simp [-EReal.coe_mul]; rfl⟩; norm_num
theorem lit_57344 : ∃ r : ℝ, 0 < r ∧ Ideal.ofBits .f32 0x37924925#32 = (r : EReal) := by
  refine ⟨_, ?_, by simp only [Ideal.ofBits, Ideal.ieee]; simp [-EReal.coe_mul]; rfl⟩; norm_num

theorem div_1280 (x : EReal) : Ideal.div x ((1280 : ℝ) : EReal) = x * ((1 / 1280 : ℝ) : EReal) := by
  unfold Ideal.div
  rw [if_neg (by exact_mod_cast (by norm_num : (1280 : ℝ) ≠ 0)), ← EReal.coe_inv]
  norm_num

/-- A product with a positive real is zero only where the other factor is, and keeps its sign. -/
theorem mul_lit_eq_zero {c : EReal} (hc : ∃ r : ℝ, 0 < r ∧ c = (r : EReal)) (x : EReal) : x * c = 0 ↔ x = 0 := by
  obtain ⟨r, hr, rfl⟩ := hc
  have : ((r : ℝ) : EReal) ≠ 0 := by exact_mod_cast hr.ne'
  rw [mul_eq_zero]; exact ⟨fun h => h.resolve_right this, Or.inl⟩
theorem mul_lit_nonneg {c : EReal} (hc : ∃ r : ℝ, 0 < r ∧ c = (r : EReal)) {x : EReal} (h : 0 ≤ x) : 0 ≤ x * c := by
  obtain ⟨r, hr, rfl⟩ := hc
  exact mul_nonneg h (by exact_mod_cast hr.le)

theorem xq_nonneg (X : Fin 1280 → EReal) : 0 ≤ xq X :=
  mul_lit_nonneg lit_448 (sup_nonneg _ fun d => absf_nonneg _)

/-- The reference's exponent as it is spelt: the clipped floor of the logarithm, selected to zero where the largest
    magnitude `m` is zero, `c` the positive factor that takes `m` to `q`. -/
theorem ref_select {c : EReal} (hc : ∃ r : ℝ, 0 < r ∧ c = (r : EReal)) (m : EReal) (hm : 0 ≤ m) :
    Scalar.select (Ideal.cmp .oeq m (Ideal.ofBits .f32 0x00000000#32)) (Ideal.ofBits .f32 0x00000000#32)
      (min (Ideal.ofBits .f32 0x42FC0000#32) (max (Ideal.ofBits .f32 0xC2FC0000#32)
        (Ideal.liftRound Int.floor (Ideal.div (Ideal.log (m * c)) ((Real.log 2 : ℝ) : EReal)) + Ideal.ofBits .f32 0x3F800000#32)))
      = ((expo (m * c) : ℝ) : EReal) := by
  rw [select_oeq, lit_zero, lit_126, lit_neg126, lit_one, ← ref_expo (m * c) (mul_lit_nonneg hc hm)]
  simp only [mul_lit_eq_zero hc]

/-! Elementwise operations at an entry, over the extended reals. -/

variable {s : Shape}

theorem cmpf_at (p : CmpFPredicate) (a b : FVec Ideal s .f32) (y : s.Idx) : cmpf p a b y = Ideal.cmp p (a y) (b y) := rfl
theorem bcast_at {α : Type} (v : α) (y : s.Idx) : broadcast s v y = v := rfl
theorem ofBits_at (w : BitVec 32) : (Scalar.ofBits .f32 w : Ideal .f32) = Ideal.ofBits .f32 w := rfl
theorem mulf_at {φ : FTy} (a b : FVec Ideal s φ) (y : s.Idx) : mulf a b y = ((a y : EReal) * (b y : EReal)) := rfl
theorem addf_at {φ : FTy} (a b : FVec Ideal s φ) (y : s.Idx) : addf a b y = ((a y : EReal) + (b y : EReal)) := rfl
theorem subf_at {φ : FTy} (a b : FVec Ideal s φ) (y : s.Idx) : subf a b y = ((a y : EReal) - (b y : EReal)) := rfl
theorem divf_at {φ : FTy} (a b : FVec Ideal s φ) (y : s.Idx) : divf a b y = Ideal.div (a y) (b y) := rfl
theorem maximumf_at {φ : FTy} (a b : FVec Ideal s φ) (y : s.Idx) : maximumf a b y = max (a y : EReal) (b y) := rfl
theorem minimumf_at {φ : FTy} (a b : FVec Ideal s φ) (y : s.Idx) : minimumf a b y = min (a y : EReal) (b y) := rfl
theorem log_at {φ : FTy} (a : FVec Ideal s φ) (y : s.Idx) : log a y = Ideal.log (a y) := rfl
theorem exp2_at {φ : FTy} (a : FVec Ideal s φ) (y : s.Idx) : exp2 a y = Ideal.exp2 (a y) := rfl
theorem tanh_at {φ : FTy} (a : FVec Ideal s φ) (y : s.Idx) : tanh a y = Ideal.tanh (a y) := rfl
theorem floor_at {φ : FTy} (a : FVec Ideal s φ) (y : s.Idx) : floor a y = Ideal.liftRound Int.floor (a y) := rfl
theorem absf_at {φ : FTy} (a : FVec Ideal s φ) (y : s.Idx) : absf a y = aab (a y) := rfl
theorem select_at {α : Type} (c : IVec s 1) (a b : s.Idx → α) (y : s.Idx) : select c a b y = Scalar.select (c y) (a y) (b y) := rfl
theorem truncf_at {φ φ' : FTy} (a : FVec Ideal s φ) (h) (y : s.Idx) : truncf φ' a h y = (a y : EReal) := rfl
theorem extf_at {φ φ' : FTy} (a : FVec Ideal s φ) (h) (y : s.Idx) : extf φ' a h y = (a y : EReal) := rfl

end Cert.ActMath

end
-- ==== Proof.ActSearch.lean ====
/- The binary search for the exponent of a block scale as the activation kernel's body spells it on whole vectors, and
   the two scales it finds: at every entry it is the scalar search, hence the exponent of the specification. -/
module

public import proofs.«01_k».proof.Proof.ActSpec
public import proofs.«01_k».proof.Proof.ActRunA
public import proofs.«01_k».proof.Proof.ActRunB
public import Idealize.ShloMosaic.Lib.Pointwise

@[expose] public section

set_option maxRecDepth 16384

noncomputable section

namespace Cert.ActIdeal.Hand

open Cert.ActIdeal Cert.ActIdeal.Gen Cert.ActMath
open Idealize.ShloMosaic Idealize.ShloMosaic.Tactic

/-- The search's state over a vector: the values left and the exponents found. -/
abbrev SV (s : Shape) := FVec Ideal s .f32 × IVec s 32

/-- A step upward, and a step downward, over a vector. -/
def upV {s : Shape} (c c' k : BitVec 32) (st : SV s) : SV s :=
  (select (cmpf .oge st.1 (broadcast s (Ideal.ofBits .f32 c))) (mulf st.1 (broadcast s (Ideal.ofBits .f32 c'))) st.1,
    select (cmpf .oge st.1 (broadcast s (Ideal.ofBits .f32 c))) (addi st.2 (broadcast s k)) st.2)
def dnV {s : Shape} (c c' k : BitVec 32) (st : SV s) : SV s :=
  (select (cmpf .olt st.1 (broadcast s (Ideal.ofBits .f32 c))) (mulf st.1 (broadcast s (Ideal.ofBits .f32 c'))) st.1,
    select (cmpf .olt st.1 (broadcast s (Ideal.ofBits .f32 c))) (subi st.2 (broadcast s k)) st.2)

def upsV {s : Shape} (st : SV s) : SV s :=
  upV 0x40000000#32 0x3F000000#32 1#32
    (upV 0x40800000#32 0x3E800000#32 2#32
    (upV 0x41800000#32 0x3D800000#32 4#32
    (upV 0x43800000#32 0x3B800000#32 8#32
    (upV 0x47800000#32 0x37800000#32 16#32
    (upV 0x4F800000#32 0x2F800000#32 32#32
    (upV 0x5E800000#32 0x20800000#32 62#32
    st))))))

def dnsV {s : Shape} (st : SV s) : SV s :=
  dnV 0x3F800000#32 0x40000000#32 1#32
    (dnV 0x3F000000#32 0x40800000#32 2#32
    (dnV 0x3E000000#32 0x41800000#32 4#32
    (dnV 0x3C000000#32 0x43800000#32 8#32
    (dnV 0x38000000#32 0x47800000#32 16#32
    (dnV 0x30000000#32 0x4F800000#32 32#32
    (dnV 0x20000000#32 0x5F800000#32 64#32
    st))))))

/-- The exponents the body finds for a vector of quotients. -/
def srchV {s : Shape} (q : FVec Ideal s .f32) : IVec s 32 :=
  select (cmpf .oeq q (broadcast s (Ideal.ofBits .f32 0x00000000#32))) (broadcast s 0#32)
    (addi (dnsV (upsV (q, broadcast s 0#32))).2 (broadcast s 1#32))

/-- The state at an entry. -/
def at_ {s : Shape} (y : s.Idx) (st : SV s) : S := (st.1 y, st.2 y)

theorem at_upV {s : Shape} (c c' k : BitVec 32) (st : SV s) (y : s.Idx) :
    at_ y (upV c c' k st) = up (Ideal.ofBits .f32 c) (Ideal.ofBits .f32 c') k (at_ y st) := rfl
theorem at_dnV {s : Shape} (c c' k : BitVec 32) (st : SV s) (y : s.Idx) :
    at_ y (dnV c c' k st) = dn (Ideal.ofBits .f32 c) (Ideal.ofBits .f32 c') k (at_ y st) := rfl

/-- The vector search at an entry is the scalar search. -/
theorem srchV_at {s : Shape} (q : FVec Ideal s .f32) (y : s.Idx) : srchV q y = srch (q y) := by
  have h : at_ y (dnsV (upsV (q, broadcast s 0#32))) = dns (ups (q y, 0#32)) := by
    unfold dnsV upsV dns ups
    simp only [at_upV, at_dnV]
    rfl
  unfold srchV srch
  rw [← h]
  generalize dnsV (upsV (q, broadcast s 0#32)) = z
  rfl

/-- The scale of the exponents found, and its reciprocal. -/
def pw {s : Shape} (q : FVec Ideal s .f32) : FVec Ideal s .f32 :=
  bitcastToFloat .f32 (shli (addi (srchV q) (broadcast s 127#32)) (broadcast s 23#32))
def pwn {s : Shape} (q : FVec Ideal s .f32) : FVec Ideal s .f32 :=
  bitcastToFloat .f32 (shli (addi (subi (broadcast s 0#32) (srchV q)) (broadcast s 127#32)) (broadcast s 23#32))

theorem pw_at {s : Shape} (q : FVec Ideal s .f32) (y : s.Idx) (hq : 0 ≤ q y) : pw q y = p2 (expo (q y)) := by
  have e : pw q y = Ideal.ofBits .f32 ((srchV q y + 127#32) <<< 23) := rfl
  rw [e, srchV_at, srch_eq _ hq, pow2_expo]
theorem pwn_at {s : Shape} (q : FVec Ideal s .f32) (y : s.Idx) (hq : 0 ≤ q y) : pwn q y = p2 (-expo (q y)) := by
  have e : pwn q y = Ideal.ofBits .f32 ((0#32 - srchV q y + 127#32) <<< 23) := rfl
  rw [e, srchV_at, srch_eq _ hq, pow2_neg_expo]

variable (c : Dev nD) (m4 : Memref sig .tc .vmem S1x256x1280 .bf16) (h4 : m4.IsWhole) (x4 : Vec Ideal S1x256x1280 .bf16)

theorem srchA_x : kernelRun0_A.sl.v154 (F := Ideal) c m4 h4 x4 = srchV (kernelRun0_A.sl.r_5 c m4 h4 x4) := by sl_kernel_rfl
theorem scaleA_x : kernelRun0_A.sl.v159 (F := Ideal) c m4 h4 x4 = pw (kernelRun0_A.sl.r_5 c m4 h4 x4) := by sl_kernel_rfl
theorem scalenA_x : kernelRun0_A.sl.v168 (F := Ideal) c m4 h4 x4 = pwn (kernelRun0_A.sl.r_5 c m4 h4 x4) := by sl_kernel_rfl
theorem AB_x : kernelRun0_B.sl.v168 (F := Ideal) c m4 h4 x4 = kernelRun0_A.sl.v168 (F := Ideal) c m4 h4 x4 := by sl_kernel_rfl

end Cert.ActIdeal.Hand

end
-- ==== Proof.ActLn.lean ====
/- The layer norm and the quantisation of the normalised rows by the activation kernel, over the extended reals: each
   value the body computes, read at an entry, is the specification's. -/
module

public import proofs.«01_k».proof.Proof.ActSpec
public import proofs.«01_k».proof.Proof.Gen.ActIdeal.Skeleton

@[expose] public section

set_option maxRecDepth 16384

noncomputable section

namespace Cert.ActIdeal.Hand

open Cert.ActIdeal Cert.ActIdeal.Gen Cert.ActMath
open Idealize.ShloMosaic Idealize.ShloMosaic.Tactic

theorem inv_d : (Named.named (F := Ideal) (φ := .f32) κ "inv_d" 0x3A4CCCCD#32 : EReal) = ((1 / 1280 : ℝ) : EReal) :=
  IdealRules.named_const.ideal_named_scalar _ _ _ _ rfl

/-- Row `s` of a block of rows. -/
abbrev rowX (x : FVec Ideal S1x256x1280 .bf16) (s : Fin 256) : Fin 1280 → EReal := fun d => x (ix3 0 s d)

theorem pay5_at (x : FVec Ideal S1x256x1280 .bf16) (s : Fin 256) (d : Fin 1280) :
    k0_pay5 (F := Ideal) x (ix2 s d) = xc (rowX x s) d := by
  pointwise [k0_pay5, xc, inv_d]
theorem pay6_at (x : FVec Ideal S1x256x1280 .bf16) (s : Fin 256) :
    k0_pay6 (F := Ideal) x (ix2 s 0) = rstd (rowX x s) := by
  unfold k0_pay6
  pointwise [pay5_at, rstd, inv_d]
theorem pay7_at (x : FVec Ideal S1x256x1280 .bf16) (s : Fin 256) (d : Fin 1280) :
    k0_pay7 (F := Ideal) x (ix2 s d) = xh (rowX x s) d := by
  unfold k0_pay7
  pointwise [pay5_at, pay6_at, xh]
theorem pay8_at (x : FVec Ideal S1x256x1280 .bf16) (s : Fin 256) :
    k0_pay8 (F := Ideal) x (ix2 s 0) = xq (rowX x s) := by
  unfold k0_pay8
  pointwise [pay7_at, xq]
  rw [fold_max_bot]; rfl

end Cert.ActIdeal.Hand

end
-- ==== Proof.ActVal15.lean ====
/- What the body leaves of the normalised activations: the codes block and the row of scales, entry by entry. -/
module

public import proofs.«01_k».proof.Proof.ActOuts
public import proofs.«01_k».proof.Proof.ActSearch
public import proofs.«01_k».proof.Proof.ActLn
public import Idealize.ShloMosaic.Lib.WholeRead

@[expose] public section

set_option maxRecDepth 16384

noncomputable section

namespace Cert.ActIdeal.Hand

open Cert.ActIdeal Cert.ActIdeal.Gen Cert.ActMath
open Idealize.ShloMosaic Idealize.ShloMosaic.TcCoe Idealize.ShloMosaic.Tactic

/-- A load of the whole of a memref held at `X` is `X`. -/
theorem readAt_all {sig : RefSig} {κ : Kind} {sp : Space} {Val : EltTy → Type} {s : Shape} {e : EltTy} {m : Memref sig κ sp s e}
    (h : m.IsWhole) (X : s.Idx → Val e) {off : Fin s.rank → ℕ} (ho : off = fun _ => 0) (inb : ∀ a, off a + s.size a ≤ s.size a) :
    View.readAt Val m.view (Rect.unit (s := s) off s.size inb).toLoadRect (h.unread X) = X := by
  subst ho
  funext x
  rw [h.readAt_unread]
  refine congrArg X (funext fun a => Fin.ext ?_)
  simp [Rect.toLoadRect, LoadRect.idx, Rect.unit]

section
variable (c : Dev nD) (m4 : Memref sig .tc .vmem S1x256x1280 .bf16) (h4 : m4.IsWhole) (x4 : Vec Ideal S1x256x1280 .bf16)

theorem r5_eq : kernelRun0_A.sl.r_5 (F := Ideal) c m4 h4 x4 = k0_pay8 x4 := by
  have e : kernelRun0_A.sl.r_5 (F := Ideal) c m4 h4 x4 = k0_pay8 (View.readAt (Elt Ideal) m4.view
      (Rect.unit (s := S1x256x1280) ![0, 0, 0] S1x256x1280.size inb_S1x256x1280_S1x256x1280_0_0_0).toLoadRect (h4.unread x4)) := by sl_kernel_rfl
  rw [e, readAt_all h4 x4 (by decide)]

theorem v172_eq : kernelRun0_A.sl.v172 (F := Ideal) c m4 h4 x4
    = maximumf (broadcast S256x1280 (Scalar.ofBits .f32 0xC3E00000#32)) (mulf (k0_pay7 x4)
        (broadcastTo S256x1280 (pwn (k0_pay8 x4)) broadcasts_S256x1_S256x1280)) := by
  have e : kernelRun0_A.sl.v172 (F := Ideal) c m4 h4 x4 = maximumf (broadcast S256x1280 (Scalar.ofBits .f32 0xC3E00000#32))
      (mulf (k0_pay7 (View.readAt (Elt Ideal) m4.view
      (Rect.unit (s := S1x256x1280) ![0, 0, 0] S1x256x1280.size inb_S1x256x1280_S1x256x1280_0_0_0).toLoadRect (h4.unread x4)))
        (broadcastTo S256x1280 (kernelRun0_A.sl.v168 (F := Ideal) c m4 h4 x4) broadcasts_S256x1_S256x1280)) := by sl_kernel_rfl
  rw [e, scalenA_x, r5_eq, readAt_all h4 x4 (by decide)]

theorem v161_eq : kernelRun0_A.sl.v161 (F := Ideal) c m4 h4 x4
    = broadcastTo S256x128 (shapeCast S256x1 (pw (k0_pay8 x4)) shapeCasts_S256x1_S256x1) broadcasts_S256x1_S256x128 := by
  have e : kernelRun0_A.sl.v161 (F := Ideal) c m4 h4 x4
      = broadcastTo S256x128 (shapeCast S256x1 (kernelRun0_A.sl.v159 (F := Ideal) c m4 h4 x4) shapeCasts_S256x1_S256x1) broadcasts_S256x1_S256x128 := by
    sl_kernel_rfl
  rw [e, scaleA_x, r5_eq]

theorem v172_B : kernelRun0_B.sl.v172 (F := Ideal) c m4 h4 x4 = kernelRun0_A.sl.v172 c m4 h4 x4 := by sl_kernel_rfl
theorem v173_B : kernelRun0_B.sl.v173 (F := Ideal) = kernelRun0_A.sl.v173 := by sl_kernel_rfl
theorem v161_B : kernelRun0_B.sl.v161 (F := Ideal) c m4 h4 x4 = kernelRun0_A.sl.v161 c m4 h4 x4 := by sl_kernel_rfl
theorem v173_eq : kernelRun0_A.sl.v173 (F := Ideal) = broadcast S256x1280 (Scalar.ofBits .f32 0x43E00000#32) := by sl_kernel_rfl
end

theorem bc1280 (v : FVec Ideal S256x1 .f32) (s : Fin 256) (d : Fin 1280) :
    broadcastTo S256x1280 v broadcasts_S256x1_S256x1280 (ix2 s d) = v (ix2 s 0) := by pointwise []
theorem bc128 (v : FVec Ideal S256x1 .f32) (s : Fin 256) (d : Fin 128) :
    broadcastTo S256x128 (shapeCast S256x1 v shapeCasts_S256x1_S256x1) broadcasts_S256x1_S256x128 (ix2 s d) = v (ix2 s 0) := by pointwise []
theorem pay42_at (a b : FVec Ideal S256x1280 .f32) (s : Fin 256) (d : Fin 1280) :
    k0_pay42 (F := Ideal) a b (ix3 0 s d) = min (b (ix2 s d) : EReal) (a (ix2 s d)) := by
  pointwise [k0_pay42, k0_pay41]
theorem pay43_at (v : FVec Ideal S256x128 .f32) (s : Fin 256) :
    k0_pay43 (F := Ideal) v (ix2 0 s) = v (ix2 s 0) := by
  pointwise [k0_pay43]

/-- The codes stored are the specification's, row by row. -/
theorem xcodes (c : Dev nD) (m4 : Memref sig .tc .vmem S1x256x1280 .bf16) (h4 : m4.IsWhole) (x4 : Vec Ideal S1x256x1280 .bf16)
    (s : Fin 256) (d : Fin 1280) :
    k0_pay42 (F := Ideal) (kernelRun0_A.sl.v172 c m4 h4 x4) kernelRun0_A.sl.v173 (ix3 0 s d) = xcode (rowX x4 s) d := by
  rw [pay42_at, v172_eq, v173_eq, maximumf_at, mulf_at, bc1280, pwn_at _ _ (by rw [pay8_at]; exact xq_nonneg _), pay7_at, pay8_at]
  rfl
/-- The scales stored are the specification's. -/
theorem xscales (c : Dev nD) (m4 : Memref sig .tc .vmem S1x256x1280 .bf16) (h4 : m4.IsWhole) (x4 : Vec Ideal S1x256x1280 .bf16)
    (s : Fin 256) :
    k0_pay43 (F := Ideal) (kernelRun0_A.sl.v161 c m4 h4 x4) (ix2 0 s) = xscale (rowX x4 s) := by
  rw [pay43_at, v161_eq, bc128, pw_at _ _ (by rw [pay8_at]; exact xq_nonneg _), pay8_at]
  rfl

variable (m : (ℓ : Loc nD τ sig) → Buf (Elt Ideal) ℓ)

/-- A store of a whole block, read back. -/
theorem whole_15 (w : Vec Ideal S1x256x1280 .fp8e4m3) (s : Fin 256) (d : Fin 1280) :
    VO0_15.read (Elt Ideal) (VO0_15.writes (Elt Ideal) VO0_15.junk [⟨Rect.unit (s := S1x256x1280) ![0, 0, 0] ![1, 256, 1280] inb_S1x256x1280_S1x256x1280_0_0_0, w⟩]) (ix3 0 s d)
      = w (ix3 0 s d) :=
  View.read_writes_cons_unit_of_mem VO0_15 _ _ w [] (ix3 0 s d) (ix3 0 s d) rfl (by
    intro a; exact (by fin_cases a <;> simp))

theorem out_15 (c : Dev nD) (t : Fin cfg0.N) (s : Fin 256) (d : Fin 1280) :
    (outsAt0 m c t.val t.isLt).2.1 (ix3 0 s d) = xcode (rowX (iblk m c 4 t) s) d := by
  by_cases h1 : 1 ≤ t.val
  · have h0 : ¬t.val % 6 = 0 := by have := t.isLt; have e : cfg0.N = 6 := rfl; omega
    rw [outsAt0_B m c t h0 h1, outB_15, pcsB_15, whole_15, v172_B, v173_B, xcodes]
  · have h0 : t.val % 6 = 0 := by omega
    rw [outsAt0_A m c t h0 h1, outA_15, pcsA_15, whole_15, xcodes]

theorem out_16 (c : Dev nD) (t : Fin cfg0.N) (r : Fin 6) (hr : r.val = t.val) (s : Fin 256) :
    (outsAt0 m c t.val t.isLt).2.2.1 (ix2 r s) = xscale (rowX (iblk m c 4 t) s) := by
  by_cases h1 : 1 ≤ t.val
  · have h0 : ¬t.val % 6 = 0 := by have := t.isLt; have e : cfg0.N = 6 := rfl; omega
    rw [outsAt0_B m c t h0 h1, outB_16, rowB_16 m c t h0 h1 _ _ _ _ _ _ r s hr, v161_B, xscales]
  · have h0 : t.val % 6 = 0 := by omega
    rw [outsAt0_A m c t h0 h1, outA_16, rowA_16 m c t h0 h1 _ _ _ _ r s hr, xscales]

end Cert.ActIdeal.Hand

end
-- ==== Proof.ActDaSpec.lean ====
/- The specification of the gradient of the activation, quantised row by row, over the extended reals: the gradient through
   the output product, times its row scale, times the derivative of the tanh-approximated GELU; and the two identities
   that let half of the derivative be kept back in the row scale. -/
module

public import proofs.«01_k».proof.Proof.ActSpec

@[expose] public section

noncomputable section

namespace Cert.ActMath

open Idealize.ShloMosaic

/-- The two constants of the tanh-approximated GELU. -/
def gC : ℝ := 3989422804014327 / 5000000000000000
def gA : ℝ := 8943 / 200000

/-- The tangent term, factored. -/
def tK (a : EReal) : EReal := Ideal.tanh (a * ((gC : EReal) + ((gC * gA : ℝ) : EReal) * (a * a)))
/-- Twice the derivative of GELU, factored. -/
def gK (a : EReal) : EReal :=
  (1 + tK a) * (1 + a * ((gC : EReal) + ((3 * gC * gA : ℝ) : EReal) * (a * a)) * (1 - tK a))

/-- The tangent term. -/
def tR (a : EReal) : EReal := Ideal.tanh ((gC : EReal) * (a + (gA : EReal) * a * a * a))
/-- The derivative of the tanh-approximated GELU. -/
def gelu (a : EReal) : EReal :=
  ((1 / 2 : ℝ) : EReal) * (1 + tR a)
    + ((1 / 2 : ℝ) : EReal) * a * (1 - tR a * tR a) * (gC : EReal) * (1 + ((3 * gA : ℝ) : EReal) * a * a)

theorem gC_pos : 0 < gC := by unfold gC; norm_num
theorem gA_pos : 0 < gA := by unfold gA; norm_num

/-- Half of the factored form is the derivative, at every extended real. -/
theorem half_gK (a : EReal) : gK a * ((1 / 2 : ℝ) : EReal) = gelu a := by
  have hC : (gC : EReal) * ⊤ = ⊤ := EReal.coe_mul_top_of_pos gC_pos
  have hC' : (gC : EReal) * ⊥ = ⊥ := EReal.coe_mul_bot_of_pos gC_pos
  have hCA : ((gC * gA : ℝ) : EReal) * ⊤ = ⊤ := EReal.coe_mul_top_of_pos (mul_pos gC_pos gA_pos)
  have h3 : ((3 * gC * gA : ℝ) : EReal) * ⊤ = ⊤ := EReal.coe_mul_top_of_pos (by have := gC_pos; have := gA_pos; positivity)
  have hA : (gA : EReal) * ⊤ = ⊤ := EReal.coe_mul_top_of_pos gA_pos
  have hA' : (gA : EReal) * ⊥ = ⊥ := EReal.coe_mul_bot_of_pos gA_pos
  have one : (1 : EReal) - 1 = 0 := by
    have : ((1 : ℝ) : EReal) - ((1 : ℝ) : EReal) = ((1 - 1 : ℝ) : EReal) := (EReal.coe_sub 1 1).symm
    simpa using this
  have mone : (1 : EReal) + -1 = 0 := by rw [← sub_eq_add_neg]; exact one
  have two : ((1 : EReal) + 1) = ((2 : ℝ) : EReal) := by
    have : ((1 : ℝ) : EReal) + ((1 : ℝ) : EReal) = ((1 + 1 : ℝ) : EReal) := (EReal.coe_add 1 1).symm
    rw [EReal.coe_one] at this; rw [this]; norm_num
  induction a with
  | bot =>
    have e1 : tK ⊥ = -1 := by
      unfold tK
      rw [EReal.bot_mul_bot, hCA, EReal.coe_add_top, EReal.bot_mul_top]; rfl
    have e2 : tR ⊥ = -1 := by
      unfold tR
      rw [hA', EReal.bot_mul_bot, EReal.top_mul_bot, EReal.bot_add, hC']; rfl
    unfold gK gelu
    rw [e1, e2, mone]
    simp [one]
  | top =>
    have e1 : tK ⊤ = 1 := by
      unfold tK
      rw [EReal.top_mul_top, hCA, EReal.coe_add_top, EReal.top_mul_top]; rfl
    have e2 : tR ⊤ = 1 := by
      unfold tR
      rw [hA, EReal.top_mul_top, EReal.top_mul_top, EReal.top_add_top, hC]; rfl
    unfold gK gelu
    rw [e1, e2, one, mul_one, one, two]
    simp only [mul_zero, zero_mul, add_zero, mul_one]
    rw [mul_comm]
  | coe a =>
    have e : tK (a : EReal) = ((Real.tanh (gC * (a + gA * a * a * a)) : ℝ) : EReal) := by
      unfold tK
      rw [← EReal.coe_mul, ← EReal.coe_mul, ← EReal.coe_add, ← EReal.coe_mul]
      have : a * (gC + gC * gA * (a * a)) = gC * (a + gA * a * a * a) := by ring
      rw [this]; rfl
    have e' : tR (a : EReal) = ((Real.tanh (gC * (a + gA * a * a * a)) : ℝ) : EReal) := by
      unfold tR
      rw [← EReal.coe_mul, ← EReal.coe_mul, ← EReal.coe_mul, ← EReal.coe_add, ← EReal.coe_mul]; rfl
    unfold gK gelu
    rw [e, e']
    generalize Real.tanh (gC * (a + gA * a * a * a)) = t
    rw [← EReal.coe_one]
    simp only [← EReal.coe_mul, ← EReal.coe_add, ← EReal.coe_sub]
    congr 1
    ring

/-- The gradient through the output product at hidden unit `j`. -/
def dgS (dy so : Fin 1280 → EReal) (w : Fin 5120 → Fin 1280 → EReal) (j : Fin 5120) : EReal := ∑ d, dy d * (w j d * so d)

/-- One row of the gradient of the activation. -/
def da (dy so : Fin 1280 → EReal) (w : Fin 5120 → Fin 1280 → EReal) (a : Fin 5120 → EReal) (asc dys : EReal) (j : Fin 5120) : EReal :=
  dgS dy so w j * dys * gelu (a j * asc)

/-- The largest magnitude of the row over the largest code, 57344. -/
def daq (dy so : Fin 1280 → EReal) (w : Fin 5120 → Fin 1280 → EReal) (a : Fin 5120 → EReal) (asc dys : EReal) : EReal :=
  (Finset.univ.sup fun j => aab (da dy so w a asc dys j)) * Ideal.ofBits .f32 0x37924925#32

/-- The code of an entry of the row. -/
def dacode (dy so : Fin 1280 → EReal) (w : Fin 5120 → Fin 1280 → EReal) (a : Fin 5120 → EReal) (asc dys : EReal) (j : Fin 5120) : EReal :=
  min (Ideal.ofBits .f32 0x47600000#32) (max (Ideal.ofBits .f32 0xC7600000#32)
    (da dy so w a asc dys j * p2 (-expo (daq dy so w a asc dys))))

/-- The scale of the row. -/
def dascale (dy so : Fin 1280 → EReal) (w : Fin 5120 → Fin 1280 → EReal) (a : Fin 5120 → EReal) (asc dys : EReal) : EReal :=
  p2 (expo (daq dy so w a asc dys))

theorem daq_nonneg (dy so : Fin 1280 → EReal) (w : Fin 5120 → Fin 1280 → EReal) (a : Fin 5120 → EReal) (asc dys : EReal) :
    0 ≤ daq dy so w a asc dys :=
  mul_lit_nonneg lit_57344 (sup_nonneg _ fun d => absf_nonneg _)

/-- The row with the factored derivative, half of it kept back. -/
def dv (dy so : Fin 1280 → EReal) (w : Fin 5120 → Fin 1280 → EReal) (a : Fin 5120 → EReal) (asc : EReal) (j : Fin 5120) : EReal :=
  dgS dy so w j * gK (a j * asc)

theorem dv_half (dy so : Fin 1280 → EReal) (w : Fin 5120 → Fin 1280 → EReal) (a : Fin 5120 → EReal) (asc dys : EReal) (j : Fin 5120) :
    dv dy so w a asc j * (dys * ((1 / 2 : ℝ) : EReal)) = da dy so w a asc dys j := by
  unfold dv da
  rw [← half_gK]
  ac_rfl

theorem aab_mul_nonneg (x h : EReal) (hh : 0 ≤ h) : aab (x * h) = aab x * h := by
  unfold aab
  rw [← EReal.neg_mul]
  have hm : Monotone fun z : EReal => z * h := fun a b hab => mul_le_mul_of_nonneg_right hab hh
  exact (hm.map_max (a := x) (b := -x)).symm

/-- A nonnegative factor comes out of the supremum of a nonempty finite family. -/
theorem sup_mul {n : ℕ} [NeZero n] (f : Fin n → EReal) (h : EReal) (hh : 0 ≤ h) :
    Finset.univ.sup f * h = Finset.univ.sup fun i => f i * h := by
  refine le_antisymm ?_ (Finset.sup_le fun i _ => mul_le_mul_of_nonneg_right (Finset.le_sup (f := f) (Finset.mem_univ i)) hh)
  obtain ⟨i, _, hi⟩ := Finset.exists_mem_eq_sup Finset.univ ⟨0, Finset.mem_univ _⟩ f
  rw [hi]
  exact Finset.le_sup (f := fun i => f i * h) (Finset.mem_univ i)

/-- The largest magnitude may be taken before the row scale. -/
theorem daq_eq (dy so : Fin 1280 → EReal) (w : Fin 5120 → Fin 1280 → EReal) (a : Fin 5120 → EReal) (asc dys : EReal) (hd : 0 ≤ dys) :
    (Finset.univ.sup fun j => aab (dv dy so w a asc j)) * (dys * ((1 / 2 : ℝ) : EReal)) * Ideal.ofBits .f32 0x37924925#32
      = daq dy so w a asc dys := by
  have hh : 0 ≤ dys * ((1 / 2 : ℝ) : EReal) := mul_nonneg hd (by exact_mod_cast (by norm_num : (0 : ℝ) ≤ 1 / 2))
  unfold daq
  rw [sup_mul _ _ hh]
  simp only [← aab_mul_nonneg _ _ hh, dv_half]

/-- The code computed with half of the derivative kept back. -/
theorem dacode_eq (dy so : Fin 1280 → EReal) (w : Fin 5120 → Fin 1280 → EReal) (a : Fin 5120 → EReal) (asc dys : EReal) (j : Fin 5120) (e : EReal) :
    dv dy so w a asc j * (dys * ((1 / 2 : ℝ) : EReal) * e) = da dy so w a asc dys j * e := by
  rw [← dv_half]
  exact (mul_assoc _ _ _).symm

end Cert.ActMath

end
-- ==== Proof.ActDa.lean ====
/- The activation kernel's gradient of the activation, one tile of 512 hidden units at a time, read at an entry over the
   extended reals. -/
module

public import proofs.«01_k».proof.Proof.ActDaSpec
public import proofs.«01_k».proof.Proof.Gen.ActIdeal.Skeleton
public import Idealize.ShloMosaic.Lib.Pointwise

@[expose] public section

set_option maxRecDepth 16384

noncomputable section

namespace Cert.ActIdeal.Hand

open Cert.ActIdeal Cert.ActIdeal.Gen Cert.ActMath
open Idealize.ShloMosaic Idealize.ShloMosaic.Tactic

theorem named_c : (Named.named (F := Ideal) (φ := .f32) κ "gelu_c" 0x3F4C422A#32 : EReal) = (gC : EReal) :=
  (IdealRules.named_const.ideal_named_scalar _ _ _ _ rfl).trans (congrArg (fun r : ℝ => (r : EReal)) (by unfold gC; norm_num))
theorem named_ca : (Named.named (F := Ideal) (φ := .f32) κ "gelu_ca" 0x3D122279#32 : EReal) = ((gC * gA : ℝ) : EReal) :=
  (IdealRules.named_const.ideal_named_scalar _ _ _ _ rfl).trans (congrArg (fun r : ℝ => (r : EReal)) (by unfold gC gA; norm_num))
theorem named_3ca : (Named.named (F := Ideal) (φ := .f32) κ "gelu_3ca" 0x3DDB33B6#32 : EReal) = ((3 * gC * gA : ℝ) : EReal) :=
  (IdealRules.named_const.ideal_named_scalar _ _ _ _ rfl).trans (congrArg (fun r : ℝ => (r : EReal)) (by unfold gC gA; norm_num))

/-- A row of scales laid along 128 lanes. -/
theorem pay4_at (v : FVec Ideal S1x256 .f32) (s : Fin 256) (l : Fin 128) : k0_pay4 (F := Ideal) v (ix2 s l) = v (ix2 0 s) := by
  pointwise [k0_pay4]
theorem pay2_at (v : FVec Ideal S1x256 .f32) (s : Fin 256) (l : Fin 128) : k0_pay2 (F := Ideal) v (ix2 s l) = v (ix2 0 s) := by
  pointwise [k0_pay2]

/-- The product of one tile. -/
theorem pay55_at (x0 : FVec Ideal S1x256x1280 .fp8e5m2) (x11 : FVec Ideal S1x1280 .f32) (W : FVec Ideal S512x1280 .fp8e4m3)
    (s : Fin 256) (j : Fin 512) :
    k0_pay55 (F := Ideal) (k0_pay45 x0) (k0_pay46 x11) W (ix2 s j)
      = ∑ d : Fin 1280, (x0 (ix3 0 s d) : EReal) * ((W (ix2 j d) : EReal) * (x11 (ix2 0 d) : EReal)) := by
  pointwise [k0_pay55, k0_pay45, k0_pay46]

/-- The dequantised activations of one tile. -/
theorem pay56_at (asC : FVec Ideal S256x128 .f32) (A : FVec Ideal S1x256x512 .fp8e4m3) (sc : EReal) (s : Fin 256) (j : Fin 512)
    (h : ∀ l, asC (ix2 s l) = sc) :
    k0_pay56 (F := Ideal) asC A (ix2 s j) = (A (ix3 0 s j) : EReal) * sc := by
  pointwise [k0_pay56]
  simp only [h, dite_eq_ite, ite_self]

/-- One tile of the gradient, from its product and its activations. -/
def VC (g : FVec Ideal S256x512 .f32) (asC : FVec Ideal S256x128 .f32) (A : FVec Ideal S1x256x512 .fp8e4m3) : FVec Ideal S256x512 .f32 :=
  k0_pay59 g (k0_pay56 asC A) (k0_pay57 asC A) (k0_pay58 asC A)

theorem VC_at (g : FVec Ideal S256x512 .f32) (asC : FVec Ideal S256x128 .f32) (A : FVec Ideal S1x256x512 .fp8e4m3) (sc : EReal) (s : Fin 256) (j : Fin 512)
    (h : ∀ l, asC (ix2 s l) = sc) :
    VC g asC A (ix2 s j) = (g (ix2 s j) : EReal) * gK ((A (ix3 0 s j) : EReal) * sc) := by
  unfold VC k0_pay59 k0_pay58 k0_pay57
  dsimp only
  simp only [mulf_at, addf_at, subf_at, tanh_at, bcast_at, ofBits_at]
  rw [pay56_at asC A sc s j h, named_c, named_ca, named_3ca, lit_one]
  rfl

/-- The running maximum over the lanes, one tile further. -/
def AM (p : FVec Ideal S256x128 .f32) (v : FVec Ideal S256x512 .f32) : FVec Ideal S256x128 .f32 :=
  maximumf p (maximumf (maximumf (maximumf (extractStridedSlice S256x128 ![0, 0] (absf v) slices_S256x512_o0_0_S256x128)
    (extractStridedSlice S256x128 ![0, 128] (absf v) slices_S256x512_o0_128_S256x128))
    (extractStridedSlice S256x128 ![0, 256] (absf v) slices_S256x512_o0_256_S256x128))
    (extractStridedSlice S256x128 ![0, 384] (absf v) slices_S256x512_o0_384_S256x128))

theorem AM_at (p : FVec Ideal S256x128 .f32) (v : FVec Ideal S256x512 .f32) (s : Fin 256) (l : Fin 128) :
    AM p v (ix2 s l) = max (p (ix2 s l) : EReal) (max (max (max (aab (v (ix2 s ⟨l, by omega⟩))) (aab (v (ix2 s ⟨128 + l, by omega⟩))))
      (aab (v (ix2 s ⟨256 + l, by omega⟩)))) (aab (v (ix2 s ⟨384 + l, by omega⟩)))) := by
  pointwise [AM]
  rfl

end Cert.ActIdeal.Hand

end
-- ==== Proof.ActTiles.lean ====
/- The ten tiles of the gradient of the activation as the body keeps them in scratch, the running maximum over them, and
   the codes it stores: each of the body's named values as an operation on the blocks it loads. -/
module

public import proofs.«01_k».proof.Proof.ActDa
public import proofs.«01_k».proof.Proof.ActOuts
public import proofs.«01_k».proof.Proof.ActVal15

@[expose] public section

set_option maxRecDepth 16384

noncomputable section

namespace Cert.ActIdeal.Hand

open Cert.ActIdeal Cert.ActIdeal.Gen Cert.ActMath
open Idealize.ShloMosaic Idealize.ShloMosaic.TcCoe Idealize.ShloMosaic.Tactic

theorem inbW (k : Fin 10) (a : Fin 2) : (![512 * k.val, 0] : Fin 2 → ℕ) a + S512x1280.size a ≤ S5120x1280.size a := by
  have := k.isLt
  fin_cases a
  · show 512 * k.val + 512 ≤ 5120; omega
  · show 0 + 1280 ≤ 1280; omega
theorem inbA (k : Fin 10) (a : Fin 3) : (![0, 0, 512 * k.val] : Fin 3 → ℕ) a + S1x256x512.size a ≤ S1x256x5120.size a := by
  have := k.isLt
  fin_cases a
  · show 0 + 1 ≤ 1; omega
  · show 0 + 256 ≤ 256; omega
  · show 512 * k.val + 512 ≤ 5120; omega
theorem inbT (k : Fin 10) (a : Fin 2) : (![0, 512 * k.val] : Fin 2 → ℕ) a + S256x512.size a ≤ S256x5120.size a := by
  have := k.isLt
  fin_cases a
  · show 0 + 256 ≤ 256; omega
  · show 512 * k.val + 512 ≤ 5120; omega

section
variable (c : Dev nD) (i : grid0.Coords)
  (m0 : Memref sig .tc .vmem S1x256x1280 .fp8e5m2) (h0 : m0.IsWhole) (m1 : Memref sig .tc .vmem S6x256 .f32) (h1 : m1.IsWhole)
  (m6 : Memref sig .tc .vmem S1x256x5120 .fp8e4m3) (h6 : m6.IsWhole) (m7 : Memref sig .tc .vmem S6x256 .f32) (h7 : m7.IsWhole)
  (m10 : Memref sig .tc .vmem S5120x1280 .fp8e4m3) (h10 : m10.IsWhole) (m11 : Memref sig .tc .vmem S1x1280 .f32) (h11 : m11.IsWhole)
  (x0 : Vec Ideal S1x256x1280 .fp8e5m2) (x1 : Vec Ideal S6x256 .f32) (x6 : Vec Ideal S1x256x5120 .fp8e4m3)
  (x7 : Vec Ideal S6x256 .f32) (x10 : Vec Ideal S5120x1280 .fp8e4m3) (x11 : Vec Ideal S1x1280 .f32)

/-- The `k`-th 512 rows of the output weight's codes. -/
def ldW (k : Fin 10) : Vec Ideal S512x1280 .fp8e4m3 :=
  View.readAt (Elt Ideal) m10.view (Rect.unit (s := S5120x1280) ![512 * k.val, 0] S512x1280.size (inbW k)).toLoadRect (h10.unread x10)
/-- The `k`-th 512 columns of the activations' codes. -/
def ldA (k : Fin 10) : Vec Ideal S1x256x512 .fp8e4m3 :=
  View.readAt (Elt Ideal) m6.view (Rect.unit (s := S1x256x5120) ![0, 0, 512 * k.val] S1x256x512.size (inbA k)).toLoadRect (h6.unread x6)
/-- The point's row of a table of row scales. -/
def ldR (m7 : Memref sig .tc .vmem S6x256 .f32) (h7 : m7.IsWhole) (x7 : Vec Ideal S6x256 .f32) : Vec Ideal S1x256 .f32 :=
  View.readAt (Elt Ideal) m7.view (Rect.unit (s := S6x256) (k0_off1 i) S1x256.size (k0_off1_inb i)).toLoadRect (h7.unread x7)
/-- The point's block of gradient codes, and the output weight's scales. -/
def ld0 : Vec Ideal S1x256x1280 .fp8e5m2 :=
  View.readAt (Elt Ideal) m0.view (Rect.unit (s := S1x256x1280) ![0, 0, 0] S1x256x1280.size inb_S1x256x1280_S1x256x1280_0_0_0).toLoadRect (h0.unread x0)
def ld11 : Vec Ideal S1x1280 .f32 :=
  View.readAt (Elt Ideal) m11.view (Rect.unit (s := S1x1280) ![0, 0] S1x1280.size inb_S1x1280_S1x1280_0_0).toLoadRect (h11.unread x11)

/-- The `k`-th tile. -/
def TV (k : Fin 10) : FVec Ideal S256x512 .f32 :=
  VC (k0_pay55 (k0_pay45 (ld0 m0 h0 x0)) (k0_pay46 (ld11 m11 h11 x11)) (ldW m10 h10 x10 k)) (k0_pay4 (ldR i m7 h7 x7)) (ldA m6 h6 x6 k)

/-- The scratch holds the ten tiles side by side. -/
theorem HS_eq : kernelRun0_A.sl.HS0_10 (F := Ideal) c i m0 h0 m6 h6 m7 h7 m10 h10 m11 h11 x0 x6 x7 x10 x11
    = View.tilePieces (Val := Elt Ideal) (s := S256x5120) (e := .f32) S256x512.size (fun k : Fin 10 => ![0, 512 * k.val]) inbT
        (fun k => shapeCast S256x512 (TV i m0 h0 m6 h6 m7 h7 m10 h10 m11 h11 x0 x6 x7 x10 x11 k) shapeCasts_S256x512_S256x512) 10 le_rfl := by
  sl_kernel_rfl

/-- The running maximum over the ten tiles. -/
theorem v625_eq : kernelRun0_A.sl.v625 (F := Ideal) c i m0 h0 m6 h6 m7 h7 m10 h10 m11 h11 x0 x6 x7 x10 x11
    = (let T := TV i m0 h0 m6 h6 m7 h7 m10 h10 m11 h11 x0 x6 x7 x10 x11
       AM (AM (AM (AM (AM (AM (AM (AM (AM (AM k0_pay47 (T 0)) (T 1)) (T 2)) (T 3)) (T 4)) (T 5)) (T 6)) (T 7)) (T 8)) (T 9)) := by
  sl_kernel_rfl

end

end Cert.ActIdeal.Hand

end
-- ==== Proof.ActVal17.lean ====
/- The tiles of the gradient of the activation at an entry, their largest magnitude row by row, and the codes and scales
   made of them: each is the specification's. -/
module

public import proofs.«01_k».proof.Proof.ActTiles

@[expose] public section

set_option maxRecDepth 16384

noncomputable section

namespace Cert.ActIdeal.Hand

open Cert.ActIdeal Cert.ActIdeal.Gen Cert.ActMath
open Idealize.ShloMosaic Idealize.ShloMosaic.TcCoe Idealize.ShloMosaic.Tactic

/-- Ten maxima nested are the maximum with the supremum of the ten. -/
theorem nest10 (p : EReal) (a : Fin 10 → EReal) :
    max (max (max (max (max (max (max (max (max (max p (a 0)) (a 1)) (a 2)) (a 3)) (a 4)) (a 5)) (a 6)) (a 7)) (a 8)) (a 9)
      = max p (Finset.univ.sup a) := by
  refine eq_of_forall_ge_iff fun z => ?_
  simp only [max_le_iff, Finset.sup_le_iff, Finset.mem_univ, true_implies, Fin.forall_fin_succ, and_assoc]
  simp [and_assoc]

/-- The maximum over ten tiles of four groups of lanes, and then over the lanes, is the maximum over all 5120. -/
theorem sup_lanes (f : Fin 5120 → EReal) (hf : ∀ j, 0 ≤ f j) :
    (Finset.univ.sup fun l : Fin 128 => max 0 (Finset.univ.sup fun k : Fin 10 =>
      max (max (max (f ⟨512 * k.val + l.val, by omega⟩) (f ⟨512 * k.val + (128 + l.val), by omega⟩))
        (f ⟨512 * k.val + (256 + l.val), by omega⟩)) (f ⟨512 * k.val + (384 + l.val), by omega⟩)))
      = Finset.univ.sup f := by
  refine eq_of_forall_ge_iff fun z => ?_
  simp only [max_le_iff, Finset.sup_le_iff, Finset.mem_univ, true_implies]
  constructor
  · intro h j
    have hj := j.isLt
    have hq := (h ⟨j.val % 128, Nat.mod_lt _ (by norm_num)⟩).2 ⟨j.val / 512, by omega⟩
    obtain ⟨⟨⟨h0, h1⟩, h2⟩, h3⟩ := hq
    have hc : j.val % 512 / 128 = 0 ∨ j.val % 512 / 128 = 1 ∨ j.val % 512 / 128 = 2 ∨ j.val % 512 / 128 = 3 := by omega
    rcases hc with hc | hc | hc | hc
    · refine le_of_eq_of_le (congrArg f (Fin.ext ?_)) h0; show j.val = 512 * (j.val / 512) + j.val % 128; omega
    · refine le_of_eq_of_le (congrArg f (Fin.ext ?_)) h1; show j.val = 512 * (j.val / 512) + (128 + j.val % 128); omega
    · refine le_of_eq_of_le (congrArg f (Fin.ext ?_)) h2; show j.val = 512 * (j.val / 512) + (256 + j.val % 128); omega
    · refine le_of_eq_of_le (congrArg f (Fin.ext ?_)) h3; show j.val = 512 * (j.val / 512) + (384 + j.val % 128); omega
  · intro h l
    exact ⟨(hf ⟨0, by norm_num⟩).trans (h _), fun k => ⟨⟨⟨h _, h _⟩, h _⟩, h _⟩⟩

theorem pay47_at (y : S256x128.Idx) : k0_pay47 (F := Ideal) y = (0 : EReal) := lit_zero

section
variable (c : Dev nD) (i : grid0.Coords)
  (m0 : Memref sig .tc .vmem S1x256x1280 .fp8e5m2) (h0 : m0.IsWhole) (m1 : Memref sig .tc .vmem S6x256 .f32) (h1 : m1.IsWhole)
  (m6 : Memref sig .tc .vmem S1x256x5120 .fp8e4m3) (h6 : m6.IsWhole) (m7 : Memref sig .tc .vmem S6x256 .f32) (h7 : m7.IsWhole)
  (m10 : Memref sig .tc .vmem S5120x1280 .fp8e4m3) (h10 : m10.IsWhole) (m11 : Memref sig .tc .vmem S1x1280 .f32) (h11 : m11.IsWhole)
  (x0 : Vec Ideal S1x256x1280 .fp8e5m2) (x1 : Vec Ideal S6x256 .f32) (x6 : Vec Ideal S1x256x5120 .fp8e4m3)
  (x7 : Vec Ideal S6x256 .f32) (x10 : Vec Ideal S5120x1280 .fp8e4m3) (x11 : Vec Ideal S1x1280 .f32)
  (r : Fin 6) (hi : k0_off1 i = ![r.val, 0])

theorem ldW_at (k : Fin 10) (j : Fin 512) (d : Fin 1280) :
    ldW m10 h10 x10 k (ix2 j d) = x10 (ix2 ⟨512 * k.val + j.val, by omega⟩ d) := by
  unfold ldW
  rw [h10.readAt_unread]
  refine congrArg x10 (funext fun a => Fin.ext ?_)
  fin_cases a <;> simp [Rect.toLoadRect, LoadRect.idx, Rect.unit, ix2]
theorem ldA_at (k : Fin 10) (s : Fin 256) (j : Fin 512) :
    ldA m6 h6 x6 k (ix3 0 s j) = x6 (ix3 0 s ⟨512 * k.val + j.val, by omega⟩) := by
  unfold ldA
  rw [h6.readAt_unread]
  refine congrArg x6 (funext fun a => Fin.ext ?_)
  fin_cases a <;> simp [Rect.toLoadRect, LoadRect.idx, Rect.unit, ix3]
include hi in
theorem ldR_at (s : Fin 256) : ldR i m7 h7 x7 (ix2 0 s) = x7 (ix2 r s) := by
  unfold ldR
  rw [h7.readAt_unread]
  refine congrArg x7 (funext fun a => Fin.ext ?_)
  fin_cases a <;> simp [Rect.toLoadRect, LoadRect.idx, Rect.unit, ix2, hi]
theorem ld0_eq : ld0 m0 h0 x0 = x0 := readAt_all h0 x0 (by decide) _
theorem ld11_eq : ld11 m11 h11 x11 = x11 := readAt_all h11 x11 (by decide) _

/-- The row of the specification at the point's row `r` of the scales. -/
abbrev DV (x0 : Vec Ideal S1x256x1280 .fp8e5m2) (x6 : Vec Ideal S1x256x5120 .fp8e4m3) (x7 : Vec Ideal S6x256 .f32)
    (x10 : Vec Ideal S5120x1280 .fp8e4m3) (x11 : Vec Ideal S1x1280 .f32) (r : Fin 6) (s : Fin 256) : Fin 5120 → EReal :=
  dv (fun d => x0 (ix3 0 s d)) (fun d => x11 (ix2 0 d)) (fun j d => x10 (ix2 j d)) (fun j => x6 (ix3 0 s j)) (x7 (ix2 r s))

include hi in
/-- A tile at an entry. -/
theorem TV_at (k : Fin 10) (s : Fin 256) (j : Fin 512) :
    TV i m0 h0 m6 h6 m7 h7 m10 h10 m11 h11 x0 x6 x7 x10 x11 k (ix2 s j) = DV x0 x6 x7 x10 x11 r s ⟨512 * k.val + j.val, by omega⟩ := by
  unfold TV
  rw [VC_at _ _ _ (x7 (ix2 r s)) s j (fun l => by rw [pay4_at, ldR_at i m7 h7 x7 r hi]), pay55_at, ld0_eq, ld11_eq, ldA_at]
  simp only [ldW_at]
  rfl

include hi in
/-- The running maximum at a lane. -/
theorem v625_at (s : Fin 256) (l : Fin 128) :
    kernelRun0_A.sl.v625 (F := Ideal) c i m0 h0 m6 h6 m7 h7 m10 h10 m11 h11 x0 x6 x7 x10 x11 (ix2 s l)
      = max 0 (Finset.univ.sup fun k : Fin 10 =>
          max (max (max (aab (DV x0 x6 x7 x10 x11 r s ⟨512 * k.val + l.val, by omega⟩)) (aab (DV x0 x6 x7 x10 x11 r s ⟨512 * k.val + (128 + l.val), by omega⟩)))
            (aab (DV x0 x6 x7 x10 x11 r s ⟨512 * k.val + (256 + l.val), by omega⟩))) (aab (DV x0 x6 x7 x10 x11 r s ⟨512 * k.val + (384 + l.val), by omega⟩))) := by
  rw [v625_eq]
  dsimp only
  simp only [AM_at, pay47_at, TV_at i m0 h0 m6 h6 m7 h7 m10 h10 m11 h11 x0 x6 x7 x10 x11 r hi]
  exact nest10 0 (fun k : Fin 10 =>
          max (max (max (aab (DV x0 x6 x7 x10 x11 r s ⟨512 * k.val + l.val, by omega⟩)) (aab (DV x0 x6 x7 x10 x11 r s ⟨512 * k.val + (128 + l.val), by omega⟩)))
            (aab (DV x0 x6 x7 x10 x11 r s ⟨512 * k.val + (256 + l.val), by omega⟩))) (aab (DV x0 x6 x7 x10 x11 r s ⟨512 * k.val + (384 + l.val), by omega⟩)))

/-- The largest of a row's lanes, laid along 128 lanes. -/
def LM (v : FVec Ideal S256x128 .f32) : FVec Ideal S256x128 .f32 :=
  broadcastTo S256x128 (shapeCast S256x1 (multiReduction .maximumf [1] S256 v 0xFF800000#32 reduces_S256x128_S256 (.inl rfl) rfl)
    shapeCasts_S256_S256x1) broadcasts_S256x1_S256x128
theorem LM_at (v : FVec Ideal S256x128 .f32) (s : Fin 256) (l : Fin 128) :
    LM v (ix2 s l) = Finset.univ.sup fun l' : Fin 128 => (v (ix2 s l') : EReal) := by
  unfold LM
  pointwise []
  rw [fold_max_bot]

theorem v627_eq : kernelRun0_A.sl.v627 (F := Ideal) c i m1 h1 x1
    = mulf (k0_pay2 (ldR i m1 h1 x1)) (broadcast S256x128 (Scalar.ofBits .f32 0x3F000000#32)) := by sl_kernel_rfl
theorem v633_eq : kernelRun0_A.sl.v633 (F := Ideal) c i m0 h0 m1 h1 m6 h6 m7 h7 m10 h10 m11 h11 x0 x1 x6 x7 x10 x11
    = mulf (mulf (LM (kernelRun0_A.sl.v625 (F := Ideal) c i m0 h0 m6 h6 m7 h7 m10 h10 m11 h11 x0 x6 x7 x10 x11))
        (kernelRun0_A.sl.v627 (F := Ideal) c i m1 h1 x1)) (broadcast S256x128 (Scalar.ofBits .f32 0x37924925#32)) := by sl_kernel_rfl
theorem v754_eq : kernelRun0_A.sl.v754 (F := Ideal) c i m0 h0 m1 h1 m6 h6 m7 h7 m10 h10 m11 h11 x0 x1 x6 x7 x10 x11
    = pw (kernelRun0_A.sl.v633 (F := Ideal) c i m0 h0 m1 h1 m6 h6 m7 h7 m10 h10 m11 h11 x0 x1 x6 x7 x10 x11) := by sl_kernel_rfl
theorem v766_eq : kernelRun0_A.sl.v766 (F := Ideal) c i m0 h0 m1 h1 m6 h6 m7 h7 m10 h10 m11 h11 x0 x1 x6 x7 x10 x11
    = mulf (kernelRun0_A.sl.v627 (F := Ideal) c i m1 h1 x1)
        (pwn (kernelRun0_A.sl.v633 (F := Ideal) c i m0 h0 m1 h1 m6 h6 m7 h7 m10 h10 m11 h11 x0 x1 x6 x7 x10 x11)) := by sl_kernel_rfl

/-- Column 0 of a table laid as a row. -/
def row0 (v : FVec Ideal S256x128 .f32) : FVec Ideal S1x256 .f32 :=
  extractStridedSlice S1x256 ![0, 0] (transpose S128x256 [1, 0] v transposes_S256x128_p1_0_S128x256) slices_S128x256_o0_0_S1x256
theorem row0_at (v : FVec Ideal S256x128 .f32) (s : Fin 256) : row0 v (ix2 0 s) = v (ix2 s 0) := by
  unfold row0
  pointwise []
theorem v756_eq : kernelRun0_A.sl.v756 (F := Ideal) c i m0 h0 m1 h1 m6 h6 m7 h7 m10 h10 m11 h11 x0 x1 x6 x7 x10 x11
    = row0 (kernelRun0_A.sl.v754 (F := Ideal) c i m0 h0 m1 h1 m6 h6 m7 h7 m10 h10 m11 h11 x0 x1 x6 x7 x10 x11) := by sl_kernel_rfl
theorem v756_B : kernelRun0_B.sl.v756 (F := Ideal) c i m0 h0 m1 h1 m6 h6 m7 h7 m10 h10 m11 h11 x0 x1 x6 x7 x10 x11
    = kernelRun0_A.sl.v756 (F := Ideal) c i m0 h0 m1 h1 m6 h6 m7 h7 m10 h10 m11 h11 x0 x1 x6 x7 x10 x11 := by sl_kernel_rfl

/-- The specification's quotient at the point's row. -/
abbrev DQ (x0 : Vec Ideal S1x256x1280 .fp8e5m2) (x1 : Vec Ideal S6x256 .f32) (x6 : Vec Ideal S1x256x5120 .fp8e4m3) (x7 : Vec Ideal S6x256 .f32)
    (x10 : Vec Ideal S5120x1280 .fp8e4m3) (x11 : Vec Ideal S1x1280 .f32) (r : Fin 6) (s : Fin 256) : EReal :=
  daq (fun d => x0 (ix3 0 s d)) (fun d => x11 (ix2 0 d)) (fun j d => x10 (ix2 j d)) (fun j => x6 (ix3 0 s j)) (x7 (ix2 r s)) (x1 (ix2 r s))

include hi in
theorem v627_at (s : Fin 256) (l : Fin 128) :
    kernelRun0_A.sl.v627 (F := Ideal) c i m1 h1 x1 (ix2 s l) = (x1 (ix2 r s) : EReal) * ((1 / 2 : ℝ) : EReal) := by
  rw [v627_eq, mulf_at, pay2_at, ldR_at i m1 h1 x1 r hi, bcast_at, ofBits_at, lit_half]
include hi in
theorem v633_at (s : Fin 256) (hx : 0 ≤ (x1 (ix2 r s) : EReal)) (l : Fin 128) :
    kernelRun0_A.sl.v633 (F := Ideal) c i m0 h0 m1 h1 m6 h6 m7 h7 m10 h10 m11 h11 x0 x1 x6 x7 x10 x11 (ix2 s l) = DQ x0 x1 x6 x7 x10 x11 r s := by
  rw [v633_eq, mulf_at, mulf_at, LM_at, v627_at c i m1 h1 x1 r hi, bcast_at, ofBits_at]
  simp only [v625_at c i m0 h0 m6 h6 m7 h7 m10 h10 m11 h11 x0 x6 x7 x10 x11 r hi]
  rw [sup_lanes (fun j => aab (DV x0 x6 x7 x10 x11 r s j)) (fun j => absf_nonneg _)]
  exact daq_eq _ _ _ _ _ _ hx
include hi in
/-- The scale of a row is the specification's. -/
theorem v756_at (s : Fin 256) (hx : 0 ≤ (x1 (ix2 r s) : EReal)) :
    kernelRun0_A.sl.v756 (F := Ideal) c i m0 h0 m1 h1 m6 h6 m7 h7 m10 h10 m11 h11 x0 x1 x6 x7 x10 x11 (ix2 0 s) = p2 (expo (DQ x0 x1 x6 x7 x10 x11 r s)) := by
  have q := v633_at c i m0 h0 m1 h1 m6 h6 m7 h7 m10 h10 m11 h11 x0 x1 x6 x7 x10 x11 r hi s hx 0
  rw [v756_eq, row0_at, v754_eq, pw_at _ _ (by rw [q]; exact daq_nonneg _ _ _ _ _ _), q]
include hi in
/-- The factor that turns a row into codes. -/
theorem v766_at (s : Fin 256) (hx : 0 ≤ (x1 (ix2 r s) : EReal)) (l : Fin 128) :
    kernelRun0_A.sl.v766 (F := Ideal) c i m0 h0 m1 h1 m6 h6 m7 h7 m10 h10 m11 h11 x0 x1 x6 x7 x10 x11 (ix2 s l)
      = (x1 (ix2 r s) : EReal) * ((1 / 2 : ℝ) : EReal) * p2 (-expo (DQ x0 x1 x6 x7 x10 x11 r s)) := by
  have q := v633_at c i m0 h0 m1 h1 m6 h6 m7 h7 m10 h10 m11 h11 x0 x1 x6 x7 x10 x11 r hi s hx l
  rw [v766_eq, mulf_at, v627_at c i m1 h1 x1 r hi, pwn_at _ _ (by rw [q]; exact daq_nonneg _ _ _ _ _ _), q]

/-- A tile of codes, from the tile and the factor along 128 lanes. -/
def CD (T : FVec Ideal S256x512 .f32) (v : FVec Ideal S256x128 .f32) : FVec Ideal S1x256x512 .fp8e5m2 :=
  shapeCast S1x256x512 (truncf .fp8e5m2 (minimumf (broadcast S256x512 (Scalar.ofBits .f32 0x47600000#32)) (maximumf (broadcast S256x512 (Scalar.ofBits .f32 0xC7600000#32))
    (mulf T (concatenate S256x512 1 [⟨S256x128, v⟩, ⟨S256x128, v⟩, ⟨S256x128, v⟩, ⟨S256x128, v⟩] concatenates_S256x128_S256x128_S256x128_S256x128_S256x512_d1))))
    bitsLt_fp8e5m2_f32) shapeCasts_S256x512_S1x256x512
theorem CD_at (T : FVec Ideal S256x512 .f32) (v : FVec Ideal S256x128 .f32) (e : EReal) (s : Fin 256) (j : Fin 512) (h : ∀ l, v (ix2 s l) = e) :
    CD T v (ix3 0 s j) = min (Ideal.ofBits .f32 0x47600000#32) (max (Ideal.ofBits .f32 0xC7600000#32) ((T (ix2 s j) : EReal) * e)) := by
  pointwise [CD]
  simp only [h, dite_eq_ite, ite_self]
  try rfl

theorem castT (T : FVec Ideal S256x512 .f32) (s : Fin 256) (j : Fin 512) :
    shapeCast S256x512 T shapeCasts_S256x512_S256x512 (ix2 s j) = T (ix2 s j) := by pointwise []

variable (sc : Memref sig .tc .vmem S256x5120 .f32)

/-- The `k`-th tile read back from scratch. -/
def RB (k : Fin 10) : FVec Ideal S256x512 .f32 :=
  sc.view.readCov (kernelRun0_A.sl.HS0_10 (F := Ideal) c i m0 h0 m6 h6 m7 h7 m10 h10 m11 h11 x0 x6 x7 x10 x11)
    (Rect.unit (s := S256x5120) ![0, 512 * k.val] S256x512.size (inbT k)).toLoadRect
theorem RB_at (k : Fin 10) (s : Fin 256) (j : Fin 512) :
    RB c i m0 h0 m6 h6 m7 h7 m10 h10 m11 h11 x0 x6 x7 x10 x11 sc k (ix2 s j) = TV i m0 h0 m6 h6 m7 h7 m10 h10 m11 h11 x0 x6 x7 x10 x11 k (ix2 s j) := by
  unfold RB
  rw [HS_eq]
  refine (View.read_tilePieces sc.view sc.view.junk _ _ inbT _ 10 le_rfl _ k k.isLt (ix2 s j) ?_ 1 ?_).trans (castT _ s j)
  · intro a
    fin_cases a <;> simp [Rect.toLoadRect, LoadRect.idx, Rect.unit, ix2]
  · intro k' hk
    have hk' : k'.val ≠ k.val := fun h => hk (Fin.ext h)
    have hj := j.isLt
    have e : ((Rect.unit (s := S256x5120) ![0, 512 * k.val] S256x512.size (inbT k)).toLoadRect.idx (ix2 s j) 1).val = 512 * k.val + j.val := by
      simp [Rect.toLoadRect, LoadRect.idx, Rect.unit, ix2]
    rw [e]
    show 512 * k.val + j.val < 512 * k'.val ∨ 512 * k'.val + 512 ≤ 512 * k.val + j.val
    omega

/-- The `k`-th tile of codes. -/
def CT (k : Fin 10) : FVec Ideal S1x256x512 .fp8e5m2 :=
  CD (RB c i m0 h0 m6 h6 m7 h7 m10 h10 m11 h11 x0 x6 x7 x10 x11 sc k)
    (kernelRun0_A.sl.v766 (F := Ideal) c i m0 h0 m1 h1 m6 h6 m7 h7 m10 h10 m11 h11 x0 x1 x6 x7 x10 x11)

include hi in
/-- A tile of codes at an entry is the specification's. -/
theorem CT_at (k : Fin 10) (s : Fin 256) (hx : 0 ≤ (x1 (ix2 r s) : EReal)) (j : Fin 512) :
    CT c i m0 h0 m1 h1 m6 h6 m7 h7 m10 h10 m11 h11 x0 x1 x6 x7 x10 x11 sc k (ix3 0 s j)
      = dacode (fun d => x0 (ix3 0 s d)) (fun d => x11 (ix2 0 d)) (fun j d => x10 (ix2 j d)) (fun j => x6 (ix3 0 s j)) (x7 (ix2 r s)) (x1 (ix2 r s))
          ⟨512 * k.val + j.val, by omega⟩ := by
  unfold CT
  rw [CD_at _ _ _ s j (v766_at c i m0 h0 m1 h1 m6 h6 m7 h7 m10 h10 m11 h11 x0 x1 x6 x7 x10 x11 r hi s hx), RB_at,
    TV_at i m0 h0 m6 h6 m7 h7 m10 h10 m11 h11 x0 x6 x7 x10 x11 r hi, dacode_eq]
  rfl

end

end Cert.ActIdeal.Hand

end
-- ==== Proof.ActOut17.lean ====
/- What the body leaves of the gradient of the activation: the codes block and the row of scales, entry by entry. -/
module

public import proofs.«01_k».proof.Proof.ActVal17

@[expose] public section

set_option maxRecDepth 16384

noncomputable section

namespace Cert.ActIdeal.Hand

open Cert.ActIdeal Cert.ActIdeal.Gen Cert.ActMath
open Idealize.ShloMosaic Idealize.ShloMosaic.TcCoe Idealize.ShloMosaic.Tactic

variable (m : (ℓ : Loc nD τ sig) → Buf (Elt Ideal) ℓ)

/-- The ten tiles of codes stored at a point. -/
abbrev tiles17 (c : Dev nD) (t : Fin cfg0.N) : List (View.Piece (Elt Ideal) S1x256x5120 .fp8e5m2) :=
  View.tilePieces (Val := Elt Ideal) (s := S1x256x5120) (e := .fp8e5m2) S1x256x512.size (fun k : Fin 10 => ![0, 0, 512 * k.val]) inbA
    (fun k => CT c (grid0.coords t) (ms0_0 t) (hs0_0 t) (ms0_1 t) (hs0_1 t) (ms0_6 t) (hs0_6 t) (ms0_7 t) (hs0_7 t) (ms0_10 t) (hs0_10 t) (ms0_11 t) (hs0_11 t)
      (iblk m c 0 t) (iblk m c 1 t) (iblk m c 6 t) (iblk m c 7 t) (iblk m c 10 t) (iblk m c 11 t) scM0_0 k) 10 le_rfl

theorem codes_A (c : Dev nD) (t : Fin cfg0.N) (h0 : t.val % 6 = 0) (h1 : ¬1 ≤ t.val) (xo16 xo18 : Vec Ideal S6x256 .f32) :
    (runA m c t h0 h1 xo16 xo18).2.2.2.1 = tiles17 m c t := (pcsA_17 m c t h0 h1 xo16 xo18).trans (by sl_kernel_rfl)
theorem codes_B (c : Dev nD) (t : Fin cfg0.N) (h0 : ¬t.val % 6 = 0) (h1 : 1 ≤ t.val) (xo16 xo18 : Vec Ideal S6x256 .f32) (p19 p20 : Vec Ideal S1x1280 .f32) :
    (runB m c t h0 h1 xo16 xo18 p19 p20).2.2.2.1 = tiles17 m c t := (pcsB_17 m c t h0 h1 xo16 xo18 p19 p20).trans (by sl_kernel_rfl)

theorem outs_17 (c : Dev nD) (t : Fin cfg0.N) :
    (outsAt0 m c t.val t.isLt).2.2.2.1 = VO0_17.read (Elt Ideal) (VO0_17.writes (Elt Ideal) VO0_17.junk (tiles17 m c t)) := by
  by_cases h1 : 1 ≤ t.val
  · have h0 : ¬t.val % 6 = 0 := by have := t.isLt; have e : cfg0.N = 6 := rfl; omega
    rw [outsAt0_B m c t h0 h1, outB_17, codes_B]
  · have h0 : t.val % 6 = 0 := by omega
    rw [outsAt0_A m c t h0 h1, outA_17, codes_A]

/-- The codes of the gradient of the activation left at a point. -/
theorem out_17 (c : Dev nD) (t : Fin cfg0.N) (r : Fin 6) (hr : r.val = t.val) (s : Fin 256) (hx : @LE.le EReal _ 0 ((iblk m c 1 t : Vec Ideal S6x256 .f32) (ix2 r s))) (j : Fin 5120) :
    (outsAt0 m c t.val t.isLt).2.2.2.1 (ix3 0 s j)
      = dacode (fun d => (iblk m c 0 t : Vec Ideal S1x256x1280 .fp8e5m2) (ix3 0 s d)) (fun d => (iblk m c 11 t : Vec Ideal S1x1280 .f32) (ix2 0 d))
          (fun j d => (iblk m c 10 t : Vec Ideal S5120x1280 .fp8e4m3) (ix2 j d)) (fun j => (iblk m c 6 t : Vec Ideal S1x256x5120 .fp8e4m3) (ix3 0 s j))
          ((iblk m c 7 t : Vec Ideal S6x256 .f32) (ix2 r s)) ((iblk m c 1 t : Vec Ideal S6x256 .f32) (ix2 r s)) j := by
  have hj := j.isLt
  have hi : k0_off1 (grid0.coords t) = ![r.val, 0] := by rw [off_row, hr]
  have ej : j = ⟨512 * (j.val / 512) + j.val % 512, by omega⟩ := Fin.ext (by show j.val = 512 * (j.val / 512) + j.val % 512; omega)
  rw [outs_17]
  refine (View.read_tilePieces VO0_17 VO0_17.junk _ _ inbA _ 10 le_rfl (ix3 0 s j) ⟨j.val / 512, by omega⟩ (by show j.val / 512 < 10; omega)
    (ix3 0 s ⟨j.val % 512, Nat.mod_lt _ (by norm_num)⟩) ?_ 2 ?_).trans ?_
  · intro a
    fin_cases a
    · rfl
    · show s.val = 0 + s.val; omega
    · show j.val = 512 * (j.val / 512) + j.val % 512; omega
  · intro k' hk
    have hk' : k'.val ≠ j.val / 512 := fun h => hk (Fin.ext h)
    show j.val < 512 * k'.val ∨ 512 * k'.val + 512 ≤ j.val
    omega
  · rw [CT_at c (grid0.coords t) (ms0_0 t) (hs0_0 t) (ms0_1 t) (hs0_1 t) (ms0_6 t) (hs0_6 t) (ms0_7 t) (hs0_7 t) (ms0_10 t) (hs0_10 t) (ms0_11 t) (hs0_11 t)
      (iblk m c 0 t) (iblk m c 1 t) (iblk m c 6 t) (iblk m c 7 t) (iblk m c 10 t) (iblk m c 11 t) r hi scM0_0 ⟨j.val / 512, by omega⟩ s hx]
    exact congrArg _ ej.symm

/-- The row of scales of the gradient of the activation left at a point. -/
theorem out_18 (c : Dev nD) (t : Fin cfg0.N) (r : Fin 6) (hr : r.val = t.val) (s : Fin 256) (hx : @LE.le EReal _ 0 ((iblk m c 1 t : Vec Ideal S6x256 .f32) (ix2 r s))) :
    (outsAt0 m c t.val t.isLt).2.2.2.2.1 (ix2 r s)
      = dascale (fun d => (iblk m c 0 t : Vec Ideal S1x256x1280 .fp8e5m2) (ix3 0 s d)) (fun d => (iblk m c 11 t : Vec Ideal S1x1280 .f32) (ix2 0 d))
          (fun j d => (iblk m c 10 t : Vec Ideal S5120x1280 .fp8e4m3) (ix2 j d)) (fun j => (iblk m c 6 t : Vec Ideal S1x256x5120 .fp8e4m3) (ix3 0 s j))
          ((iblk m c 7 t : Vec Ideal S6x256 .f32) (ix2 r s)) ((iblk m c 1 t : Vec Ideal S6x256 .f32) (ix2 r s)) := by
  have hi : k0_off1 (grid0.coords t) = ![r.val, 0] := by rw [off_row, hr]
  have v := v756_at c (grid0.coords t) (ms0_0 t) (hs0_0 t) (ms0_1 t) (hs0_1 t) (ms0_6 t) (hs0_6 t) (ms0_7 t) (hs0_7 t) (ms0_10 t) (hs0_10 t) (ms0_11 t) (hs0_11 t)
      (iblk m c 0 t) (iblk m c 1 t) (iblk m c 6 t) (iblk m c 7 t) (iblk m c 10 t) (iblk m c 11 t) r hi s hx
  by_cases h1 : 1 ≤ t.val
  · have h0 : ¬t.val % 6 = 0 := by have := t.isLt; have e : cfg0.N = 6 := rfl; omega
    rw [outsAt0_B m c t h0 h1, outB_18, rowB_18 m c t h0 h1 _ _ _ _ _ _ r s hr, v756_B]
    exact v
  · have h0 : t.val % 6 = 0 := by omega
    rw [outsAt0_A m c t h0 h1, outA_18, rowA_18 m c t h0 h1 _ _ _ _ r s hr]
    exact v

end Cert.ActIdeal.Hand

end
-- ==== Proof.ActResults.lean ====
/- The four results of the activation step as arrays: each entry is the row function of ActSpec or ActDaSpec at that row. -/
module

public import proofs.«01_k».proof.Proof.ActDaSpec

@[expose] public section

set_option maxRecDepth 16384

noncomputable section

namespace Cert.ActMath

open Idealize.ShloMosaic Idealize.ShloMosaic.Tactic

/-- An index is its three coordinates. -/
theorem eta3 {a b c : Nat} (i : (⟨3, ![a, b, c]⟩ : Shape).Idx) : ∃ (x : Fin a) (y : Fin b) (z : Fin c), i = ix3 x y z :=
  ⟨i 0, i 1, i 2, funext fun k => by fin_cases k <;> rfl⟩
/-- An index is its two coordinates. -/
theorem eta2 {a b : Nat} (i : (⟨2, ![a, b]⟩ : Shape).Idx) : ∃ (x : Fin a) (y : Fin b), i = ix2 x y :=
  ⟨i 0, i 1, funext fun k => by fin_cases k <;> rfl⟩

/-- The codes of the normalised activations. -/
def XC (x : FVec Ideal ⟨3, ![6, 256, 1280]⟩ .bf16) : FVec Ideal ⟨3, ![6, 256, 1280]⟩ .fp8e4m3 :=
  fun i => xcode (fun d => x (ix3 (i 0) (i 1) d)) (i 2)
/-- Their row scales. -/
def XS (x : FVec Ideal ⟨3, ![6, 256, 1280]⟩ .bf16) : FVec Ideal ⟨2, ![6, 256]⟩ .f32 :=
  fun i => xscale (fun d => x (ix3 (i 0) (i 1) d))

variable (dy : FVec Ideal ⟨3, ![6, 256, 1280]⟩ .fp8e5m2) (dys : FVec Ideal ⟨2, ![6, 256]⟩ .f32)
  (a : FVec Ideal ⟨3, ![6, 256, 5120]⟩ .fp8e4m3) (sa : FVec Ideal ⟨2, ![6, 256]⟩ .f32)
  (w : FVec Ideal ⟨2, ![5120, 1280]⟩ .fp8e4m3) (sw : FVec Ideal ⟨1, ![1280]⟩ .f32)

/-- The codes of the gradient of the activation. -/
def DC : FVec Ideal ⟨3, ![6, 256, 5120]⟩ .fp8e5m2 :=
  fun i => dacode (fun d => dy (ix3 (i 0) (i 1) d)) (fun d => sw (ix1 d)) (fun j d => w (ix2 j d)) (fun j => a (ix3 (i 0) (i 1) j))
    (sa (ix2 (i 0) (i 1))) (dys (ix2 (i 0) (i 1))) (i 2)
/-- Their row scales. -/
def DS : FVec Ideal ⟨2, ![6, 256]⟩ .f32 :=
  fun i => dascale (fun d => dy (ix3 (i 0) (i 1) d)) (fun d => sw (ix1 d)) (fun j d => w (ix2 j d)) (fun j => a (ix3 (i 0) (i 1) j))
    (sa (ix2 (i 0) (i 1))) (dys (ix2 (i 0) (i 1)))

end Cert.ActMath

end
-- ==== Proof.ActFinal.lean ====
/- The arrays that the activation step leaves: the codes and the row scales, of the normalised activations and of the gradient of the
   activation, are the specification's. -/
module

public import proofs.«01_k».proof.Proof.ActBody
public import proofs.«01_k».proof.Proof.ActVal15
public import proofs.«01_k».proof.Proof.ActOut17
public import proofs.«01_k».proof.Proof.ActResults
public import Idealize.ShloMosaic.Lib.Pipeline.ValueKit
public import Idealize.ShloMosaic.Lib.Pointwise

@[expose] public section

set_option maxRecDepth 16384

noncomputable section

namespace Cert.ActIdeal.Hand

open Cert.ActIdeal Cert.ActIdeal.Gen Cert.ActMath
open Idealize.ShloMosaic Idealize.ShloMosaic.TcCoe Idealize.ShloMosaic.Tactic
open Idealize.ShloMosaic.Pipeline (RDat Dat)

variable (m : (ℓ : Loc nD τ sig) → Buf (Elt Ideal) ℓ)

attribute [local irreducible] kernelRun0_A kernelRun0_B outA outB outsAt0

/-- The blocks at grid point `t`: the batch row `t` of the large arrays, the whole of the others. -/
theorem idx : ∀ t : Fin cfg0.N, win0_0.index t = ![t.val, 0, 0] ∧ win0_1.index t = ![0, 0] ∧ win0_4.index t = ![t.val, 0, 0]
    ∧ win0_6.index t = ![t.val, 0, 0] ∧ win0_7.index t = ![0, 0] ∧ win0_10.index t = ![0, 0] ∧ win0_11.index t = ![0, 0]
    ∧ win0_15.index t = ![t.val, 0, 0] ∧ win0_16.index t = ![0, 0] ∧ win0_17.index t = ![t.val, 0, 0] ∧ win0_18.index t = ![0, 0] :=
  (by decide +kernel : ∀ t : Fin grid0.N, _)

variable (c : Dev nD) (t : Fin cfg0.N) (r : Fin 6) (hr : r.val = t.val) (s : Fin 256)

include hr in
theorem blk0 (d : Fin 1280) : (iblk m c 0 t : FVec Ideal S1x256x1280 .fp8e5m2) (ix3 0 s d)
    = (m ((c : Thread nD τ).loc main_arg0) : FVec Ideal S6x256x1280 .fp8e5m2) (ix3 r s d) := by
  obtain rfl : r = ⟨t.val, t.isLt⟩ := Fin.ext hr
  blk_point [iblk, V, idx t]
include hr in
theorem blk4 (d : Fin 1280) : (iblk m c 4 t : FVec Ideal S1x256x1280 .bf16) (ix3 0 s d)
    = (m ((c : Thread nD τ).loc main_arg4) : FVec Ideal S6x256x1280 .bf16) (ix3 r s d) := by
  obtain rfl : r = ⟨t.val, t.isLt⟩ := Fin.ext hr
  blk_point [iblk, V, idx t]
include hr in
theorem blk6 (j : Fin 5120) : (iblk m c 6 t : FVec Ideal S1x256x5120 .fp8e4m3) (ix3 0 s j)
    = (m ((c : Thread nD τ).loc main_arg6) : FVec Ideal S6x256x5120 .fp8e4m3) (ix3 r s j) := by
  obtain rfl : r = ⟨t.val, t.isLt⟩ := Fin.ext hr
  blk_point [iblk, V, idx t]
theorem blk1 : (iblk m c 1 t : FVec Ideal S6x256 .f32) (ix2 r s) = (m ((c : Thread nD τ).loc main_arg1) : FVec Ideal S6x256 .f32) (ix2 r s) := by
  blk_point [iblk, V, idx t]
theorem blk7 : (iblk m c 7 t : FVec Ideal S6x256 .f32) (ix2 r s) = (m ((c : Thread nD τ).loc main_arg7) : FVec Ideal S6x256 .f32) (ix2 r s) := by
  blk_point [iblk, V, idx t]
theorem blk10 (j : Fin 5120) (d : Fin 1280) : (iblk m c 10 t : FVec Ideal S5120x1280 .fp8e4m3) (ix2 j d)
    = (m ((c : Thread nD τ).loc main_arg10) : FVec Ideal S5120x1280 .fp8e4m3) (ix2 j d) := by
  blk_point [iblk, V, idx t]
theorem blk11 (d : Fin 1280) : (iblk m c 11 t : FVec Ideal S1x1280 .f32) (ix2 0 d)
    = (m ((c : Thread nD τ).loc main_arg11) : FVec Ideal S1280 .f32) (ix1 d) := by
  blk_point [iblk, V, idx t]

include hr in
/-- The codes of the normalised activations, at grid point `t` and so in batch row `t`. -/
theorem val_15 (d : Fin 1280) : (outsAt0 m c t.val t.isLt).2.1 (ix3 0 s d) = XC (m ((c : Thread nD τ).loc main_arg4)) (ix3 r s d) := by
  rw [out_15, show rowX (iblk m c 4 t) s = _ from funext fun d => blk4 m c t r hr s d]; rfl
include hr in
theorem val_16 : (outsAt0 m c t.val t.isLt).2.2.1 (ix2 r s) = XS (m ((c : Thread nD τ).loc main_arg4)) (ix2 r s) := by
  rw [out_16 m c t r hr, show rowX (iblk m c 4 t) s = _ from funext fun d => blk4 m c t r hr s d]; rfl

/-- The arrays of codes and scales of the gradient of the activation, of this memory's arguments. -/
abbrev DCm := DC (m ((c : Thread nD τ).loc main_arg0)) (m ((c : Thread nD τ).loc main_arg1)) (m ((c : Thread nD τ).loc main_arg6))
  (m ((c : Thread nD τ).loc main_arg7)) (m ((c : Thread nD τ).loc main_arg10)) (m ((c : Thread nD τ).loc main_arg11))
abbrev DSm := DS (m ((c : Thread nD τ).loc main_arg0)) (m ((c : Thread nD τ).loc main_arg1)) (m ((c : Thread nD τ).loc main_arg6))
  (m ((c : Thread nD τ).loc main_arg7)) (m ((c : Thread nD τ).loc main_arg10)) (m ((c : Thread nD τ).loc main_arg11))

variable (hx : ∀ i, @LE.le EReal _ 0 ((m ((c : Thread nD τ).loc main_arg1) : FVec Ideal S6x256 .f32) i))

include hr hx in
theorem val_17 (j : Fin 5120) : (outsAt0 m c t.val t.isLt).2.2.2.1 (ix3 0 s j) = DCm m c (ix3 r s j) := by
  rw [out_17 m c t r hr s (by rw [blk1]; exact hx _) j, blk1, blk7,
    show (fun d => (iblk m c 0 t : FVec Ideal S1x256x1280 .fp8e5m2) (ix3 0 s d)) = _ from funext fun d => blk0 m c t r hr s d,
    show (fun j => (iblk m c 6 t : FVec Ideal S1x256x5120 .fp8e4m3) (ix3 0 s j)) = _ from funext fun j => blk6 m c t r hr s j,
    show (fun j d => (iblk m c 10 t : FVec Ideal S5120x1280 .fp8e4m3) (ix2 j d)) = _ from funext fun j => funext fun d => blk10 m c t j d,
    show (fun d => (iblk m c 11 t : FVec Ideal S1x1280 .f32) (ix2 0 d)) = _ from funext fun d => blk11 m c t d]
  rfl
include hr hx in
theorem val_18 : (outsAt0 m c t.val t.isLt).2.2.2.2.1 (ix2 r s) = DSm m c (ix2 r s) := by
  rw [out_18 m c t r hr s (by rw [blk1]; exact hx _), blk1, blk7,
    show (fun d => (iblk m c 0 t : FVec Ideal S1x256x1280 .fp8e5m2) (ix3 0 s d)) = _ from funext fun d => blk0 m c t r hr s d,
    show (fun j => (iblk m c 6 t : FVec Ideal S1x256x5120 .fp8e4m3) (ix3 0 s j)) = _ from funext fun j => blk6 m c t r hr s j,
    show (fun j d => (iblk m c 10 t : FVec Ideal S5120x1280 .fp8e4m3) (ix2 j d)) = _ from funext fun j => funext fun d => blk10 m c t j d,
    show (fun d => (iblk m c 11 t : FVec Ideal S1x1280 .f32) (ix2 0 d)) = _ from funext fun d => blk11 m c t d]
  rfl

/-- The relational data of the pipeline. -/
abbrev rd := (dats m 0 c).toRRel forgets0 (Rl m c)

variable {m c} {after : (w : Fin cfg0.W) → Fin cfg0.N → (cfg0.win w).block.Idx → Elt Ideal (cfg0.win w).elt}

/-- Contents which the body may leave in a window held exactly are the named ones. -/
theorem leaves_15 {X} (h : (rd m c).Leaves 15 t X) : X = (outsAt0 m c t.val t.isLt).2.1 := by
  obtain ⟨Y, _, hX⟩ := h
  rw [(dats m 0 c).toRRel_after_of_eq_false (by decide)] at hX
  exact (show X = (dats m 0 c).after 15 t from hX).trans (after0_15 m c t)
theorem leaves_17 {X} (h : (rd m c).Leaves 17 t X) : X = (outsAt0 m c t.val t.isLt).2.2.2.1 := by
  obtain ⟨Y, _, hX⟩ := h
  rw [(dats m 0 c).toRRel_after_of_eq_false (by decide)] at hX
  exact (show X = (dats m 0 c).after 17 t from hX).trans (after0_17 m c t)

variable (hL : ∀ (w : Fin cfg0.W) (u : Fin cfg0.N), (cfg0.win w).flush u = true → (rd m c).Leaves w u (after w u))

include hL in
/-- The codes of the normalised activations after the run. -/
theorem final_15 : ((rd m c).withAfter after).arrAt 15 cfg0.N = XC (m ((c : Thread nD τ).loc main_arg4)) := by
  refine ((rd m c).withAfter after).arrAt_eq_of_covers 15 _ (by decide +kernel) fun t hf y => ?_
  have e := leaves_15 t (hL 15 t hf)
  blk_simp
  rw [RDat.withAfter_after, e]
  obtain ⟨z, s, d, rfl⟩ := eta3 (a := 1) (b := 256) (c := 1280) y
  obtain rfl : z = 0 := Subsingleton.elim _ _
  refine (val_15 m c t ⟨t.val, t.isLt⟩ rfl s d).trans ?_
  generalize XC (m ((c : Thread nD τ).loc main_arg4)) = Z
  blk_point [idx t]
include hL hx in
/-- The codes of the gradient of the activation after the run. -/
theorem final_17 : ((rd m c).withAfter after).arrAt 17 cfg0.N = DCm m c := by
  refine ((rd m c).withAfter after).arrAt_eq_of_covers 17 _ (by decide +kernel) fun t hf y => ?_
  have e := leaves_17 t (hL 17 t hf)
  blk_simp
  rw [RDat.withAfter_after, e]
  obtain ⟨z, s, d, rfl⟩ := eta3 (a := 1) (b := 256) (c := 5120) y
  obtain rfl : z = 0 := Subsingleton.elim _ _
  refine (val_17 m c t ⟨t.val, t.isLt⟩ rfl s hx d).trans ?_
  generalize DCm m c = Z
  blk_point [idx t]
include hL in
/-- The row scales of the normalised activations after the run. -/
theorem final_16 : ((rd m c).withAfter after).arrAt 16 cfg0.N = XS (m ((c : Thread nD τ).loc main_arg4)) := by
  refine ((rd m c).withAfter after).arrAt_eq_of_after_last 16 t0_5 (by decide +kernel) _ fun j => ?_
  have e := (dats m 0 c).toRRel_leaves (w := 16) (by decide) (hL 16 t0_5 (by decide +kernel))
  rw [RDat.withAfter_after]
  obtain ⟨r, s, rfl⟩ := eta2 (a := 6) (b := 256) j
  refine Eq.trans ?_ (val_16 m c ⟨r.val, r.isLt⟩ r rfl s)
  exact e ⟨r.val, r.isLt⟩ r s rfl (Nat.le_of_lt_succ r.isLt)
include hL hx in
/-- The row scales of the gradient of the activation after the run. -/
theorem final_18 : ((rd m c).withAfter after).arrAt 18 cfg0.N = DSm m c := by
  refine ((rd m c).withAfter after).arrAt_eq_of_after_last 18 t0_5 (by decide +kernel) _ fun j => ?_
  have e := (dats m 0 c).toRRel_leaves (w := 18) (by decide) (hL 18 t0_5 (by decide +kernel))
  rw [RDat.withAfter_after]
  obtain ⟨r, s, rfl⟩ := eta2 (a := 6) (b := 256) j
  refine Eq.trans ?_ (val_18 m c ⟨r.val, r.isLt⟩ r rfl s hx)
  exact e ⟨r.val, r.isLt⟩ r s rfl (Nat.le_of_lt_succ r.isLt)

end Cert.ActIdeal.Hand

end
-- ==== Proof.RefActLn.lean ====
/- The layer norm and the quantisation of the normalised rows by the reference of the activation step, over the extended
   reals: each value, read at an entry, is the specification's. -/
module

public import proofs.«01_k».proof.Proof.ActSpec
public import proofs.«01_k».proof.Proof.Gen.RefActIdeal.Value
public import Idealize.ShloMosaic.Lib.Pointwise

@[expose] public section

set_option maxRecDepth 16384

noncomputable section

namespace Cert.RefActIdeal.Hand

open Cert.RefActIdeal Cert.RefActIdeal.Gen Cert.ActMath
open Idealize.ShloMosaic Idealize.ShloMosaic.Tactic

theorem ln2 : (Named.named (F := Ideal) (φ := .f32) κ "ln2" 0x3F317218#32 : EReal) = ((Real.log 2 : ℝ) : EReal) :=
  IdealRules.named_const.ideal_named_scalar _ _ _ _ rfl

/-- Row `s` of block `t`. -/
abbrev rowX (x : Vec Ideal S6x256x1280 .bf16) (t : Fin 6) (s : Fin 256) : Fin 1280 → EReal := fun d => x (ix3 t s d)

variable (x : Vec Ideal S6x256x1280 .bf16)

theorem pay4_at (t : Fin 6) (s : Fin 256) (d : Fin 1280) : k0_pay4 (F := Ideal) x (ix3 t s d) = xc (rowX x t s) d := by
  pointwise [k0_pay4, xc, lit_1280, div_1280]
theorem pay5_at (t : Fin 6) (s : Fin 256) : k0_pay5 (F := Ideal) x (ix3 t s 0) = rstd (rowX x t s) := by
  unfold k0_pay5
  pointwise [pay4_at, rstd, lit_1280, div_1280]
theorem pay6_at (t : Fin 6) (s : Fin 256) (d : Fin 1280) : k0_pay6 (F := Ideal) x (ix3 t s d) = xh (rowX x t s) d := by
  unfold k0_pay6
  pointwise [pay4_at, pay5_at, xh]
theorem pay7_at (t : Fin 6) (s : Fin 256) :
    k0_pay7 (F := Ideal) x (ix3 t s 0) = Finset.univ.sup fun d => aab (xh (rowX x t s) d) := by
  unfold k0_pay7
  pointwise [pay6_at]
  rw [fold_max_bot]; rfl
theorem pay8_at (t : Fin 6) (s : Fin 256) : k0_pay8 (F := Ideal) x (ix3 t s 0)
    = Ideal.cmp .oeq (k0_pay7 (F := Ideal) x (ix3 t s 0)) (Ideal.ofBits .f32 0x00000000#32) := by
  unfold k0_pay8; rw [cmpf_at, bcast_at, ofBits_at]
theorem pay9_at (t : Fin 6) (s : Fin 256) : k0_pay9 (F := Ideal) x (ix3 t s 0)
    = min (Ideal.ofBits .f32 0x42FC0000#32) (max (Ideal.ofBits .f32 0xC2FC0000#32)
        (Ideal.liftRound Int.floor (Ideal.div (Ideal.log (k0_pay7 (F := Ideal) x (ix3 t s 0) * Ideal.ofBits .f32 0x3B124925#32))
          ((Real.log 2 : ℝ) : EReal)) + Ideal.ofBits .f32 0x3F800000#32)) := by
  unfold k0_pay9
  rw [minimumf_at, bcast_at, ofBits_at, maximumf_at, bcast_at, ofBits_at, addf_at, floor_at, divf_at, log_at, mulf_at,
    bcast_at, bcast_at, bcast_at, ofBits_at, ofBits_at, ln2]
/-- The exponent the reference chooses for a row. -/
theorem pay11_at (t : Fin 6) (s : Fin 256) :
    k0_pay11 (F := Ideal) (k0_pay8 (F := Ideal) x) (k0_pay9 (F := Ideal) x) k0_pay10 (ix3 t s 0) = ((expo (xq (rowX x t s)) : ℝ) : EReal) := by
  refine Eq.trans ?_ (ref_select lit_448 (Finset.univ.sup fun d => aab (xh (rowX x t s) d)) (sup_nonneg _ fun d => absf_nonneg _))
  unfold k0_pay11 k0_pay10
  rw [select_at, bcast_at, ofBits_at, pay8_at, pay9_at, pay7_at]
theorem pay12_at (t : Fin 6) (s : Fin 256) :
    k0_pay12 (F := Ideal) (k0_pay8 (F := Ideal) x) (k0_pay9 (F := Ideal) x) k0_pay10 (ix3 t s 0) = xscale (rowX x t s) := by
  unfold k0_pay12
  rw [exp2_at, pay11_at, exp2_coe]; rfl
theorem bcastTo_row (v : FVec Ideal S6x256x1 .f32) (t : Fin 6) (s : Fin 256) (d : Fin 1280) :
    broadcastTo S6x256x1280 v broadcasts_S6x256x1_S6x256x1280 (ix3 t s d) = v (ix3 t s 0) := by
  pointwise []
theorem pay13_at (t : Fin 6) (s : Fin 256) (d : Fin 1280) :
    k0_pay13 (F := Ideal) (k0_pay6 (F := Ideal) x) (k0_pay8 (F := Ideal) x) (k0_pay9 (F := Ideal) x) k0_pay10 (ix3 t s d) = xcode (rowX x t s) d := by
  unfold k0_pay13
  rw [truncf_at, minimumf_at, bcast_at, ofBits_at, maximumf_at, bcast_at, ofBits_at, mulf_at, bcastTo_row, exp2_at, subf_at, bcast_at,
    ofBits_at, pay11_at, pay6_at, lit_zero, zero_sub,
    show -(((expo (xq (rowX x t s)) : ℤ) : ℝ) : EReal) = (((-expo (xq (rowX x t s)) : ℤ) : ℝ) : EReal) from by push_cast; rfl, exp2_coe]
  rfl
theorem pay14_at (t : Fin 6) (s : Fin 256) :
    k0_pay14 (F := Ideal) (k0_pay8 (F := Ideal) x) (k0_pay9 (F := Ideal) x) k0_pay10 (ix2 t s) = xscale (rowX x t s) := by
  unfold k0_pay14
  generalize hz : k0_pay12 (F := Ideal) (k0_pay8 (F := Ideal) x) (k0_pay9 (F := Ideal) x) k0_pay10 = z
  have e := pay12_at x t s
  rw [hz] at e
  rw [← e]
  pointwise []
end Cert.RefActIdeal.Hand

end
-- ==== Proof.RefActDa.lean ====
/- The gradient of the activation and its quantisation by the reference of the activation step, over the extended reals:
   each value, read at an entry, is the specification's. -/
module

public import proofs.«01_k».proof.Proof.ActDaSpec
public import proofs.«01_k».proof.Proof.RefActLn

@[expose] public section

set_option maxRecDepth 16384

noncomputable section

namespace Cert.RefActIdeal.Hand

open Cert.RefActIdeal Cert.RefActIdeal.Gen Cert.ActMath
open Idealize.ShloMosaic Idealize.ShloMosaic.Tactic

theorem named_a : (Named.named (F := Ideal) (φ := .f32) κ "gelu_a" 0x3D372713#32 : EReal) = (gA : EReal) :=
  (IdealRules.named_const.ideal_named_scalar _ _ _ _ rfl).trans (congrArg (fun r : ℝ => (r : EReal)) (by unfold gA; norm_num))
theorem named_c : (Named.named (F := Ideal) (φ := .f32) κ "gelu_c" 0x3F4C422A#32 : EReal) = (gC : EReal) :=
  (IdealRules.named_const.ideal_named_scalar _ _ _ _ rfl).trans (congrArg (fun r : ℝ => (r : EReal)) (by unfold gC; norm_num))
theorem named_3a : (Named.named (F := Ideal) (φ := .f32) κ "gelu_3a" 0x3E095D4F#32 : EReal) = ((3 * gA : ℝ) : EReal) :=
  (IdealRules.named_const.ideal_named_scalar _ _ _ _ rfl).trans (congrArg (fun r : ℝ => (r : EReal)) (by unfold gA; norm_num))

/-- A table of row scales laid along a row. -/
theorem bcastTo_scale (v : FVec Ideal S6x256 .f32) (t : Fin 6) (s : Fin 256) (j : Fin 5120) :
    broadcastTo S6x256x5120 (shapeCast S6x256x1 v shapeCasts_S6x256_S6x256x1) broadcasts_S6x256x1_S6x256x5120 (ix3 t s j) = v (ix2 t s) := by
  pointwise []
theorem bcastTo_row5 (v : FVec Ideal S6x256x1 .f32) (t : Fin 6) (s : Fin 256) (j : Fin 5120) :
    broadcastTo S6x256x5120 v broadcasts_S6x256x1_S6x256x5120 (ix3 t s j) = v (ix3 t s 0) := by
  pointwise []

section
variable (x0 : Vec Ideal S6x256x1280 .fp8e5m2) (x1 : Vec Ideal S6x256 .f32) (x6 : Vec Ideal S6x256x5120 .fp8e4m3) (x7 : Vec Ideal S6x256 .f32)
  (x10 : Vec Ideal S5120x1280 .fp8e4m3) (x11 : Vec Ideal S1280 .f32)

/-- The gradient through the output product, times its row scale. -/
theorem pay16_at (t : Fin 6) (s : Fin 256) (j : Fin 5120) :
    k0_pay16 (F := Ideal) (k0_pay2 x1) x10 x11 x0 (ix3 t s j)
      = dgS (fun d => x0 (ix3 t s d)) (fun d => x11 (ix1 d)) (fun j d => x10 (ix2 j d)) j * (x1 (ix2 t s) : EReal) := by
  pointwise [k0_pay16, k0_pay2, dgS]

/-- The gradient of the activation. -/
theorem pay17_at (g : FVec Ideal S6x256x5120 .f32) (t : Fin 6) (s : Fin 256) (j : Fin 5120) :
    k0_pay17 (F := Ideal) g x6 x7 (ix3 t s j) = (g (ix3 t s j) : EReal) * gelu ((x6 (ix3 t s j) : EReal) * (x7 (ix2 t s) : EReal)) := by
  unfold k0_pay17
  simp only [mulf_at, addf_at, subf_at, tanh_at, bcast_at, ofBits_at, extf_at]
  rw [bcastTo_scale, named_a, named_c, named_3a, lit_one, lit_half]
  rfl

abbrev DA (t : Fin 6) (s : Fin 256) : Fin 5120 → EReal :=
  da (fun d => x0 (ix3 t s d)) (fun d => x11 (ix1 d)) (fun j d => x10 (ix2 j d)) (fun j => x6 (ix3 t s j)) (x7 (ix2 t s)) (x1 (ix2 t s))
abbrev DQ (t : Fin 6) (s : Fin 256) : EReal :=
  daq (fun d => x0 (ix3 t s d)) (fun d => x11 (ix1 d)) (fun j d => x10 (ix2 j d)) (fun j => x6 (ix3 t s j)) (x7 (ix2 t s)) (x1 (ix2 t s))

theorem pay17_da (t : Fin 6) (s : Fin 256) (j : Fin 5120) :
    k0_pay17 (F := Ideal) (k0_pay16 (k0_pay2 x1) x10 x11 x0) x6 x7 (ix3 t s j) = DA x0 x1 x6 x7 x10 x11 t s j := by
  rw [pay17_at, pay16_at]; rfl

theorem maxrow (v : FVec Ideal S6x256x5120 .f32) (t : Fin 6) (s : Fin 256) :
    shapeCast S6x256x1 (multiReduction .maximumf [2] S6x256 v 0xFF800000#32 reduces_S6x256x5120_S6x256 (.inl rfl) rfl) shapeCasts_S6x256_S6x256x1 (ix3 t s 0)
      = Finset.univ.sup fun j => (v (ix3 t s j) : EReal) := by
  pointwise []
  rw [fold_max_bot]
theorem pay18_at (t : Fin 6) (s : Fin 256) :
    k0_pay18 (F := Ideal) (k0_pay16 (k0_pay2 x1) x10 x11 x0) x6 x7 (ix3 t s 0) = Finset.univ.sup fun j => aab (DA x0 x1 x6 x7 x10 x11 t s j) := by
  unfold k0_pay18
  rw [maxrow]
  simp only [absf_at, pay17_da]
theorem pay19_at (g : FVec Ideal S6x256x5120 .f32) (t : Fin 6) (s : Fin 256) : k0_pay19 (F := Ideal) g x6 x7 (ix3 t s 0)
    = Ideal.liftRound Int.floor (Ideal.div (Ideal.log (k0_pay18 (F := Ideal) g x6 x7 (ix3 t s 0) * Ideal.ofBits .f32 0x37924925#32))
          ((Real.log 2 : ℝ) : EReal)) + Ideal.ofBits .f32 0x3F800000#32 := by
  unfold k0_pay19
  rw [addf_at, floor_at, divf_at, log_at, mulf_at, bcast_at, bcast_at, bcast_at, ofBits_at, ofBits_at, ln2]
/-- The exponent the reference chooses for a row. -/
theorem pay20_at (t : Fin 6) (s : Fin 256) :
    k0_pay20 (F := Ideal) (k0_pay18 (k0_pay16 (k0_pay2 x1) x10 x11 x0) x6 x7) (k0_pay19 (k0_pay16 (k0_pay2 x1) x10 x11 x0) x6 x7)
        (Scalar.ofBits .f32 0x00000000#32) (ix3 t s 0) = ((expo (DQ x0 x1 x6 x7 x10 x11 t s) : ℝ) : EReal) := by
  refine Eq.trans ?_ (ref_select lit_57344 (Finset.univ.sup fun j => aab (DA x0 x1 x6 x7 x10 x11 t s j)) (sup_nonneg _ fun d => absf_nonneg _))
  unfold k0_pay20
  rw [select_at, cmpf_at, bcast_at, ofBits_at, minimumf_at, maximumf_at, bcast_at, bcast_at, ofBits_at, ofBits_at, pay19_at, pay18_at]
theorem pay21_at (t : Fin 6) (s : Fin 256) :
    k0_pay21 (F := Ideal) (k0_pay18 (k0_pay16 (k0_pay2 x1) x10 x11 x0) x6 x7) (k0_pay19 (k0_pay16 (k0_pay2 x1) x10 x11 x0) x6 x7)
        (Scalar.ofBits .f32 0x00000000#32) (ix3 t s 0) = p2 (expo (DQ x0 x1 x6 x7 x10 x11 t s)) := by
  unfold k0_pay21
  rw [exp2_at, pay20_at, exp2_coe]
/-- The codes of the reference. -/
theorem pay22_at (t : Fin 6) (s : Fin 256) (j : Fin 5120) :
    k0_pay22 (F := Ideal) (k0_pay17 (k0_pay16 (k0_pay2 x1) x10 x11 x0) x6 x7) (k0_pay18 (k0_pay16 (k0_pay2 x1) x10 x11 x0) x6 x7)
        (k0_pay19 (k0_pay16 (k0_pay2 x1) x10 x11 x0) x6 x7) (Scalar.ofBits .f32 0x00000000#32) (ix3 t s j)
      = dacode (fun d => x0 (ix3 t s d)) (fun d => x11 (ix1 d)) (fun j d => x10 (ix2 j d)) (fun j => x6 (ix3 t s j)) (x7 (ix2 t s)) (x1 (ix2 t s)) j := by
  unfold k0_pay22
  have e := pay20_at x0 x1 x6 x7 x10 x11 t s
  generalize k0_pay20 (F := Ideal) (k0_pay18 (k0_pay16 (k0_pay2 x1) x10 x11 x0) x6 x7) (k0_pay19 (k0_pay16 (k0_pay2 x1) x10 x11 x0) x6 x7)
        (Scalar.ofBits .f32 0x00000000#32) = z at e ⊢
  rw [truncf_at, minimumf_at, bcast_at, ofBits_at, maximumf_at, bcast_at, ofBits_at, mulf_at, bcastTo_row5, exp2_at, subf_at, bcast_at,
    ofBits_at, e, pay17_da, lit_zero, zero_sub,
    show -(((expo (DQ x0 x1 x6 x7 x10 x11 t s) : ℤ) : ℝ) : EReal) = (((-expo (DQ x0 x1 x6 x7 x10 x11 t s) : ℤ) : ℝ) : EReal) from by push_cast; rfl, exp2_coe]
  rfl
/-- The scales of the reference. -/
theorem pay23_at (t : Fin 6) (s : Fin 256) :
    k0_pay23 (F := Ideal) (k0_pay18 (k0_pay16 (k0_pay2 x1) x10 x11 x0) x6 x7) (k0_pay19 (k0_pay16 (k0_pay2 x1) x10 x11 x0) x6 x7)
        (Scalar.ofBits .f32 0x00000000#32) (ix2 t s)
      = dascale (fun d => x0 (ix3 t s d)) (fun d => x11 (ix1 d)) (fun j d => x10 (ix2 j d)) (fun j => x6 (ix3 t s j)) (x7 (ix2 t s)) (x1 (ix2 t s)) := by
  unfold k0_pay23
  have e := pay21_at x0 x1 x6 x7 x10 x11 t s
  generalize k0_pay21 (F := Ideal) (k0_pay18 (k0_pay16 (k0_pay2 x1) x10 x11 x0) x6 x7) (k0_pay19 (k0_pay16 (k0_pay2 x1) x10 x11 x0) x6 x7)
        (Scalar.ofBits .f32 0x00000000#32) = z at e ⊢
  refine Eq.trans ?_ e
  pointwise []
end
end Cert.RefActIdeal.Hand

end
-- ==== Proof.RefActFinal.lean ====
/- The arrays that the reference of the activation step leaves are the specification's. -/
module

public import proofs.«01_k».proof.Proof.Gen.RefActIdeal.Value
public import proofs.«01_k».proof.Proof.ActResults
public import proofs.«01_k».proof.Proof.RefActDa

@[expose] public section

set_option maxRecDepth 16384

noncomputable section

namespace Cert.RefActIdeal.Hand

open Cert.RefActIdeal Cert.RefActIdeal.Gen Cert.RefActIdeal.Value Cert.ActMath
open Idealize.ShloMosaic Idealize.ShloMosaic.TcCoe Idealize.ShloMosaic.Tactic

variable (a0 : Vec Ideal S6x256x1280 .fp8e5m2) (a1 : Vec Ideal S6x256 .f32) (a2 : Vec Ideal S6x256x3x10x128 .fp8e5m2)
  (a3 : Vec Ideal S6x256 .f32) (a4 : Vec Ideal S6x256x1280 .bf16) (a5 : Vec Ideal S1280 .f32) (a6 : Vec Ideal S6x256x5120 .fp8e4m3)
  (a7 : Vec Ideal S6x256 .f32) (a8 : Vec Ideal S1280x5120 .fp8e4m3) (a9 : Vec Ideal S5120 .f32) (a10 : Vec Ideal S5120x1280 .fp8e4m3)
  (a11 : Vec Ideal S1280 .f32) (a12 : Vec Ideal S1280x3x10x128 .fp8e4m3) (a13 : Vec Ideal S3x10x128 .f32)

theorem z1 : (![0] : Fin 1 → Nat) = fun _ => 0 := funext fun a => by fin_cases a <;> rfl
theorem z2 : (![0, 0] : Fin 2 → Nat) = fun _ => 0 := funext fun a => by fin_cases a <;> rfl
theorem z3 : (![0, 0, 0] : Fin 3 → Nat) = fun _ => 0 := funext fun a => by fin_cases a <;> rfl
theorem ld_x (x : Vec Ideal S6x256x1280 .bf16) : View.ld x r0_1 = x := View.ld_unit_zero (S := S6x256x1280) z3 _ _
theorem ld_dy (x : Vec Ideal S6x256x1280 .fp8e5m2) : View.ld x r0_1 = x := View.ld_unit_zero (S := S6x256x1280) z3 _ _
theorem ld_row (x : Vec Ideal S6x256 .f32) : View.ld x r0_0 = x := View.ld_unit_zero (S := S6x256) z2 _ _
theorem ld_w (x : Vec Ideal S5120x1280 .fp8e4m3) : View.ld x r0_3 = x := View.ld_unit_zero (S := S5120x1280) z2 _ _
theorem ld_sw (x : Vec Ideal S1280 .f32) : View.ld x r0_4 = x := View.ld_unit_zero (S := S1280) z1 _ _
theorem ld_a (x : Vec Ideal S6x256x5120 .fp8e4m3) : View.ld x r0_5 = x := View.ld_unit_zero (S := S6x256x5120) z3 _ _

/-- The codes of the normalised activations. -/
theorem G15_eq : G15 (F := Ideal) a0 a1 a2 a3 a4 a5 a6 a7 a8 a9 a10 a11 a12 a13 = XC a4 := by
  funext i
  obtain ⟨t, s, d, rfl⟩ : ∃ (t : Fin 6) (s : Fin 256) (d : Fin 1280), i = ix3 t s d := eta3 i
  unfold G15 k0_pay34 k0_pay35 k0_pay36 k0_pay37
  rw [ld_x, pay13_at]; rfl

/-- Their row scales. -/
theorem G16_eq : G16 (F := Ideal) a0 a1 a2 a3 a4 a5 a6 a7 a8 a9 a10 a11 a12 a13 = XS a4 := by
  funext i
  obtain ⟨t, s, rfl⟩ : ∃ (t : Fin 6) (s : Fin 256), i = ix2 t s := eta2 i
  unfold G16 k0_pay35 k0_pay36 k0_pay37
  rw [ld_x, pay14_at]; rfl

/-- The codes of the gradient of the activation. -/
theorem G17_eq : G17 (F := Ideal) a0 a1 a2 a3 a4 a5 a6 a7 a8 a9 a10 a11 a12 a13 = DC a0 a1 a6 a7 a10 a11 := by
  funext i
  obtain ⟨t, s, d, rfl⟩ : ∃ (t : Fin 6) (s : Fin 256) (d : Fin 5120), i = ix3 t s d := eta3 i
  unfold G17 k0_pay39 k0_pay40 k0_pay41 k0_pay38 k0_pay32
  rw [ld_row, ld_w, ld_sw, ld_dy, ld_a, ld_row]
  rw [pay22_at]; rfl

/-- Their row scales. -/
theorem G18_eq : G18 (F := Ideal) a0 a1 a2 a3 a4 a5 a6 a7 a8 a9 a10 a11 a12 a13 = DS a0 a1 a6 a7 a10 a11 := by
  funext i
  obtain ⟨t, s, rfl⟩ : ∃ (t : Fin 6) (s : Fin 256), i = ix2 t s := eta2 i
  unfold G18 k0_pay40 k0_pay41 k0_pay38 k0_pay32
  rw [ld_row, ld_w, ld_sw, ld_dy, ld_a, ld_row]
  rw [pay23_at]; rfl

end Cert.RefActIdeal.Hand

end
-- ==== Proof.ActClaim.lean ====
/- The run of the activation step and the run of its reference, over the extended reals: both end with the specification's arrays. -/
module

public import proofs.«01_k».proof.Defs
public import proofs.«01_k».proof.Proof.Gen.Pre_dy_scale_nonneg
public import proofs.«01_k».proof.Proof.ActFinal
public import proofs.«01_k».proof.Proof.RefActFinal
public import Idealize.ShloMosaic.Lib.Claim

@[expose] public section

set_option maxRecDepth 16384

noncomputable section

namespace Cert.ActIdeal.Hand

open Cert.ActIdeal Cert.ActIdeal.Gen Cert.ActMath
open Idealize.ShloMosaic Idealize.ShloMosaic.TcCoe Idealize.ShloMosaic.Tactic Idealize.SL.Sem
open Idealize.ShloMosaic.Pipeline (RDat Dat)

variable (m : (ℓ : Loc nD τ sig) → Buf (Elt Ideal) ℓ) (ρ : Dev nD → PrngReg)

attribute [local irreducible] kernelRun0_A kernelRun0_B outA outB outsAt0 XC XS DC DS

/-- The precondition says what it is meant to say: no scale of the incoming gradient is negative. -/
theorem nonneg_of_pre (hp : Cert.Pre_ActIdeal_dy_scale_nonneg m) (c : Dev nD) (i : S6x256.Idx) :
    @LE.le EReal _ 0 ((m ((c : Thread nD τ).loc main_arg1) : FVec Ideal S6x256 .f32) i) := by
  have h : Ideal.cmp .oge ((m ((c : Thread nD τ).loc main_arg1) : FVec Ideal S6x256 .f32) i) (Ideal.ofBits .f32 0x00000000#32) = 1 :=
    congrFun (hp c) i
  rw [lit_zero] at h
  exact (Ideal.cmp_oge_eq_one _ _).mp h

/-- The activation step leaves the specification's codes and scales, when no scale of the incoming gradient is negative. -/
theorem run_vals (hx : ∀ (c : Dev nD) i, @LE.le EReal _ 0 ((m ((c : Thread nD τ).loc main_arg1) : FVec Ideal S6x256 .f32) i)) :
    θ_run defs (onTc (τ := τ) (main (F := Ideal))) ⟨m, fun _ => 0, ρ⟩ (fun r => ∀ c : Dev nD,
      r.2.mem ((c : Thread nD τ).loc main_v8_1) = XC (m ((c : Thread nD τ).loc main_arg4))
      ∧ r.2.mem ((c : Thread nD τ).loc main_v8_2) = XS (m ((c : Thread nD τ).loc main_arg4))
      ∧ r.2.mem ((c : Thread nD τ).loc main_v8_3) = DCm m c
      ∧ r.2.mem ((c : Thread nD τ).loc main_v8_4) = DSm m c) :=
  (θ_run defs _ _).mono (fun r h c => by
    obtain ⟨after, hL, hA⟩ := RDat.FramePost.exists_exact h.1 c
    exact ⟨(hA 15).trans (final_15 hL), (hA 16).trans (final_16 hL), (hA 17).trans (final_17 (hx c) hL), (hA 18).trans (final_18 (hx c) hL)⟩)
    (run_main_quiescent m ρ)

end Cert.ActIdeal.Hand

namespace Cert.Proof

open Cert.ActMath
open Idealize.ShloMosaic Idealize.ShloMosaic.TcCoe Idealize.SL.Sem

/-- The activation step and its reference, run over the extended reals on equal arguments with no negative scale of the incoming gradient,
    end with equal codes and row scales: of the normalised activations, and of the gradient of the activation. -/
theorem algebraic_act : Cert.algebraic_ActIdeal_RefActIdeal_pre_dy_scale_nonneg := by
  intro m g m' g' hp hagree
  refine ⟨fun c => XC (m (c.tc.loc Cert.ActIdeal.main_arg4)), fun c => XS (m (c.tc.loc Cert.ActIdeal.main_arg4)),
    fun c => Cert.ActIdeal.Hand.DCm m c, fun c => Cert.ActIdeal.Hand.DSm m c, ?_, ?_⟩
  · refine (θ_run Cert.ActIdeal.defs _ _).mono (fun r h c => ?_)
      (θ_run_and (Cert.ActIdeal.Hand.run_vals m g (Cert.ActIdeal.Hand.nonneg_of_pre m hp)) (Cert.ActIdeal.Hand.unchanged m g))
    obtain ⟨e1, e2, e3, e4⟩ := h.1 c
    exact ⟨e1, e2, e3, e4, h.2 c⟩
  · refine (θ_run Cert.RefActIdeal.defs _ _).mono (fun r h c => ?_) (Cert.RefActIdeal.Value.run m' g')
    obtain ⟨_, e1, e2, e3, e4, _, _, _, hargs⟩ := h c
    obtain ⟨h0, h1, _, _, h4, _, h6, h7, _, _, h10, h11, _, _⟩ := hagree c
    rw [Cert.RefActIdeal.Hand.G15_eq] at e1
    rw [Cert.RefActIdeal.Hand.G16_eq] at e2
    rw [Cert.RefActIdeal.Hand.G17_eq] at e3
    rw [Cert.RefActIdeal.Hand.G18_eq] at e4
    refine ⟨e1.trans ?_, e2.trans ?_, e3.trans ?_, e4.trans ?_, hargs⟩
    · rw [h4]
    · rw [h4]
    · rw [h0, h1, h6, h7, h10, h11]
    · rw [h0, h1, h6, h7, h10, h11]

end Cert.Proof

end
-- ==== Proof.ActBitsRuns.lean ====
/- What the two runs of the activation kernel's body are stated over: the branch conditions of the body in closed form
   over the grid points (`r = 0`: the two column sums are started; `r ≠ 0`: they are added to), where an output window is
   live, the memrefs the pipeline passes to the body, the invariant with the scratch buffer as a memref; and the frame
   claim's post from any relational run (`frame_ofR`). -/
module

public import proofs.«01_k».proof.Proof.Gen.Act.Frame
public import proofs.«01_k».proof.Proof.Gen.Act.Skeleton
public import Idealize.ShloMosaic.Lib.Pipeline.FrameBody
public import Idealize.ShloMosaic.Lib.Pipeline.TableIdle
public import Idealize.ShloMosaic.Lib.Pipeline.DatRel
public import Idealize.ShloMosaic.Lib.Pipeline.ArrRel
public import Idealize.ShloMosaic.Lib.Ring
public import Idealize.ShloMosaic.Lib.Tactic
public import Idealize.ShloMosaic.Lib.WordCmp

@[expose] public section

set_option maxRecDepth 16384

noncomputable section

namespace Cert.Act.Hand

open Cert.Act Cert.Act.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1320000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Act`, at any `F`). -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      ((h c).2 main_arg2 (Pipeline.mem_restRefs_of main_arg2 (by decide) (by decide))).trans (V_main_arg2 m c),
      (Pipeline.RDat.FramePost.arr_in h c 3 rfl).trans ((hA c 3).trans (V_main_arg3 m c)),
      (Pipeline.RDat.FramePost.arr_in h c 4 rfl).trans ((hA c 4).trans (V_main_arg4 m c)),
      ((h c).2 main_arg5 (Pipeline.mem_restRefs_of main_arg5 (by decide) (by decide))).trans (V_main_arg5 m c),
      (Pipeline.RDat.FramePost.arr_in h c 6 rfl).trans ((hA c 6).trans (V_main_arg6 m c)),
      (Pipeline.RDat.FramePost.arr_in h c 7 rfl).trans ((hA c 7).trans (V_main_arg7 m c)),
      (Pipeline.RDat.FramePost.arr_in h c 8 rfl).trans ((hA c 8).trans (V_main_arg8 m c)),
      ((h c).2 main_arg9 (Pipeline.mem_restRefs_of main_arg9 (by decide) (by decide))).trans (V_main_arg9 m c),
      (Pipeline.RDat.FramePost.arr_in h c 10 rfl).trans ((hA c 10).trans (V_main_arg10 m c)),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 6 = 0 :=
  (fun t => by
    have ht : t.val < 6 := Nat.lt_of_lt_of_eq t.isLt N_0
    have e0 : (grid0.coords t 0).val = t.val / 1 % 6 := Pipeline.Grid.coords_val t 0 (by decide) rfl
    simp only [cond0_0, k0_cond1, e0]
    word_cmp
   : ∀ t : Fin grid0.N, cond0_0 (grid0.coords t) ↔ t.val % 6 = 0)

/-- The condition of the body's `scf.if` 1 (`k0_h2`), from the grid coordinates (the skeleton's scalar
    chain substituted). -/
abbrev cond0_1 (i : grid0.Coords) : Prop := k0_cond2 i = 1#1
/-- It holds at the points from point 1 on — by arithmetic of the point. -/
theorem hcond0_1 : ∀ t : Fin cfg0.N, cond0_1 (grid0.coords t) ↔ 1 ≤ t.val :=
  (fun t => by
    have ht : t.val < 6 := Nat.lt_of_lt_of_eq t.isLt N_0
    have e0 : (grid0.coords t 0).val = t.val / 1 % 6 := Pipeline.Grid.coords_val t 0 (by decide) rfl
    simp only [cond0_1, k0_cond2, e0]
    word_cmp
   : ∀ t : Fin grid0.N, cond0_1 (grid0.coords t) ↔ 1 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-- Window 13 is never idle (an input). -/
theorem liveAt0_13 : ∀ t : Fin cfg0.N, cfg0.idle 13 (grid0.coords t) = false := fun _ => rfl
/-- Window 14 is never idle (an output stored at every point, under no condition). -/
theorem liveAt0_14 : ∀ t : Fin cfg0.N, cfg0.idle 14 (grid0.coords t) = false := fun _ => rfl
/-- Window 15 is never idle (an output stored at every point, under no condition). -/
theorem liveAt0_15 : ∀ t : Fin cfg0.N, cfg0.idle 15 (grid0.coords t) = false := fun _ => rfl
/-- Windows 16 and 18 are never idle (outputs stored at every point, under no condition). -/
theorem liveAt0_16 : ∀ t : Fin cfg0.N, cfg0.idle 16 (grid0.coords t) = false := fun _ => rfl
theorem liveAt0_18 : ∀ t : Fin cfg0.N, cfg0.idle 18 (grid0.coords t) = false := fun _ => rfl
/-- Window 17 is never idle (an output stored at every point, under no condition). -/
theorem liveAt0_17 : ∀ t : Fin cfg0.N, cfg0.idle 17 (grid0.coords t) = false := fun _ => rfl
/-- Window 21 is never idle (an output stored at every point, under no condition). -/
theorem liveAt0_21 : ∀ t : Fin cfg0.N, cfg0.idle 21 (grid0.coords t) = false := fun _ => rfl
/-- Whether output 19's buffer is FRESH at each position `1 ‥ N` — holds nothing the body stored since the region's entry or the
    last write-back (written back at the point before, or idle there and fresh before it) —, as a bitmask, bit `n` for position `n + 1`; position 0 is fresh. `freshTab0_19_step` checks it against the configuration's own
    step point by point and Lib/Pipeline/TableIdle.lean `Cfg.fresh_tab` makes it `Cfg.fresh` (`fresh0_19_eq`). -/
def freshTab0_19 : ℕ → Bool
  | 0 => true
  | n + 1 => (0x20 : ℕ).testBit n
theorem freshTab0_19_step : ∀ t : Fin cfg0.N,
    freshTab0_19 (t.val + 1) = ((cfg0.win 19).flush t || (cfg0.idle 19 (cfg0.grid.coords t) && freshTab0_19 t.val)) := by decide +kernel
theorem fresh0_19_eq (t : Fin cfg0.N) : cfg0.fresh 19 t.val = freshTab0_19 t.val :=
  Pipeline.Cfg.fresh_tab cfg0 19 freshTab0_19 rfl freshTab0_19_step t.val (Nat.le_of_lt t.isLt)
/-- At the points of case A the printed configuration (`Cfg.idle`) calls output 19 live: the case stores into it. -/
theorem liveAt0_19_A : ∀ t : Fin cfg0.N, cond0_0 (grid0.coords t) → ¬cond0_1 (grid0.coords t) → cfg0.idle 19 (grid0.coords t) = false := by decide +kernel
/-- At the points of case B the printed configuration (`Cfg.idle`) calls output 19 live: the case stores into it. -/
theorem liveAt0_19_B : ∀ t : Fin cfg0.N, ¬cond0_0 (grid0.coords t) → cond0_1 (grid0.coords t) → cfg0.idle 19 (grid0.coords t) = false := by decide +kernel
/-- At the points of case B, which keeps output 19's prior contents (reads it before covering, or covers it in part), the
    window's buffer is not FRESH: something was stored into it since the region's entry or its last write-back, idle points
    between or not (Lib/Pipeline/TableIdle.lean `Cfg.fresh`, by the table `freshTab0_19`). -/
theorem notFresh0_19_B : ∀ t : Fin cfg0.N, ¬cond0_0 (grid0.coords t) → cond0_1 (grid0.coords t) → cfg0.fresh 19 t.val = false := by
  intro t; rw [fresh0_19_eq t]; revert t; decide +kernel
/-- Whether output 20's buffer is FRESH at each position `1 ‥ N` — holds nothing the body stored since the region's entry or the
    last write-back (written back at the point before, or idle there and fresh before it) —, as a bitmask, bit `n` for position `n + 1`; position 0 is fresh. `freshTab0_20_step` checks it against the configuration's own
    step point by point and Lib/Pipeline/TableIdle.lean `Cfg.fresh_tab` makes it `Cfg.fresh` (`fresh0_20_eq`). -/
def freshTab0_20 : ℕ → Bool
  | 0 => true
  | n + 1 => (0x20 : ℕ).testBit n
theorem freshTab0_20_step : ∀ t : Fin cfg0.N,
    freshTab0_20 (t.val + 1) = ((cfg0.win 20).flush t || (cfg0.idle 20 (cfg0.grid.coords t) && freshTab0_20 t.val)) := by decide +kernel
theorem fresh0_20_eq (t : Fin cfg0.N) : cfg0.fresh 20 t.val = freshTab0_20 t.val :=
  Pipeline.Cfg.fresh_tab cfg0 20 freshTab0_20 rfl freshTab0_20_step t.val (Nat.le_of_lt t.isLt)
/-- At the points of case A the printed configuration (`Cfg.idle`) calls output 20 live: the case stores into it. -/
theorem liveAt0_20_A : ∀ t : Fin cfg0.N, cond0_0 (grid0.coords t) → ¬cond0_1 (grid0.coords t) → cfg0.idle 20 (grid0.coords t) = false := by decide +kernel
/-- At the points of case B the printed configuration (`Cfg.idle`) calls output 20 live: the case stores into it. -/
theorem liveAt0_20_B : ∀ t : Fin cfg0.N, ¬cond0_0 (grid0.coords t) → cond0_1 (grid0.coords t) → cfg0.idle 20 (grid0.coords t) = false := by decide +kernel
/-- At the points of case B, which keeps output 20's prior contents (reads it before covering, or covers it in part), the
    window's buffer is not FRESH: something was stored into it since the region's entry or its last write-back, idle points
    between or not (Lib/Pipeline/TableIdle.lean `Cfg.fresh`, by the table `freshTab0_20`). -/
theorem notFresh0_20_B : ∀ t : Fin cfg0.N, ¬cond0_0 (grid0.coords t) → cond0_1 (grid0.coords t) → cfg0.fresh 20 t.val = false := by
  intro t; rw [fresh0_20_eq t]; revert t; decide +kernel

/-! ## The kernel body on any staging memrefs: a subtype the run finds -/

/-- One staging buffer of output window 14, through which its contents are stated (`View.read_writes_of_cover`: the
    choice does not matter). -/
abbrev VO0_14 : View sig .tc .vmem S1x256x1280 .bf16 := (Memref.whole cc0_stg14_0 : Memref sig .tc .vmem S1x256x1280 .bf16).view
/-- One staging buffer of output window 15, through which its contents are stated (`View.read_writes_of_cover`: the
    choice does not matter). -/
abbrev VO0_15 : View sig .tc .vmem S1x256x1280 .fp8e4m3 := (Memref.whole cc0_stg15_0 : Memref sig .tc .vmem S1x256x1280 .fp8e4m3).view
/-- One staging buffer of output window 17, through which its contents are stated (`View.read_writes_of_cover`: the
    choice does not matter). -/
abbrev VO0_17 : View sig .tc .vmem S1x256x5120 .fp8e5m2 := (Memref.whole cc0_stg17_0 : Memref sig .tc .vmem S1x256x5120 .fp8e5m2).view
/-- One staging buffer of output window 19, through which its contents are stated (`View.read_writes_of_cover`: the
    choice does not matter). -/
abbrev VO0_19 : View sig .tc .vmem S1x1280 .f32 := (Memref.whole cc0_stg19_0 : Memref sig .tc .vmem S1x1280 .f32).view
/-- One staging buffer of output window 20, through which its contents are stated (`View.read_writes_of_cover`: the
    choice does not matter). -/
abbrev VO0_20 : View sig .tc .vmem S1x1280 .f32 := (Memref.whole cc0_stg20_0 : Memref sig .tc .vmem S1x1280 .f32).view
/-- One staging buffer of output window 21, through which its contents are stated (`View.read_writes_of_cover`: the
    choice does not matter). -/
abbrev VO0_21 : View sig .tc .vmem S1280x256 .bf16 := (Memref.whole cc0_stg21_0 : Memref sig .tc .vmem S1280x256 .bf16).view
/-- Each window's current staging memref at point `t`, spelled as the pipeline passes it (`bodyAt0`), and its wholeness. -/
abbrev ms0_0 (t : Fin cfg0.N) : Memref sig .tc .vmem S1x256x1280 .fp8e5m2 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x30x256x128 .fp8e5m2 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S6x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x1280 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1280 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256x5120 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S6x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1280x5120 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x5120 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S5120x1280 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1280 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S30x1280x128 .fp8e4m3 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S10x3x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x256x1280 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x256x1280 .fp8e4m3 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S6x256 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x256x5120 .fp8e5m2 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S6x256 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x1280 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1x1280 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S1280x256 .bf16 := win0_21.stage (cfg0.slots t 21)
abbrev hs0_21 (t : Fin cfg0.N) : (ms0_21 t).IsWhole := hstage0_21 ((cfg0.slots t 21).cast nbuf0_21)
/-- The scratch operands: whole scoped buffers of the kernel's own, passed beside the windows. -/
abbrev scM0_0 : Memref sig .tc .vmem S256x5120 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Act.Hand

end
-- ==== Proof.ActBitsRunA.lean ====
/- The run of the activation kernel's body at the first grid point. -/
module

public import proofs.«01_k».proof.Proof.ActBitsRuns

@[expose] public section

set_option maxRecDepth 16384

noncomputable section

namespace Cert.Act.Hand

open Cert.Act Cert.Act.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

-- (the run's proof term is large)
set_option maxHeartbeats 1600000 in
/-- The body's run at the first grid point (the column sums are started): what its stores leave in each output's
    staging buffer, as pieces (last first), WITH the proof that on whole staging memrefs — the inputs' at their contents,
    the two scale outputs' (windows 16 and 18, of which the body writes one row) at `xo16`, `xo18`, the other outputs'
    and the scratch at anything — the body runs to the continuation holding the inputs' as they were and each output's
    buffer with its pieces written. The pieces are the witness the run finds. -/
noncomputable def kernelRun0_A (c : Dev nD) (i : grid0.Coords) (arg1 : Memref sig .tc .vmem S1x256x1280 .fp8e5m2) (harg1 : arg1.IsWhole) (arg2 : Memref sig .tc .vmem S6x256 .f32) (harg2 : arg2.IsWhole) (arg3 : Memref sig .tc .vmem S1x30x256x128 .fp8e5m2) (harg3 : arg3.IsWhole) (arg4 : Memref sig .tc .vmem S6x256 .f32) (harg4 : arg4.IsWhole) (arg5 : Memref sig .tc .vmem S1x256x1280 .bf16) (harg5 : arg5.IsWhole) (arg6 : Memref sig .tc .vmem S1x1280 .f32) (harg6 : arg6.IsWhole) (arg7 : Memref sig .tc .vmem S1x256x5120 .fp8e4m3) (harg7 : arg7.IsWhole) (arg8 : Memref sig .tc .vmem S6x256 .f32) (harg8 : arg8.IsWhole) (arg9 : Memref sig .tc .vmem S1280x5120 .fp8e4m3) (harg9 : arg9.IsWhole) (arg10 : Memref sig .tc .vmem S1x5120 .f32) (harg10 : arg10.IsWhole) (arg11 : Memref sig .tc .vmem S5120x1280 .fp8e4m3) (harg11 : arg11.IsWhole) (arg12 : Memref sig .tc .vmem S1x1280 .f32) (harg12 : arg12.IsWhole) (arg13 : Memref sig .tc .vmem S30x1280x128 .fp8e4m3) (harg13 : arg13.IsWhole) (arg14 : Memref sig .tc .vmem S10x3x128 .f32) (harg14 : arg14.IsWhole) (arg15 : Memref sig .tc .vmem S1x256x1280 .bf16) (harg15 : arg15.IsWhole) (arg16 : Memref sig .tc .vmem S1x256x1280 .fp8e4m3) (harg16 : arg16.IsWhole) (arg17 : Memref sig .tc .vmem S6x256 .f32) (harg17 : arg17.IsWhole) (arg18 : Memref sig .tc .vmem S1x256x5120 .fp8e5m2) (harg18 : arg18.IsWhole) (arg19 : Memref sig .tc .vmem S6x256 .f32) (harg19 : arg19.IsWhole) (arg20 : Memref sig .tc .vmem S1x1280 .f32) (harg20 : arg20.IsWhole) (arg21 : Memref sig .tc .vmem S1x1280 .f32) (harg21 : arg21.IsWhole) (arg22 : Memref sig .tc .vmem S1280x256 .bf16) (harg22 : arg22.IsWhole) (arg23 : Memref sig .tc .vmem S256x5120 .f32) (harg23 : arg23.IsWhole) (hc0 : cond0_0 i) (hc1 : ¬cond0_1 i)
    (x0 : Vec F S1x256x1280 .fp8e5m2) (x1 : Vec F S6x256 .f32) (x2 : Vec F S1x30x256x128 .fp8e5m2) (x3 : Vec F S6x256 .f32) (x4 : Vec F S1x256x1280 .bf16) (x5 : Vec F S1x1280 .f32) (x6 : Vec F S1x256x5120 .fp8e4m3) (x7 : Vec F S6x256 .f32) (x8 : Vec F S1280x5120 .fp8e4m3) (x9 : Vec F S1x5120 .f32) (x10 : Vec F S5120x1280 .fp8e4m3) (x11 : Vec F S1x1280 .f32) (x12 : Vec F S30x1280x128 .fp8e4m3) (x13 : Vec F S10x3x128 .f32) (xo16 : Vec F S6x256 .f32) (xo18 : Vec F S6x256 .f32) :
    Σ' (L14 : List (View.Piece (Elt F) S1x256x1280 .bf16)), Σ' (L15 : List (View.Piece (Elt F) S1x256x1280 .fp8e4m3)), Σ' (L16 : List (View.Piece (Elt F) S6x256 .f32)), Σ' (L17 : List (View.Piece (Elt F) S1x256x5120 .fp8e5m2)), Σ' (L18 : List (View.Piece (Elt F) S6x256 .f32)), Σ' (L19 : List (View.Piece (Elt F) S1x1280 .f32)), Σ' (L20 : List (View.Piece (Elt F) S1x1280 .f32)), Σ' (L21 : List (View.Piece (Elt F) S1280x256 .bf16)), { LT0 : List (View.Piece (Elt F) S256x5120 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ owns (c : Thread nD τ) arg17 fullShare xo16 ∗ (∃ d, owns (c : Thread nD τ) arg18 fullShare d) ∗ owns (c : Thread nD τ) arg19 fullShare xo18 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (arg17.view.loc (c : Thread nD τ) ↦[arg17.view.set]{fullShare} arg17.view.writes (Elt F) (harg17.unread xo16) L16) ∗ (∃ f, arg18.view.loc (c : Thread nD τ) ↦[arg18.view.set]{fullShare} arg18.view.writes (Elt F) f L17) ∗ (arg19.view.loc (c : Thread nD τ) ↦[arg19.view.set]{fullShare} arg19.view.writes (Elt F) (harg19.unread xo18) L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f LT0)) -∗ K ⟨⟩))
          ⊢ wp frame (wpE (defs₀ (F := F)) Variants.none c none) E (cc0_act i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, ?_, ?_, ?_, fun E K => ?run⟩
  case run =>
    simp only [cc0_act_eq_skeleton]; unfold cc0_act_skel
    simp only [k0_part35_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%f16, %hf16, H16⟩, ⟨%d17, %f17, -, H17⟩, ⟨%f18, %hf18, H18⟩, ⟨%d19, %f19, -, H19⟩, ⟨%d20, %f20, -, H20⟩, ⟨%d21, %f21, -, H21⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg17.eq_unread hf16; obtain rfl := harg19.eq_unread hf18
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    isplitl [H15]; · iexists _; iexact H15
    isplitl [H16]; · iexact H16
    isplitl [H17]; · iexists _; iexact H17
    isplitl [H18]; · iexact H18
    isplitl [H19]; · iexists _; iexact H19
    isplitl [H20]; · iexists _; iexact H20
    isplitl [H21]; · iexists _; iexact H21
    iexists _; iexact HS0

end Cert.Act.Hand

end
-- ==== Proof.ActBitsRunB.lean ====
/- The run of the activation kernel's body at every later grid point. -/
module

public import proofs.«01_k».proof.Proof.ActBitsRuns

@[expose] public section

set_option maxRecDepth 16384

noncomputable section

namespace Cert.Act.Hand

open Cert.Act Cert.Act.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

-- (the run's proof term is large)
set_option maxHeartbeats 1600000 in
/-- The body's run at a later grid point (the column sums are added to): what its stores leave in each output's
    staging buffer, as pieces (last first), WITH the proof that on whole staging memrefs — the inputs' at their contents,
    the two scale outputs' (windows 16 and 18, of which the body writes one row) at `xo16`, `xo18`, the two column sums at `xo19`, `xo20`, the other outputs'
    and the scratch at anything — the body runs to the continuation holding the inputs' as they were and each output's
    buffer with its pieces written. The pieces are the witness the run finds. -/
noncomputable def kernelRun0_B (c : Dev nD) (i : grid0.Coords) (arg1 : Memref sig .tc .vmem S1x256x1280 .fp8e5m2) (harg1 : arg1.IsWhole) (arg2 : Memref sig .tc .vmem S6x256 .f32) (harg2 : arg2.IsWhole) (arg3 : Memref sig .tc .vmem S1x30x256x128 .fp8e5m2) (harg3 : arg3.IsWhole) (arg4 : Memref sig .tc .vmem S6x256 .f32) (harg4 : arg4.IsWhole) (arg5 : Memref sig .tc .vmem S1x256x1280 .bf16) (harg5 : arg5.IsWhole) (arg6 : Memref sig .tc .vmem S1x1280 .f32) (harg6 : arg6.IsWhole) (arg7 : Memref sig .tc .vmem S1x256x5120 .fp8e4m3) (harg7 : arg7.IsWhole) (arg8 : Memref sig .tc .vmem S6x256 .f32) (harg8 : arg8.IsWhole) (arg9 : Memref sig .tc .vmem S1280x5120 .fp8e4m3) (harg9 : arg9.IsWhole) (arg10 : Memref sig .tc .vmem S1x5120 .f32) (harg10 : arg10.IsWhole) (arg11 : Memref sig .tc .vmem S5120x1280 .fp8e4m3) (harg11 : arg11.IsWhole) (arg12 : Memref sig .tc .vmem S1x1280 .f32) (harg12 : arg12.IsWhole) (arg13 : Memref sig .tc .vmem S30x1280x128 .fp8e4m3) (harg13 : arg13.IsWhole) (arg14 : Memref sig .tc .vmem S10x3x128 .f32) (harg14 : arg14.IsWhole) (arg15 : Memref sig .tc .vmem S1x256x1280 .bf16) (harg15 : arg15.IsWhole) (arg16 : Memref sig .tc .vmem S1x256x1280 .fp8e4m3) (harg16 : arg16.IsWhole) (arg17 : Memref sig .tc .vmem S6x256 .f32) (harg17 : arg17.IsWhole) (arg18 : Memref sig .tc .vmem S1x256x5120 .fp8e5m2) (harg18 : arg18.IsWhole) (arg19 : Memref sig .tc .vmem S6x256 .f32) (harg19 : arg19.IsWhole) (arg20 : Memref sig .tc .vmem S1x1280 .f32) (harg20 : arg20.IsWhole) (arg21 : Memref sig .tc .vmem S1x1280 .f32) (harg21 : arg21.IsWhole) (arg22 : Memref sig .tc .vmem S1280x256 .bf16) (harg22 : arg22.IsWhole) (arg23 : Memref sig .tc .vmem S256x5120 .f32) (harg23 : arg23.IsWhole) (hc0 : ¬cond0_0 i) (hc1 : cond0_1 i)
    (x0 : Vec F S1x256x1280 .fp8e5m2) (x1 : Vec F S6x256 .f32) (x2 : Vec F S1x30x256x128 .fp8e5m2) (x3 : Vec F S6x256 .f32) (x4 : Vec F S1x256x1280 .bf16) (x5 : Vec F S1x1280 .f32) (x6 : Vec F S1x256x5120 .fp8e4m3) (x7 : Vec F S6x256 .f32) (x8 : Vec F S1280x5120 .fp8e4m3) (x9 : Vec F S1x5120 .f32) (x10 : Vec F S5120x1280 .fp8e4m3) (x11 : Vec F S1x1280 .f32) (x12 : Vec F S30x1280x128 .fp8e4m3) (x13 : Vec F S10x3x128 .f32) (xo16 : Vec F S6x256 .f32) (xo18 : Vec F S6x256 .f32) (xo19 : Vec F S1x1280 .f32) (xo20 : Vec F S1x1280 .f32) :
    Σ' (L14 : List (View.Piece (Elt F) S1x256x1280 .bf16)), Σ' (L15 : List (View.Piece (Elt F) S1x256x1280 .fp8e4m3)), Σ' (L16 : List (View.Piece (Elt F) S6x256 .f32)), Σ' (L17 : List (View.Piece (Elt F) S1x256x5120 .fp8e5m2)), Σ' (L18 : List (View.Piece (Elt F) S6x256 .f32)), Σ' (L19 : List (View.Piece (Elt F) S1x1280 .f32)), Σ' (L20 : List (View.Piece (Elt F) S1x1280 .f32)), Σ' (L21 : List (View.Piece (Elt F) S1280x256 .bf16)), { LT0 : List (View.Piece (Elt F) S256x5120 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ owns (c : Thread nD τ) arg17 fullShare xo16 ∗ (∃ d, owns (c : Thread nD τ) arg18 fullShare d) ∗ owns (c : Thread nD τ) arg19 fullShare xo18 ∗ owns (c : Thread nD τ) arg20 fullShare xo19 ∗ owns (c : Thread nD τ) arg21 fullShare xo20 ∗ (∃ d, owns (c : Thread nD τ) arg22 fullShare d) ∗ (∃ d, owns (c : Thread nD τ) arg23 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (arg17.view.loc (c : Thread nD τ) ↦[arg17.view.set]{fullShare} arg17.view.writes (Elt F) (harg17.unread xo16) L16) ∗ (∃ f, arg18.view.loc (c : Thread nD τ) ↦[arg18.view.set]{fullShare} arg18.view.writes (Elt F) f L17) ∗ (arg19.view.loc (c : Thread nD τ) ↦[arg19.view.set]{fullShare} arg19.view.writes (Elt F) (harg19.unread xo18) L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f LT0)) -∗ K ⟨⟩))
          ⊢ wp frame (wpE (defs₀ (F := F)) Variants.none c none) E (cc0_act i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, ?_, ?_, ?_, fun E K => ?run⟩
  case run =>
    simp only [cc0_act_eq_skeleton]; unfold cc0_act_skel
    simp only [k0_part35_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%f16, %hf16, H16⟩, ⟨%d17, %f17, -, H17⟩, ⟨%f18, %hf18, H18⟩, ⟨%f19, %hf19, H19⟩, ⟨%f20, %hf20, H20⟩, ⟨%d21, %f21, -, H21⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg17.eq_unread hf16; obtain rfl := harg19.eq_unread hf18; obtain rfl := harg20.eq_unread hf19; obtain rfl := harg21.eq_unread hf20
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    isplitl [H15]; · iexists _; iexact H15
    isplitl [H16]; · iexact H16
    isplitl [H17]; · iexists _; iexact H17
    isplitl [H18]; · iexact H18
    isplitl [H19]; · iexists _; iexact H19
    isplitl [H20]; · iexists _; iexact H20
    isplitl [H21]; · iexists _; iexact H21
    iexists _; iexact HS0

end Cert.Act.Hand

end
-- ==== Proof.ActBitsOuts.lean ====
/- The contents the activation kernel's body leaves point by point, over its program as written: the two
   runs at the memrefs and blocks of a grid point, what each output's staging buffer then holds, and the row facts of
   the two scale outputs (windows 16 and 18), of which the body writes one row at each point. -/
module

public import proofs.«01_k».proof.Proof.ActBitsRunA
public import proofs.«01_k».proof.Proof.ActBitsRunB
public import Idealize.ShloMosaic.Lib.WritesUnit
public import Idealize.ShloMosaic.Lib.Pointwise.Index

@[expose] public section

set_option maxRecDepth 16384

noncomputable section

namespace Cert.Act.Hand

open Cert.Act Cert.Act.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The whole staging buffer of output window 16, through which its rows are stated. -/
abbrev VO0_16 : View sig .tc .vmem S6x256 .f32 := (Memref.whole cc0_stg16_0 : Memref sig .tc .vmem S6x256 .f32).view
/-- The whole staging buffer of output window 18, through which its rows are stated. -/
abbrev VO0_18 : View sig .tc .vmem S6x256 .f32 := (Memref.whole cc0_stg18_0 : Memref sig .tc .vmem S6x256 .f32).view

/-- The one row that the body stores into at a point is the point's. -/
theorem off_row : ∀ t : Fin cfg0.N, k0_off1 (grid0.coords t) = ![t.val, 0] := by decide +kernel

/-- The body's run of case A at point `t`: at the memrefs the pipeline passes and the inputs' blocks there. -/
abbrev runA (c : Dev nD) (t : Fin cfg0.N) (h0 : t.val % 6 = 0) (h1 : ¬1 ≤ t.val) (xo16 xo18 : Vec F S6x256 .f32) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) xo16 xo18

/-- Case A's pieces for output 14 cover its block. -/
theorem coverA_14 (c : Dev nD) (t : Fin cfg0.N) (h0 : t.val % 6 = 0) (h1 : ¬1 ≤ t.val) (xo16 xo18 : Vec F S6x256 .f32) (y : S1x256x1280.Idx) :
    ∃ pc ∈ (runA m c t h0 h1 xo16 xo18).1, y ∈ pc.1.set :=
  View.cover_of_tiledL (runA m c t h0 h1 xo16 xo18).1 S1x256x1280.size (by sl_kernel_rfl) y
/-- Case A's pieces for output 15 cover its block. -/
theorem coverA_15 (c : Dev nD) (t : Fin cfg0.N) (h0 : t.val % 6 = 0) (h1 : ¬1 ≤ t.val) (xo16 xo18 : Vec F S6x256 .f32) (y : S1x256x1280.Idx) :
    ∃ pc ∈ (runA m c t h0 h1 xo16 xo18).2.1, y ∈ pc.1.set :=
  View.cover_of_tiledL (runA m c t h0 h1 xo16 xo18).2.1 S1x256x1280.size (by sl_kernel_rfl) y
/-- Row `t` of window 16 after the body of case A, whatever the buffer held: the row the step stores. -/
theorem rowA_16 (c : Dev nD) (t : Fin cfg0.N) (h0 : t.val % 6 = 0) (h1 : ¬1 ≤ t.val) (xo16 xo18 : Vec F S6x256 .f32) (v : View sig .tc .vmem S6x256 .f32)
    (f : v.ty.Contents (Elt F)) (r : Fin 6) (s : Fin 256) (hr : r.val = t.val) :
    v.read (Elt F) (v.writes (Elt F) f (runA m c t h0 h1 xo16 xo18).2.2.1) (ix2 r s)
      = k0_pay43 (kernelRun0_A.sl.r_14 c (ms0_4 t) (hs0_4 t) (iblk m c 4 t)) (ix2 0 s) :=
  View.read_writes_cons_rows_of_mem v f (off := k0_off1 (grid0.coords t)) (size := ![1, 256]) (k0_off1_inb (grid0.coords t))
    (k0_pay43 (kernelRun0_A.sl.r_14 c (ms0_4 t) (hs0_4 t) (iblk m c 4 t))) [] (ix2 r s) (ix2 (0 : Fin 1) s) (off_row t) hr rfl
/-- The same row, read through the canonical view. -/
theorem hitA_16 (c : Dev nD) (t : Fin cfg0.N) (h0 : t.val % 6 = 0) (h1 : ¬1 ≤ t.val) (xo16 xo18 : Vec F S6x256 .f32) (v : View sig .tc .vmem S6x256 .f32)
    (f : v.ty.Contents (Elt F)) (r : Fin 6) (s : Fin 256) (hr : r.val = t.val) :
    v.read (Elt F) (v.writes (Elt F) f (runA m c t h0 h1 xo16 xo18).2.2.1) (ix2 r s)
      = VO0_16.read (Elt F) (VO0_16.writes (Elt F) VO0_16.junk (runA m c t h0 h1 (iblk m c 1 t) (iblk m c 1 t)).2.2.1) (ix2 r s) :=
  (rowA_16 m c t h0 h1 xo16 xo18 v f r s hr).trans (rowA_16 m c t h0 h1 (iblk m c 1 t) (iblk m c 1 t) VO0_16 VO0_16.junk r s hr).symm
/-- Another row of window 16 after the body of case A is what the buffer held. -/
theorem missA_16 (c : Dev nD) (t : Fin cfg0.N) (h0 : t.val % 6 = 0) (h1 : ¬1 ≤ t.val) (xo16 xo18 : Vec F S6x256 .f32) (v : View sig .tc .vmem S6x256 .f32)
    (f : v.ty.Contents (Elt F)) (r : Fin 6) (s : Fin 256) (hr : r.val ≠ t.val) :
    v.read (Elt F) (v.writes (Elt F) f (runA m c t h0 h1 xo16 xo18).2.2.1) (ix2 r s) = v.read (Elt F) f (ix2 r s) := by
  have e : (runA m c t h0 h1 xo16 xo18).2.2.1 = [⟨Rect.unit (k0_off1 (grid0.coords t)) ![1, 256] (k0_off1_inb (grid0.coords t)),
      k0_pay43 (kernelRun0_A.sl.r_14 c (ms0_4 t) (hs0_4 t) (iblk m c 4 t))⟩] := rfl
  have hy : ((ix2 r s : S6x256.Idx) (0 : Fin 2)).val < t.val ∨ t.val + 1 ≤ ((ix2 r s : S6x256.Idx) (0 : Fin 2)).val := by
    have : ((ix2 r s : S6x256.Idx) (0 : Fin 2)).val = r.val := rfl
    omega
  rw [e]
  exact View.read_writes_cons_rows_of_not_mem (W := 1) v f _ _ [] (ix2 r s) (off_row t) rfl hy
/-- Case A's pieces for output 17 cover its block. -/
theorem coverA_17 (c : Dev nD) (t : Fin cfg0.N) (h0 : t.val % 6 = 0) (h1 : ¬1 ≤ t.val) (xo16 xo18 : Vec F S6x256 .f32) (y : S1x256x5120.Idx) :
    ∃ pc ∈ (runA m c t h0 h1 xo16 xo18).2.2.2.1, y ∈ pc.1.set :=
  View.cover_of_tiledL (runA m c t h0 h1 xo16 xo18).2.2.2.1 ![1, 256, 512] (by sl_kernel_rfl) y
/-- Row `t` of window 18 after the body of case A, whatever the buffer held: the row the step stores. -/
theorem rowA_18 (c : Dev nD) (t : Fin cfg0.N) (h0 : t.val % 6 = 0) (h1 : ¬1 ≤ t.val) (xo16 xo18 : Vec F S6x256 .f32) (v : View sig .tc .vmem S6x256 .f32)
    (f : v.ty.Contents (Elt F)) (r : Fin 6) (s : Fin 256) (hr : r.val = t.val) :
    v.read (Elt F) (v.writes (Elt F) f (runA m c t h0 h1 xo16 xo18).2.2.2.2.1) (ix2 r s)
      = k0_pay158 (kernelRun0_A.sl.r_67 c (grid0.coords t) (ms0_0 t) (hs0_0 t) (ms0_1 t) (hs0_1 t) (ms0_6 t) (hs0_6 t) (ms0_7 t) (hs0_7 t) (ms0_10 t) (hs0_10 t) (ms0_11 t) (hs0_11 t) (iblk m c 0 t) (iblk m c 1 t) (iblk m c 6 t) (iblk m c 7 t) (iblk m c 10 t) (iblk m c 11 t)) (kernelRun0_A.sl.r_74 c (grid0.coords t) (ms0_0 t) (hs0_0 t) (ms0_1 t) (hs0_1 t) (ms0_6 t) (hs0_6 t) (ms0_7 t) (hs0_7 t) (ms0_10 t) (hs0_10 t) (ms0_11 t) (hs0_11 t) (iblk m c 0 t) (iblk m c 1 t) (iblk m c 6 t) (iblk m c 7 t) (iblk m c 10 t) (iblk m c 11 t)) (kernelRun0_A.sl.r_75 c (grid0.coords t) (ms0_0 t) (hs0_0 t) (ms0_1 t) (hs0_1 t) (ms0_6 t) (hs0_6 t) (ms0_7 t) (hs0_7 t) (ms0_10 t) (hs0_10 t) (ms0_11 t) (hs0_11 t) (iblk m c 0 t) (iblk m c 1 t) (iblk m c 6 t) (iblk m c 7 t) (iblk m c 10 t) (iblk m c 11 t)) (kernelRun0_A.sl.r_76 c (grid0.coords t) (ms0_0 t) (hs0_0 t) (ms0_1 t) (hs0_1 t) (ms0_6 t) (hs0_6 t) (ms0_7 t) (hs0_7 t) (ms0_10 t) (hs0_10 t) (ms0_11 t) (hs0_11 t) (iblk m c 0 t) (iblk m c 1 t) (iblk m c 6 t) (iblk m c 7 t) (iblk m c 10 t) (iblk m c 11 t)) 2#32 (ix2 0 s) :=
  View.read_writes_cons_rows_of_mem v f (off := k0_off1 (grid0.coords t)) (size := ![1, 256]) (k0_off1_inb (grid0.coords t))
    (k0_pay158 (kernelRun0_A.sl.r_67 c (grid0.coords t) (ms0_0 t) (hs0_0 t) (ms0_1 t) (hs0_1 t) (ms0_6 t) (hs0_6 t) (ms0_7 t) (hs0_7 t) (ms0_10 t) (hs0_10 t) (ms0_11 t) (hs0_11 t) (iblk m c 0 t) (iblk m c 1 t) (iblk m c 6 t) (iblk m c 7 t) (iblk m c 10 t) (iblk m c 11 t)) (kernelRun0_A.sl.r_74 c (grid0.coords t) (ms0_0 t) (hs0_0 t) (ms0_1 t) (hs0_1 t) (ms0_6 t) (hs0_6 t) (ms0_7 t) (hs0_7 t) (ms0_10 t) (hs0_10 t) (ms0_11 t) (hs0_11 t) (iblk m c 0 t) (iblk m c 1 t) (iblk m c 6 t) (iblk m c 7 t) (iblk m c 10 t) (iblk m c 11 t)) (kernelRun0_A.sl.r_75 c (grid0.coords t) (ms0_0 t) (hs0_0 t) (ms0_1 t) (hs0_1 t) (ms0_6 t) (hs0_6 t) (ms0_7 t) (hs0_7 t) (ms0_10 t) (hs0_10 t) (ms0_11 t) (hs0_11 t) (iblk m c 0 t) (iblk m c 1 t) (iblk m c 6 t) (iblk m c 7 t) (iblk m c 10 t) (iblk m c 11 t)) (kernelRun0_A.sl.r_76 c (grid0.coords t) (ms0_0 t) (hs0_0 t) (ms0_1 t) (hs0_1 t) (ms0_6 t) (hs0_6 t) (ms0_7 t) (hs0_7 t) (ms0_10 t) (hs0_10 t) (ms0_11 t) (hs0_11 t) (iblk m c 0 t) (iblk m c 1 t) (iblk m c 6 t) (iblk m c 7 t) (iblk m c 10 t) (iblk m c 11 t)) 2#32) [] (ix2 r s) (ix2 (0 : Fin 1) s) (off_row t) hr rfl
/-- The same row, read through the canonical view. -/
theorem hitA_18 (c : Dev nD) (t : Fin cfg0.N) (h0 : t.val % 6 = 0) (h1 : ¬1 ≤ t.val) (xo16 xo18 : Vec F S6x256 .f32) (v : View sig .tc .vmem S6x256 .f32)
    (f : v.ty.Contents (Elt F)) (r : Fin 6) (s : Fin 256) (hr : r.val = t.val) :
    v.read (Elt F) (v.writes (Elt F) f (runA m c t h0 h1 xo16 xo18).2.2.2.2.1) (ix2 r s)
      = VO0_18.read (Elt F) (VO0_18.writes (Elt F) VO0_18.junk (runA m c t h0 h1 (iblk m c 1 t) (iblk m c 1 t)).2.2.2.2.1) (ix2 r s) :=
  (rowA_18 m c t h0 h1 xo16 xo18 v f r s hr).trans (rowA_18 m c t h0 h1 (iblk m c 1 t) (iblk m c 1 t) VO0_18 VO0_18.junk r s hr).symm
/-- Another row of window 18 after the body of case A is what the buffer held. -/
theorem missA_18 (c : Dev nD) (t : Fin cfg0.N) (h0 : t.val % 6 = 0) (h1 : ¬1 ≤ t.val) (xo16 xo18 : Vec F S6x256 .f32) (v : View sig .tc .vmem S6x256 .f32)
    (f : v.ty.Contents (Elt F)) (r : Fin 6) (s : Fin 256) (hr : r.val ≠ t.val) :
    v.read (Elt F) (v.writes (Elt F) f (runA m c t h0 h1 xo16 xo18).2.2.2.2.1) (ix2 r s) = v.read (Elt F) f (ix2 r s) := by
  have e : (runA m c t h0 h1 xo16 xo18).2.2.2.2.1 = [⟨Rect.unit (k0_off1 (grid0.coords t)) ![1, 256] (k0_off1_inb (grid0.coords t)),
      k0_pay158 (kernelRun0_A.sl.r_67 c (grid0.coords t) (ms0_0 t) (hs0_0 t) (ms0_1 t) (hs0_1 t) (ms0_6 t) (hs0_6 t) (ms0_7 t) (hs0_7 t) (ms0_10 t) (hs0_10 t) (ms0_11 t) (hs0_11 t) (iblk m c 0 t) (iblk m c 1 t) (iblk m c 6 t) (iblk m c 7 t) (iblk m c 10 t) (iblk m c 11 t)) (kernelRun0_A.sl.r_74 c (grid0.coords t) (ms0_0 t) (hs0_0 t) (ms0_1 t) (hs0_1 t) (ms0_6 t) (hs0_6 t) (ms0_7 t) (hs0_7 t) (ms0_10 t) (hs0_10 t) (ms0_11 t) (hs0_11 t) (iblk m c 0 t) (iblk m c 1 t) (iblk m c 6 t) (iblk m c 7 t) (iblk m c 10 t) (iblk m c 11 t)) (kernelRun0_A.sl.r_75 c (grid0.coords t) (ms0_0 t) (hs0_0 t) (ms0_1 t) (hs0_1 t) (ms0_6 t) (hs0_6 t) (ms0_7 t) (hs0_7 t) (ms0_10 t) (hs0_10 t) (ms0_11 t) (hs0_11 t) (iblk m c 0 t) (iblk m c 1 t) (iblk m c 6 t) (iblk m c 7 t) (iblk m c 10 t) (iblk m c 11 t)) (kernelRun0_A.sl.r_76 c (grid0.coords t) (ms0_0 t) (hs0_0 t) (ms0_1 t) (hs0_1 t) (ms0_6 t) (hs0_6 t) (ms0_7 t) (hs0_7 t) (ms0_10 t) (hs0_10 t) (ms0_11 t) (hs0_11 t) (iblk m c 0 t) (iblk m c 1 t) (iblk m c 6 t) (iblk m c 7 t) (iblk m c 10 t) (iblk m c 11 t)) 2#32⟩] := rfl
  have hy : ((ix2 r s : S6x256.Idx) (0 : Fin 2)).val < t.val ∨ t.val + 1 ≤ ((ix2 r s : S6x256.Idx) (0 : Fin 2)).val := by
    have : ((ix2 r s : S6x256.Idx) (0 : Fin 2)).val = r.val := rfl
    omega
  rw [e]
  exact View.read_writes_cons_rows_of_not_mem (W := 1) v f _ _ [] (ix2 r s) (off_row t) rfl hy
/-- Case A's pieces for output 19 cover its block. -/
theorem coverA_19 (c : Dev nD) (t : Fin cfg0.N) (h0 : t.val % 6 = 0) (h1 : ¬1 ≤ t.val) (xo16 xo18 : Vec F S6x256 .f32) (y : S1x1280.Idx) :
    ∃ pc ∈ (runA m c t h0 h1 xo16 xo18).2.2.2.2.2.1, y ∈ pc.1.set :=
  View.cover_of_tiledL (runA m c t h0 h1 xo16 xo18).2.2.2.2.2.1 S1x1280.size (by sl_kernel_rfl) y
/-- Case A's pieces for output 20 cover its block. -/
theorem coverA_20 (c : Dev nD) (t : Fin cfg0.N) (h0 : t.val % 6 = 0) (h1 : ¬1 ≤ t.val) (xo16 xo18 : Vec F S6x256 .f32) (y : S1x1280.Idx) :
    ∃ pc ∈ (runA m c t h0 h1 xo16 xo18).2.2.2.2.2.2.1, y ∈ pc.1.set :=
  View.cover_of_tiledL (runA m c t h0 h1 xo16 xo18).2.2.2.2.2.2.1 S1x1280.size (by sl_kernel_rfl) y
/-- Case A's pieces for output 21 cover its block. -/
theorem coverA_21 (c : Dev nD) (t : Fin cfg0.N) (h0 : t.val % 6 = 0) (h1 : ¬1 ≤ t.val) (xo16 xo18 : Vec F S6x256 .f32) (y : S1280x256.Idx) :
    ∃ pc ∈ (runA m c t h0 h1 xo16 xo18).2.2.2.2.2.2.2.1, y ∈ pc.1.set :=
  View.cover_of_tiledL (runA m c t h0 h1 xo16 xo18).2.2.2.2.2.2.2.1 S1280x256.size (by sl_kernel_rfl) y
/-- What the body of case A leaves in the eight outputs' staging buffers (of windows 16 and 18 only row `t` is meant). -/
def outA (c : Dev nD) (t : Fin cfg0.N) (h0 : t.val % 6 = 0) (h1 : ¬1 ≤ t.val) : Vec F S1x256x1280 .bf16 × Vec F S1x256x1280 .fp8e4m3 × Vec F S6x256 .f32 × Vec F S1x256x5120 .fp8e5m2 × Vec F S6x256 .f32 × Vec F S1x1280 .f32 × Vec F S1x1280 .f32 × Vec F S1280x256 .bf16 :=
  (VO0_14.read (Elt F) (VO0_14.writes (Elt F) VO0_14.junk (runA m c t h0 h1 (iblk m c 1 t) (iblk m c 1 t)).1),
    VO0_15.read (Elt F) (VO0_15.writes (Elt F) VO0_15.junk (runA m c t h0 h1 (iblk m c 1 t) (iblk m c 1 t)).2.1),
    VO0_16.read (Elt F) (VO0_16.writes (Elt F) VO0_16.junk (runA m c t h0 h1 (iblk m c 1 t) (iblk m c 1 t)).2.2.1),
    VO0_17.read (Elt F) (VO0_17.writes (Elt F) VO0_17.junk (runA m c t h0 h1 (iblk m c 1 t) (iblk m c 1 t)).2.2.2.1),
    VO0_18.read (Elt F) (VO0_18.writes (Elt F) VO0_18.junk (runA m c t h0 h1 (iblk m c 1 t) (iblk m c 1 t)).2.2.2.2.1),
    VO0_19.read (Elt F) (VO0_19.writes (Elt F) VO0_19.junk (runA m c t h0 h1 (iblk m c 1 t) (iblk m c 1 t)).2.2.2.2.2.1),
    VO0_20.read (Elt F) (VO0_20.writes (Elt F) VO0_20.junk (runA m c t h0 h1 (iblk m c 1 t) (iblk m c 1 t)).2.2.2.2.2.2.1),
    VO0_21.read (Elt F) (VO0_21.writes (Elt F) VO0_21.junk (runA m c t h0 h1 (iblk m c 1 t) (iblk m c 1 t)).2.2.2.2.2.2.2.1))

/-- The body's run of case B at point `t`: at the memrefs the pipeline passes and the inputs' blocks there. -/
abbrev runB (c : Dev nD) (t : Fin cfg0.N) (h0 : ¬t.val % 6 = 0) (h1 : 1 ≤ t.val) (xo16 xo18 : Vec F S6x256 .f32) (p19 p20 : Vec F S1x1280 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) xo16 xo18 p19 p20

/-- Case B's pieces for output 14 cover its block. -/
theorem coverB_14 (c : Dev nD) (t : Fin cfg0.N) (h0 : ¬t.val % 6 = 0) (h1 : 1 ≤ t.val) (xo16 xo18 : Vec F S6x256 .f32) (p19 p20 : Vec F S1x1280 .f32) (y : S1x256x1280.Idx) :
    ∃ pc ∈ (runB m c t h0 h1 xo16 xo18 p19 p20).1, y ∈ pc.1.set :=
  View.cover_of_tiledL (runB m c t h0 h1 xo16 xo18 p19 p20).1 S1x256x1280.size (by sl_kernel_rfl) y
/-- Case B's pieces for output 15 cover its block. -/
theorem coverB_15 (c : Dev nD) (t : Fin cfg0.N) (h0 : ¬t.val % 6 = 0) (h1 : 1 ≤ t.val) (xo16 xo18 : Vec F S6x256 .f32) (p19 p20 : Vec F S1x1280 .f32) (y : S1x256x1280.Idx) :
    ∃ pc ∈ (runB m c t h0 h1 xo16 xo18 p19 p20).2.1, y ∈ pc.1.set :=
  View.cover_of_tiledL (runB m c t h0 h1 xo16 xo18 p19 p20).2.1 S1x256x1280.size (by sl_kernel_rfl) y
/-- Row `t` of window 16 after the body of case B, whatever the buffer held: the row the step stores. -/
theorem rowB_16 (c : Dev nD) (t : Fin cfg0.N) (h0 : ¬t.val % 6 = 0) (h1 : 1 ≤ t.val) (xo16 xo18 : Vec F S6x256 .f32) (p19 p20 : Vec F S1x1280 .f32) (v : View sig .tc .vmem S6x256 .f32)
    (f : v.ty.Contents (Elt F)) (r : Fin 6) (s : Fin 256) (hr : r.val = t.val) :
    v.read (Elt F) (v.writes (Elt F) f (runB m c t h0 h1 xo16 xo18 p19 p20).2.2.1) (ix2 r s)
      = k0_pay43 (kernelRun0_B.sl.r_14 c (ms0_4 t) (hs0_4 t) (iblk m c 4 t)) (ix2 0 s) :=
  View.read_writes_cons_rows_of_mem v f (off := k0_off1 (grid0.coords t)) (size := ![1, 256]) (k0_off1_inb (grid0.coords t))
    (k0_pay43 (kernelRun0_B.sl.r_14 c (ms0_4 t) (hs0_4 t) (iblk m c 4 t))) [] (ix2 r s) (ix2 (0 : Fin 1) s) (off_row t) hr rfl
/-- The same row, read through the canonical view. -/
theorem hitB_16 (c : Dev nD) (t : Fin cfg0.N) (h0 : ¬t.val % 6 = 0) (h1 : 1 ≤ t.val) (xo16 xo18 : Vec F S6x256 .f32) (p19 p20 : Vec F S1x1280 .f32) (v : View sig .tc .vmem S6x256 .f32)
    (f : v.ty.Contents (Elt F)) (r : Fin 6) (s : Fin 256) (hr : r.val = t.val) :
    v.read (Elt F) (v.writes (Elt F) f (runB m c t h0 h1 xo16 xo18 p19 p20).2.2.1) (ix2 r s)
      = VO0_16.read (Elt F) (VO0_16.writes (Elt F) VO0_16.junk (runB m c t h0 h1 (iblk m c 1 t) (iblk m c 1 t) p19 p20).2.2.1) (ix2 r s) :=
  (rowB_16 m c t h0 h1 xo16 xo18 p19 p20 v f r s hr).trans (rowB_16 m c t h0 h1 (iblk m c 1 t) (iblk m c 1 t) p19 p20 VO0_16 VO0_16.junk r s hr).symm
/-- Another row of window 16 after the body of case B is what the buffer held. -/
theorem missB_16 (c : Dev nD) (t : Fin cfg0.N) (h0 : ¬t.val % 6 = 0) (h1 : 1 ≤ t.val) (xo16 xo18 : Vec F S6x256 .f32) (p19 p20 : Vec F S1x1280 .f32) (v : View sig .tc .vmem S6x256 .f32)
    (f : v.ty.Contents (Elt F)) (r : Fin 6) (s : Fin 256) (hr : r.val ≠ t.val) :
    v.read (Elt F) (v.writes (Elt F) f (runB m c t h0 h1 xo16 xo18 p19 p20).2.2.1) (ix2 r s) = v.read (Elt F) f (ix2 r s) := by
  have e : (runB m c t h0 h1 xo16 xo18 p19 p20).2.2.1 = [⟨Rect.unit (k0_off1 (grid0.coords t)) ![1, 256] (k0_off1_inb (grid0.coords t)),
      k0_pay43 (kernelRun0_B.sl.r_14 c (ms0_4 t) (hs0_4 t) (iblk m c 4 t))⟩] := rfl
  have hy : ((ix2 r s : S6x256.Idx) (0 : Fin 2)).val < t.val ∨ t.val + 1 ≤ ((ix2 r s : S6x256.Idx) (0 : Fin 2)).val := by
    have : ((ix2 r s : S6x256.Idx) (0 : Fin 2)).val = r.val := rfl
    omega
  rw [e]
  exact View.read_writes_cons_rows_of_not_mem (W := 1) v f _ _ [] (ix2 r s) (off_row t) rfl hy
/-- Case B's pieces for output 17 cover its block. -/
theorem coverB_17 (c : Dev nD) (t : Fin cfg0.N) (h0 : ¬t.val % 6 = 0) (h1 : 1 ≤ t.val) (xo16 xo18 : Vec F S6x256 .f32) (p19 p20 : Vec F S1x1280 .f32) (y : S1x256x5120.Idx) :
    ∃ pc ∈ (runB m c t h0 h1 xo16 xo18 p19 p20).2.2.2.1, y ∈ pc.1.set :=
  View.cover_of_tiledL (runB m c t h0 h1 xo16 xo18 p19 p20).2.2.2.1 ![1, 256, 512] (by sl_kernel_rfl) y
/-- Row `t` of window 18 after the body of case B, whatever the buffer held: the row the step stores. -/
theorem rowB_18 (c : Dev nD) (t : Fin cfg0.N) (h0 : ¬t.val % 6 = 0) (h1 : 1 ≤ t.val) (xo16 xo18 : Vec F S6x256 .f32) (p19 p20 : Vec F S1x1280 .f32) (v : View sig .tc .vmem S6x256 .f32)
    (f : v.ty.Contents (Elt F)) (r : Fin 6) (s : Fin 256) (hr : r.val = t.val) :
    v.read (Elt F) (v.writes (Elt F) f (runB m c t h0 h1 xo16 xo18 p19 p20).2.2.2.2.1) (ix2 r s)
      = k0_pay158 (kernelRun0_B.sl.r_67 c (grid0.coords t) (ms0_0 t) (hs0_0 t) (ms0_1 t) (hs0_1 t) (ms0_6 t) (hs0_6 t) (ms0_7 t) (hs0_7 t) (ms0_10 t) (hs0_10 t) (ms0_11 t) (hs0_11 t) (iblk m c 0 t) (iblk m c 1 t) (iblk m c 6 t) (iblk m c 7 t) (iblk m c 10 t) (iblk m c 11 t)) (kernelRun0_B.sl.r_74 c (grid0.coords t) (ms0_0 t) (hs0_0 t) (ms0_1 t) (hs0_1 t) (ms0_6 t) (hs0_6 t) (ms0_7 t) (hs0_7 t) (ms0_10 t) (hs0_10 t) (ms0_11 t) (hs0_11 t) (iblk m c 0 t) (iblk m c 1 t) (iblk m c 6 t) (iblk m c 7 t) (iblk m c 10 t) (iblk m c 11 t)) (kernelRun0_B.sl.r_75 c (grid0.coords t) (ms0_0 t) (hs0_0 t) (ms0_1 t) (hs0_1 t) (ms0_6 t) (hs0_6 t) (ms0_7 t) (hs0_7 t) (ms0_10 t) (hs0_10 t) (ms0_11 t) (hs0_11 t) (iblk m c 0 t) (iblk m c 1 t) (iblk m c 6 t) (iblk m c 7 t) (iblk m c 10 t) (iblk m c 11 t)) (kernelRun0_B.sl.r_76 c (grid0.coords t) (ms0_0 t) (hs0_0 t) (ms0_1 t) (hs0_1 t) (ms0_6 t) (hs0_6 t) (ms0_7 t) (hs0_7 t) (ms0_10 t) (hs0_10 t) (ms0_11 t) (hs0_11 t) (iblk m c 0 t) (iblk m c 1 t) (iblk m c 6 t) (iblk m c 7 t) (iblk m c 10 t) (iblk m c 11 t)) 2#32 (ix2 0 s) :=
  View.read_writes_cons_rows_of_mem v f (off := k0_off1 (grid0.coords t)) (size := ![1, 256]) (k0_off1_inb (grid0.coords t))
    (k0_pay158 (kernelRun0_B.sl.r_67 c (grid0.coords t) (ms0_0 t) (hs0_0 t) (ms0_1 t) (hs0_1 t) (ms0_6 t) (hs0_6 t) (ms0_7 t) (hs0_7 t) (ms0_10 t) (hs0_10 t) (ms0_11 t) (hs0_11 t) (iblk m c 0 t) (iblk m c 1 t) (iblk m c 6 t) (iblk m c 7 t) (iblk m c 10 t) (iblk m c 11 t)) (kernelRun0_B.sl.r_74 c (grid0.coords t) (ms0_0 t) (hs0_0 t) (ms0_1 t) (hs0_1 t) (ms0_6 t) (hs0_6 t) (ms0_7 t) (hs0_7 t) (ms0_10 t) (hs0_10 t) (ms0_11 t) (hs0_11 t) (iblk m c 0 t) (iblk m c 1 t) (iblk m c 6 t) (iblk m c 7 t) (iblk m c 10 t) (iblk m c 11 t)) (kernelRun0_B.sl.r_75 c (grid0.coords t) (ms0_0 t) (hs0_0 t) (ms0_1 t) (hs0_1 t) (ms0_6 t) (hs0_6 t) (ms0_7 t) (hs0_7 t) (ms0_10 t) (hs0_10 t) (ms0_11 t) (hs0_11 t) (iblk m c 0 t) (iblk m c 1 t) (iblk m c 6 t) (iblk m c 7 t) (iblk m c 10 t) (iblk m c 11 t)) (kernelRun0_B.sl.r_76 c (grid0.coords t) (ms0_0 t) (hs0_0 t) (ms0_1 t) (hs0_1 t) (ms0_6 t) (hs0_6 t) (ms0_7 t) (hs0_7 t) (ms0_10 t) (hs0_10 t) (ms0_11 t) (hs0_11 t) (iblk m c 0 t) (iblk m c 1 t) (iblk m c 6 t) (iblk m c 7 t) (iblk m c 10 t) (iblk m c 11 t)) 2#32) [] (ix2 r s) (ix2 (0 : Fin 1) s) (off_row t) hr rfl
/-- The same row, read through the canonical view. -/
theorem hitB_18 (c : Dev nD) (t : Fin cfg0.N) (h0 : ¬t.val % 6 = 0) (h1 : 1 ≤ t.val) (xo16 xo18 : Vec F S6x256 .f32) (p19 p20 : Vec F S1x1280 .f32) (v : View sig .tc .vmem S6x256 .f32)
    (f : v.ty.Contents (Elt F)) (r : Fin 6) (s : Fin 256) (hr : r.val = t.val) :
    v.read (Elt F) (v.writes (Elt F) f (runB m c t h0 h1 xo16 xo18 p19 p20).2.2.2.2.1) (ix2 r s)
      = VO0_18.read (Elt F) (VO0_18.writes (Elt F) VO0_18.junk (runB m c t h0 h1 (iblk m c 1 t) (iblk m c 1 t) p19 p20).2.2.2.2.1) (ix2 r s) :=
  (rowB_18 m c t h0 h1 xo16 xo18 p19 p20 v f r s hr).trans (rowB_18 m c t h0 h1 (iblk m c 1 t) (iblk m c 1 t) p19 p20 VO0_18 VO0_18.junk r s hr).symm
/-- Another row of window 18 after the body of case B is what the buffer held. -/
theorem missB_18 (c : Dev nD) (t : Fin cfg0.N) (h0 : ¬t.val % 6 = 0) (h1 : 1 ≤ t.val) (xo16 xo18 : Vec F S6x256 .f32) (p19 p20 : Vec F S1x1280 .f32) (v : View sig .tc .vmem S6x256 .f32)
    (f : v.ty.Contents (Elt F)) (r : Fin 6) (s : Fin 256) (hr : r.val ≠ t.val) :
    v.read (Elt F) (v.writes (Elt F) f (runB m c t h0 h1 xo16 xo18 p19 p20).2.2.2.2.1) (ix2 r s) = v.read (Elt F) f (ix2 r s) := by
  have e : (runB m c t h0 h1 xo16 xo18 p19 p20).2.2.2.2.1 = [⟨Rect.unit (k0_off1 (grid0.coords t)) ![1, 256] (k0_off1_inb (grid0.coords t)),
      k0_pay158 (kernelRun0_B.sl.r_67 c (grid0.coords t) (ms0_0 t) (hs0_0 t) (ms0_1 t) (hs0_1 t) (ms0_6 t) (hs0_6 t) (ms0_7 t) (hs0_7 t) (ms0_10 t) (hs0_10 t) (ms0_11 t) (hs0_11 t) (iblk m c 0 t) (iblk m c 1 t) (iblk m c 6 t) (iblk m c 7 t) (iblk m c 10 t) (iblk m c 11 t)) (kernelRun0_B.sl.r_74 c (grid0.coords t) (ms0_0 t) (hs0_0 t) (ms0_1 t) (hs0_1 t) (ms0_6 t) (hs0_6 t) (ms0_7 t) (hs0_7 t) (ms0_10 t) (hs0_10 t) (ms0_11 t) (hs0_11 t) (iblk m c 0 t) (iblk m c 1 t) (iblk m c 6 t) (iblk m c 7 t) (iblk m c 10 t) (iblk m c 11 t)) (kernelRun0_B.sl.r_75 c (grid0.coords t) (ms0_0 t) (hs0_0 t) (ms0_1 t) (hs0_1 t) (ms0_6 t) (hs0_6 t) (ms0_7 t) (hs0_7 t) (ms0_10 t) (hs0_10 t) (ms0_11 t) (hs0_11 t) (iblk m c 0 t) (iblk m c 1 t) (iblk m c 6 t) (iblk m c 7 t) (iblk m c 10 t) (iblk m c 11 t)) (kernelRun0_B.sl.r_76 c (grid0.coords t) (ms0_0 t) (hs0_0 t) (ms0_1 t) (hs0_1 t) (ms0_6 t) (hs0_6 t) (ms0_7 t) (hs0_7 t) (ms0_10 t) (hs0_10 t) (ms0_11 t) (hs0_11 t) (iblk m c 0 t) (iblk m c 1 t) (iblk m c 6 t) (iblk m c 7 t) (iblk m c 10 t) (iblk m c 11 t)) 2#32⟩] := rfl
  have hy : ((ix2 r s : S6x256.Idx) (0 : Fin 2)).val < t.val ∨ t.val + 1 ≤ ((ix2 r s : S6x256.Idx) (0 : Fin 2)).val := by
    have : ((ix2 r s : S6x256.Idx) (0 : Fin 2)).val = r.val := rfl
    omega
  rw [e]
  exact View.read_writes_cons_rows_of_not_mem (W := 1) v f _ _ [] (ix2 r s) (off_row t) rfl hy
/-- Case B's pieces for output 19 cover its block. -/
theorem coverB_19 (c : Dev nD) (t : Fin cfg0.N) (h0 : ¬t.val % 6 = 0) (h1 : 1 ≤ t.val) (xo16 xo18 : Vec F S6x256 .f32) (p19 p20 : Vec F S1x1280 .f32) (y : S1x1280.Idx) :
    ∃ pc ∈ (runB m c t h0 h1 xo16 xo18 p19 p20).2.2.2.2.2.1, y ∈ pc.1.set :=
  View.cover_of_tiledL (runB m c t h0 h1 xo16 xo18 p19 p20).2.2.2.2.2.1 S1x1280.size (by sl_kernel_rfl) y
/-- Case B's pieces for output 20 cover its block. -/
theorem coverB_20 (c : Dev nD) (t : Fin cfg0.N) (h0 : ¬t.val % 6 = 0) (h1 : 1 ≤ t.val) (xo16 xo18 : Vec F S6x256 .f32) (p19 p20 : Vec F S1x1280 .f32) (y : S1x1280.Idx) :
    ∃ pc ∈ (runB m c t h0 h1 xo16 xo18 p19 p20).2.2.2.2.2.2.1, y ∈ pc.1.set :=
  View.cover_of_tiledL (runB m c t h0 h1 xo16 xo18 p19 p20).2.2.2.2.2.2.1 S1x1280.size (by sl_kernel_rfl) y
/-- Case B's pieces for output 21 cover its block. -/
theorem coverB_21 (c : Dev nD) (t : Fin cfg0.N) (h0 : ¬t.val % 6 = 0) (h1 : 1 ≤ t.val) (xo16 xo18 : Vec F S6x256 .f32) (p19 p20 : Vec F S1x1280 .f32) (y : S1280x256.Idx) :
    ∃ pc ∈ (runB m c t h0 h1 xo16 xo18 p19 p20).2.2.2.2.2.2.2.1, y ∈ pc.1.set :=
  View.cover_of_tiledL (runB m c t h0 h1 xo16 xo18 p19 p20).2.2.2.2.2.2.2.1 S1280x256.size (by sl_kernel_rfl) y
/-- What the body of case B leaves in the eight outputs' staging buffers (of windows 16 and 18 only row `t` is meant). -/
def outB (c : Dev nD) (t : Fin cfg0.N) (h0 : ¬t.val % 6 = 0) (h1 : 1 ≤ t.val) (p19 p20 : Vec F S1x1280 .f32) : Vec F S1x256x1280 .bf16 × Vec F S1x256x1280 .fp8e4m3 × Vec F S6x256 .f32 × Vec F S1x256x5120 .fp8e5m2 × Vec F S6x256 .f32 × Vec F S1x1280 .f32 × Vec F S1x1280 .f32 × Vec F S1280x256 .bf16 :=
  (VO0_14.read (Elt F) (VO0_14.writes (Elt F) VO0_14.junk (runB m c t h0 h1 (iblk m c 1 t) (iblk m c 1 t) p19 p20).1),
    VO0_15.read (Elt F) (VO0_15.writes (Elt F) VO0_15.junk (runB m c t h0 h1 (iblk m c 1 t) (iblk m c 1 t) p19 p20).2.1),
    VO0_16.read (Elt F) (VO0_16.writes (Elt F) VO0_16.junk (runB m c t h0 h1 (iblk m c 1 t) (iblk m c 1 t) p19 p20).2.2.1),
    VO0_17.read (Elt F) (VO0_17.writes (Elt F) VO0_17.junk (runB m c t h0 h1 (iblk m c 1 t) (iblk m c 1 t) p19 p20).2.2.2.1),
    VO0_18.read (Elt F) (VO0_18.writes (Elt F) VO0_18.junk (runB m c t h0 h1 (iblk m c 1 t) (iblk m c 1 t) p19 p20).2.2.2.2.1),
    VO0_19.read (Elt F) (VO0_19.writes (Elt F) VO0_19.junk (runB m c t h0 h1 (iblk m c 1 t) (iblk m c 1 t) p19 p20).2.2.2.2.2.1),
    VO0_20.read (Elt F) (VO0_20.writes (Elt F) VO0_20.junk (runB m c t h0 h1 (iblk m c 1 t) (iblk m c 1 t) p19 p20).2.2.2.2.2.2.1),
    VO0_21.read (Elt F) (VO0_21.writes (Elt F) VO0_21.junk (runB m c t h0 h1 (iblk m c 1 t) (iblk m c 1 t) p19 p20).2.2.2.2.2.2.2.1))

/-- What the eight outputs' staging buffers hold after each point in turn: the first point starts the two column sums, each
    later one adds to what the point before left. -/
def outsAt0 (c : Dev nD) : (n : ℕ) → n < cfg0.N → Vec F S1x256x1280 .bf16 × Vec F S1x256x1280 .fp8e4m3 × Vec F S6x256 .f32 × Vec F S1x256x5120 .fp8e5m2 × Vec F S6x256 .f32 × Vec F S1x1280 .f32 × Vec F S1x1280 .f32 × Vec F S1280x256 .bf16
  | 0, hn => outA m c ⟨0, hn⟩ (Nat.zero_mod _) (Nat.not_succ_le_zero _)
  | n + 1, hn =>
    if h0 : (n + 1) % 6 = 0 then
      False.elim (by have hN : n + 1 < 6 := lt_of_lt_of_eq hn (show cfg0.N = 6 from N_0); omega)
    else
      outB m c ⟨n + 1, hn⟩ h0 (Nat.succ_le_succ (Nat.zero_le n)) (outsAt0 c (n) (Nat.lt_of_succ_lt hn)).2.2.2.2.2.1 (outsAt0 c (n) (Nat.lt_of_succ_lt hn)).2.2.2.2.2.2.1

/-- `outsAt0` at a point of case A. -/
theorem outsAt0_A (c : Dev nD) (t : Fin cfg0.N) (h0 : t.val % 6 = 0) (h1 : ¬1 ≤ t.val) :
    outsAt0 m c t.val t.isLt = outA m c t h0 h1 := by
  obtain ⟨n, hn⟩ := t
  cases n with
  | zero => exact rfl
  | succ n => exact absurd (Nat.succ_le_succ (Nat.zero_le n)) h1

/-- `outsAt0` at a point of case B. -/
theorem outsAt0_B (c : Dev nD) (t : Fin cfg0.N) (h0 : ¬t.val % 6 = 0) (h1 : 1 ≤ t.val) :
    outsAt0 m c t.val t.isLt = outB m c t h0 h1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 := by
  obtain ⟨n, hn⟩ := t
  cases n with
  | zero => exact absurd (Nat.zero_mod _) h0
  | succ n => exact dif_neg h0

/-! Case A: the pieces stored into each output, the same whatever the two scale windows held. -/

theorem pcsA_14 (c : Dev nD) (t : Fin cfg0.N) (h0 : t.val % 6 = 0) (h1 : ¬1 ≤ t.val) (xo16 xo18 : Vec F S6x256 .f32) :
    (runA m c t h0 h1 xo16 xo18).1 = [⟨Rect.unit ![0, 0, 0] ![1, 256, 1280] inb_S1x256x1280_S1x256x1280_0_0_0,
        k0_pay1 (kernelRun0_A.sl.r c (grid0.coords t) (ms0_1 t) (hs0_1 t) (iblk m c 1 t))
          (kernelRun0_A.sl.r_122 c (grid0.coords t) (ms0_0 t) (hs0_0 t) (ms0_1 t) (hs0_1 t) (ms0_2 t) (hs0_2 t)
            (ms0_3 t) (hs0_3 t) (ms0_4 t) (hs0_4 t) (ms0_5 t) (hs0_5 t) (ms0_6 t) (hs0_6 t) (ms0_7 t) (hs0_7 t)
            (ms0_8 t) (hs0_8 t) (ms0_9 t) (hs0_9 t) (ms0_10 t) (hs0_10 t) (ms0_11 t) (hs0_11 t) (ms0_12 t) (hs0_12 t)
            (ms0_13 t) (hs0_13 t) scM0_0 (iblk m c 0 t) (iblk m c 1 t) (iblk m c 2 t) (iblk m c 3 t) (iblk m c 4 t)
            (iblk m c 5 t) (iblk m c 6 t) (iblk m c 7 t) (iblk m c 8 t) (iblk m c 9 t) (iblk m c 10 t) (iblk m c 11 t)
            (iblk m c 12 t) (iblk m c 13 t))
          (kernelRun0_A.sl.r_123 c (ms0_4 t) (hs0_4 t) (iblk m c 4 t))
          (View.readAt (Elt F) (ms0_0 t).view
            (@Rect.unit S1x256x1280 ![0, 0, 0] S1x256x1280.size inb_S1x256x1280_S1x256x1280_0_0_0).toLoadRect
            ((hs0_0 t).unread (iblk m c 0 t)))⟩] := rfl
theorem indA_14 (c : Dev nD) (t : Fin cfg0.N) (h0 : t.val % 6 = 0) (h1 : ¬1 ≤ t.val) (xo16 xo18 yo16 yo18 : Vec F S6x256 .f32) :
    (runA m c t h0 h1 xo16 xo18).1 = (runA m c t h0 h1 yo16 yo18).1 := (pcsA_14 m c t h0 h1 xo16 xo18).trans (pcsA_14 m c t h0 h1 yo16 yo18).symm
theorem pcsA_15 (c : Dev nD) (t : Fin cfg0.N) (h0 : t.val % 6 = 0) (h1 : ¬1 ≤ t.val) (xo16 xo18 : Vec F S6x256 .f32) :
    (runA m c t h0 h1 xo16 xo18).2.1 = [⟨Rect.unit ![0, 0, 0] ![1, 256, 1280] inb_S1x256x1280_S1x256x1280_0_0_0,
        k0_pay42 (kernelRun0_A.sl.r_15 c (ms0_4 t) (hs0_4 t) (iblk m c 4 t)) k0_pay40⟩] := rfl
theorem indA_15 (c : Dev nD) (t : Fin cfg0.N) (h0 : t.val % 6 = 0) (h1 : ¬1 ≤ t.val) (xo16 xo18 yo16 yo18 : Vec F S6x256 .f32) :
    (runA m c t h0 h1 xo16 xo18).2.1 = (runA m c t h0 h1 yo16 yo18).2.1 := (pcsA_15 m c t h0 h1 xo16 xo18).trans (pcsA_15 m c t h0 h1 yo16 yo18).symm
theorem pcsA_17 (c : Dev nD) (t : Fin cfg0.N) (h0 : t.val % 6 = 0) (h1 : ¬1 ≤ t.val) (xo16 xo18 : Vec F S6x256 .f32) :
    (runA m c t h0 h1 xo16 xo18).2.2.2.1 = [⟨Rect.unit ![0, 0, 4608] ![1, 256, 512] inb_S1x256x5120_S1x256x512_0_0_4608,
        k0_pay195
          (kernelRun0_A.sl.r_78 c (grid0.coords t) (ms0_0 t) (hs0_0 t) (ms0_1 t) (hs0_1 t) (ms0_6 t) (hs0_6 t) (ms0_7 t)
            (hs0_7 t) (ms0_10 t) (hs0_10 t) (ms0_11 t) (hs0_11 t) (iblk m c 0 t) (iblk m c 1 t) (iblk m c 6 t)
            (iblk m c 7 t) (iblk m c 10 t) (iblk m c 11 t))
          (kernelRun0_A.sl.v942 c (grid0.coords t) (ms0_0 t) (hs0_0 t) (ms0_6 t) (hs0_6 t) (ms0_7 t) (hs0_7 t)
            (ms0_10 t) (hs0_10 t) (ms0_11 t) (hs0_11 t) scM0_0 (iblk m c 0 t) (iblk m c 6 t) (iblk m c 7 t)
            (iblk m c 10 t) (iblk m c 11 t))⟩,
      ⟨Rect.unit ![0, 0, 4096] ![1, 256, 512] inb_S1x256x5120_S1x256x512_0_0_4096,
        k0_pay193
          (kernelRun0_A.sl.r_88 c (grid0.coords t) (ms0_0 t) (hs0_0 t) (ms0_1 t) (hs0_1 t) (ms0_6 t) (hs0_6 t) (ms0_7 t)
            (hs0_7 t) (ms0_10 t) (hs0_10 t) (ms0_11 t) (hs0_11 t) scM0_0 (iblk m c 0 t) (iblk m c 1 t) (iblk m c 6 t)
            (iblk m c 7 t) (iblk m c 10 t) (iblk m c 11 t))
          k0_pay191⟩,
      ⟨Rect.unit ![0, 0, 3584] ![1, 256, 512] inb_S1x256x5120_S1x256x512_0_0_3584,
        k0_pay188
          (kernelRun0_A.sl.r_78 c (grid0.coords t) (ms0_0 t) (hs0_0 t) (ms0_1 t) (hs0_1 t) (ms0_6 t) (hs0_6 t) (ms0_7 t)
            (hs0_7 t) (ms0_10 t) (hs0_10 t) (ms0_11 t) (hs0_11 t) (iblk m c 0 t) (iblk m c 1 t) (iblk m c 6 t)
            (iblk m c 7 t) (iblk m c 10 t) (iblk m c 11 t))
          (kernelRun0_A.sl.v904 c (grid0.coords t) (ms0_0 t) (hs0_0 t) (ms0_6 t) (hs0_6 t) (ms0_7 t) (hs0_7 t)
            (ms0_10 t) (hs0_10 t) (ms0_11 t) (hs0_11 t) scM0_0 (iblk m c 0 t) (iblk m c 6 t) (iblk m c 7 t)
            (iblk m c 10 t) (iblk m c 11 t))⟩,
      ⟨Rect.unit ![0, 0, 3072] ![1, 256, 512] inb_S1x256x5120_S1x256x512_0_0_3072,
        k0_pay186
          (kernelRun0_A.sl.r_86 c (grid0.coords t) (ms0_0 t) (hs0_0 t) (ms0_1 t) (hs0_1 t) (ms0_6 t) (hs0_6 t) (ms0_7 t)
            (hs0_7 t) (ms0_10 t) (hs0_10 t) (ms0_11 t) (hs0_11 t) scM0_0 (iblk m c 0 t) (iblk m c 1 t) (iblk m c 6 t)
            (iblk m c 7 t) (iblk m c 10 t) (iblk m c 11 t))
          k0_pay184⟩,
      ⟨Rect.unit ![0, 0, 2560] ![1, 256, 512] inb_S1x256x5120_S1x256x512_0_0_2560,
        k0_pay181
          (kernelRun0_A.sl.r_78 c (grid0.coords t) (ms0_0 t) (hs0_0 t) (ms0_1 t) (hs0_1 t) (ms0_6 t) (hs0_6 t) (ms0_7 t)
            (hs0_7 t) (ms0_10 t) (hs0_10 t) (ms0_11 t) (hs0_11 t) (iblk m c 0 t) (iblk m c 1 t) (iblk m c 6 t)
            (iblk m c 7 t) (iblk m c 10 t) (iblk m c 11 t))
          (kernelRun0_A.sl.v866 c (grid0.coords t) (ms0_0 t) (hs0_0 t) (ms0_6 t) (hs0_6 t) (ms0_7 t) (hs0_7 t)
            (ms0_10 t) (hs0_10 t) (ms0_11 t) (hs0_11 t) scM0_0 (iblk m c 0 t) (iblk m c 6 t) (iblk m c 7 t)
            (iblk m c 10 t) (iblk m c 11 t))⟩,
      ⟨Rect.unit ![0, 0, 2048] ![1, 256, 512] inb_S1x256x5120_S1x256x512_0_0_2048,
        k0_pay179
          (kernelRun0_A.sl.r_84 c (grid0.coords t) (ms0_0 t) (hs0_0 t) (ms0_1 t) (hs0_1 t) (ms0_6 t) (hs0_6 t) (ms0_7 t)
            (hs0_7 t) (ms0_10 t) (hs0_10 t) (ms0_11 t) (hs0_11 t) scM0_0 (iblk m c 0 t) (iblk m c 1 t) (iblk m c 6 t)
            (iblk m c 7 t) (iblk m c 10 t) (iblk m c 11 t))
          k0_pay177⟩,
      ⟨Rect.unit ![0, 0, 1536] ![1, 256, 512] inb_S1x256x5120_S1x256x512_0_0_1536,
        k0_pay174
          (kernelRun0_A.sl.r_78 c (grid0.coords t) (ms0_0 t) (hs0_0 t) (ms0_1 t) (hs0_1 t) (ms0_6 t) (hs0_6 t) (ms0_7 t)
            (hs0_7 t) (ms0_10 t) (hs0_10 t) (ms0_11 t) (hs0_11 t) (iblk m c 0 t) (iblk m c 1 t) (iblk m c 6 t)
            (iblk m c 7 t) (iblk m c 10 t) (iblk m c 11 t))
          (kernelRun0_A.sl.v828 c (grid0.coords t) (ms0_0 t) (hs0_0 t) (ms0_6 t) (hs0_6 t) (ms0_7 t) (hs0_7 t)
            (ms0_10 t) (hs0_10 t) (ms0_11 t) (hs0_11 t) scM0_0 (iblk m c 0 t) (iblk m c 6 t) (iblk m c 7 t)
            (iblk m c 10 t) (iblk m c 11 t))⟩,
      ⟨Rect.unit ![0, 0, 1024] ![1, 256, 512] inb_S1x256x5120_S1x256x512_0_0_1024,
        k0_pay172
          (kernelRun0_A.sl.r_82 c (grid0.coords t) (ms0_0 t) (hs0_0 t) (ms0_1 t) (hs0_1 t) (ms0_6 t) (hs0_6 t) (ms0_7 t)
            (hs0_7 t) (ms0_10 t) (hs0_10 t) (ms0_11 t) (hs0_11 t) scM0_0 (iblk m c 0 t) (iblk m c 1 t) (iblk m c 6 t)
            (iblk m c 7 t) (iblk m c 10 t) (iblk m c 11 t))
          k0_pay170⟩,
      ⟨Rect.unit ![0, 0, 512] ![1, 256, 512] inb_S1x256x5120_S1x256x512_0_0_512,
        k0_pay167
          (kernelRun0_A.sl.r_78 c (grid0.coords t) (ms0_0 t) (hs0_0 t) (ms0_1 t) (hs0_1 t) (ms0_6 t) (hs0_6 t) (ms0_7 t)
            (hs0_7 t) (ms0_10 t) (hs0_10 t) (ms0_11 t) (hs0_11 t) (iblk m c 0 t) (iblk m c 1 t) (iblk m c 6 t)
            (iblk m c 7 t) (iblk m c 10 t) (iblk m c 11 t))
          (kernelRun0_A.sl.v790 c (grid0.coords t) (ms0_0 t) (hs0_0 t) (ms0_6 t) (hs0_6 t) (ms0_7 t) (hs0_7 t)
            (ms0_10 t) (hs0_10 t) (ms0_11 t) (hs0_11 t) scM0_0 (iblk m c 0 t) (iblk m c 6 t) (iblk m c 7 t)
            (iblk m c 10 t) (iblk m c 11 t))⟩,
      ⟨Rect.unit ![0, 0, 0] ![1, 256, 512] inb_S1x256x5120_S1x256x512_0_0_0,
        k0_pay165
          (kernelRun0_A.sl.r_80 c (grid0.coords t) (ms0_0 t) (hs0_0 t) (ms0_1 t) (hs0_1 t) (ms0_6 t) (hs0_6 t) (ms0_7 t)
            (hs0_7 t) (ms0_10 t) (hs0_10 t) (ms0_11 t) (hs0_11 t) scM0_0 (iblk m c 0 t) (iblk m c 1 t) (iblk m c 6 t)
            (iblk m c 7 t) (iblk m c 10 t) (iblk m c 11 t))
          k0_pay163⟩] := rfl
theorem indA_17 (c : Dev nD) (t : Fin cfg0.N) (h0 : t.val % 6 = 0) (h1 : ¬1 ≤ t.val) (xo16 xo18 yo16 yo18 : Vec F S6x256 .f32) :
    (runA m c t h0 h1 xo16 xo18).2.2.2.1 = (runA m c t h0 h1 yo16 yo18).2.2.2.1 := (pcsA_17 m c t h0 h1 xo16 xo18).trans (pcsA_17 m c t h0 h1 yo16 yo18).symm
theorem pcsA_19 (c : Dev nD) (t : Fin cfg0.N) (h0 : t.val % 6 = 0) (h1 : ¬1 ≤ t.val) (xo16 xo18 : Vec F S6x256 .f32) :
    (runA m c t h0 h1 xo16 xo18).2.2.2.2.2.1 = [⟨Rect.unit ![0, 0] ![1, 1280] inb_S1x1280_S1x1280_0_0,
        k0_pay228 (kernelRun0_A.sl.r_1 c (grid0.coords t) (ms0_3 t) (hs0_3 t) (iblk m c 3 t))
          (kernelRun0_A.sl.r_4 c (ms0_4 t) (hs0_4 t) (iblk m c 4 t))
          (kernelRun0_A.sl.r_77 c (grid0.coords t) (ms0_0 t) (hs0_0 t) (ms0_1 t) (hs0_1 t) (ms0_6 t) (hs0_6 t) (ms0_7 t)
            (hs0_7 t) (ms0_10 t) (hs0_10 t) (ms0_11 t) (hs0_11 t) (iblk m c 0 t) (iblk m c 1 t) (iblk m c 6 t)
            (iblk m c 7 t) (iblk m c 10 t) (iblk m c 11 t))
          (kernelRun0_A.sl.r_89 c (grid0.coords t) (ms0_0 t) (hs0_0 t) (ms0_1 t) (hs0_1 t) (ms0_6 t) (hs0_6 t) (ms0_7 t)
            (hs0_7 t) (ms0_8 t) (hs0_8 t) (ms0_9 t) (hs0_9 t) (ms0_10 t) (hs0_10 t) (ms0_11 t) (hs0_11 t) scM0_0
            (iblk m c 0 t) (iblk m c 1 t) (iblk m c 6 t) (iblk m c 7 t) (iblk m c 8 t) (iblk m c 9 t) (iblk m c 10 t)
            (iblk m c 11 t))
          (kernelRun0_A.sl.r_117 c (ms0_2 t) (hs0_2 t) (ms0_12 t) (hs0_12 t) (ms0_13 t) (hs0_13 t) (iblk m c 2 t)
            (iblk m c 12 t) (iblk m c 13 t))
          (kernelRun0_A.sl.r_118 c (ms0_2 t) (hs0_2 t) (iblk m c 2 t))
          (View.readAt (Elt F) (ms0_2 t).view
            (@Rect.unit S1x30x256x128 ![0, 29, 0, 0] S1x1x256x128.size inb_S1x30x256x128_S1x1x256x128_0_29_0_0).toLoadRect
            ((hs0_2 t).unread (iblk m c 2 t)))
          (View.readAt (Elt F) (ms0_12 t).view
            (@Rect.unit S30x1280x128 ![28, 0, 0] S1x1280x128.size inb_S30x1280x128_S1x1280x128_28_0_0).toLoadRect
            ((hs0_12 t).unread (iblk m c 12 t)))
          (View.readAt (Elt F) (ms0_12 t).view
            (@Rect.unit S30x1280x128 ![29, 0, 0] S1x1280x128.size inb_S30x1280x128_S1x1280x128_29_0_0).toLoadRect
            ((hs0_12 t).unread (iblk m c 12 t)))
          (View.readAt (Elt F) (ms0_13 t).view
            (@Rect.unit S10x3x128 ![8, 2, 0] S1x1x128.size inb_S10x3x128_S1x1x128_8_2_0).toLoadRect
            ((hs0_13 t).unread (iblk m c 13 t)))
          (View.readAt (Elt F) (ms0_13 t).view
            (@Rect.unit S10x3x128 ![9, 2, 0] S1x1x128.size inb_S10x3x128_S1x1x128_9_2_0).toLoadRect
            ((hs0_13 t).unread (iblk m c 13 t)))⟩] := rfl
theorem indA_19 (c : Dev nD) (t : Fin cfg0.N) (h0 : t.val % 6 = 0) (h1 : ¬1 ≤ t.val) (xo16 xo18 yo16 yo18 : Vec F S6x256 .f32) :
    (runA m c t h0 h1 xo16 xo18).2.2.2.2.2.1 = (runA m c t h0 h1 yo16 yo18).2.2.2.2.2.1 := (pcsA_19 m c t h0 h1 xo16 xo18).trans (pcsA_19 m c t h0 h1 yo16 yo18).symm
theorem pcsA_20 (c : Dev nD) (t : Fin cfg0.N) (h0 : t.val % 6 = 0) (h1 : ¬1 ≤ t.val) (xo16 xo18 : Vec F S6x256 .f32) :
    (runA m c t h0 h1 xo16 xo18).2.2.2.2.2.2.1 = [⟨Rect.unit ![0, 0] ![1, 1280] inb_S1x1280_S1x1280_0_0,
        k0_pay229 (kernelRun0_A.sl.r_1 c (grid0.coords t) (ms0_3 t) (hs0_3 t) (iblk m c 3 t))
          (kernelRun0_A.sl.r_77 c (grid0.coords t) (ms0_0 t) (hs0_0 t) (ms0_1 t) (hs0_1 t) (ms0_6 t) (hs0_6 t) (ms0_7 t)
            (hs0_7 t) (ms0_10 t) (hs0_10 t) (ms0_11 t) (hs0_11 t) (iblk m c 0 t) (iblk m c 1 t) (iblk m c 6 t)
            (iblk m c 7 t) (iblk m c 10 t) (iblk m c 11 t))
          (kernelRun0_A.sl.r_89 c (grid0.coords t) (ms0_0 t) (hs0_0 t) (ms0_1 t) (hs0_1 t) (ms0_6 t) (hs0_6 t) (ms0_7 t)
            (hs0_7 t) (ms0_8 t) (hs0_8 t) (ms0_9 t) (hs0_9 t) (ms0_10 t) (hs0_10 t) (ms0_11 t) (hs0_11 t) scM0_0
            (iblk m c 0 t) (iblk m c 1 t) (iblk m c 6 t) (iblk m c 7 t) (iblk m c 8 t) (iblk m c 9 t) (iblk m c 10 t)
            (iblk m c 11 t))
          (kernelRun0_A.sl.r_117 c (ms0_2 t) (hs0_2 t) (ms0_12 t) (hs0_12 t) (ms0_13 t) (hs0_13 t) (iblk m c 2 t)
            (iblk m c 12 t) (iblk m c 13 t))
          (kernelRun0_A.sl.r_118 c (ms0_2 t) (hs0_2 t) (iblk m c 2 t))
          (View.readAt (Elt F) (ms0_2 t).view
            (@Rect.unit S1x30x256x128 ![0, 29, 0, 0] S1x1x256x128.size inb_S1x30x256x128_S1x1x256x128_0_29_0_0).toLoadRect
            ((hs0_2 t).unread (iblk m c 2 t)))
          (View.readAt (Elt F) (ms0_12 t).view
            (@Rect.unit S30x1280x128 ![28, 0, 0] S1x1280x128.size inb_S30x1280x128_S1x1280x128_28_0_0).toLoadRect
            ((hs0_12 t).unread (iblk m c 12 t)))
          (View.readAt (Elt F) (ms0_12 t).view
            (@Rect.unit S30x1280x128 ![29, 0, 0] S1x1280x128.size inb_S30x1280x128_S1x1280x128_29_0_0).toLoadRect
            ((hs0_12 t).unread (iblk m c 12 t)))
          (View.readAt (Elt F) (ms0_13 t).view
            (@Rect.unit S10x3x128 ![8, 2, 0] S1x1x128.size inb_S10x3x128_S1x1x128_8_2_0).toLoadRect
            ((hs0_13 t).unread (iblk m c 13 t)))
          (View.readAt (Elt F) (ms0_13 t).view
            (@Rect.unit S10x3x128 ![9, 2, 0] S1x1x128.size inb_S10x3x128_S1x1x128_9_2_0).toLoadRect
            ((hs0_13 t).unread (iblk m c 13 t)))⟩] := rfl
theorem indA_20 (c : Dev nD) (t : Fin cfg0.N) (h0 : t.val % 6 = 0) (h1 : ¬1 ≤ t.val) (xo16 xo18 yo16 yo18 : Vec F S6x256 .f32) :
    (runA m c t h0 h1 xo16 xo18).2.2.2.2.2.2.1 = (runA m c t h0 h1 yo16 yo18).2.2.2.2.2.2.1 := (pcsA_20 m c t h0 h1 xo16 xo18).trans (pcsA_20 m c t h0 h1 yo16 yo18).symm
theorem pcsA_21 (c : Dev nD) (t : Fin cfg0.N) (h0 : t.val % 6 = 0) (h1 : ¬1 ≤ t.val) (xo16 xo18 : Vec F S6x256 .f32) :
    (runA m c t h0 h1 xo16 xo18).2.2.2.2.2.2.2.1 = [⟨Rect.unit ![0, 0] ![1280, 256] inb_S1280x256_S1280x256_0_0,
        k0_pay44 (kernelRun0_A.sl.r_14 c (ms0_4 t) (hs0_4 t) (iblk m c 4 t))
          (kernelRun0_A.sl.r_15 c (ms0_4 t) (hs0_4 t) (iblk m c 4 t)) k0_pay40⟩] := rfl
theorem indA_21 (c : Dev nD) (t : Fin cfg0.N) (h0 : t.val % 6 = 0) (h1 : ¬1 ≤ t.val) (xo16 xo18 yo16 yo18 : Vec F S6x256 .f32) :
    (runA m c t h0 h1 xo16 xo18).2.2.2.2.2.2.2.1 = (runA m c t h0 h1 yo16 yo18).2.2.2.2.2.2.2.1 := (pcsA_21 m c t h0 h1 xo16 xo18).trans (pcsA_21 m c t h0 h1 yo16 yo18).symm

/-! Case B: the pieces stored into each output, the same whatever the two scale windows held. -/

theorem pcsB_14 (c : Dev nD) (t : Fin cfg0.N) (h0 : ¬t.val % 6 = 0) (h1 : 1 ≤ t.val) (xo16 xo18 : Vec F S6x256 .f32) (p19 p20 : Vec F S1x1280 .f32) :
    (runB m c t h0 h1 xo16 xo18 p19 p20).1 = [⟨Rect.unit ![0, 0, 0] ![1, 256, 1280] inb_S1x256x1280_S1x256x1280_0_0_0,
        k0_pay1 (kernelRun0_B.sl.r c (grid0.coords t) (ms0_1 t) (hs0_1 t) (iblk m c 1 t))
          (kernelRun0_B.sl.r_122 c (grid0.coords t) (ms0_0 t) (hs0_0 t) (ms0_1 t) (hs0_1 t) (ms0_2 t) (hs0_2 t)
            (ms0_3 t) (hs0_3 t) (ms0_4 t) (hs0_4 t) (ms0_5 t) (hs0_5 t) (ms0_6 t) (hs0_6 t) (ms0_7 t) (hs0_7 t)
            (ms0_8 t) (hs0_8 t) (ms0_9 t) (hs0_9 t) (ms0_10 t) (hs0_10 t) (ms0_11 t) (hs0_11 t) (ms0_12 t) (hs0_12 t)
            (ms0_13 t) (hs0_13 t) scM0_0 (iblk m c 0 t) (iblk m c 1 t) (iblk m c 2 t) (iblk m c 3 t) (iblk m c 4 t)
            (iblk m c 5 t) (iblk m c 6 t) (iblk m c 7 t) (iblk m c 8 t) (iblk m c 9 t) (iblk m c 10 t) (iblk m c 11 t)
            (iblk m c 12 t) (iblk m c 13 t))
          (kernelRun0_B.sl.r_123 c (ms0_4 t) (hs0_4 t) (iblk m c 4 t))
          (View.readAt (Elt F) (ms0_0 t).view
            (@Rect.unit S1x256x1280 ![0, 0, 0] S1x256x1280.size inb_S1x256x1280_S1x256x1280_0_0_0).toLoadRect
            ((hs0_0 t).unread (iblk m c 0 t)))⟩] := rfl
theorem indB_14 (c : Dev nD) (t : Fin cfg0.N) (h0 : ¬t.val % 6 = 0) (h1 : 1 ≤ t.val) (xo16 xo18 yo16 yo18 : Vec F S6x256 .f32) (p19 p20 : Vec F S1x1280 .f32) :
    (runB m c t h0 h1 xo16 xo18 p19 p20).1 = (runB m c t h0 h1 yo16 yo18 p19 p20).1 := (pcsB_14 m c t h0 h1 xo16 xo18 p19 p20).trans (pcsB_14 m c t h0 h1 yo16 yo18 p19 p20).symm
theorem pcsB_15 (c : Dev nD) (t : Fin cfg0.N) (h0 : ¬t.val % 6 = 0) (h1 : 1 ≤ t.val) (xo16 xo18 : Vec F S6x256 .f32) (p19 p20 : Vec F S1x1280 .f32) :
    (runB m c t h0 h1 xo16 xo18 p19 p20).2.1 = [⟨Rect.unit ![0, 0, 0] ![1, 256, 1280] inb_S1x256x1280_S1x256x1280_0_0_0,
        k0_pay42 (kernelRun0_B.sl.r_15 c (ms0_4 t) (hs0_4 t) (iblk m c 4 t)) k0_pay40⟩] := rfl
theorem indB_15 (c : Dev nD) (t : Fin cfg0.N) (h0 : ¬t.val % 6 = 0) (h1 : 1 ≤ t.val) (xo16 xo18 yo16 yo18 : Vec F S6x256 .f32) (p19 p20 : Vec F S1x1280 .f32) :
    (runB m c t h0 h1 xo16 xo18 p19 p20).2.1 = (runB m c t h0 h1 yo16 yo18 p19 p20).2.1 := (pcsB_15 m c t h0 h1 xo16 xo18 p19 p20).trans (pcsB_15 m c t h0 h1 yo16 yo18 p19 p20).symm
theorem pcsB_17 (c : Dev nD) (t : Fin cfg0.N) (h0 : ¬t.val % 6 = 0) (h1 : 1 ≤ t.val) (xo16 xo18 : Vec F S6x256 .f32) (p19 p20 : Vec F S1x1280 .f32) :
    (runB m c t h0 h1 xo16 xo18 p19 p20).2.2.2.1 = [⟨Rect.unit ![0, 0, 4608] ![1, 256, 512] inb_S1x256x5120_S1x256x512_0_0_4608,
        k0_pay195
          (kernelRun0_B.sl.r_78 c (grid0.coords t) (ms0_0 t) (hs0_0 t) (ms0_1 t) (hs0_1 t) (ms0_6 t) (hs0_6 t) (ms0_7 t)
            (hs0_7 t) (ms0_10 t) (hs0_10 t) (ms0_11 t) (hs0_11 t) (iblk m c 0 t) (iblk m c 1 t) (iblk m c 6 t)
            (iblk m c 7 t) (iblk m c 10 t) (iblk m c 11 t))
          (kernelRun0_B.sl.v942 c (grid0.coords t) (ms0_0 t) (hs0_0 t) (ms0_6 t) (hs0_6 t) (ms0_7 t) (hs0_7 t)
            (ms0_10 t) (hs0_10 t) (ms0_11 t) (hs0_11 t) scM0_0 (iblk m c 0 t) (iblk m c 6 t) (iblk m c 7 t)
            (iblk m c 10 t) (iblk m c 11 t))⟩,
      ⟨Rect.unit ![0, 0, 4096] ![1, 256, 512] inb_S1x256x5120_S1x256x512_0_0_4096,
        k0_pay193
          (kernelRun0_B.sl.r_88 c (grid0.coords t) (ms0_0 t) (hs0_0 t) (ms0_1 t) (hs0_1 t) (ms0_6 t) (hs0_6 t) (ms0_7 t)
            (hs0_7 t) (ms0_10 t) (hs0_10 t) (ms0_11 t) (hs0_11 t) scM0_0 (iblk m c 0 t) (iblk m c 1 t) (iblk m c 6 t)
            (iblk m c 7 t) (iblk m c 10 t) (iblk m c 11 t))
          k0_pay191⟩,
      ⟨Rect.unit ![0, 0, 3584] ![1, 256, 512] inb_S1x256x5120_S1x256x512_0_0_3584,
        k0_pay188
          (kernelRun0_B.sl.r_78 c (grid0.coords t) (ms0_0 t) (hs0_0 t) (ms0_1 t) (hs0_1 t) (ms0_6 t) (hs0_6 t) (ms0_7 t)
            (hs0_7 t) (ms0_10 t) (hs0_10 t) (ms0_11 t) (hs0_11 t) (iblk m c 0 t) (iblk m c 1 t) (iblk m c 6 t)
            (iblk m c 7 t) (iblk m c 10 t) (iblk m c 11 t))
          (kernelRun0_B.sl.v904 c (grid0.coords t) (ms0_0 t) (hs0_0 t) (ms0_6 t) (hs0_6 t) (ms0_7 t) (hs0_7 t)
            (ms0_10 t) (hs0_10 t) (ms0_11 t) (hs0_11 t) scM0_0 (iblk m c 0 t) (iblk m c 6 t) (iblk m c 7 t)
            (iblk m c 10 t) (iblk m c 11 t))⟩,
      ⟨Rect.unit ![0, 0, 3072] ![1, 256, 512] inb_S1x256x5120_S1x256x512_0_0_3072,
        k0_pay186
          (kernelRun0_B.sl.r_86 c (grid0.coords t) (ms0_0 t) (hs0_0 t) (ms0_1 t) (hs0_1 t) (ms0_6 t) (hs0_6 t) (ms0_7 t)
            (hs0_7 t) (ms0_10 t) (hs0_10 t) (ms0_11 t) (hs0_11 t) scM0_0 (iblk m c 0 t) (iblk m c 1 t) (iblk m c 6 t)
            (iblk m c 7 t) (iblk m c 10 t) (iblk m c 11 t))
          k0_pay184⟩,
      ⟨Rect.unit ![0, 0, 2560] ![1, 256, 512] inb_S1x256x5120_S1x256x512_0_0_2560,
        k0_pay181
          (kernelRun0_B.sl.r_78 c (grid0.coords t) (ms0_0 t) (hs0_0 t) (ms0_1 t) (hs0_1 t) (ms0_6 t) (hs0_6 t) (ms0_7 t)
            (hs0_7 t) (ms0_10 t) (hs0_10 t) (ms0_11 t) (hs0_11 t) (iblk m c 0 t) (iblk m c 1 t) (iblk m c 6 t)
            (iblk m c 7 t) (iblk m c 10 t) (iblk m c 11 t))
          (kernelRun0_B.sl.v866 c (grid0.coords t) (ms0_0 t) (hs0_0 t) (ms0_6 t) (hs0_6 t) (ms0_7 t) (hs0_7 t)
            (ms0_10 t) (hs0_10 t) (ms0_11 t) (hs0_11 t) scM0_0 (iblk m c 0 t) (iblk m c 6 t) (iblk m c 7 t)
            (iblk m c 10 t) (iblk m c 11 t))⟩,
      ⟨Rect.unit ![0, 0, 2048] ![1, 256, 512] inb_S1x256x5120_S1x256x512_0_0_2048,
        k0_pay179
          (kernelRun0_B.sl.r_84 c (grid0.coords t) (ms0_0 t) (hs0_0 t) (ms0_1 t) (hs0_1 t) (ms0_6 t) (hs0_6 t) (ms0_7 t)
            (hs0_7 t) (ms0_10 t) (hs0_10 t) (ms0_11 t) (hs0_11 t) scM0_0 (iblk m c 0 t) (iblk m c 1 t) (iblk m c 6 t)
            (iblk m c 7 t) (iblk m c 10 t) (iblk m c 11 t))
          k0_pay177⟩,
      ⟨Rect.unit ![0, 0, 1536] ![1, 256, 512] inb_S1x256x5120_S1x256x512_0_0_1536,
        k0_pay174
          (kernelRun0_B.sl.r_78 c (grid0.coords t) (ms0_0 t) (hs0_0 t) (ms0_1 t) (hs0_1 t) (ms0_6 t) (hs0_6 t) (ms0_7 t)
            (hs0_7 t) (ms0_10 t) (hs0_10 t) (ms0_11 t) (hs0_11 t) (iblk m c 0 t) (iblk m c 1 t) (iblk m c 6 t)
            (iblk m c 7 t) (iblk m c 10 t) (iblk m c 11 t))
          (kernelRun0_B.sl.v828 c (grid0.coords t) (ms0_0 t) (hs0_0 t) (ms0_6 t) (hs0_6 t) (ms0_7 t) (hs0_7 t)
            (ms0_10 t) (hs0_10 t) (ms0_11 t) (hs0_11 t) scM0_0 (iblk m c 0 t) (iblk m c 6 t) (iblk m c 7 t)
            (iblk m c 10 t) (iblk m c 11 t))⟩,
      ⟨Rect.unit ![0, 0, 1024] ![1, 256, 512] inb_S1x256x5120_S1x256x512_0_0_1024,
        k0_pay172
          (kernelRun0_B.sl.r_82 c (grid0.coords t) (ms0_0 t) (hs0_0 t) (ms0_1 t) (hs0_1 t) (ms0_6 t) (hs0_6 t) (ms0_7 t)
            (hs0_7 t) (ms0_10 t) (hs0_10 t) (ms0_11 t) (hs0_11 t) scM0_0 (iblk m c 0 t) (iblk m c 1 t) (iblk m c 6 t)
            (iblk m c 7 t) (iblk m c 10 t) (iblk m c 11 t))
          k0_pay170⟩,
      ⟨Rect.unit ![0, 0, 512] ![1, 256, 512] inb_S1x256x5120_S1x256x512_0_0_512,
        k0_pay167
          (kernelRun0_B.sl.r_78 c (grid0.coords t) (ms0_0 t) (hs0_0 t) (ms0_1 t) (hs0_1 t) (ms0_6 t) (hs0_6 t) (ms0_7 t)
            (hs0_7 t) (ms0_10 t) (hs0_10 t) (ms0_11 t) (hs0_11 t) (iblk m c 0 t) (iblk m c 1 t) (iblk m c 6 t)
            (iblk m c 7 t) (iblk m c 10 t) (iblk m c 11 t))
          (kernelRun0_B.sl.v790 c (grid0.coords t) (ms0_0 t) (hs0_0 t) (ms0_6 t) (hs0_6 t) (ms0_7 t) (hs0_7 t)
            (ms0_10 t) (hs0_10 t) (ms0_11 t) (hs0_11 t) scM0_0 (iblk m c 0 t) (iblk m c 6 t) (iblk m c 7 t)
            (iblk m c 10 t) (iblk m c 11 t))⟩,
      ⟨Rect.unit ![0, 0, 0] ![1, 256, 512] inb_S1x256x5120_S1x256x512_0_0_0,
        k0_pay165
          (kernelRun0_B.sl.r_80 c (grid0.coords t) (ms0_0 t) (hs0_0 t) (ms0_1 t) (hs0_1 t) (ms0_6 t) (hs0_6 t) (ms0_7 t)
            (hs0_7 t) (ms0_10 t) (hs0_10 t) (ms0_11 t) (hs0_11 t) scM0_0 (iblk m c 0 t) (iblk m c 1 t) (iblk m c 6 t)
            (iblk m c 7 t) (iblk m c 10 t) (iblk m c 11 t))
          k0_pay163⟩] := rfl
theorem indB_17 (c : Dev nD) (t : Fin cfg0.N) (h0 : ¬t.val % 6 = 0) (h1 : 1 ≤ t.val) (xo16 xo18 yo16 yo18 : Vec F S6x256 .f32) (p19 p20 : Vec F S1x1280 .f32) :
    (runB m c t h0 h1 xo16 xo18 p19 p20).2.2.2.1 = (runB m c t h0 h1 yo16 yo18 p19 p20).2.2.2.1 := (pcsB_17 m c t h0 h1 xo16 xo18 p19 p20).trans (pcsB_17 m c t h0 h1 yo16 yo18 p19 p20).symm
theorem pcsB_19 (c : Dev nD) (t : Fin cfg0.N) (h0 : ¬t.val % 6 = 0) (h1 : 1 ≤ t.val) (xo16 xo18 : Vec F S6x256 .f32) (p19 p20 : Vec F S1x1280 .f32) :
    (runB m c t h0 h1 xo16 xo18 p19 p20).2.2.2.2.2.1 = [⟨Rect.unit ![0, 0] ![1, 1280] inb_S1x1280_S1x1280_0_0,
        k0_pay230
          (kernelRun0_B.sl.r_120 c (grid0.coords t) (ms0_0 t) (hs0_0 t) (ms0_1 t) (hs0_1 t) (ms0_2 t) (hs0_2 t)
            (ms0_3 t) (hs0_3 t) (ms0_4 t) (hs0_4 t) (ms0_6 t) (hs0_6 t) (ms0_7 t) (hs0_7 t) (ms0_8 t) (hs0_8 t)
            (ms0_9 t) (hs0_9 t) (ms0_10 t) (hs0_10 t) (ms0_11 t) (hs0_11 t) (ms0_12 t) (hs0_12 t) (ms0_13 t) (hs0_13 t)
            scM0_0 (iblk m c 0 t) (iblk m c 1 t) (iblk m c 2 t) (iblk m c 3 t) (iblk m c 4 t) (iblk m c 6 t)
            (iblk m c 7 t) (iblk m c 8 t) (iblk m c 9 t) (iblk m c 10 t) (iblk m c 11 t) (iblk m c 12 t)
            (iblk m c 13 t))
          (View.readAt (Elt F) (ms0_19 t).view (@Rect.unit S1x1280 ![0, 0] S1x1280.size inb_S1x1280_S1x1280_0_0).toLoadRect
            ((hs0_19 t).unread p19))⟩] := rfl
theorem indB_19 (c : Dev nD) (t : Fin cfg0.N) (h0 : ¬t.val % 6 = 0) (h1 : 1 ≤ t.val) (xo16 xo18 yo16 yo18 : Vec F S6x256 .f32) (p19 p20 : Vec F S1x1280 .f32) :
    (runB m c t h0 h1 xo16 xo18 p19 p20).2.2.2.2.2.1 = (runB m c t h0 h1 yo16 yo18 p19 p20).2.2.2.2.2.1 := (pcsB_19 m c t h0 h1 xo16 xo18 p19 p20).trans (pcsB_19 m c t h0 h1 yo16 yo18 p19 p20).symm
theorem pcsB_20 (c : Dev nD) (t : Fin cfg0.N) (h0 : ¬t.val % 6 = 0) (h1 : 1 ≤ t.val) (xo16 xo18 : Vec F S6x256 .f32) (p19 p20 : Vec F S1x1280 .f32) :
    (runB m c t h0 h1 xo16 xo18 p19 p20).2.2.2.2.2.2.1 = [⟨Rect.unit ![0, 0] ![1, 1280] inb_S1x1280_S1x1280_0_0,
        k0_pay231
          (kernelRun0_B.sl.r_121 c (grid0.coords t) (ms0_0 t) (hs0_0 t) (ms0_1 t) (hs0_1 t) (ms0_2 t) (hs0_2 t)
            (ms0_3 t) (hs0_3 t) (ms0_6 t) (hs0_6 t) (ms0_7 t) (hs0_7 t) (ms0_8 t) (hs0_8 t) (ms0_9 t) (hs0_9 t)
            (ms0_10 t) (hs0_10 t) (ms0_11 t) (hs0_11 t) (ms0_12 t) (hs0_12 t) (ms0_13 t) (hs0_13 t) scM0_0
            (iblk m c 0 t) (iblk m c 1 t) (iblk m c 2 t) (iblk m c 3 t) (iblk m c 6 t) (iblk m c 7 t) (iblk m c 8 t)
            (iblk m c 9 t) (iblk m c 10 t) (iblk m c 11 t) (iblk m c 12 t) (iblk m c 13 t))
          (View.readAt (Elt F) (ms0_20 t).view (@Rect.unit S1x1280 ![0, 0] S1x1280.size inb_S1x1280_S1x1280_0_0).toLoadRect
            ((hs0_20 t).unread p20))⟩] := rfl
theorem indB_20 (c : Dev nD) (t : Fin cfg0.N) (h0 : ¬t.val % 6 = 0) (h1 : 1 ≤ t.val) (xo16 xo18 yo16 yo18 : Vec F S6x256 .f32) (p19 p20 : Vec F S1x1280 .f32) :
    (runB m c t h0 h1 xo16 xo18 p19 p20).2.2.2.2.2.2.1 = (runB m c t h0 h1 yo16 yo18 p19 p20).2.2.2.2.2.2.1 := (pcsB_20 m c t h0 h1 xo16 xo18 p19 p20).trans (pcsB_20 m c t h0 h1 yo16 yo18 p19 p20).symm
theorem pcsB_21 (c : Dev nD) (t : Fin cfg0.N) (h0 : ¬t.val % 6 = 0) (h1 : 1 ≤ t.val) (xo16 xo18 : Vec F S6x256 .f32) (p19 p20 : Vec F S1x1280 .f32) :
    (runB m c t h0 h1 xo16 xo18 p19 p20).2.2.2.2.2.2.2.1 = [⟨Rect.unit ![0, 0] ![1280, 256] inb_S1280x256_S1280x256_0_0,
        k0_pay44 (kernelRun0_B.sl.r_14 c (ms0_4 t) (hs0_4 t) (iblk m c 4 t))
          (kernelRun0_B.sl.r_15 c (ms0_4 t) (hs0_4 t) (iblk m c 4 t)) k0_pay40⟩] := rfl
theorem indB_21 (c : Dev nD) (t : Fin cfg0.N) (h0 : ¬t.val % 6 = 0) (h1 : 1 ≤ t.val) (xo16 xo18 yo16 yo18 : Vec F S6x256 .f32) (p19 p20 : Vec F S1x1280 .f32) :
    (runB m c t h0 h1 xo16 xo18 p19 p20).2.2.2.2.2.2.2.1 = (runB m c t h0 h1 yo16 yo18 p19 p20).2.2.2.2.2.2.2.1 := (pcsB_21 m c t h0 h1 xo16 xo18 p19 p20).trans (pcsB_21 m c t h0 h1 yo16 yo18 p19 p20).symm

attribute [local irreducible] kernelRun0_A kernelRun0_B

/-! The components of `outA`. -/

theorem outA_14 (c : Dev nD) (t : Fin cfg0.N) (h0 : t.val % 6 = 0) (h1 : ¬1 ≤ t.val) :
    (outA m c t h0 h1).1 = VO0_14.read (Elt F) (VO0_14.writes (Elt F) VO0_14.junk (runA m c t h0 h1 (iblk m c 1 t) (iblk m c 1 t)).1) := rfl
theorem outA_15 (c : Dev nD) (t : Fin cfg0.N) (h0 : t.val % 6 = 0) (h1 : ¬1 ≤ t.val) :
    (outA m c t h0 h1).2.1 = VO0_15.read (Elt F) (VO0_15.writes (Elt F) VO0_15.junk (runA m c t h0 h1 (iblk m c 1 t) (iblk m c 1 t)).2.1) := rfl
theorem outA_16 (c : Dev nD) (t : Fin cfg0.N) (h0 : t.val % 6 = 0) (h1 : ¬1 ≤ t.val) :
    (outA m c t h0 h1).2.2.1 = VO0_16.read (Elt F) (VO0_16.writes (Elt F) VO0_16.junk (runA m c t h0 h1 (iblk m c 1 t) (iblk m c 1 t)).2.2.1) := rfl
theorem outA_17 (c : Dev nD) (t : Fin cfg0.N) (h0 : t.val % 6 = 0) (h1 : ¬1 ≤ t.val) :
    (outA m c t h0 h1).2.2.2.1 = VO0_17.read (Elt F) (VO0_17.writes (Elt F) VO0_17.junk (runA m c t h0 h1 (iblk m c 1 t) (iblk m c 1 t)).2.2.2.1) := rfl
theorem outA_18 (c : Dev nD) (t : Fin cfg0.N) (h0 : t.val % 6 = 0) (h1 : ¬1 ≤ t.val) :
    (outA m c t h0 h1).2.2.2.2.1 = VO0_18.read (Elt F) (VO0_18.writes (Elt F) VO0_18.junk (runA m c t h0 h1 (iblk m c 1 t) (iblk m c 1 t)).2.2.2.2.1) := rfl
theorem outA_19 (c : Dev nD) (t : Fin cfg0.N) (h0 : t.val % 6 = 0) (h1 : ¬1 ≤ t.val) :
    (outA m c t h0 h1).2.2.2.2.2.1 = VO0_19.read (Elt F) (VO0_19.writes (Elt F) VO0_19.junk (runA m c t h0 h1 (iblk m c 1 t) (iblk m c 1 t)).2.2.2.2.2.1) := rfl
theorem outA_20 (c : Dev nD) (t : Fin cfg0.N) (h0 : t.val % 6 = 0) (h1 : ¬1 ≤ t.val) :
    (outA m c t h0 h1).2.2.2.2.2.2.1 = VO0_20.read (Elt F) (VO0_20.writes (Elt F) VO0_20.junk (runA m c t h0 h1 (iblk m c 1 t) (iblk m c 1 t)).2.2.2.2.2.2.1) := rfl
theorem outA_21 (c : Dev nD) (t : Fin cfg0.N) (h0 : t.val % 6 = 0) (h1 : ¬1 ≤ t.val) :
    (outA m c t h0 h1).2.2.2.2.2.2.2 = VO0_21.read (Elt F) (VO0_21.writes (Elt F) VO0_21.junk (runA m c t h0 h1 (iblk m c 1 t) (iblk m c 1 t)).2.2.2.2.2.2.2.1) := rfl

/-! The components of `outB`. -/

theorem outB_14 (c : Dev nD) (t : Fin cfg0.N) (h0 : ¬t.val % 6 = 0) (h1 : 1 ≤ t.val) (p19 p20 : Vec F S1x1280 .f32) :
    (outB m c t h0 h1 p19 p20).1 = VO0_14.read (Elt F) (VO0_14.writes (Elt F) VO0_14.junk (runB m c t h0 h1 (iblk m c 1 t) (iblk m c 1 t) p19 p20).1) := rfl
theorem outB_15 (c : Dev nD) (t : Fin cfg0.N) (h0 : ¬t.val % 6 = 0) (h1 : 1 ≤ t.val) (p19 p20 : Vec F S1x1280 .f32) :
    (outB m c t h0 h1 p19 p20).2.1 = VO0_15.read (Elt F) (VO0_15.writes (Elt F) VO0_15.junk (runB m c t h0 h1 (iblk m c 1 t) (iblk m c 1 t) p19 p20).2.1) := rfl
theorem outB_16 (c : Dev nD) (t : Fin cfg0.N) (h0 : ¬t.val % 6 = 0) (h1 : 1 ≤ t.val) (p19 p20 : Vec F S1x1280 .f32) :
    (outB m c t h0 h1 p19 p20).2.2.1 = VO0_16.read (Elt F) (VO0_16.writes (Elt F) VO0_16.junk (runB m c t h0 h1 (iblk m c 1 t) (iblk m c 1 t) p19 p20).2.2.1) := rfl
theorem outB_17 (c : Dev nD) (t : Fin cfg0.N) (h0 : ¬t.val % 6 = 0) (h1 : 1 ≤ t.val) (p19 p20 : Vec F S1x1280 .f32) :
    (outB m c t h0 h1 p19 p20).2.2.2.1 = VO0_17.read (Elt F) (VO0_17.writes (Elt F) VO0_17.junk (runB m c t h0 h1 (iblk m c 1 t) (iblk m c 1 t) p19 p20).2.2.2.1) := rfl
theorem outB_18 (c : Dev nD) (t : Fin cfg0.N) (h0 : ¬t.val % 6 = 0) (h1 : 1 ≤ t.val) (p19 p20 : Vec F S1x1280 .f32) :
    (outB m c t h0 h1 p19 p20).2.2.2.2.1 = VO0_18.read (Elt F) (VO0_18.writes (Elt F) VO0_18.junk (runB m c t h0 h1 (iblk m c 1 t) (iblk m c 1 t) p19 p20).2.2.2.2.1) := rfl
theorem outB_19 (c : Dev nD) (t : Fin cfg0.N) (h0 : ¬t.val % 6 = 0) (h1 : 1 ≤ t.val) (p19 p20 : Vec F S1x1280 .f32) :
    (outB m c t h0 h1 p19 p20).2.2.2.2.2.1 = VO0_19.read (Elt F) (VO0_19.writes (Elt F) VO0_19.junk (runB m c t h0 h1 (iblk m c 1 t) (iblk m c 1 t) p19 p20).2.2.2.2.2.1) := rfl
theorem outB_20 (c : Dev nD) (t : Fin cfg0.N) (h0 : ¬t.val % 6 = 0) (h1 : 1 ≤ t.val) (p19 p20 : Vec F S1x1280 .f32) :
    (outB m c t h0 h1 p19 p20).2.2.2.2.2.2.1 = VO0_20.read (Elt F) (VO0_20.writes (Elt F) VO0_20.junk (runB m c t h0 h1 (iblk m c 1 t) (iblk m c 1 t) p19 p20).2.2.2.2.2.2.1) := rfl
theorem outB_21 (c : Dev nD) (t : Fin cfg0.N) (h0 : ¬t.val % 6 = 0) (h1 : 1 ≤ t.val) (p19 p20 : Vec F S1x1280 .f32) :
    (outB m c t h0 h1 p19 p20).2.2.2.2.2.2.2 = VO0_21.read (Elt F) (VO0_21.writes (Elt F) VO0_21.junk (runB m c t h0 h1 (iblk m c 1 t) (iblk m c 1 t) p19 p20).2.2.2.2.2.2.2.1) := rfl

end Cert.Act.Hand

end
-- ==== Proof.ActBitsStored.lean ====
/- What each output's staging buffer holds after the body at a grid point, stated of the contents left point by point. -/
module

public import proofs.«01_k».proof.Proof.ActBitsOuts

@[expose] public section

set_option maxRecDepth 16384

noncomputable section

namespace Cert.Act.Hand

open Cert.Act Cert.Act.Gen
open Idealize.ShloMosaic Idealize.ShloMosaic.TcCoe Idealize.ShloMosaic.Tactic

variable {F : FTy → Type} [FloatOps F]
variable (m : (ℓ : Loc nD τ sig) → Buf (Elt F) ℓ)

attribute [local irreducible] kernelRun0_A kernelRun0_B outA outB outsAt0

/-- The contents after a point of case B, the running sums of the point before given their names. -/
theorem outsB (c : Dev nD) (t : Fin cfg0.N) (h0 : ¬t.val % 6 = 0) (h1 : 1 ≤ t.val) (p19 p20 : Vec F S1x1280 .f32)
    (e19 : (outsAt0 m c (t.val - 1) (Nat.lt_of_le_of_lt (Nat.sub_le _ _) t.isLt)).2.2.2.2.2.1 = p19)
    (e20 : (outsAt0 m c (t.val - 1) (Nat.lt_of_le_of_lt (Nat.sub_le _ _) t.isLt)).2.2.2.2.2.2.1 = p20) :
    outsAt0 m c t.val t.isLt = outB m c t h0 h1 p19 p20 :=
  (outsAt0_B m c t h0 h1).trans (congrArg₂ (outB m c t h0 h1) e19 e20)

theorem storedA_14 (c : Dev nD) (t : Fin cfg0.N) (h0 : t.val % 6 = 0) (h1 : ¬1 ≤ t.val) (xo16 xo18 : Vec F S6x256 .f32) (v : View sig .tc .vmem S1x256x1280 .bf16) (f : v.ty.Contents (Elt F)) :
    v.read (Elt F) (v.writes (Elt F) f (runA m c t h0 h1 xo16 xo18).1) = (outsAt0 m c t.val t.isLt).1 :=
  ((View.read_writes_of_cover v f VO0_14 VO0_14.junk _ (coverA_14 m c t h0 h1 xo16 xo18)).trans
    (congrArg (fun L => VO0_14.read (Elt F) (VO0_14.writes (Elt F) VO0_14.junk L)) (indA_14 m c t h0 h1 xo16 xo18 (iblk m c 1 t) (iblk m c 1 t)))).trans
    ((congrArg (fun z => z.1) (outsAt0_A m c t h0 h1)).trans (outA_14 m c t h0 h1)).symm
theorem storedA_15 (c : Dev nD) (t : Fin cfg0.N) (h0 : t.val % 6 = 0) (h1 : ¬1 ≤ t.val) (xo16 xo18 : Vec F S6x256 .f32) (v : View sig .tc .vmem S1x256x1280 .fp8e4m3) (f : v.ty.Contents (Elt F)) :
    v.read (Elt F) (v.writes (Elt F) f (runA m c t h0 h1 xo16 xo18).2.1) = (outsAt0 m c t.val t.isLt).2.1 :=
  ((View.read_writes_of_cover v f VO0_15 VO0_15.junk _ (coverA_15 m c t h0 h1 xo16 xo18)).trans
    (congrArg (fun L => VO0_15.read (Elt F) (VO0_15.writes (Elt F) VO0_15.junk L)) (indA_15 m c t h0 h1 xo16 xo18 (iblk m c 1 t) (iblk m c 1 t)))).trans
    ((congrArg (fun z => z.2.1) (outsAt0_A m c t h0 h1)).trans (outA_15 m c t h0 h1)).symm
theorem storedA_16 (c : Dev nD) (t : Fin cfg0.N) (h0 : t.val % 6 = 0) (h1 : ¬1 ≤ t.val) (xo16 xo18 : Vec F S6x256 .f32) (v : View sig .tc .vmem S6x256 .f32) (f : v.ty.Contents (Elt F)) (r : Fin 6) (s : Fin 256) (hr : r.val = t.val) :
    v.read (Elt F) (v.writes (Elt F) f (runA m c t h0 h1 xo16 xo18).2.2.1) (ix2 r s) = (outsAt0 m c t.val t.isLt).2.2.1 (ix2 r s) :=
  (hitA_16 m c t h0 h1 xo16 xo18 v f r s hr).trans
    (congrFun ((congrArg (fun z => z.2.2.1) (outsAt0_A m c t h0 h1)).trans (outA_16 m c t h0 h1)) (ix2 r s)).symm
theorem storedA_17 (c : Dev nD) (t : Fin cfg0.N) (h0 : t.val % 6 = 0) (h1 : ¬1 ≤ t.val) (xo16 xo18 : Vec F S6x256 .f32) (v : View sig .tc .vmem S1x256x5120 .fp8e5m2) (f : v.ty.Contents (Elt F)) :
    v.read (Elt F) (v.writes (Elt F) f (runA m c t h0 h1 xo16 xo18).2.2.2.1) = (outsAt0 m c t.val t.isLt).2.2.2.1 :=
  ((View.read_writes_of_cover v f VO0_17 VO0_17.junk _ (coverA_17 m c t h0 h1 xo16 xo18)).trans
    (congrArg (fun L => VO0_17.read (Elt F) (VO0_17.writes (Elt F) VO0_17.junk L)) (indA_17 m c t h0 h1 xo16 xo18 (iblk m c 1 t) (iblk m c 1 t)))).trans
    ((congrArg (fun z => z.2.2.2.1) (outsAt0_A m c t h0 h1)).trans (outA_17 m c t h0 h1)).symm
theorem storedA_18 (c : Dev nD) (t : Fin cfg0.N) (h0 : t.val % 6 = 0) (h1 : ¬1 ≤ t.val) (xo16 xo18 : Vec F S6x256 .f32) (v : View sig .tc .vmem S6x256 .f32) (f : v.ty.Contents (Elt F)) (r : Fin 6) (s : Fin 256) (hr : r.val = t.val) :
    v.read (Elt F) (v.writes (Elt F) f (runA m c t h0 h1 xo16 xo18).2.2.2.2.1) (ix2 r s) = (outsAt0 m c t.val t.isLt).2.2.2.2.1 (ix2 r s) :=
  (hitA_18 m c t h0 h1 xo16 xo18 v f r s hr).trans
    (congrFun ((congrArg (fun z => z.2.2.2.2.1) (outsAt0_A m c t h0 h1)).trans (outA_18 m c t h0 h1)) (ix2 r s)).symm
theorem storedA_19 (c : Dev nD) (t : Fin cfg0.N) (h0 : t.val % 6 = 0) (h1 : ¬1 ≤ t.val) (xo16 xo18 : Vec F S6x256 .f32) (v : View sig .tc .vmem S1x1280 .f32) (f : v.ty.Contents (Elt F)) :
    v.read (Elt F) (v.writes (Elt F) f (runA m c t h0 h1 xo16 xo18).2.2.2.2.2.1) = (outsAt0 m c t.val t.isLt).2.2.2.2.2.1 :=
  ((View.read_writes_of_cover v f VO0_19 VO0_19.junk _ (coverA_19 m c t h0 h1 xo16 xo18)).trans
    (congrArg (fun L => VO0_19.read (Elt F) (VO0_19.writes (Elt F) VO0_19.junk L)) (indA_19 m c t h0 h1 xo16 xo18 (iblk m c 1 t) (iblk m c 1 t)))).trans
    ((congrArg (fun z => z.2.2.2.2.2.1) (outsAt0_A m c t h0 h1)).trans (outA_19 m c t h0 h1)).symm
theorem storedA_20 (c : Dev nD) (t : Fin cfg0.N) (h0 : t.val % 6 = 0) (h1 : ¬1 ≤ t.val) (xo16 xo18 : Vec F S6x256 .f32) (v : View sig .tc .vmem S1x1280 .f32) (f : v.ty.Contents (Elt F)) :
    v.read (Elt F) (v.writes (Elt F) f (runA m c t h0 h1 xo16 xo18).2.2.2.2.2.2.1) = (outsAt0 m c t.val t.isLt).2.2.2.2.2.2.1 :=
  ((View.read_writes_of_cover v f VO0_20 VO0_20.junk _ (coverA_20 m c t h0 h1 xo16 xo18)).trans
    (congrArg (fun L => VO0_20.read (Elt F) (VO0_20.writes (Elt F) VO0_20.junk L)) (indA_20 m c t h0 h1 xo16 xo18 (iblk m c 1 t) (iblk m c 1 t)))).trans
    ((congrArg (fun z => z.2.2.2.2.2.2.1) (outsAt0_A m c t h0 h1)).trans (outA_20 m c t h0 h1)).symm
theorem storedA_21 (c : Dev nD) (t : Fin cfg0.N) (h0 : t.val % 6 = 0) (h1 : ¬1 ≤ t.val) (xo16 xo18 : Vec F S6x256 .f32) (v : View sig .tc .vmem S1280x256 .bf16) (f : v.ty.Contents (Elt F)) :
    v.read (Elt F) (v.writes (Elt F) f (runA m c t h0 h1 xo16 xo18).2.2.2.2.2.2.2.1) = (outsAt0 m c t.val t.isLt).2.2.2.2.2.2.2 :=
  ((View.read_writes_of_cover v f VO0_21 VO0_21.junk _ (coverA_21 m c t h0 h1 xo16 xo18)).trans
    (congrArg (fun L => VO0_21.read (Elt F) (VO0_21.writes (Elt F) VO0_21.junk L)) (indA_21 m c t h0 h1 xo16 xo18 (iblk m c 1 t) (iblk m c 1 t)))).trans
    ((congrArg (fun z => z.2.2.2.2.2.2.2) (outsAt0_A m c t h0 h1)).trans (outA_21 m c t h0 h1)).symm
theorem storedB_14 (c : Dev nD) (t : Fin cfg0.N) (h0 : ¬t.val % 6 = 0) (h1 : 1 ≤ t.val) (p19 p20 : Vec F S1x1280 .f32)
    (e19 : (outsAt0 m c (t.val - 1) (Nat.lt_of_le_of_lt (Nat.sub_le _ _) t.isLt)).2.2.2.2.2.1 = p19)
    (e20 : (outsAt0 m c (t.val - 1) (Nat.lt_of_le_of_lt (Nat.sub_le _ _) t.isLt)).2.2.2.2.2.2.1 = p20) (xo16 xo18 : Vec F S6x256 .f32) (v : View sig .tc .vmem S1x256x1280 .bf16) (f : v.ty.Contents (Elt F)) :
    v.read (Elt F) (v.writes (Elt F) f (runB m c t h0 h1 xo16 xo18 p19 p20).1) = (outsAt0 m c t.val t.isLt).1 :=
  ((View.read_writes_of_cover v f VO0_14 VO0_14.junk _ (coverB_14 m c t h0 h1 xo16 xo18 p19 p20)).trans
    (congrArg (fun L => VO0_14.read (Elt F) (VO0_14.writes (Elt F) VO0_14.junk L)) (indB_14 m c t h0 h1 xo16 xo18 (iblk m c 1 t) (iblk m c 1 t) p19 p20))).trans
    ((congrArg (fun z => z.1) (outsB m c t h0 h1 p19 p20 e19 e20)).trans (outB_14 m c t h0 h1 p19 p20)).symm
theorem storedB_15 (c : Dev nD) (t : Fin cfg0.N) (h0 : ¬t.val % 6 = 0) (h1 : 1 ≤ t.val) (p19 p20 : Vec F S1x1280 .f32)
    (e19 : (outsAt0 m c (t.val - 1) (Nat.lt_of_le_of_lt (Nat.sub_le _ _) t.isLt)).2.2.2.2.2.1 = p19)
    (e20 : (outsAt0 m c (t.val - 1) (Nat.lt_of_le_of_lt (Nat.sub_le _ _) t.isLt)).2.2.2.2.2.2.1 = p20) (xo16 xo18 : Vec F S6x256 .f32) (v : View sig .tc .vmem S1x256x1280 .fp8e4m3) (f : v.ty.Contents (Elt F)) :
    v.read (Elt F) (v.writes (Elt F) f (runB m c t h0 h1 xo16 xo18 p19 p20).2.1) = (outsAt0 m c t.val t.isLt).2.1 :=
  ((View.read_writes_of_cover v f VO0_15 VO0_15.junk _ (coverB_15 m c t h0 h1 xo16 xo18 p19 p20)).trans
    (congrArg (fun L => VO0_15.read (Elt F) (VO0_15.writes (Elt F) VO0_15.junk L)) (indB_15 m c t h0 h1 xo16 xo18 (iblk m c 1 t) (iblk m c 1 t) p19 p20))).trans
    ((congrArg (fun z => z.2.1) (outsB m c t h0 h1 p19 p20 e19 e20)).trans (outB_15 m c t h0 h1 p19 p20)).symm
theorem storedB_16 (c : Dev nD) (t : Fin cfg0.N) (h0 : ¬t.val % 6 = 0) (h1 : 1 ≤ t.val) (p19 p20 : Vec F S1x1280 .f32)
    (e19 : (outsAt0 m c (t.val - 1) (Nat.lt_of_le_of_lt (Nat.sub_le _ _) t.isLt)).2.2.2.2.2.1 = p19)
    (e20 : (outsAt0 m c (t.val - 1) (Nat.lt_of_le_of_lt (Nat.sub_le _ _) t.isLt)).2.2.2.2.2.2.1 = p20) (xo16 xo18 : Vec F S6x256 .f32) (v : View sig .tc .vmem S6x256 .f32) (f : v.ty.Contents (Elt F)) (r : Fin 6) (s : Fin 256) (hr : r.val = t.val) :
    v.read (Elt F) (v.writes (Elt F) f (runB m c t h0 h1 xo16 xo18 p19 p20).2.2.1) (ix2 r s) = (outsAt0 m c t.val t.isLt).2.2.1 (ix2 r s) :=
  (hitB_16 m c t h0 h1 xo16 xo18 p19 p20 v f r s hr).trans
    (congrFun ((congrArg (fun z => z.2.2.1) (outsB m c t h0 h1 p19 p20 e19 e20)).trans (outB_16 m c t h0 h1 p19 p20)) (ix2 r s)).symm
theorem storedB_17 (c : Dev nD) (t : Fin cfg0.N) (h0 : ¬t.val % 6 = 0) (h1 : 1 ≤ t.val) (p19 p20 : Vec F S1x1280 .f32)
    (e19 : (outsAt0 m c (t.val - 1) (Nat.lt_of_le_of_lt (Nat.sub_le _ _) t.isLt)).2.2.2.2.2.1 = p19)
    (e20 : (outsAt0 m c (t.val - 1) (Nat.lt_of_le_of_lt (Nat.sub_le _ _) t.isLt)).2.2.2.2.2.2.1 = p20) (xo16 xo18 : Vec F S6x256 .f32) (v : View sig .tc .vmem S1x256x5120 .fp8e5m2) (f : v.ty.Contents (Elt F)) :
    v.read (Elt F) (v.writes (Elt F) f (runB m c t h0 h1 xo16 xo18 p19 p20).2.2.2.1) = (outsAt0 m c t.val t.isLt).2.2.2.1 :=
  ((View.read_writes_of_cover v f VO0_17 VO0_17.junk _ (coverB_17 m c t h0 h1 xo16 xo18 p19 p20)).trans
    (congrArg (fun L => VO0_17.read (Elt F) (VO0_17.writes (Elt F) VO0_17.junk L)) (indB_17 m c t h0 h1 xo16 xo18 (iblk m c 1 t) (iblk m c 1 t) p19 p20))).trans
    ((congrArg (fun z => z.2.2.2.1) (outsB m c t h0 h1 p19 p20 e19 e20)).trans (outB_17 m c t h0 h1 p19 p20)).symm
theorem storedB_18 (c : Dev nD) (t : Fin cfg0.N) (h0 : ¬t.val % 6 = 0) (h1 : 1 ≤ t.val) (p19 p20 : Vec F S1x1280 .f32)
    (e19 : (outsAt0 m c (t.val - 1) (Nat.lt_of_le_of_lt (Nat.sub_le _ _) t.isLt)).2.2.2.2.2.1 = p19)
    (e20 : (outsAt0 m c (t.val - 1) (Nat.lt_of_le_of_lt (Nat.sub_le _ _) t.isLt)).2.2.2.2.2.2.1 = p20) (xo16 xo18 : Vec F S6x256 .f32) (v : View sig .tc .vmem S6x256 .f32) (f : v.ty.Contents (Elt F)) (r : Fin 6) (s : Fin 256) (hr : r.val = t.val) :
    v.read (Elt F) (v.writes (Elt F) f (runB m c t h0 h1 xo16 xo18 p19 p20).2.2.2.2.1) (ix2 r s) = (outsAt0 m c t.val t.isLt).2.2.2.2.1 (ix2 r s) :=
  (hitB_18 m c t h0 h1 xo16 xo18 p19 p20 v f r s hr).trans
    (congrFun ((congrArg (fun z => z.2.2.2.2.1) (outsB m c t h0 h1 p19 p20 e19 e20)).trans (outB_18 m c t h0 h1 p19 p20)) (ix2 r s)).symm
theorem storedB_19 (c : Dev nD) (t : Fin cfg0.N) (h0 : ¬t.val % 6 = 0) (h1 : 1 ≤ t.val) (p19 p20 : Vec F S1x1280 .f32)
    (e19 : (outsAt0 m c (t.val - 1) (Nat.lt_of_le_of_lt (Nat.sub_le _ _) t.isLt)).2.2.2.2.2.1 = p19)
    (e20 : (outsAt0 m c (t.val - 1) (Nat.lt_of_le_of_lt (Nat.sub_le _ _) t.isLt)).2.2.2.2.2.2.1 = p20) (xo16 xo18 : Vec F S6x256 .f32) (v : View sig .tc .vmem S1x1280 .f32) (f : v.ty.Contents (Elt F)) :
    v.read (Elt F) (v.writes (Elt F) f (runB m c t h0 h1 xo16 xo18 p19 p20).2.2.2.2.2.1) = (outsAt0 m c t.val t.isLt).2.2.2.2.2.1 :=
  ((View.read_writes_of_cover v f VO0_19 VO0_19.junk _ (coverB_19 m c t h0 h1 xo16 xo18 p19 p20)).trans
    (congrArg (fun L => VO0_19.read (Elt F) (VO0_19.writes (Elt F) VO0_19.junk L)) (indB_19 m c t h0 h1 xo16 xo18 (iblk m c 1 t) (iblk m c 1 t) p19 p20))).trans
    ((congrArg (fun z => z.2.2.2.2.2.1) (outsB m c t h0 h1 p19 p20 e19 e20)).trans (outB_19 m c t h0 h1 p19 p20)).symm
theorem storedB_20 (c : Dev nD) (t : Fin cfg0.N) (h0 : ¬t.val % 6 = 0) (h1 : 1 ≤ t.val) (p19 p20 : Vec F S1x1280 .f32)
    (e19 : (outsAt0 m c (t.val - 1) (Nat.lt_of_le_of_lt (Nat.sub_le _ _) t.isLt)).2.2.2.2.2.1 = p19)
    (e20 : (outsAt0 m c (t.val - 1) (Nat.lt_of_le_of_lt (Nat.sub_le _ _) t.isLt)).2.2.2.2.2.2.1 = p20) (xo16 xo18 : Vec F S6x256 .f32) (v : View sig .tc .vmem S1x1280 .f32) (f : v.ty.Contents (Elt F)) :
    v.read (Elt F) (v.writes (Elt F) f (runB m c t h0 h1 xo16 xo18 p19 p20).2.2.2.2.2.2.1) = (outsAt0 m c t.val t.isLt).2.2.2.2.2.2.1 :=
  ((View.read_writes_of_cover v f VO0_20 VO0_20.junk _ (coverB_20 m c t h0 h1 xo16 xo18 p19 p20)).trans
    (congrArg (fun L => VO0_20.read (Elt F) (VO0_20.writes (Elt F) VO0_20.junk L)) (indB_20 m c t h0 h1 xo16 xo18 (iblk m c 1 t) (iblk m c 1 t) p19 p20))).trans
    ((congrArg (fun z => z.2.2.2.2.2.2.1) (outsB m c t h0 h1 p19 p20 e19 e20)).trans (outB_20 m c t h0 h1 p19 p20)).symm
theorem storedB_21 (c : Dev nD) (t : Fin cfg0.N) (h0 : ¬t.val % 6 = 0) (h1 : 1 ≤ t.val) (p19 p20 : Vec F S1x1280 .f32)
    (e19 : (outsAt0 m c (t.val - 1) (Nat.lt_of_le_of_lt (Nat.sub_le _ _) t.isLt)).2.2.2.2.2.1 = p19)
    (e20 : (outsAt0 m c (t.val - 1) (Nat.lt_of_le_of_lt (Nat.sub_le _ _) t.isLt)).2.2.2.2.2.2.1 = p20) (xo16 xo18 : Vec F S6x256 .f32) (v : View sig .tc .vmem S1280x256 .bf16) (f : v.ty.Contents (Elt F)) :
    v.read (Elt F) (v.writes (Elt F) f (runB m c t h0 h1 xo16 xo18 p19 p20).2.2.2.2.2.2.2.1) = (outsAt0 m c t.val t.isLt).2.2.2.2.2.2.2 :=
  ((View.read_writes_of_cover v f VO0_21 VO0_21.junk _ (coverB_21 m c t h0 h1 xo16 xo18 p19 p20)).trans
    (congrArg (fun L => VO0_21.read (Elt F) (VO0_21.writes (Elt F) VO0_21.junk L)) (indB_21 m c t h0 h1 xo16 xo18 (iblk m c 1 t) (iblk m c 1 t) p19 p20))).trans
    ((congrArg (fun z => z.2.2.2.2.2.2.2) (outsB m c t h0 h1 p19 p20 e19 e20)).trans (outB_21 m c t h0 h1 p19 p20)).symm

end Cert.Act.Hand

end
-- ==== Proof.ActBitsBody.lean ====
/- The proof data of the activation kernel's pipeline, over its program as written: the six unmarked outputs
   hold exactly what the body leaves; the two scale outputs are held to the rows written so far. Then the body's
   obligation, the launch, and the frame claim. -/
module

public import proofs.«01_k».proof.Proof.ActBitsStored
public import Idealize.ShloMosaic.Lib.Claim

@[expose] public section

set_option maxRecDepth 16384

noncomputable section

namespace Cert.Act.Hand

open Cert.Act Cert.Act.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

attribute [local irreducible] kernelRun0_A kernelRun0_B outA outB outsAt0

/-- The windows held to a predicate instead of exact contents: the two scale outputs. -/
def forgets0 : Fin 22 → Bool := fun w => w.val == 16 || w.val == 18

/-- What the two scale outputs are held to after point `t`: rows `0 … t` are the rows written there. -/
def Rl (c : Dev nD) (w : Fin cfg0.W) (t : Fin cfg0.N) (X : (cfg0.win w).block.Idx → Elt F (cfg0.win w).elt) : Prop :=
  match w with
  | ⟨16, _⟩ => ∀ (u : Fin cfg0.N) (r : Fin 6) (s : Fin 256), r.val = u.val → u.val ≤ t.val →
      (X : Vec F S6x256 .f32) (ix2 r s) = (outsAt0 m c u.val u.isLt).2.2.1 (ix2 r s)
  | ⟨18, _⟩ => ∀ (u : Fin cfg0.N) (r : Fin 6) (s : Fin 256), r.val = u.val → u.val ≤ t.val →
      (X : Vec F S6x256 .f32) (ix2 r s) = (outsAt0 m c u.val u.isLt).2.2.2.2.1 (ix2 r s)
  | _ => True

/-- The proof data of the one pipeline on core `c`: the arrays as the region finds them (`V`); after the body at
    point `t` each input's buffer at its block and the NAMED outputs' at `outsAt0` (the forgotten at `Dat.unnamed`); the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (outsAt0 m c t.val t.isLt).1
    | ⟨15, _⟩ => (outsAt0 m c t.val t.isLt).2.1
    | ⟨16, h⟩ => Pipeline.Dat.unnamed (cfg := cfg0) ⟨16, h⟩ t
    | ⟨17, _⟩ => (outsAt0 m c t.val t.isLt).2.2.2.1
    | ⟨18, h⟩ => Pipeline.Dat.unnamed (cfg := cfg0) ⟨18, h⟩ t
    | ⟨19, _⟩ => (outsAt0 m c t.val t.isLt).2.2.2.2.2.1
    | ⟨20, _⟩ => (outsAt0 m c t.val t.isLt).2.2.2.2.2.2.1
    | ⟨21, _⟩ => (outsAt0 m c t.val t.isLt).2.2.2.2.2.2.2
    | ⟨_ + 22, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = (outsAt0 m c t.val t.isLt).1 := by dsimp only [dats]
theorem after0_15 (c : Dev nD) (t : Fin cfg0.N) : (dats m 0 c).after 15 t = (outsAt0 m c t.val t.isLt).2.1 := by dsimp only [dats]
theorem after0_17 (c : Dev nD) (t : Fin cfg0.N) : (dats m 0 c).after 17 t = (outsAt0 m c t.val t.isLt).2.2.2.1 := by dsimp only [dats]
theorem after0_19 (c : Dev nD) (t : Fin cfg0.N) : (dats m 0 c).after 19 t = (outsAt0 m c t.val t.isLt).2.2.2.2.2.1 := by dsimp only [dats]
theorem after0_20 (c : Dev nD) (t : Fin cfg0.N) : (dats m 0 c).after 20 t = (outsAt0 m c t.val t.isLt).2.2.2.2.2.2.1 := by dsimp only [dats]
theorem after0_21 (c : Dev nD) (t : Fin cfg0.N) : (dats m 0 c).after 21 t = (outsAt0 m c t.val t.isLt).2.2.2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-- Output 19's contents CARRY through the points that leave it idle: at such a point, its buffer not fresh, the proof data's
    `after` is the point before's (the case there stores nothing into the window and its term says so; a case that stores
    into it is not idle there by `liveAt0_19_κ`) — the hypothesis of Lib/Pipeline/TableIdle.lean `Dat.before_out_traj`. -/
theorem hcarry0_19 (c : Dev nD) : ∀ (t : Fin cfg0.N) (_ : t.val ≠ 0), cfg0.idle 19 (grid0.coords t) = true → cfg0.fresh 19 t.val = false →
    (dats m 0 c).after 19 t = (dats m 0 c).after 19 ⟨t.val - 1, by omega⟩ := by
  intro t _ hi _
  have hN : t.val < 6 := lt_of_lt_of_eq t.isLt (show cfg0.N = 6 from N_0)
  rw [after0_19, after0_19]
  by_cases h0 : t.val % 6 = 0
  · by_cases h1 : 1 ≤ t.val
    · exfalso; omega
    · rw [liveAt0_19_A t ((hcond0_0 t).mpr h0) (fun h => h1 ((hcond0_1 t).mp h))] at hi
      exact absurd hi Bool.false_ne_true
  · by_cases h1 : 1 ≤ t.val
    · rw [liveAt0_19_B t (fun h => h0 ((hcond0_0 t).mp h)) ((hcond0_1 t).mpr h1)] at hi
      exact absurd hi Bool.false_ne_true
    · exfalso; omega

/-- Output 20's contents CARRY through the points that leave it idle: at such a point, its buffer not fresh, the proof data's
    `after` is the point before's (the case there stores nothing into the window and its term says so; a case that stores
    into it is not idle there by `liveAt0_20_κ`) — the hypothesis of Lib/Pipeline/TableIdle.lean `Dat.before_out_traj`. -/
theorem hcarry0_20 (c : Dev nD) : ∀ (t : Fin cfg0.N) (_ : t.val ≠ 0), cfg0.idle 20 (grid0.coords t) = true → cfg0.fresh 20 t.val = false →
    (dats m 0 c).after 20 t = (dats m 0 c).after 20 ⟨t.val - 1, by omega⟩ := by
  intro t _ hi _
  have hN : t.val < 6 := lt_of_lt_of_eq t.isLt (show cfg0.N = 6 from N_0)
  rw [after0_20, after0_20]
  by_cases h0 : t.val % 6 = 0
  · by_cases h1 : 1 ≤ t.val
    · exfalso; omega
    · rw [liveAt0_20_A t ((hcond0_0 t).mpr h0) (fun h => h1 ((hcond0_1 t).mp h))] at hi
      exact absurd hi Bool.false_ne_true
  · by_cases h1 : 1 ≤ t.val
    · rw [liveAt0_20_B t (fun h => h0 ((hcond0_0 t).mp h)) ((hcond0_1 t).mpr h1)] at hi
      exact absurd hi Bool.false_ne_true
    · exfalso; omega
/-- At a point of case B output 19's current staging buffer holds what the point before left: the buffer is not fresh
    there (`notFresh0_19_B`: stored into since the region's entry or the last write-back, carried through the points that
    leave it idle by `hcarry0_19`; Lib/Pipeline/TableIdle.lean `Dat.before_out_traj`). -/
theorem before0_19_B (c : Dev nD) (t : Fin cfg0.N) (h0 : ¬t.val % 6 = 0) (h1 : 1 ≤ t.val) (d) :
    (dats m 0 c).before 19 t d = (outsAt0 m c (t.val - 1) (Nat.lt_of_le_of_lt (Nat.sub_le _ _) t.isLt)).2.2.2.2.2.1 := by
  rw [Dat.before_out_traj _ 19 rfl (fun _ _ => rfl) (hcarry0_19 m c) t.val t rfl d,
    if_neg (by rw [notFresh0_19_B t (fun h => h0 ((hcond0_0 t).mp h)) ((hcond0_1 t).mpr h1)]; exact Bool.false_ne_true)]
  dsimp only [dats]
/-- At a point of case B output 20's current staging buffer holds what the point before left: the buffer is not fresh
    there (`notFresh0_20_B`: stored into since the region's entry or the last write-back, carried through the points that
    leave it idle by `hcarry0_20`; Lib/Pipeline/TableIdle.lean `Dat.before_out_traj`). -/
theorem before0_20_B (c : Dev nD) (t : Fin cfg0.N) (h0 : ¬t.val % 6 = 0) (h1 : 1 ≤ t.val) (d) :
    (dats m 0 c).before 20 t d = (outsAt0 m c (t.val - 1) (Nat.lt_of_le_of_lt (Nat.sub_le _ _) t.isLt)).2.2.2.2.2.2.1 := by
  rw [Dat.before_out_traj _ 20 rfl (fun _ _ => rfl) (hcarry0_20 m c) t.val t rfl d,
    if_neg (by rw [notFresh0_20_B t (fun h => h0 ((hcond0_0 t).mp h)) ((hcond0_1 t).mpr h1)]; exact Bool.false_ne_true)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ Y, ⌜((dats m 0 c).toRRel forgets0 (Rl m c)).Finds 16 t Y⌝ ∗ owns (c : Thread nD τ) (ms0_16 t) fullShare Y)
    ∗ (∃ d, owns (c : Thread nD τ) (ms0_17 t) fullShare ((dats m 0 c).before 17 t d))
    ∗ (∃ Y, ⌜((dats m 0 c).toRRel forgets0 (Rl m c)).Finds 18 t Y⌝ ∗ owns (c : Thread nD τ) (ms0_18 t) fullShare Y)
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (∃ X, ⌜Rl m c 16 t X⌝ ∗ owns (c : Thread nD τ) (ms0_16 t) fullShare X)
    ∗ (dats m 0 c).leavesExact 17 t
    ∗ (∃ X, ⌜Rl m c 18 t X⌝ ∗ owns (c : Thread nD τ) (ms0_18 t) fullShare X)
    ∗ (dats m 0 c).leavesExact 19 t
    ∗ (dats m 0 c).leavesExact 20 t
    ∗ (dats m 0 c).leavesExact 21 t)

/-- A window that is live and not loose is left at exactly `after`. -/
theorem leavesExact_live (c : Dev nD) (t : Fin cfg0.N) (w : Fin cfg0.W) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- The two column sums' windows are stored into at every point. -/
theorem liveAt0_19 (t : Fin cfg0.N) : cfg0.idle 19 (grid0.coords t) = false := by
  have hN : t.val < 6 := lt_of_lt_of_eq t.isLt (show cfg0.N = 6 from N_0)
  by_cases h0 : t.val % 6 = 0
  · exact liveAt0_19_A t ((hcond0_0 t).mpr h0) (fun h => by have := (hcond0_1 t).mp h; omega)
  · exact liveAt0_19_B t (fun h => h0 ((hcond0_0 t).mp h)) ((hcond0_1 t).mpr (by omega))
theorem liveAt0_20 (t : Fin cfg0.N) : cfg0.idle 20 (grid0.coords t) = false := by
  have hN : t.val < 6 := lt_of_lt_of_eq t.isLt (show cfg0.N = 6 from N_0)
  by_cases h0 : t.val % 6 = 0
  · exact liveAt0_20_A t ((hcond0_0 t).mpr h0) (fun h => by have := (hcond0_1 t).mp h; omega)
  · exact liveAt0_20_B t (fun h => h0 ((hcond0_0 t).mp h)) ((hcond0_1 t).mpr (by omega))

/-- What window 16 may hold before a point after the first: rows written by the points before. -/
theorem finds_16 (c : Dev nD) (t : Fin cfg0.N) (h1 : 1 ≤ t.val) (Y : Vec F S6x256 .f32)
    (h : ((dats m 0 c).toRRel forgets0 (Rl m c)).Finds 16 t Y) : Rl m c 16 ⟨t.val - 1, Nat.lt_of_le_of_lt (Nat.sub_le _ _) t.isLt⟩ Y := by
  have hN : t.val < 6 := lt_of_lt_of_eq t.isLt (show cfg0.N = 6 from N_0)
  rcases (RDat.finds_of_pos _ (rfl : (cfg0.win 16).fetch t = false) (by omega) Y).mp h with hf | hl
  · exact absurd hf (by
      have hx : ∀ u : Fin cfg0.N, u.val < 5 → ¬(cfg0.win 16).flush u = true := by decide +kernel
      exact hx _ (by show t.val - 1 < 5; omega))
  · exact Dat.toRRel_leaves _ (by rfl) hl
/-- What window 18 may hold before a point after the first: rows written by the points before. -/
theorem finds_18 (c : Dev nD) (t : Fin cfg0.N) (h1 : 1 ≤ t.val) (Y : Vec F S6x256 .f32)
    (h : ((dats m 0 c).toRRel forgets0 (Rl m c)).Finds 18 t Y) : Rl m c 18 ⟨t.val - 1, Nat.lt_of_le_of_lt (Nat.sub_le _ _) t.isLt⟩ Y := by
  have hN : t.val < 6 := lt_of_lt_of_eq t.isLt (show cfg0.N = 6 from N_0)
  rcases (RDat.finds_of_pos _ (rfl : (cfg0.win 18).fetch t = false) (by omega) Y).mp h with hf | hl
  · exact absurd hf (by
      have hx : ∀ u : Fin cfg0.N, u.val < 5 → ¬(cfg0.win 18).flush u = true := by decide +kernel
      exact hx _ (by show t.val - 1 < 5; omega))
  · exact Dat.toRRel_leaves _ (by rfl) hl
/-- Window 16 after the body of case A: the rows up to `t`. -/
theorem rowsA_16 (c : Dev nD) (t : Fin cfg0.N) (h0 : t.val % 6 = 0) (h1 : ¬1 ≤ t.val) (xo16 xo18 : Vec F S6x256 .f32) :
    Rl m c 16 t ((ms0_16 t).view.read (Elt F) ((ms0_16 t).view.writes (Elt F) ((hs0_16 t).unread xo16) (runA m c t h0 h1 xo16 xo18).2.2.1)) := by
  intro u r s hr hu
  by_cases h : u.val = t.val
  · have eu : outsAt0 m c u.val u.isLt = outsAt0 m c t.val t.isLt := congrArg (fun u : Fin cfg0.N => outsAt0 m c u.val u.isLt) (Fin.ext h)
    exact (storedA_16 m c t h0 h1 xo16 xo18 _ _ r s (hr.trans h)).trans (congrFun (congrArg (fun z => z.2.2.1) eu.symm) (ix2 r s))
  · exfalso; omega
/-- Window 18 after the body of case A: the rows up to `t`. -/
theorem rowsA_18 (c : Dev nD) (t : Fin cfg0.N) (h0 : t.val % 6 = 0) (h1 : ¬1 ≤ t.val) (xo16 xo18 : Vec F S6x256 .f32) :
    Rl m c 18 t ((ms0_18 t).view.read (Elt F) ((ms0_18 t).view.writes (Elt F) ((hs0_18 t).unread xo18) (runA m c t h0 h1 xo16 xo18).2.2.2.2.1)) := by
  intro u r s hr hu
  by_cases h : u.val = t.val
  · have eu : outsAt0 m c u.val u.isLt = outsAt0 m c t.val t.isLt := congrArg (fun u : Fin cfg0.N => outsAt0 m c u.val u.isLt) (Fin.ext h)
    exact (storedA_18 m c t h0 h1 xo16 xo18 _ _ r s (hr.trans h)).trans (congrFun (congrArg (fun z => z.2.2.2.2.1) eu.symm) (ix2 r s))
  · exfalso; omega
/-- Window 16 after the body of case B: the rows up to `t`. -/
theorem rowsB_16 (c : Dev nD) (t : Fin cfg0.N) (h0 : ¬t.val % 6 = 0) (h1 : 1 ≤ t.val) (xo16 xo18 : Vec F S6x256 .f32) (p19 p20 : Vec F S1x1280 .f32)
    (e19 : (outsAt0 m c (t.val - 1) (Nat.lt_of_le_of_lt (Nat.sub_le _ _) t.isLt)).2.2.2.2.2.1 = p19) (e20 : (outsAt0 m c (t.val - 1) (Nat.lt_of_le_of_lt (Nat.sub_le _ _) t.isLt)).2.2.2.2.2.2.1 = p20)
    (hF : ((dats m 0 c).toRRel forgets0 (Rl m c)).Finds 16 t xo16) :
    Rl m c 16 t ((ms0_16 t).view.read (Elt F) ((ms0_16 t).view.writes (Elt F) ((hs0_16 t).unread xo16) (runB m c t h0 h1 xo16 xo18 p19 p20).2.2.1)) := by
  intro u r s hr hu
  by_cases h : u.val = t.val
  · have eu : outsAt0 m c u.val u.isLt = outsAt0 m c t.val t.isLt := congrArg (fun u : Fin cfg0.N => outsAt0 m c u.val u.isLt) (Fin.ext h)
    exact (storedB_16 m c t h0 h1 p19 p20 e19 e20 xo16 xo18 _ _ r s (hr.trans h)).trans (congrFun (congrArg (fun z => z.2.2.1) eu.symm) (ix2 r s))
  · exact (missB_16 m c t h0 h1 xo16 xo18 p19 p20 _ _ r s (by omega)).trans ((congrFun ((hs0_16 t).read_unread xo16) (ix2 r s)).trans
      (finds_16 m c t h1 xo16 hF u r s hr (by show u.val ≤ t.val - 1; omega)))
/-- Window 18 after the body of case B: the rows up to `t`. -/
theorem rowsB_18 (c : Dev nD) (t : Fin cfg0.N) (h0 : ¬t.val % 6 = 0) (h1 : 1 ≤ t.val) (xo16 xo18 : Vec F S6x256 .f32) (p19 p20 : Vec F S1x1280 .f32)
    (e19 : (outsAt0 m c (t.val - 1) (Nat.lt_of_le_of_lt (Nat.sub_le _ _) t.isLt)).2.2.2.2.2.1 = p19) (e20 : (outsAt0 m c (t.val - 1) (Nat.lt_of_le_of_lt (Nat.sub_le _ _) t.isLt)).2.2.2.2.2.2.1 = p20)
    (hF : ((dats m 0 c).toRRel forgets0 (Rl m c)).Finds 18 t xo18) :
    Rl m c 18 t ((ms0_18 t).view.read (Elt F) ((ms0_18 t).view.writes (Elt F) ((hs0_18 t).unread xo18) (runB m c t h0 h1 xo16 xo18 p19 p20).2.2.2.2.1)) := by
  intro u r s hr hu
  by_cases h : u.val = t.val
  · have eu : outsAt0 m c u.val u.isLt = outsAt0 m c t.val t.isLt := congrArg (fun u : Fin cfg0.N => outsAt0 m c u.val u.isLt) (Fin.ext h)
    exact (storedB_18 m c t h0 h1 p19 p20 e19 e20 xo16 xo18 _ _ r s (hr.trans h)).trans (congrFun (congrArg (fun z => z.2.2.2.2.1) eu.symm) (ix2 r s))
  · exact (missB_18 m c t h0 h1 xo16 xo18 p19 p20 _ _ r s (by omega)).trans ((congrFun ((hs0_18 t).read_unread xo18) (ix2 r s)).trans
      (finds_18 m c t h1 xo18 hF u r s hr (by show u.val ≤ t.val - 1; omega)))
set_option maxHeartbeats 4000000 in
/-- The body at a point of case A carries its precondition to its postcondition. -/
theorem sound_A (c : Dev nD) (t : Fin cfg0.N) (h0 : t.val % 6 = 0) (h1 : ¬1 ≤ t.val) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [leavesExact_live m c t 0 (liveAt0_0 t), after0_0]
  rw [leavesExact_live m c t 1 (liveAt0_1 t), after0_1]
  rw [leavesExact_live m c t 2 (liveAt0_2 t), after0_2]
  rw [leavesExact_live m c t 3 (liveAt0_3 t), after0_3]
  rw [leavesExact_live m c t 4 (liveAt0_4 t), after0_4]
  rw [leavesExact_live m c t 5 (liveAt0_5 t), after0_5]
  rw [leavesExact_live m c t 6 (liveAt0_6 t), after0_6]
  rw [leavesExact_live m c t 7 (liveAt0_7 t), after0_7]
  rw [leavesExact_live m c t 8 (liveAt0_8 t), after0_8]
  rw [leavesExact_live m c t 9 (liveAt0_9 t), after0_9]
  rw [leavesExact_live m c t 10 (liveAt0_10 t), after0_10]
  rw [leavesExact_live m c t 11 (liveAt0_11 t), after0_11]
  rw [leavesExact_live m c t 12 (liveAt0_12 t), after0_12]
  rw [leavesExact_live m c t 13 (liveAt0_13 t), after0_13]
  rw [leavesExact_live m c t 14 (liveAt0_14 t), after0_14]
  rw [leavesExact_live m c t 15 (liveAt0_15 t), after0_15]
  rw [leavesExact_live m c t 17 (liveAt0_17 t), after0_17]
  rw [leavesExact_live m c t 19 (liveAt0_19 t), after0_19]
  rw [leavesExact_live m c t 20 (liveAt0_20 t), after0_20]
  rw [leavesExact_live m c t 21 (liveAt0_21 t), after0_21]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, %hF16, H16⟩, ⟨%d17, H17⟩, ⟨%d18, %hF18, H18⟩, ⟨%d19, H19⟩, ⟨%d20, H20⟩, ⟨%d21, H21⟩⟩
  iapply ((runA m c t h0 h1 d16 d18).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexact H16
  isplitl [H17]; · iexists _; iexact H17
  isplitl [H18]; · iexact H18
  isplitl [H19]; · iexists _; iexact H19
  isplitl [H20]; · iexists _; iexact H20
  isplitl [H21]; · iexists _; iexact H21
  isplitl [HS0]; · iexact HS0
  iintro ⟨H0, H1, H2, H3, H4, H5, H6, H7, H8, H9, H10, H11, H12, H13, ⟨%e14, H14⟩, ⟨%e15, H15⟩, H16, ⟨%e17, H17⟩, H18, ⟨%e19, H19⟩, ⟨%e20, H20⟩, ⟨%e21, H21⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · unfold owns; iexists _; isplitr
    swap; · iexact H14
    ipureintro; exact storedA_14 m c t h0 h1 d16 d18 _ _
  isplitl [H15]
  · unfold owns; iexists _; isplitr
    swap; · iexact H15
    ipureintro; exact storedA_15 m c t h0 h1 d16 d18 _ _
  isplitl [H16]
  · iexists _; isplitr
    swap
    · unfold owns; iexists _; isplitr
      swap; · iexact H16
      ipureintro; rfl
    ipureintro; exact rowsA_16 m c t h0 h1 d16 d18
  isplitl [H17]
  · unfold owns; iexists _; isplitr
    swap; · iexact H17
    ipureintro; exact storedA_17 m c t h0 h1 d16 d18 _ _
  isplitl [H18]
  · iexists _; isplitr
    swap
    · unfold owns; iexists _; isplitr
      swap; · iexact H18
      ipureintro; rfl
    ipureintro; exact rowsA_18 m c t h0 h1 d16 d18
  isplitl [H19]
  · unfold owns; iexists _; isplitr
    swap; · iexact H19
    ipureintro; exact storedA_19 m c t h0 h1 d16 d18 _ _
  isplitl [H20]
  · unfold owns; iexists _; isplitr
    swap; · iexact H20
    ipureintro; exact storedA_20 m c t h0 h1 d16 d18 _ _
  unfold owns; iexists _; isplitr
  swap; · iexact H21
  ipureintro; exact storedA_21 m c t h0 h1 d16 d18 _ _

set_option maxHeartbeats 4000000 in
/-- The body at a point of case B carries its precondition to its postcondition. -/
theorem sound_B (c : Dev nD) (t : Fin cfg0.N) (h0 : ¬t.val % 6 = 0) (h1 : 1 ≤ t.val) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [leavesExact_live m c t 0 (liveAt0_0 t), after0_0]
  rw [leavesExact_live m c t 1 (liveAt0_1 t), after0_1]
  rw [leavesExact_live m c t 2 (liveAt0_2 t), after0_2]
  rw [leavesExact_live m c t 3 (liveAt0_3 t), after0_3]
  rw [leavesExact_live m c t 4 (liveAt0_4 t), after0_4]
  rw [leavesExact_live m c t 5 (liveAt0_5 t), after0_5]
  rw [leavesExact_live m c t 6 (liveAt0_6 t), after0_6]
  rw [leavesExact_live m c t 7 (liveAt0_7 t), after0_7]
  rw [leavesExact_live m c t 8 (liveAt0_8 t), after0_8]
  rw [leavesExact_live m c t 9 (liveAt0_9 t), after0_9]
  rw [leavesExact_live m c t 10 (liveAt0_10 t), after0_10]
  rw [leavesExact_live m c t 11 (liveAt0_11 t), after0_11]
  rw [leavesExact_live m c t 12 (liveAt0_12 t), after0_12]
  rw [leavesExact_live m c t 13 (liveAt0_13 t), after0_13]
  rw [leavesExact_live m c t 14 (liveAt0_14 t), after0_14]
  rw [leavesExact_live m c t 15 (liveAt0_15 t), after0_15]
  rw [leavesExact_live m c t 17 (liveAt0_17 t), after0_17]
  rw [leavesExact_live m c t 19 (liveAt0_19 t), after0_19]
  rw [leavesExact_live m c t 20 (liveAt0_20 t), after0_20]
  rw [leavesExact_live m c t 21 (liveAt0_21 t), after0_21]
  simp only [before0_19_B m c t h0 h1, before0_20_B m c t h0 h1]
  generalize q19 : (outsAt0 m c (t.val - 1) (Nat.lt_of_le_of_lt (Nat.sub_le _ _) t.isLt)).2.2.2.2.2.1 = p19
  generalize q20 : (outsAt0 m c (t.val - 1) (Nat.lt_of_le_of_lt (Nat.sub_le _ _) t.isLt)).2.2.2.2.2.2.1 = p20
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, %hF16, H16⟩, ⟨%d17, H17⟩, ⟨%d18, %hF18, H18⟩, ⟨%d19, H19⟩, ⟨%d20, H20⟩, ⟨%d21, H21⟩⟩
  iapply ((runB m c t h0 h1 d16 d18 p19 p20).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexact H16
  isplitl [H17]; · iexists _; iexact H17
  isplitl [H18]; · iexact H18
  isplitl [H19]; · iexact H19
  isplitl [H20]; · iexact H20
  isplitl [H21]; · iexists _; iexact H21
  isplitl [HS0]; · iexact HS0
  iintro ⟨H0, H1, H2, H3, H4, H5, H6, H7, H8, H9, H10, H11, H12, H13, ⟨%e14, H14⟩, ⟨%e15, H15⟩, H16, ⟨%e17, H17⟩, H18, ⟨%e19, H19⟩, ⟨%e20, H20⟩, ⟨%e21, H21⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · unfold owns; iexists _; isplitr
    swap; · iexact H14
    ipureintro; exact storedB_14 m c t h0 h1 p19 p20 q19 q20 d16 d18 _ _
  isplitl [H15]
  · unfold owns; iexists _; isplitr
    swap; · iexact H15
    ipureintro; exact storedB_15 m c t h0 h1 p19 p20 q19 q20 d16 d18 _ _
  isplitl [H16]
  · iexists _; isplitr
    swap
    · unfold owns; iexists _; isplitr
      swap; · iexact H16
      ipureintro; rfl
    ipureintro; exact rowsB_16 m c t h0 h1 d16 d18 p19 p20 q19 q20 hF16
  isplitl [H17]
  · unfold owns; iexists _; isplitr
    swap; · iexact H17
    ipureintro; exact storedB_17 m c t h0 h1 p19 p20 q19 q20 d16 d18 _ _
  isplitl [H18]
  · iexists _; isplitr
    swap
    · unfold owns; iexists _; isplitr
      swap; · iexact H18
      ipureintro; rfl
    ipureintro; exact rowsB_18 m c t h0 h1 d16 d18 p19 p20 q19 q20 hF18
  isplitl [H19]
  · unfold owns; iexists _; isplitr
    swap; · iexact H19
    ipureintro; exact storedB_19 m c t h0 h1 p19 p20 q19 q20 d16 d18 _ _
  isplitl [H20]
  · unfold owns; iexists _; isplitr
    swap; · iexact H20
    ipureintro; exact storedB_20 m c t h0 h1 p19 p20 q19 q20 d16 d18 _ _
  unfold owns; iexists _; isplitr
  swap; · iexact H21
  ipureintro; exact storedB_21 m c t h0 h1 p19 p20 q19 q20 d16 d18 _ _

/-- The body at any point carries its precondition to its postcondition. -/
theorem sound_body (c : Dev nD) (t : Fin cfg0.N) :
    bodyPre m c t ⊢ wp frame (wpE (defs₀ (F := F)) Variants.none c none) Set.univ (bodyAt0 t) (fun _ => bodyPost m c t) := by
  have hN : t.val < 6 := lt_of_lt_of_eq t.isLt (show cfg0.N = 6 from N_0)
  by_cases h0 : t.val % 6 = 0
  · exact sound_A m c t h0 (by omega)
  · exact sound_B m c t h0 (by omega)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's relational body obligation, at every point. -/
theorem body_obligation (c : Dev nD) :
    Pipeline.BodyObligationRel (dats (F := F) m 0 c) (defs₀ (F := F)) Variants.none () Set.univ forgets0 (Rl m c) := fun t => by
  rw [bigSep_W0, bigSep_W0, defs₀_row]
  exact triple_restated (sound_body m c t) rfl .rfl fun _ => .rfl

/-! ## The run and the frame -/

set_option backward.isDefEq.respectTransparency.types false in
/-- THE LAUNCH: every weakly fair execution terminates; every final state has each window's array at contents the
    relational proof data allow, and every semaphore counter at zero. -/
theorem run_main_quiescent : θ_run defs (onTc (τ := τ) (main (F := F))) (s₀ m ρ)
    (fun r => (Pipeline.RDat.FramePost (cfgs 0) (fun c => (dats m 0 c).toRRel forgets0 (Rl m c)) (V m)) r ∧ r.2.sem = fun _ => 0) :=
  Pipeline.RDat.θ_run_frame (Q' := _) cfgs (0 : Fin 1) launch0 defs₀ Variants.none (fun c => (dats m 0 c).toRRel forgets0 (Rl m c)) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_ofR m ρ (fun c => (dats m 0 c).toRRel forgets0 (Rl m c)) (A_eq m)
    ((θ_run defs _ _).mono (fun _ h => h.1) (run_main_quiescent m ρ))

/-- THE FRAME: every argument array ends unchanged, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

end Cert.Act.Hand

end
-- ==== Proof.lean ====
module

public import proofs.«01_k».proof.Defs
public import proofs.«01_k».proof.Proof.Gen.Act
public import proofs.«01_k».proof.Proof.Gen.Act.Skeleton
public import proofs.«01_k».proof.Proof.Gen.Act.Launch
public import proofs.«01_k».proof.Proof.Gen.Act.Points
public import proofs.«01_k».proof.Proof.Gen.Act.Frame
public import proofs.«01_k».proof.Proof.Gen.ActIdeal
public import proofs.«01_k».proof.Proof.Gen.ActIdeal.Skeleton
public import proofs.«01_k».proof.Proof.Gen.ActIdeal.Launch
public import proofs.«01_k».proof.Proof.Gen.ActIdeal.Points
public import proofs.«01_k».proof.Proof.Gen.ActIdeal.Frame
public import proofs.«01_k».proof.Proof.Gen.RefActIdeal
public import proofs.«01_k».proof.Proof.Gen.RefActIdeal.Skeleton
public import proofs.«01_k».proof.Proof.Gen.RefActIdeal.Launch
public import proofs.«01_k».proof.Proof.Gen.RefActIdeal.Points
public import proofs.«01_k».proof.Proof.Gen.RefActIdeal.Frame
public import proofs.«01_k».proof.Proof.Gen.DwIn
public import proofs.«01_k».proof.Proof.Gen.DwIn.Skeleton
public import proofs.«01_k».proof.Proof.Gen.DwIn.Launch
public import proofs.«01_k».proof.Proof.Gen.DwIn.Points
public import proofs.«01_k».proof.Proof.Gen.DwIn.Frame
public import proofs.«01_k».proof.Proof.Gen.DwInIdeal
public import proofs.«01_k».proof.Proof.Gen.DwInIdeal.Skeleton
public import proofs.«01_k».proof.Proof.Gen.DwInIdeal.Launch
public import proofs.«01_k».proof.Proof.Gen.DwInIdeal.Points
public import proofs.«01_k».proof.Proof.Gen.DwInIdeal.Frame
public import proofs.«01_k».proof.Proof.Gen.RefDwInIdeal
public import proofs.«01_k».proof.Proof.Gen.RefDwInIdeal.Skeleton
public import proofs.«01_k».proof.Proof.Gen.RefDwInIdeal.Launch
public import proofs.«01_k».proof.Proof.Gen.RefDwInIdeal.Points
public import proofs.«01_k».proof.Proof.Gen.RefDwInIdeal.Frame
public import proofs.«01_k».proof.Proof.Gen.DwQkv
public import proofs.«01_k».proof.Proof.Gen.DwQkv.Skeleton
public import proofs.«01_k».proof.Proof.Gen.DwQkv.Launch
public import proofs.«01_k».proof.Proof.Gen.DwQkv.Points
public import proofs.«01_k».proof.Proof.Gen.DwQkv.Frame
public import proofs.«01_k».proof.Proof.Gen.DwQkvIdeal
public import proofs.«01_k».proof.Proof.Gen.DwQkvIdeal.Skeleton
public import proofs.«01_k».proof.Proof.Gen.DwQkvIdeal.Launch
public import proofs.«01_k».proof.Proof.Gen.DwQkvIdeal.Points
public import proofs.«01_k».proof.Proof.Gen.DwQkvIdeal.Frame
public import proofs.«01_k».proof.Proof.Gen.RefDwQkvIdeal
public import proofs.«01_k».proof.Proof.Gen.RefDwQkvIdeal.Skeleton
public import proofs.«01_k».proof.Proof.Gen.RefDwQkvIdeal.Launch
public import proofs.«01_k».proof.Proof.Gen.RefDwQkvIdeal.Points
public import proofs.«01_k».proof.Proof.Gen.RefDwQkvIdeal.Frame
public import proofs.«01_k».proof.Proof.Gen.DwOut
public import proofs.«01_k».proof.Proof.Gen.DwOut.Skeleton
public import proofs.«01_k».proof.Proof.Gen.DwOut.Launch
public import proofs.«01_k».proof.Proof.Gen.DwOut.Points
public import proofs.«01_k».proof.Proof.Gen.DwOut.Frame
public import proofs.«01_k».proof.Proof.Gen.DwOutIdeal
public import proofs.«01_k».proof.Proof.Gen.DwOutIdeal.Skeleton
public import proofs.«01_k».proof.Proof.Gen.DwOutIdeal.Launch
public import proofs.«01_k».proof.Proof.Gen.DwOutIdeal.Points
public import proofs.«01_k».proof.Proof.Gen.DwOutIdeal.Frame
public import proofs.«01_k».proof.Proof.Gen.RefDwOutIdeal
public import proofs.«01_k».proof.Proof.Gen.RefDwOutIdeal.Skeleton
public import proofs.«01_k».proof.Proof.Gen.RefDwOutIdeal.Launch
public import proofs.«01_k».proof.Proof.Gen.RefDwOutIdeal.Points
public import proofs.«01_k».proof.Proof.Gen.RefDwOutIdeal.Frame
public import proofs.«01_k».proof.Proof.Gen.Pre_dy_scale_nonneg
public import proofs.«01_k».proof.Proof.Gen.RefActIdeal.Value
public import proofs.«01_k».proof.Proof.Gen.DwInIdeal.Value
public import proofs.«01_k».proof.Proof.Gen.RefDwInIdeal.Value
public import proofs.«01_k».proof.Proof.Gen.DwQkvIdeal.Value
public import proofs.«01_k».proof.Proof.Gen.RefDwQkvIdeal.Value
public import proofs.«01_k».proof.Proof.Gen.DwOutIdeal.Value
public import proofs.«01_k».proof.Proof.Gen.RefDwOutIdeal.Value
public import proofs.«01_k».proof.Proof.DwInValue
public import proofs.«01_k».proof.Proof.DwQkvValue
public import proofs.«01_k».proof.Proof.DwOutValue
public import proofs.«01_k».proof.Proof.ActClaim
public import proofs.«01_k».proof.Proof.ActBitsBody
public import Idealize.ShloMosaic.Lib.Claim
public import Idealize.ShloMosaic.Adequacy
public import Idealize.ShloMosaic.Init

@[expose] public section

noncomputable section

namespace Cert.Proof

open Idealize.ShloMosaic Idealize.SL.Sem Cert.Act

/-- The kernel of the input weight gradient and its reference, run over the extended reals on equal arguments, end with equal results. -/
theorem algebraic_in : Cert.algebraic_DwInIdeal_RefDwInIdeal := by
  pair_intro
  · run_from Cert.DwInIdeal.Gen.run_main m g
  · run_from Cert.RefDwInIdeal.Gen.run_main m' g'
    rw [Cert.RefDwInIdeal.Value.final m' c, Cert.DwInIdeal.Value.final m c]
    obtain ⟨h0, h1, h2, h3⟩ := hagree c
    rw [h0, h1, h2, h3]; rfl

/-- The kernel of the query, key and value weight gradient and its reference, run over the extended reals on equal arguments, end with equal results. -/
theorem algebraic_qkv : Cert.algebraic_DwQkvIdeal_RefDwQkvIdeal := by
  pair_intro
  · run_from Cert.DwQkvIdeal.Gen.run_main m g
  · run_from Cert.RefDwQkvIdeal.Gen.run_main m' g'
    rw [Cert.RefDwQkvIdeal.Value.final m' c, Cert.DwQkvIdeal.Value.final m c]
    obtain ⟨h0, h1, h2, h3⟩ := hagree c
    rw [h0, h1, h2, h3]; rfl

/-- The kernel of the output weight gradient and its reference, run over the extended reals on equal arguments, end with equal results. -/
theorem algebraic_out : Cert.algebraic_DwOutIdeal_RefDwOutIdeal := by
  pair_intro
  · run_from Cert.DwOutIdeal.Gen.run_main m g
  · run_from Cert.RefDwOutIdeal.Gen.run_main m' g'
    rw [Cert.RefDwOutIdeal.Value.final m' c, Cert.DwOutIdeal.Value.final m c]
    obtain ⟨h0, h1, h2, h3⟩ := hagree c
    rw [h0, h1, h2, h3]; rfl

/-- The idealization of the activation step reads four of the kernel's literals as the constants they round. -/
theorem preserves_act : Cert.preserves_Act_ActIdeal :=
  ⟨IdealRules.named_const.statement Cert.ActIdeal.κ "inv_d" .f32 0x3A4CCCCD#32 _ rfl,
   IdealRules.named_const.statement Cert.ActIdeal.κ "gelu_ca" .f32 0x3D122279#32 _ rfl,
   IdealRules.named_const.statement Cert.ActIdeal.κ "gelu_c" .f32 0x3F4C422A#32 _ rfl,
   IdealRules.named_const.statement Cert.ActIdeal.κ "gelu_3ca" .f32 0x3DDB33B6#32 _ rfl⟩

/-- Every claim of the certificate. -/
theorem claim : Cert.Claim := ⟨Cert.Act.Gen.facts, Cert.ActIdeal.Gen.facts, Cert.RefActIdeal.Gen.facts, Cert.DwIn.Gen.facts, Cert.DwInIdeal.Gen.facts, Cert.RefDwInIdeal.Gen.facts, Cert.DwQkv.Gen.facts, Cert.DwQkvIdeal.Gen.facts, Cert.RefDwQkvIdeal.Gen.facts, Cert.DwOut.Gen.facts, Cert.DwOutIdeal.Gen.facts, Cert.RefDwOutIdeal.Gen.facts, Cert.Pre_dy_scale_nonneg.Gen.facts, fun m ρ _ => Cert.Act.Hand.frame m ρ,
  fun m ρ _ => Cert.ActIdeal.Hand.frame m ρ,
  fun m ρ _ => Cert.ActIdeal.Hand.frame m ρ,
  fun m ρ _ => Cert.RefActIdeal.Gen.frame m ρ,
  fun m ρ _ => Cert.RefActIdeal.Gen.frame m ρ,
  fun m ρ _ => Cert.DwIn.Gen.frame m ρ,
  fun m ρ _ => Cert.DwInIdeal.Gen.frame m ρ,
  fun m ρ _ => Cert.RefDwInIdeal.Gen.frame m ρ,
  fun m ρ _ => Cert.DwQkv.Gen.frame m ρ,
  fun m ρ _ => Cert.DwQkvIdeal.Gen.frame m ρ,
  fun m ρ _ => Cert.RefDwQkvIdeal.Gen.frame m ρ,
  fun m ρ _ => Cert.DwOut.Gen.frame m ρ,
  fun m ρ _ => Cert.DwOutIdeal.Gen.frame m ρ,
  fun m ρ _ => Cert.RefDwOutIdeal.Gen.frame m ρ,
  preserves_act,
  algebraic_act,
  trivial,
  algebraic_in,
  trivial,
  algebraic_qkv,
  trivial,
  algebraic_out⟩

end Cert.Proof

end
